-- ==== Defs.lean ====
def Pre_Kernel [hPre_row_tok_in_range : Cert.Pre_row_tok_in_range.Facts] (m : (ℓ : Loc Cert.Kernel.nD Cert.Kernel.τ Cert.Kernel.sig) → Buf (Elt Bits) ℓ) : Prop :=
  ∀ c : Dev Cert.Kernel.nD,
    (Cert.Pre_row_tok_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_row_tok_in_range : Cert.Pre_row_tok_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_row_tok_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_tok_in_range [hPre_row_tok_in_range : Cert.Pre_row_tok_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_tok_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_row_tok_in_range : Cert.Pre_row_tok_in_range.Facts] (m : (ℓ : Loc Cert.Reference.nD Cert.Reference.τ Cert.Reference.sig) → Buf (Elt Bits) ℓ) : Prop :=
  ∀ c : Dev Cert.Reference.nD,
    (Cert.Pre_row_tok_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_blk_e_in_range : Cert.Pre_blk_e_in_range.Facts] (m : (ℓ : Loc Cert.Experts.nD Cert.Experts.τ Cert.Experts.sig) → Buf (Elt Bits) ℓ) : Prop :=
  ∀ c : Dev Cert.Experts.nD,
    (Cert.Pre_blk_e_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_blk_e_in_range : Cert.Pre_blk_e_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blk_e_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blk_e_in_range [hPre_blk_e_in_range : Cert.Pre_blk_e_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blk_e_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_values_finite [hPre_values_finite : Cert.Pre_values_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_values_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_values_finite [hPre_values_finite : Cert.Pre_values_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_values_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextReferenceIdeal (m : (ℓ : Loc Cert.ContextReferenceIdeal.nD Cert.ContextReferenceIdeal.τ Cert.ContextReferenceIdeal.sig) → Buf (Elt Ideal) ℓ) : Prop :=
  True

def Pre_Conditioning (m : (ℓ : Loc Cert.Conditioning.nD Cert.Conditioning.τ Cert.Conditioning.sig) → Buf (Elt Bits) ℓ) : Prop :=
  True

def Pre_ConditioningIdeal (m : (ℓ : Loc Cert.ConditioningIdeal.nD Cert.ConditioningIdeal.τ Cert.ConditioningIdeal.sig) → Buf (Elt Ideal) ℓ) : Prop :=
  True

def Pre_ConditioningReferenceIdeal (m : (ℓ : Loc Cert.ConditioningReferenceIdeal.nD Cert.ConditioningReferenceIdeal.τ Cert.ConditioningReferenceIdeal.sig) → Buf (Elt Ideal) ℓ) : Prop :=
  True

def Pre_Convolution (m : (ℓ : Loc Cert.Convolution.nD Cert.Convolution.τ Cert.Convolution.sig) → Buf (Elt Bits) ℓ) : Prop :=
  True

def Pre_ConvolutionIdeal (m : (ℓ : Loc Cert.ConvolutionIdeal.nD Cert.ConvolutionIdeal.τ Cert.ConvolutionIdeal.sig) → Buf (Elt Ideal) ℓ) : Prop :=
  True

def Pre_ConvolutionReferenceIdeal (m : (ℓ : Loc Cert.ConvolutionReferenceIdeal.nD Cert.ConvolutionReferenceIdeal.τ Cert.ConvolutionReferenceIdeal.sig) → Buf (Elt Ideal) ℓ) : Prop :=
  True

def Pre_ContextConvolution (m : (ℓ : Loc Cert.ContextConvolution.nD Cert.ContextConvolution.τ Cert.ContextConvolution.sig) → Buf (Elt Bits) ℓ) : Prop :=
  True

def Pre_ContextConvolutionIdeal (m : (ℓ : Loc Cert.ContextConvolutionIdeal.nD Cert.ContextConvolutionIdeal.τ Cert.ContextConvolutionIdeal.sig) → Buf (Elt Ideal) ℓ) : Prop :=
  True

def Pre_ContextConvolutionReferenceIdeal (m : (ℓ : Loc Cert.ContextConvolutionReferenceIdeal.nD Cert.ContextConvolutionReferenceIdeal.τ Cert.ContextConvolutionReferenceIdeal.sig) → Buf (Elt Ideal) ℓ) : Prop :=
  True

def quiescent_Kernel [hKernel : Cert.Kernel.Facts] [hPre_row_tok_in_range : Cert.Pre_row_tok_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_row_tok_in_range : Cert.Pre_row_tok_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_tok_in_range [hReferenceIdeal : Cert.ReferenceIdeal.Facts] [hPre_row_tok_in_range : Cert.Pre_row_tok_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_tok_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_row_tok_in_range : Cert.Pre_row_tok_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_blk_e_in_range : Cert.Pre_blk_e_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_blk_e_in_range : Cert.Pre_blk_e_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_blk_e_in_range [hExpertsReferenceIdeal : Cert.ExpertsReferenceIdeal.Facts] [hPre_blk_e_in_range : Cert.Pre_blk_e_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blk_e_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_values_finite [hAttentionIdeal : Cert.AttentionIdeal.Facts] [hPre_values_finite : Cert.Pre_values_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_values_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttentionReferenceIdeal_pre_values_finite [hAttentionReferenceIdeal : Cert.AttentionReferenceIdeal.Facts] [hPre_values_finite : Cert.Pre_values_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_values_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
      ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4))
      ∧ r.2.sem = fun _ => 0)

def quiescent_Conditioning [hConditioning : Cert.Conditioning.Facts] : Prop :=
  ∀ (m : (ℓ : Loc Cert.Conditioning.nD Cert.Conditioning.τ Cert.Conditioning.sig) → Buf (Elt Bits) ℓ) (g : Dev Cert.Conditioning.nD → PrngReg), Pre_Conditioning m →
    θ_run (Cert.Conditioning.defs (F := Bits)) (onTc (τ := Cert.Conditioning.τ) (Cert.Conditioning.main (F := Bits))) ⟨m, fun _ => 0, g⟩ (fun r => (∀ c : Dev Cert.Conditioning.nD,
      r.2.mem ((c.tc : Thread Cert.Conditioning.nD Cert.Conditioning.τ).loc Cert.Conditioning.main_arg0) = m ((c.tc : Thread Cert.Conditioning.nD Cert.Conditioning.τ).loc Cert.Conditioning.main_arg0)
      ∧ r.2.mem ((c.tc : Thread Cert.Conditioning.nD Cert.Conditioning.τ).loc Cert.Conditioning.main_arg1) = m ((c.tc : Thread Cert.Conditioning.nD Cert.Conditioning.τ).loc Cert.Conditioning.main_arg1)
      ∧ r.2.mem ((c.tc : Thread Cert.Conditioning.nD Cert.Conditioning.τ).loc Cert.Conditioning.main_arg2) = m ((c.tc : Thread Cert.Conditioning.nD Cert.Conditioning.τ).loc Cert.Conditioning.main_arg2))
      ∧ r.2.sem = fun _ => 0)

def quiescent_ConditioningIdeal [hConditioningIdeal : Cert.ConditioningIdeal.Facts] : Prop :=
  ∀ (m : (ℓ : Loc Cert.ConditioningIdeal.nD Cert.ConditioningIdeal.τ Cert.ConditioningIdeal.sig) → Buf (Elt Ideal) ℓ) (g : Dev Cert.ConditioningIdeal.nD → PrngReg), Pre_ConditioningIdeal m →
    θ_run (Cert.ConditioningIdeal.defs (F := Ideal)) (onTc (τ := Cert.ConditioningIdeal.τ) (Cert.ConditioningIdeal.main (F := Ideal))) ⟨m, fun _ => 0, g⟩ (fun r => (∀ c : Dev Cert.ConditioningIdeal.nD,
      r.2.mem ((c.tc : Thread Cert.ConditioningIdeal.nD Cert.ConditioningIdeal.τ).loc Cert.ConditioningIdeal.main_arg0) = m ((c.tc : Thread Cert.ConditioningIdeal.nD Cert.ConditioningIdeal.τ).loc Cert.ConditioningIdeal.main_arg0)
      ∧ r.2.mem ((c.tc : Thread Cert.ConditioningIdeal.nD Cert.ConditioningIdeal.τ).loc Cert.ConditioningIdeal.main_arg1) = m ((c.tc : Thread Cert.ConditioningIdeal.nD Cert.ConditioningIdeal.τ).loc Cert.ConditioningIdeal.main_arg1)
      ∧ r.2.mem ((c.tc : Thread Cert.ConditioningIdeal.nD Cert.ConditioningIdeal.τ).loc Cert.ConditioningIdeal.main_arg2) = m ((c.tc : Thread Cert.ConditioningIdeal.nD Cert.ConditioningIdeal.τ).loc Cert.ConditioningIdeal.main_arg2))
      ∧ r.2.sem = fun _ => 0)

def quiescent_ConditioningReferenceIdeal [hConditioningReferenceIdeal : Cert.ConditioningReferenceIdeal.Facts] : Prop :=
  ∀ (m : (ℓ : Loc Cert.ConditioningReferenceIdeal.nD Cert.ConditioningReferenceIdeal.τ Cert.ConditioningReferenceIdeal.sig) → Buf (Elt Ideal) ℓ) (g : Dev Cert.ConditioningReferenceIdeal.nD → PrngReg), Pre_ConditioningReferenceIdeal m →
    θ_run (Cert.ConditioningReferenceIdeal.defs (F := Ideal)) (onTc (τ := Cert.ConditioningReferenceIdeal.τ) (Cert.ConditioningReferenceIdeal.main (F := Ideal))) ⟨m, fun _ => 0, g⟩ (fun r => (∀ c : Dev Cert.ConditioningReferenceIdeal.nD,
      r.2.mem ((c.tc : Thread Cert.ConditioningReferenceIdeal.nD Cert.ConditioningReferenceIdeal.τ).loc Cert.ConditioningReferenceIdeal.main_arg0) = m ((c.tc : Thread Cert.ConditioningReferenceIdeal.nD Cert.ConditioningReferenceIdeal.τ).loc Cert.ConditioningReferenceIdeal.main_arg0)
      ∧ r.2.mem ((c.tc : Thread Cert.ConditioningReferenceIdeal.nD Cert.ConditioningReferenceIdeal.τ).loc Cert.ConditioningReferenceIdeal.main_arg1) = m ((c.tc : Thread Cert.ConditioningReferenceIdeal.nD Cert.ConditioningReferenceIdeal.τ).loc Cert.ConditioningReferenceIdeal.main_arg1)
      ∧ r.2.mem ((c.tc : Thread Cert.ConditioningReferenceIdeal.nD Cert.ConditioningReferenceIdeal.τ).loc Cert.ConditioningReferenceIdeal.main_arg2) = m ((c.tc : Thread Cert.ConditioningReferenceIdeal.nD Cert.ConditioningReferenceIdeal.τ).loc Cert.ConditioningReferenceIdeal.main_arg2))
      ∧ r.2.sem = fun _ => 0)

def quiescent_Convolution [hConvolution : Cert.Convolution.Facts] : Prop :=
  ∀ (m : (ℓ : Loc Cert.Convolution.nD Cert.Convolution.τ Cert.Convolution.sig) → Buf (Elt Bits) ℓ) (g : Dev Cert.Convolution.nD → PrngReg), Pre_Convolution m →
    θ_run (Cert.Convolution.defs (F := Bits)) (onTc (τ := Cert.Convolution.τ) (Cert.Convolution.main (F := Bits))) ⟨m, fun _ => 0, g⟩ (fun r => (∀ c : Dev Cert.Convolution.nD,
      r.2.mem ((c.tc : Thread Cert.Convolution.nD Cert.Convolution.τ).loc Cert.Convolution.main_arg0) = m ((c.tc : Thread Cert.Convolution.nD Cert.Convolution.τ).loc Cert.Convolution.main_arg0)
      ∧ r.2.mem ((c.tc : Thread Cert.Convolution.nD Cert.Convolution.τ).loc Cert.Convolution.main_arg1) = m ((c.tc : Thread Cert.Convolution.nD Cert.Convolution.τ).loc Cert.Convolution.main_arg1)
      ∧ r.2.mem ((c.tc : Thread Cert.Convolution.nD Cert.Convolution.τ).loc Cert.Convolution.main_arg2) = m ((c.tc : Thread Cert.Convolution.nD Cert.Convolution.τ).loc Cert.Convolution.main_arg2)
      ∧ r.2.mem ((c.tc : Thread Cert.Convolution.nD Cert.Convolution.τ).loc Cert.Convolution.main_arg3) = m ((c.tc : Thread Cert.Convolution.nD Cert.Convolution.τ).loc Cert.Convolution.main_arg3)
      ∧ r.2.mem ((c.tc : Thread Cert.Convolution.nD Cert.Convolution.τ).loc Cert.Convolution.main_arg4) = m ((c.tc : Thread Cert.Convolution.nD Cert.Convolution.τ).loc Cert.Convolution.main_arg4))
      ∧ r.2.sem = fun _ => 0)

def quiescent_ConvolutionIdeal [hConvolutionIdeal : Cert.ConvolutionIdeal.Facts] : Prop :=
  ∀ (m : (ℓ : Loc Cert.ConvolutionIdeal.nD Cert.ConvolutionIdeal.τ Cert.ConvolutionIdeal.sig) → Buf (Elt Ideal) ℓ) (g : Dev Cert.ConvolutionIdeal.nD → PrngReg), Pre_ConvolutionIdeal m →
    θ_run (Cert.ConvolutionIdeal.defs (F := Ideal)) (onTc (τ := Cert.ConvolutionIdeal.τ) (Cert.ConvolutionIdeal.main (F := Ideal))) ⟨m, fun _ => 0, g⟩ (fun r => (∀ c : Dev Cert.ConvolutionIdeal.nD,
      r.2.mem ((c.tc : Thread Cert.ConvolutionIdeal.nD Cert.ConvolutionIdeal.τ).loc Cert.ConvolutionIdeal.main_arg0) = m ((c.tc : Thread Cert.ConvolutionIdeal.nD Cert.ConvolutionIdeal.τ).loc Cert.ConvolutionIdeal.main_arg0)
      ∧ r.2.mem ((c.tc : Thread Cert.ConvolutionIdeal.nD Cert.ConvolutionIdeal.τ).loc Cert.ConvolutionIdeal.main_arg1) = m ((c.tc : Thread Cert.ConvolutionIdeal.nD Cert.ConvolutionIdeal.τ).loc Cert.ConvolutionIdeal.main_arg1)
      ∧ r.2.mem ((c.tc : Thread Cert.ConvolutionIdeal.nD Cert.ConvolutionIdeal.τ).loc Cert.ConvolutionIdeal.main_arg2) = m ((c.tc : Thread Cert.ConvolutionIdeal.nD Cert.ConvolutionIdeal.τ).loc Cert.ConvolutionIdeal.main_arg2)
      ∧ r.2.mem ((c.tc : Thread Cert.ConvolutionIdeal.nD Cert.ConvolutionIdeal.τ).loc Cert.ConvolutionIdeal.main_arg3) = m ((c.tc : Thread Cert.ConvolutionIdeal.nD Cert.ConvolutionIdeal.τ).loc Cert.ConvolutionIdeal.main_arg3)
      ∧ r.2.mem ((c.tc : Thread Cert.ConvolutionIdeal.nD Cert.ConvolutionIdeal.τ).loc Cert.ConvolutionIdeal.main_arg4) = m ((c.tc : Thread Cert.ConvolutionIdeal.nD Cert.ConvolutionIdeal.τ).loc Cert.ConvolutionIdeal.main_arg4))
      ∧ r.2.sem = fun _ => 0)

def quiescent_ConvolutionReferenceIdeal [hConvolutionReferenceIdeal : Cert.ConvolutionReferenceIdeal.Facts] : Prop :=
  ∀ (m : (ℓ : Loc Cert.ConvolutionReferenceIdeal.nD Cert.ConvolutionReferenceIdeal.τ Cert.ConvolutionReferenceIdeal.sig) → Buf (Elt Ideal) ℓ) (g : Dev Cert.ConvolutionReferenceIdeal.nD → PrngReg), Pre_ConvolutionReferenceIdeal m →
    θ_run (Cert.ConvolutionReferenceIdeal.defs (F := Ideal)) (onTc (τ := Cert.ConvolutionReferenceIdeal.τ) (Cert.ConvolutionReferenceIdeal.main (F := Ideal))) ⟨m, fun _ => 0, g⟩ (fun r => (∀ c : Dev Cert.ConvolutionReferenceIdeal.nD,
      r.2.mem ((c.tc : Thread Cert.ConvolutionReferenceIdeal.nD Cert.ConvolutionReferenceIdeal.τ).loc Cert.ConvolutionReferenceIdeal.main_arg0) = m ((c.tc : Thread Cert.ConvolutionReferenceIdeal.nD Cert.ConvolutionReferenceIdeal.τ).loc Cert.ConvolutionReferenceIdeal.main_arg0)
      ∧ r.2.mem ((c.tc : Thread Cert.ConvolutionReferenceIdeal.nD Cert.ConvolutionReferenceIdeal.τ).loc Cert.ConvolutionReferenceIdeal.main_arg1) = m ((c.tc : Thread Cert.ConvolutionReferenceIdeal.nD Cert.ConvolutionReferenceIdeal.τ).loc Cert.ConvolutionReferenceIdeal.main_arg1)
      ∧ r.2.mem ((c.tc : Thread Cert.ConvolutionReferenceIdeal.nD Cert.ConvolutionReferenceIdeal.τ).loc Cert.ConvolutionReferenceIdeal.main_arg2) = m ((c.tc : Thread Cert.ConvolutionReferenceIdeal.nD Cert.ConvolutionReferenceIdeal.τ).loc Cert.ConvolutionReferenceIdeal.main_arg2)
      ∧ r.2.mem ((c.tc : Thread Cert.ConvolutionReferenceIdeal.nD Cert.ConvolutionReferenceIdeal.τ).loc Cert.ConvolutionReferenceIdeal.main_arg3) = m ((c.tc : Thread Cert.ConvolutionReferenceIdeal.nD Cert.ConvolutionReferenceIdeal.τ).loc Cert.ConvolutionReferenceIdeal.main_arg3)
      ∧ r.2.mem ((c.tc : Thread Cert.ConvolutionReferenceIdeal.nD Cert.ConvolutionReferenceIdeal.τ).loc Cert.ConvolutionReferenceIdeal.main_arg4) = m ((c.tc : Thread Cert.ConvolutionReferenceIdeal.nD Cert.ConvolutionReferenceIdeal.τ).loc Cert.ConvolutionReferenceIdeal.main_arg4))
      ∧ r.2.sem = fun _ => 0)

def quiescent_ContextConvolution [hContextConvolution : Cert.ContextConvolution.Facts] : Prop :=
  ∀ (m : (ℓ : Loc Cert.ContextConvolution.nD Cert.ContextConvolution.τ Cert.ContextConvolution.sig) → Buf (Elt Bits) ℓ) (g : Dev Cert.ContextConvolution.nD → PrngReg), Pre_ContextConvolution m →
    θ_run (Cert.ContextConvolution.defs (F := Bits)) (onTc (τ := Cert.ContextConvolution.τ) (Cert.ContextConvolution.main (F := Bits))) ⟨m, fun _ => 0, g⟩ (fun r => (∀ c : Dev Cert.ContextConvolution.nD,
      r.2.mem ((c.tc : Thread Cert.ContextConvolution.nD Cert.ContextConvolution.τ).loc Cert.ContextConvolution.main_arg0) = m ((c.tc : Thread Cert.ContextConvolution.nD Cert.ContextConvolution.τ).loc Cert.ContextConvolution.main_arg0)
      ∧ r.2.mem ((c.tc : Thread Cert.ContextConvolution.nD Cert.ContextConvolution.τ).loc Cert.ContextConvolution.main_arg1) = m ((c.tc : Thread Cert.ContextConvolution.nD Cert.ContextConvolution.τ).loc Cert.ContextConvolution.main_arg1)
      ∧ r.2.mem ((c.tc : Thread Cert.ContextConvolution.nD Cert.ContextConvolution.τ).loc Cert.ContextConvolution.main_arg2) = m ((c.tc : Thread Cert.ContextConvolution.nD Cert.ContextConvolution.τ).loc Cert.ContextConvolution.main_arg2)
      ∧ r.2.mem ((c.tc : Thread Cert.ContextConvolution.nD Cert.ContextConvolution.τ).loc Cert.ContextConvolution.main_arg3) = m ((c.tc : Thread Cert.ContextConvolution.nD Cert.ContextConvolution.τ).loc Cert.ContextConvolution.main_arg3)
      ∧ r.2.mem ((c.tc : Thread Cert.ContextConvolution.nD Cert.ContextConvolution.τ).loc Cert.ContextConvolution.main_arg4) = m ((c.tc : Thread Cert.ContextConvolution.nD Cert.ContextConvolution.τ).loc Cert.ContextConvolution.main_arg4))
      ∧ r.2.sem = fun _ => 0)

def quiescent_ContextConvolutionIdeal [hContextConvolutionIdeal : Cert.ContextConvolutionIdeal.Facts] : Prop :=
  ∀ (m : (ℓ : Loc Cert.ContextConvolutionIdeal.nD Cert.ContextConvolutionIdeal.τ Cert.ContextConvolutionIdeal.sig) → Buf (Elt Ideal) ℓ) (g : Dev Cert.ContextConvolutionIdeal.nD → PrngReg), Pre_ContextConvolutionIdeal m →
    θ_run (Cert.ContextConvolutionIdeal.defs (F := Ideal)) (onTc (τ := Cert.ContextConvolutionIdeal.τ) (Cert.ContextConvolutionIdeal.main (F := Ideal))) ⟨m, fun _ => 0, g⟩ (fun r => (∀ c : Dev Cert.ContextConvolutionIdeal.nD,
      r.2.mem ((c.tc : Thread Cert.ContextConvolutionIdeal.nD Cert.ContextConvolutionIdeal.τ).loc Cert.ContextConvolutionIdeal.main_arg0) = m ((c.tc : Thread Cert.ContextConvolutionIdeal.nD Cert.ContextConvolutionIdeal.τ).loc Cert.ContextConvolutionIdeal.main_arg0)
      ∧ r.2.mem ((c.tc : Thread Cert.ContextConvolutionIdeal.nD Cert.ContextConvolutionIdeal.τ).loc Cert.ContextConvolutionIdeal.main_arg1) = m ((c.tc : Thread Cert.ContextConvolutionIdeal.nD Cert.ContextConvolutionIdeal.τ).loc Cert.ContextConvolutionIdeal.main_arg1)
      ∧ r.2.mem ((c.tc : Thread Cert.ContextConvolutionIdeal.nD Cert.ContextConvolutionIdeal.τ).loc Cert.ContextConvolutionIdeal.main_arg2) = m ((c.tc : Thread Cert.ContextConvolutionIdeal.nD Cert.ContextConvolutionIdeal.τ).loc Cert.ContextConvolutionIdeal.main_arg2)
      ∧ r.2.mem ((c.tc : Thread Cert.ContextConvolutionIdeal.nD Cert.ContextConvolutionIdeal.τ).loc Cert.ContextConvolutionIdeal.main_arg3) = m ((c.tc : Thread Cert.ContextConvolutionIdeal.nD Cert.ContextConvolutionIdeal.τ).loc Cert.ContextConvolutionIdeal.main_arg3)
      ∧ r.2.mem ((c.tc : Thread Cert.ContextConvolutionIdeal.nD Cert.ContextConvolutionIdeal.τ).loc Cert.ContextConvolutionIdeal.main_arg4) = m ((c.tc : Thread Cert.ContextConvolutionIdeal.nD Cert.ContextConvolutionIdeal.τ).loc Cert.ContextConvolutionIdeal.main_arg4))
      ∧ r.2.sem = fun _ => 0)

def quiescent_ContextConvolutionReferenceIdeal [hContextConvolutionReferenceIdeal : Cert.ContextConvolutionReferenceIdeal.Facts] : Prop :=
  ∀ (m : (ℓ : Loc Cert.ContextConvolutionReferenceIdeal.nD Cert.ContextConvolutionReferenceIdeal.τ Cert.ContextConvolutionReferenceIdeal.sig) → Buf (Elt Ideal) ℓ) (g : Dev Cert.ContextConvolutionReferenceIdeal.nD → PrngReg), Pre_ContextConvolutionReferenceIdeal m →
    θ_run (Cert.ContextConvolutionReferenceIdeal.defs (F := Ideal)) (onTc (τ := Cert.ContextConvolutionReferenceIdeal.τ) (Cert.ContextConvolutionReferenceIdeal.main (F := Ideal))) ⟨m, fun _ => 0, g⟩ (fun r => (∀ c : Dev Cert.ContextConvolutionReferenceIdeal.nD,
      r.2.mem ((c.tc : Thread Cert.ContextConvolutionReferenceIdeal.nD Cert.ContextConvolutionReferenceIdeal.τ).loc Cert.ContextConvolutionReferenceIdeal.main_arg0) = m ((c.tc : Thread Cert.ContextConvolutionReferenceIdeal.nD Cert.ContextConvolutionReferenceIdeal.τ).loc Cert.ContextConvolutionReferenceIdeal.main_arg0)
      ∧ r.2.mem ((c.tc : Thread Cert.ContextConvolutionReferenceIdeal.nD Cert.ContextConvolutionReferenceIdeal.τ).loc Cert.ContextConvolutionReferenceIdeal.main_arg1) = m ((c.tc : Thread Cert.ContextConvolutionReferenceIdeal.nD Cert.ContextConvolutionReferenceIdeal.τ).loc Cert.ContextConvolutionReferenceIdeal.main_arg1)
      ∧ r.2.mem ((c.tc : Thread Cert.ContextConvolutionReferenceIdeal.nD Cert.ContextConvolutionReferenceIdeal.τ).loc Cert.ContextConvolutionReferenceIdeal.main_arg2) = m ((c.tc : Thread Cert.ContextConvolutionReferenceIdeal.nD Cert.ContextConvolutionReferenceIdeal.τ).loc Cert.ContextConvolutionReferenceIdeal.main_arg2)
      ∧ r.2.mem ((c.tc : Thread Cert.ContextConvolutionReferenceIdeal.nD Cert.ContextConvolutionReferenceIdeal.τ).loc Cert.ContextConvolutionReferenceIdeal.main_arg3) = m ((c.tc : Thread Cert.ContextConvolutionReferenceIdeal.nD Cert.ContextConvolutionReferenceIdeal.τ).loc Cert.ContextConvolutionReferenceIdeal.main_arg3)
      ∧ r.2.mem ((c.tc : Thread Cert.ContextConvolutionReferenceIdeal.nD Cert.ContextConvolutionReferenceIdeal.τ).loc Cert.ContextConvolutionReferenceIdeal.main_arg4) = m ((c.tc : Thread Cert.ContextConvolutionReferenceIdeal.nD Cert.ContextConvolutionReferenceIdeal.τ).loc Cert.ContextConvolutionReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_row_tok_in_range : Cert.Pre_row_tok_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_row_tok_in_range : Cert.Pre_row_tok_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blk_e_in_range : Cert.Pre_blk_e_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v11)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v11) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v58) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Attention_AttentionIdeal : Prop :=
  True

def algebraic_AttentionIdeal_AttentionReferenceIdeal_pre_values_finite [hAttentionIdeal : Cert.AttentionIdeal.Facts] [hAttentionReferenceIdeal : Cert.AttentionReferenceIdeal.Facts] [hPre_values_finite : Cert.Pre_values_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_values_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v9)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v9) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v42) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)) →
    ∃ (v0 : (c : Dev Cert.ProjectionsIdeal.nD) → Buf (Elt Ideal) ((c.tc : Thread Cert.ProjectionsIdeal.nD Cert.ProjectionsIdeal.τ).loc Cert.ProjectionsIdeal.main_v14_0)) (v1 : (c : Dev Cert.ProjectionsIdeal.nD) → Buf (Elt Ideal) ((c.tc : Thread Cert.ProjectionsIdeal.nD Cert.ProjectionsIdeal.τ).loc Cert.ProjectionsIdeal.main_v14_1)) (v2 : (c : Dev Cert.ProjectionsIdeal.nD) → Buf (Elt Ideal) ((c.tc : Thread Cert.ProjectionsIdeal.nD Cert.ProjectionsIdeal.τ).loc Cert.ProjectionsIdeal.main_v14_2)) (v3 : (c : Dev Cert.ProjectionsIdeal.nD) → Buf (Elt Ideal) ((c.tc : Thread Cert.ProjectionsIdeal.nD Cert.ProjectionsIdeal.τ).loc Cert.ProjectionsIdeal.main_v14_3)) (v4 : (c : Dev Cert.ProjectionsIdeal.nD) → Buf (Elt Ideal) ((c.tc : Thread Cert.ProjectionsIdeal.nD Cert.ProjectionsIdeal.τ).loc Cert.ProjectionsIdeal.main_v14_4)) (v5 : (c : Dev Cert.ProjectionsIdeal.nD) → Buf (Elt Ideal) ((c.tc : Thread Cert.ProjectionsIdeal.nD Cert.ProjectionsIdeal.τ).loc Cert.ProjectionsIdeal.main_v14_5)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v14_0) = v0 c
          ∧ r.2.mem ((c.tc : Thread Cert.ProjectionsIdeal.nD Cert.ProjectionsIdeal.τ).loc Cert.ProjectionsIdeal.main_v14_1) = v1 c
          ∧ r.2.mem ((c.tc : Thread Cert.ProjectionsIdeal.nD Cert.ProjectionsIdeal.τ).loc Cert.ProjectionsIdeal.main_v14_2) = v2 c
          ∧ r.2.mem ((c.tc : Thread Cert.ProjectionsIdeal.nD Cert.ProjectionsIdeal.τ).loc Cert.ProjectionsIdeal.main_v14_3) = v3 c
          ∧ r.2.mem ((c.tc : Thread Cert.ProjectionsIdeal.nD Cert.ProjectionsIdeal.τ).loc Cert.ProjectionsIdeal.main_v14_4) = v4 c
          ∧ r.2.mem ((c.tc : Thread Cert.ProjectionsIdeal.nD Cert.ProjectionsIdeal.τ).loc Cert.ProjectionsIdeal.main_v14_5) = v5 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v24) = v0 c
          ∧ r.2.mem ((c.tc : Thread Cert.ProjectionsReferenceIdeal.nD Cert.ProjectionsReferenceIdeal.τ).loc Cert.ProjectionsReferenceIdeal.main_v26) = v1 c
          ∧ r.2.mem ((c.tc : Thread Cert.ProjectionsReferenceIdeal.nD Cert.ProjectionsReferenceIdeal.τ).loc Cert.ProjectionsReferenceIdeal.main_v28) = v2 c
          ∧ r.2.mem ((c.tc : Thread Cert.ProjectionsReferenceIdeal.nD Cert.ProjectionsReferenceIdeal.τ).loc Cert.ProjectionsReferenceIdeal.main_v30) = v3 c
          ∧ r.2.mem ((c.tc : Thread Cert.ProjectionsReferenceIdeal.nD Cert.ProjectionsReferenceIdeal.τ).loc Cert.ProjectionsReferenceIdeal.main_v34) = v4 c
          ∧ r.2.mem ((c.tc : Thread Cert.ProjectionsReferenceIdeal.nD Cert.ProjectionsReferenceIdeal.τ).loc Cert.ProjectionsReferenceIdeal.main_v36) = v5 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)) →
    ∃ (v0 : (c : Dev Cert.OutputIdeal.nD) → Buf (Elt Ideal) ((c.tc : Thread Cert.OutputIdeal.nD Cert.OutputIdeal.τ).loc Cert.OutputIdeal.main_v6)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v6) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v25) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)
      ∧ m' ((c.tc : Thread Cert.MixedReferenceIdeal.nD Cert.MixedReferenceIdeal.τ).loc Cert.MixedReferenceIdeal.main_arg3) = m ((c.tc : Thread Cert.MixedIdeal.nD Cert.MixedIdeal.τ).loc Cert.MixedIdeal.main_arg3)) →
    ∃ (v0 : (c : Dev Cert.MixedIdeal.nD) → Buf (Elt Ideal) ((c.tc : Thread Cert.MixedIdeal.nD Cert.MixedIdeal.τ).loc Cert.MixedIdeal.main_v3)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v3) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v7) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2)
          ∧ r.2.mem ((c.tc : Thread Cert.MixedReferenceIdeal.nD Cert.MixedReferenceIdeal.τ).loc Cert.MixedReferenceIdeal.main_arg3) = m' ((c.tc : Thread Cert.MixedReferenceIdeal.nD Cert.MixedReferenceIdeal.τ).loc Cert.MixedReferenceIdeal.main_arg3))

def preserves_Context_ContextIdeal : Prop :=
  True

def algebraic_ContextIdeal_ContextReferenceIdeal [hContextIdeal : Cert.ContextIdeal.Facts] [hContextReferenceIdeal : Cert.ContextReferenceIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)
      ∧ m' ((c.tc : Thread Cert.ContextReferenceIdeal.nD Cert.ContextReferenceIdeal.τ).loc Cert.ContextReferenceIdeal.main_arg4) = m ((c.tc : Thread Cert.ContextIdeal.nD Cert.ContextIdeal.τ).loc Cert.ContextIdeal.main_arg4)) →
    ∃ (v0 : (c : Dev Cert.ContextIdeal.nD) → Buf (Elt Ideal) ((c.tc : Thread Cert.ContextIdeal.nD Cert.ContextIdeal.τ).loc Cert.ContextIdeal.main_v14_0)) (v1 : (c : Dev Cert.ContextIdeal.nD) → Buf (Elt Ideal) ((c.tc : Thread Cert.ContextIdeal.nD Cert.ContextIdeal.τ).loc Cert.ContextIdeal.main_v14_1)) (v2 : (c : Dev Cert.ContextIdeal.nD) → Buf (Elt Ideal) ((c.tc : Thread Cert.ContextIdeal.nD Cert.ContextIdeal.τ).loc Cert.ContextIdeal.main_v14_2)) (v3 : (c : Dev Cert.ContextIdeal.nD) → Buf (Elt Ideal) ((c.tc : Thread Cert.ContextIdeal.nD Cert.ContextIdeal.τ).loc Cert.ContextIdeal.main_v14_3)) (v4 : (c : Dev Cert.ContextIdeal.nD) → Buf (Elt Ideal) ((c.tc : Thread Cert.ContextIdeal.nD Cert.ContextIdeal.τ).loc Cert.ContextIdeal.main_v14_4)) (v5 : (c : Dev Cert.ContextIdeal.nD) → Buf (Elt Ideal) ((c.tc : Thread Cert.ContextIdeal.nD Cert.ContextIdeal.τ).loc Cert.ContextIdeal.main_v14_5)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v14_0) = v0 c
          ∧ r.2.mem ((c.tc : Thread Cert.ContextIdeal.nD Cert.ContextIdeal.τ).loc Cert.ContextIdeal.main_v14_1) = v1 c
          ∧ r.2.mem ((c.tc : Thread Cert.ContextIdeal.nD Cert.ContextIdeal.τ).loc Cert.ContextIdeal.main_v14_2) = v2 c
          ∧ r.2.mem ((c.tc : Thread Cert.ContextIdeal.nD Cert.ContextIdeal.τ).loc Cert.ContextIdeal.main_v14_3) = v3 c
          ∧ r.2.mem ((c.tc : Thread Cert.ContextIdeal.nD Cert.ContextIdeal.τ).loc Cert.ContextIdeal.main_v14_4) = v4 c
          ∧ r.2.mem ((c.tc : Thread Cert.ContextIdeal.nD Cert.ContextIdeal.τ).loc Cert.ContextIdeal.main_v14_5) = v5 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v24) = v0 c
          ∧ r.2.mem ((c.tc : Thread Cert.ContextReferenceIdeal.nD Cert.ContextReferenceIdeal.τ).loc Cert.ContextReferenceIdeal.main_v26) = v1 c
          ∧ r.2.mem ((c.tc : Thread Cert.ContextReferenceIdeal.nD Cert.ContextReferenceIdeal.τ).loc Cert.ContextReferenceIdeal.main_v28) = v2 c
          ∧ r.2.mem ((c.tc : Thread Cert.ContextReferenceIdeal.nD Cert.ContextReferenceIdeal.τ).loc Cert.ContextReferenceIdeal.main_v30) = v3 c
          ∧ r.2.mem ((c.tc : Thread Cert.ContextReferenceIdeal.nD Cert.ContextReferenceIdeal.τ).loc Cert.ContextReferenceIdeal.main_v34) = v4 c
          ∧ r.2.mem ((c.tc : Thread Cert.ContextReferenceIdeal.nD Cert.ContextReferenceIdeal.τ).loc Cert.ContextReferenceIdeal.main_v36) = v5 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3)
          ∧ r.2.mem ((c.tc : Thread Cert.ContextReferenceIdeal.nD Cert.ContextReferenceIdeal.τ).loc Cert.ContextReferenceIdeal.main_arg4) = m' ((c.tc : Thread Cert.ContextReferenceIdeal.nD Cert.ContextReferenceIdeal.τ).loc Cert.ContextReferenceIdeal.main_arg4))

def preserves_Conditioning_ConditioningIdeal : Prop :=
  True

def algebraic_ConditioningIdeal_ConditioningReferenceIdeal [hConditioningIdeal : Cert.ConditioningIdeal.Facts] [hConditioningReferenceIdeal : Cert.ConditioningReferenceIdeal.Facts] : Prop :=
  ∀ (m : (ℓ : Loc Cert.ConditioningIdeal.nD Cert.ConditioningIdeal.τ Cert.ConditioningIdeal.sig) → Buf (Elt Ideal) ℓ) (g : Dev Cert.ConditioningIdeal.nD → PrngReg)
    (m' : (ℓ : Loc Cert.ConditioningReferenceIdeal.nD Cert.ConditioningReferenceIdeal.τ Cert.ConditioningReferenceIdeal.sig) → Buf (Elt Ideal) ℓ) (g' : Dev Cert.ConditioningReferenceIdeal.nD → PrngReg), Pre_ConditioningIdeal m →
    (∀ c : Dev Cert.ConditioningIdeal.nD,
      m' ((c.tc : Thread Cert.ConditioningReferenceIdeal.nD Cert.ConditioningReferenceIdeal.τ).loc Cert.ConditioningReferenceIdeal.main_arg0) = m ((c.tc : Thread Cert.ConditioningIdeal.nD Cert.ConditioningIdeal.τ).loc Cert.ConditioningIdeal.main_arg0)
      ∧ m' ((c.tc : Thread Cert.ConditioningReferenceIdeal.nD Cert.ConditioningReferenceIdeal.τ).loc Cert.ConditioningReferenceIdeal.main_arg1) = m ((c.tc : Thread Cert.ConditioningIdeal.nD Cert.ConditioningIdeal.τ).loc Cert.ConditioningIdeal.main_arg1)
      ∧ m' ((c.tc : Thread Cert.ConditioningReferenceIdeal.nD Cert.ConditioningReferenceIdeal.τ).loc Cert.ConditioningReferenceIdeal.main_arg2) = m ((c.tc : Thread Cert.ConditioningIdeal.nD Cert.ConditioningIdeal.τ).loc Cert.ConditioningIdeal.main_arg2)) →
    ∃ (v0 : (c : Dev Cert.ConditioningIdeal.nD) → Buf (Elt Ideal) ((c.tc : Thread Cert.ConditioningIdeal.nD Cert.ConditioningIdeal.τ).loc Cert.ConditioningIdeal.main_v1)),
      θ_run (Cert.ConditioningIdeal.defs (F := Ideal)) (onTc (τ := Cert.ConditioningIdeal.τ) (Cert.ConditioningIdeal.main (F := Ideal))) ⟨m, fun _ => 0, g⟩ (fun r => ∀ c : Dev Cert.ConditioningIdeal.nD,
          r.2.mem ((c.tc : Thread Cert.ConditioningIdeal.nD Cert.ConditioningIdeal.τ).loc Cert.ConditioningIdeal.main_v1) = v0 c
          ∧ r.2.mem ((c.tc : Thread Cert.ConditioningIdeal.nD Cert.ConditioningIdeal.τ).loc Cert.ConditioningIdeal.main_arg0) = m ((c.tc : Thread Cert.ConditioningIdeal.nD Cert.ConditioningIdeal.τ).loc Cert.ConditioningIdeal.main_arg0)
          ∧ r.2.mem ((c.tc : Thread Cert.ConditioningIdeal.nD Cert.ConditioningIdeal.τ).loc Cert.ConditioningIdeal.main_arg1) = m ((c.tc : Thread Cert.ConditioningIdeal.nD Cert.ConditioningIdeal.τ).loc Cert.ConditioningIdeal.main_arg1)
          ∧ r.2.mem ((c.tc : Thread Cert.ConditioningIdeal.nD Cert.ConditioningIdeal.τ).loc Cert.ConditioningIdeal.main_arg2) = m ((c.tc : Thread Cert.ConditioningIdeal.nD Cert.ConditioningIdeal.τ).loc Cert.ConditioningIdeal.main_arg2))
      ∧ θ_run (Cert.ConditioningReferenceIdeal.defs (F := Ideal)) (onTc (τ := Cert.ConditioningReferenceIdeal.τ) (Cert.ConditioningReferenceIdeal.main (F := Ideal))) ⟨m', fun _ => 0, g'⟩ (fun r => ∀ c : Dev Cert.ConditioningReferenceIdeal.nD,
          r.2.mem ((c.tc : Thread Cert.ConditioningReferenceIdeal.nD Cert.ConditioningReferenceIdeal.τ).loc Cert.ConditioningReferenceIdeal.main_v5) = v0 c
          ∧ r.2.mem ((c.tc : Thread Cert.ConditioningReferenceIdeal.nD Cert.ConditioningReferenceIdeal.τ).loc Cert.ConditioningReferenceIdeal.main_arg0) = m' ((c.tc : Thread Cert.ConditioningReferenceIdeal.nD Cert.ConditioningReferenceIdeal.τ).loc Cert.ConditioningReferenceIdeal.main_arg0)
          ∧ r.2.mem ((c.tc : Thread Cert.ConditioningReferenceIdeal.nD Cert.ConditioningReferenceIdeal.τ).loc Cert.ConditioningReferenceIdeal.main_arg1) = m' ((c.tc : Thread Cert.ConditioningReferenceIdeal.nD Cert.ConditioningReferenceIdeal.τ).loc Cert.ConditioningReferenceIdeal.main_arg1)
          ∧ r.2.mem ((c.tc : Thread Cert.ConditioningReferenceIdeal.nD Cert.ConditioningReferenceIdeal.τ).loc Cert.ConditioningReferenceIdeal.main_arg2) = m' ((c.tc : Thread Cert.ConditioningReferenceIdeal.nD Cert.ConditioningReferenceIdeal.τ).loc Cert.ConditioningReferenceIdeal.main_arg2))

def preserves_Convolution_ConvolutionIdeal : Prop :=
  True

def algebraic_ConvolutionIdeal_ConvolutionReferenceIdeal [hConvolutionIdeal : Cert.ConvolutionIdeal.Facts] [hConvolutionReferenceIdeal : Cert.ConvolutionReferenceIdeal.Facts] : Prop :=
  ∀ (m : (ℓ : Loc Cert.ConvolutionIdeal.nD Cert.ConvolutionIdeal.τ Cert.ConvolutionIdeal.sig) → Buf (Elt Ideal) ℓ) (g : Dev Cert.ConvolutionIdeal.nD → PrngReg)
    (m' : (ℓ : Loc Cert.ConvolutionReferenceIdeal.nD Cert.ConvolutionReferenceIdeal.τ Cert.ConvolutionReferenceIdeal.sig) → Buf (Elt Ideal) ℓ) (g' : Dev Cert.ConvolutionReferenceIdeal.nD → PrngReg), Pre_ConvolutionIdeal m →
    (∀ c : Dev Cert.ConvolutionIdeal.nD,
      m' ((c.tc : Thread Cert.ConvolutionReferenceIdeal.nD Cert.ConvolutionReferenceIdeal.τ).loc Cert.ConvolutionReferenceIdeal.main_arg0) = m ((c.tc : Thread Cert.ConvolutionIdeal.nD Cert.ConvolutionIdeal.τ).loc Cert.ConvolutionIdeal.main_arg0)
      ∧ m' ((c.tc : Thread Cert.ConvolutionReferenceIdeal.nD Cert.ConvolutionReferenceIdeal.τ).loc Cert.ConvolutionReferenceIdeal.main_arg1) = m ((c.tc : Thread Cert.ConvolutionIdeal.nD Cert.ConvolutionIdeal.τ).loc Cert.ConvolutionIdeal.main_arg1)
      ∧ m' ((c.tc : Thread Cert.ConvolutionReferenceIdeal.nD Cert.ConvolutionReferenceIdeal.τ).loc Cert.ConvolutionReferenceIdeal.main_arg2) = m ((c.tc : Thread Cert.ConvolutionIdeal.nD Cert.ConvolutionIdeal.τ).loc Cert.ConvolutionIdeal.main_arg2)
      ∧ m' ((c.tc : Thread Cert.ConvolutionReferenceIdeal.nD Cert.ConvolutionReferenceIdeal.τ).loc Cert.ConvolutionReferenceIdeal.main_arg3) = m ((c.tc : Thread Cert.ConvolutionIdeal.nD Cert.ConvolutionIdeal.τ).loc Cert.ConvolutionIdeal.main_arg3)
      ∧ m' ((c.tc : Thread Cert.ConvolutionReferenceIdeal.nD Cert.ConvolutionReferenceIdeal.τ).loc Cert.ConvolutionReferenceIdeal.main_arg4) = m ((c.tc : Thread Cert.ConvolutionIdeal.nD Cert.ConvolutionIdeal.τ).loc Cert.ConvolutionIdeal.main_arg4)) →
    ∃ (v0 : (c : Dev Cert.ConvolutionIdeal.nD) → Buf (Elt Ideal) ((c.tc : Thread Cert.ConvolutionIdeal.nD Cert.ConvolutionIdeal.τ).loc Cert.ConvolutionIdeal.main_v3)),
      θ_run (Cert.ConvolutionIdeal.defs (F := Ideal)) (onTc (τ := Cert.ConvolutionIdeal.τ) (Cert.ConvolutionIdeal.main (F := Ideal))) ⟨m, fun _ => 0, g⟩ (fun r => ∀ c : Dev Cert.ConvolutionIdeal.nD,
          r.2.mem ((c.tc : Thread Cert.ConvolutionIdeal.nD Cert.ConvolutionIdeal.τ).loc Cert.ConvolutionIdeal.main_v3) = v0 c
          ∧ r.2.mem ((c.tc : Thread Cert.ConvolutionIdeal.nD Cert.ConvolutionIdeal.τ).loc Cert.ConvolutionIdeal.main_arg0) = m ((c.tc : Thread Cert.ConvolutionIdeal.nD Cert.ConvolutionIdeal.τ).loc Cert.ConvolutionIdeal.main_arg0)
          ∧ r.2.mem ((c.tc : Thread Cert.ConvolutionIdeal.nD Cert.ConvolutionIdeal.τ).loc Cert.ConvolutionIdeal.main_arg1) = m ((c.tc : Thread Cert.ConvolutionIdeal.nD Cert.ConvolutionIdeal.τ).loc Cert.ConvolutionIdeal.main_arg1)
          ∧ r.2.mem ((c.tc : Thread Cert.ConvolutionIdeal.nD Cert.ConvolutionIdeal.τ).loc Cert.ConvolutionIdeal.main_arg2) = m ((c.tc : Thread Cert.ConvolutionIdeal.nD Cert.ConvolutionIdeal.τ).loc Cert.ConvolutionIdeal.main_arg2)
          ∧ r.2.mem ((c.tc : Thread Cert.ConvolutionIdeal.nD Cert.ConvolutionIdeal.τ).loc Cert.ConvolutionIdeal.main_arg3) = m ((c.tc : Thread Cert.ConvolutionIdeal.nD Cert.ConvolutionIdeal.τ).loc Cert.ConvolutionIdeal.main_arg3)
          ∧ r.2.mem ((c.tc : Thread Cert.ConvolutionIdeal.nD Cert.ConvolutionIdeal.τ).loc Cert.ConvolutionIdeal.main_arg4) = m ((c.tc : Thread Cert.ConvolutionIdeal.nD Cert.ConvolutionIdeal.τ).loc Cert.ConvolutionIdeal.main_arg4))
      ∧ θ_run (Cert.ConvolutionReferenceIdeal.defs (F := Ideal)) (onTc (τ := Cert.ConvolutionReferenceIdeal.τ) (Cert.ConvolutionReferenceIdeal.main (F := Ideal))) ⟨m', fun _ => 0, g'⟩ (fun r => ∀ c : Dev Cert.ConvolutionReferenceIdeal.nD,
          r.2.mem ((c.tc : Thread Cert.ConvolutionReferenceIdeal.nD Cert.ConvolutionReferenceIdeal.τ).loc Cert.ConvolutionReferenceIdeal.main_v88) = v0 c
          ∧ r.2.mem ((c.tc : Thread Cert.ConvolutionReferenceIdeal.nD Cert.ConvolutionReferenceIdeal.τ).loc Cert.ConvolutionReferenceIdeal.main_arg0) = m' ((c.tc : Thread Cert.ConvolutionReferenceIdeal.nD Cert.ConvolutionReferenceIdeal.τ).loc Cert.ConvolutionReferenceIdeal.main_arg0)
          ∧ r.2.mem ((c.tc : Thread Cert.ConvolutionReferenceIdeal.nD Cert.ConvolutionReferenceIdeal.τ).loc Cert.ConvolutionReferenceIdeal.main_arg1) = m' ((c.tc : Thread Cert.ConvolutionReferenceIdeal.nD Cert.ConvolutionReferenceIdeal.τ).loc Cert.ConvolutionReferenceIdeal.main_arg1)
          ∧ r.2.mem ((c.tc : Thread Cert.ConvolutionReferenceIdeal.nD Cert.ConvolutionReferenceIdeal.τ).loc Cert.ConvolutionReferenceIdeal.main_arg2) = m' ((c.tc : Thread Cert.ConvolutionReferenceIdeal.nD Cert.ConvolutionReferenceIdeal.τ).loc Cert.ConvolutionReferenceIdeal.main_arg2)
          ∧ r.2.mem ((c.tc : Thread Cert.ConvolutionReferenceIdeal.nD Cert.ConvolutionReferenceIdeal.τ).loc Cert.ConvolutionReferenceIdeal.main_arg3) = m' ((c.tc : Thread Cert.ConvolutionReferenceIdeal.nD Cert.ConvolutionReferenceIdeal.τ).loc Cert.ConvolutionReferenceIdeal.main_arg3)
          ∧ r.2.mem ((c.tc : Thread Cert.ConvolutionReferenceIdeal.nD Cert.ConvolutionReferenceIdeal.τ).loc Cert.ConvolutionReferenceIdeal.main_arg4) = m' ((c.tc : Thread Cert.ConvolutionReferenceIdeal.nD Cert.ConvolutionReferenceIdeal.τ).loc Cert.ConvolutionReferenceIdeal.main_arg4))

def preserves_ContextConvolution_ContextConvolutionIdeal : Prop :=
  True

def algebraic_ContextConvolutionIdeal_ContextConvolutionReferenceIdeal [hContextConvolutionIdeal : Cert.ContextConvolutionIdeal.Facts] [hContextConvolutionReferenceIdeal : Cert.ContextConvolutionReferenceIdeal.Facts] : Prop :=
  ∀ (m : (ℓ : Loc Cert.ContextConvolutionIdeal.nD Cert.ContextConvolutionIdeal.τ Cert.ContextConvolutionIdeal.sig) → Buf (Elt Ideal) ℓ) (g : Dev Cert.ContextConvolutionIdeal.nD → PrngReg)
    (m' : (ℓ : Loc Cert.ContextConvolutionReferenceIdeal.nD Cert.ContextConvolutionReferenceIdeal.τ Cert.ContextConvolutionReferenceIdeal.sig) → Buf (Elt Ideal) ℓ) (g' : Dev Cert.ContextConvolutionReferenceIdeal.nD → PrngReg), Pre_ContextConvolutionIdeal m →
    (∀ c : Dev Cert.ContextConvolutionIdeal.nD,
      m' ((c.tc : Thread Cert.ContextConvolutionReferenceIdeal.nD Cert.ContextConvolutionReferenceIdeal.τ).loc Cert.ContextConvolutionReferenceIdeal.main_arg0) = m ((c.tc : Thread Cert.ContextConvolutionIdeal.nD Cert.ContextConvolutionIdeal.τ).loc Cert.ContextConvolutionIdeal.main_arg0)
      ∧ m' ((c.tc : Thread Cert.ContextConvolutionReferenceIdeal.nD Cert.ContextConvolutionReferenceIdeal.τ).loc Cert.ContextConvolutionReferenceIdeal.main_arg1) = m ((c.tc : Thread Cert.ContextConvolutionIdeal.nD Cert.ContextConvolutionIdeal.τ).loc Cert.ContextConvolutionIdeal.main_arg1)
      ∧ m' ((c.tc : Thread Cert.ContextConvolutionReferenceIdeal.nD Cert.ContextConvolutionReferenceIdeal.τ).loc Cert.ContextConvolutionReferenceIdeal.main_arg2) = m ((c.tc : Thread Cert.ContextConvolutionIdeal.nD Cert.ContextConvolutionIdeal.τ).loc Cert.ContextConvolutionIdeal.main_arg2)
      ∧ m' ((c.tc : Thread Cert.ContextConvolutionReferenceIdeal.nD Cert.ContextConvolutionReferenceIdeal.τ).loc Cert.ContextConvolutionReferenceIdeal.main_arg3) = m ((c.tc : Thread Cert.ContextConvolutionIdeal.nD Cert.ContextConvolutionIdeal.τ).loc Cert.ContextConvolutionIdeal.main_arg3)
      ∧ m' ((c.tc : Thread Cert.ContextConvolutionReferenceIdeal.nD Cert.ContextConvolutionReferenceIdeal.τ).loc Cert.ContextConvolutionReferenceIdeal.main_arg4) = m ((c.tc : Thread Cert.ContextConvolutionIdeal.nD Cert.ContextConvolutionIdeal.τ).loc Cert.ContextConvolutionIdeal.main_arg4)) →
    ∃ (v0 : (c : Dev Cert.ContextConvolutionIdeal.nD) → Buf (Elt Ideal) ((c.tc : Thread Cert.ContextConvolutionIdeal.nD Cert.ContextConvolutionIdeal.τ).loc Cert.ContextConvolutionIdeal.main_v3)),
      θ_run (Cert.ContextConvolutionIdeal.defs (F := Ideal)) (onTc (τ := Cert.ContextConvolutionIdeal.τ) (Cert.ContextConvolutionIdeal.main (F := Ideal))) ⟨m, fun _ => 0, g⟩ (fun r => ∀ c : Dev Cert.ContextConvolutionIdeal.nD,
          r.2.mem ((c.tc : Thread Cert.ContextConvolutionIdeal.nD Cert.ContextConvolutionIdeal.τ).loc Cert.ContextConvolutionIdeal.main_v3) = v0 c
          ∧ r.2.mem ((c.tc : Thread Cert.ContextConvolutionIdeal.nD Cert.ContextConvolutionIdeal.τ).loc Cert.ContextConvolutionIdeal.main_arg0) = m ((c.tc : Thread Cert.ContextConvolutionIdeal.nD Cert.ContextConvolutionIdeal.τ).loc Cert.ContextConvolutionIdeal.main_arg0)
          ∧ r.2.mem ((c.tc : Thread Cert.ContextConvolutionIdeal.nD Cert.ContextConvolutionIdeal.τ).loc Cert.ContextConvolutionIdeal.main_arg1) = m ((c.tc : Thread Cert.ContextConvolutionIdeal.nD Cert.ContextConvolutionIdeal.τ).loc Cert.ContextConvolutionIdeal.main_arg1)
          ∧ r.2.mem ((c.tc : Thread Cert.ContextConvolutionIdeal.nD Cert.ContextConvolutionIdeal.τ).loc Cert.ContextConvolutionIdeal.main_arg2) = m ((c.tc : Thread Cert.ContextConvolutionIdeal.nD Cert.ContextConvolutionIdeal.τ).loc Cert.ContextConvolutionIdeal.main_arg2)
          ∧ r.2.mem ((c.tc : Thread Cert.ContextConvolutionIdeal.nD Cert.ContextConvolutionIdeal.τ).loc Cert.ContextConvolutionIdeal.main_arg3) = m ((c.tc : Thread Cert.ContextConvolutionIdeal.nD Cert.ContextConvolutionIdeal.τ).loc Cert.ContextConvolutionIdeal.main_arg3)
          ∧ r.2.mem ((c.tc : Thread Cert.ContextConvolutionIdeal.nD Cert.ContextConvolutionIdeal.τ).loc Cert.ContextConvolutionIdeal.main_arg4) = m ((c.tc : Thread Cert.ContextConvolutionIdeal.nD Cert.ContextConvolutionIdeal.τ).loc Cert.ContextConvolutionIdeal.main_arg4))
      ∧ θ_run (Cert.ContextConvolutionReferenceIdeal.defs (F := Ideal)) (onTc (τ := Cert.ContextConvolutionReferenceIdeal.τ) (Cert.ContextConvolutionReferenceIdeal.main (F := Ideal))) ⟨m', fun _ => 0, g'⟩ (fun r => ∀ c : Dev Cert.ContextConvolutionReferenceIdeal.nD,
          r.2.mem ((c.tc : Thread Cert.ContextConvolutionReferenceIdeal.nD Cert.ContextConvolutionReferenceIdeal.τ).loc Cert.ContextConvolutionReferenceIdeal.main_v88) = v0 c
          ∧ r.2.mem ((c.tc : Thread Cert.ContextConvolutionReferenceIdeal.nD Cert.ContextConvolutionReferenceIdeal.τ).loc Cert.ContextConvolutionReferenceIdeal.main_arg0) = m' ((c.tc : Thread Cert.ContextConvolutionReferenceIdeal.nD Cert.ContextConvolutionReferenceIdeal.τ).loc Cert.ContextConvolutionReferenceIdeal.main_arg0)
          ∧ r.2.mem ((c.tc : Thread Cert.ContextConvolutionReferenceIdeal.nD Cert.ContextConvolutionReferenceIdeal.τ).loc Cert.ContextConvolutionReferenceIdeal.main_arg1) = m' ((c.tc : Thread Cert.ContextConvolutionReferenceIdeal.nD Cert.ContextConvolutionReferenceIdeal.τ).loc Cert.ContextConvolutionReferenceIdeal.main_arg1)
          ∧ r.2.mem ((c.tc : Thread Cert.ContextConvolutionReferenceIdeal.nD Cert.ContextConvolutionReferenceIdeal.τ).loc Cert.ContextConvolutionReferenceIdeal.main_arg2) = m' ((c.tc : Thread Cert.ContextConvolutionReferenceIdeal.nD Cert.ContextConvolutionReferenceIdeal.τ).loc Cert.ContextConvolutionReferenceIdeal.main_arg2)
          ∧ r.2.mem ((c.tc : Thread Cert.ContextConvolutionReferenceIdeal.nD Cert.ContextConvolutionReferenceIdeal.τ).loc Cert.ContextConvolutionReferenceIdeal.main_arg3) = m' ((c.tc : Thread Cert.ContextConvolutionReferenceIdeal.nD Cert.ContextConvolutionReferenceIdeal.τ).loc Cert.ContextConvolutionReferenceIdeal.main_arg3)
          ∧ r.2.mem ((c.tc : Thread Cert.ContextConvolutionReferenceIdeal.nD Cert.ContextConvolutionReferenceIdeal.τ).loc Cert.ContextConvolutionReferenceIdeal.main_arg4) = m' ((c.tc : Thread Cert.ContextConvolutionReferenceIdeal.nD Cert.ContextConvolutionReferenceIdeal.τ).loc Cert.ContextConvolutionReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hAttention : Cert.Attention.Facts) (hAttentionIdeal : Cert.AttentionIdeal.Facts) (hAttentionReferenceIdeal : Cert.AttentionReferenceIdeal.Facts) (hProjections : Cert.Projections.Facts) (hProjectionsIdeal : Cert.ProjectionsIdeal.Facts) (hProjectionsReferenceIdeal : Cert.ProjectionsReferenceIdeal.Facts) (hOutput : Cert.Output.Facts) (hOutputIdeal : Cert.OutputIdeal.Facts) (hOutputReferenceIdeal : Cert.OutputReferenceIdeal.Facts) (hMixed : Cert.Mixed.Facts) (hMixedIdeal : Cert.MixedIdeal.Facts) (hMixedReferenceIdeal : Cert.MixedReferenceIdeal.Facts) (hContext : Cert.Context.Facts) (hContextIdeal : Cert.ContextIdeal.Facts) (hContextReferenceIdeal : Cert.ContextReferenceIdeal.Facts) (hConditioning : Cert.Conditioning.Facts) (hConditioningIdeal : Cert.ConditioningIdeal.Facts) (hConditioningReferenceIdeal : Cert.ConditioningReferenceIdeal.Facts) (hConvolution : Cert.Convolution.Facts) (hConvolutionIdeal : Cert.ConvolutionIdeal.Facts) (hConvolutionReferenceIdeal : Cert.ConvolutionReferenceIdeal.Facts) (hContextConvolution : Cert.ContextConvolution.Facts) (hContextConvolutionIdeal : Cert.ContextConvolutionIdeal.Facts) (hContextConvolutionReferenceIdeal : Cert.ContextConvolutionReferenceIdeal.Facts) (hPre_row_tok_in_range : Cert.Pre_row_tok_in_range.Facts) (hPre_blk_e_in_range : Cert.Pre_blk_e_in_range.Facts) (hPre_values_finite : Cert.Pre_values_finite.Facts),
    quiescent_Kernel (hKernel := hKernel) (hPre_row_tok_in_range := hPre_row_tok_in_range)
    ∧ quiescent_KernelIdeal (hKernelIdeal := hKernelIdeal) (hPre_row_tok_in_range := hPre_row_tok_in_range)
    ∧ quiescent_ReferenceIdeal (hReferenceIdeal := hReferenceIdeal)
    ∧ quiescent_ReferenceIdeal_pre_row_tok_in_range (hReferenceIdeal := hReferenceIdeal) (hPre_row_tok_in_range := hPre_row_tok_in_range)
    ∧ quiescent_Reference (hReference := hReference) (hPre_row_tok_in_range := hPre_row_tok_in_range)
    ∧ quiescent_Experts (hExperts := hExperts) (hPre_blk_e_in_range := hPre_blk_e_in_range)
    ∧ quiescent_ExpertsIdeal (hExpertsIdeal := hExpertsIdeal) (hPre_blk_e_in_range := hPre_blk_e_in_range)
    ∧ quiescent_ExpertsReferenceIdeal (hExpertsReferenceIdeal := hExpertsReferenceIdeal)
    ∧ quiescent_ExpertsReferenceIdeal_pre_blk_e_in_range (hExpertsReferenceIdeal := hExpertsReferenceIdeal) (hPre_blk_e_in_range := hPre_blk_e_in_range)
    ∧ quiescent_Attention (hAttention := hAttention)
    ∧ quiescent_AttentionIdeal (hAttentionIdeal := hAttentionIdeal)
    ∧ quiescent_AttentionIdeal_pre_values_finite (hAttentionIdeal := hAttentionIdeal) (hPre_values_finite := hPre_values_finite)
    ∧ quiescent_AttentionReferenceIdeal (hAttentionReferenceIdeal := hAttentionReferenceIdeal)
    ∧ quiescent_AttentionReferenceIdeal_pre_values_finite (hAttentionReferenceIdeal := hAttentionReferenceIdeal) (hPre_values_finite := hPre_values_finite)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ quiescent_Context (hContext := hContext)
    ∧ quiescent_ContextIdeal (hContextIdeal := hContextIdeal)
    ∧ quiescent_ContextReferenceIdeal (hContextReferenceIdeal := hContextReferenceIdeal)
    ∧ quiescent_Conditioning (hConditioning := hConditioning)
    ∧ quiescent_ConditioningIdeal (hConditioningIdeal := hConditioningIdeal)
    ∧ quiescent_ConditioningReferenceIdeal (hConditioningReferenceIdeal := hConditioningReferenceIdeal)
    ∧ quiescent_Convolution (hConvolution := hConvolution)
    ∧ quiescent_ConvolutionIdeal (hConvolutionIdeal := hConvolutionIdeal)
    ∧ quiescent_ConvolutionReferenceIdeal (hConvolutionReferenceIdeal := hConvolutionReferenceIdeal)
    ∧ quiescent_ContextConvolution (hContextConvolution := hContextConvolution)
    ∧ quiescent_ContextConvolutionIdeal (hContextConvolutionIdeal := hContextConvolutionIdeal)
    ∧ quiescent_ContextConvolutionReferenceIdeal (hContextConvolutionReferenceIdeal := hContextConvolutionReferenceIdeal)
    ∧ preserves_Kernel_KernelIdeal
    ∧ algebraic_KernelIdeal_ReferenceIdeal (hKernelIdeal := hKernelIdeal) (hReferenceIdeal := hReferenceIdeal) (hPre_row_tok_in_range := hPre_row_tok_in_range)
    ∧ bitexact_Kernel_Reference (hKernel := hKernel) (hReference := hReference) (hPre_row_tok_in_range := hPre_row_tok_in_range)
    ∧ preserves_Experts_ExpertsIdeal
    ∧ algebraic_ExpertsIdeal_ExpertsReferenceIdeal (hExpertsIdeal := hExpertsIdeal) (hExpertsReferenceIdeal := hExpertsReferenceIdeal) (hPre_blk_e_in_range := hPre_blk_e_in_range)
    ∧ preserves_Attention_AttentionIdeal
    ∧ algebraic_AttentionIdeal_AttentionReferenceIdeal_pre_values_finite (hAttentionIdeal := hAttentionIdeal) (hAttentionReferenceIdeal := hAttentionReferenceIdeal) (hPre_values_finite := hPre_values_finite)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Output_OutputIdeal
    ∧ algebraic_OutputIdeal_OutputReferenceIdeal (hOutputIdeal := hOutputIdeal) (hOutputReferenceIdeal := hOutputReferenceIdeal)
    ∧ preserves_Mixed_MixedIdeal
    ∧ algebraic_MixedIdeal_MixedReferenceIdeal (hMixedIdeal := hMixedIdeal) (hMixedReferenceIdeal := hMixedReferenceIdeal)
    ∧ preserves_Context_ContextIdeal
    ∧ algebraic_ContextIdeal_ContextReferenceIdeal (hContextIdeal := hContextIdeal) (hContextReferenceIdeal := hContextReferenceIdeal)
    ∧ preserves_Conditioning_ConditioningIdeal
    ∧ algebraic_ConditioningIdeal_ConditioningReferenceIdeal (hConditioningIdeal := hConditioningIdeal) (hConditioningReferenceIdeal := hConditioningReferenceIdeal)
    ∧ preserves_Convolution_ConvolutionIdeal
    ∧ algebraic_ConvolutionIdeal_ConvolutionReferenceIdeal (hConvolutionIdeal := hConvolutionIdeal) (hConvolutionReferenceIdeal := hConvolutionReferenceIdeal)
    ∧ preserves_ContextConvolution_ContextConvolutionIdeal
    ∧ algebraic_ContextConvolutionIdeal_ContextConvolutionReferenceIdeal (hContextConvolutionIdeal := hContextConvolutionIdeal) (hContextConvolutionReferenceIdeal := hContextConvolutionReferenceIdeal)
-- ==== Pre_blk_e_in_range.lean ====
abbrev S73728x1024 : Shape := ⟨2, ![73728, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S73728 : Shape := ⟨1, ![73728]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S73728x1024 .bf16) (main_arg1 : IVec S288 32) (main_arg2 : FVec F S32x1024x2048 .f32) (main_arg3 : FVec F S32x2048 .f32) (main_arg4 : FVec F S32x1024x1024 .f32) (main_arg5 : FVec F S32x1024 .f32) (main_arg6 : FVec F S73728 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_row_tok_in_range.lean ====
abbrev S16384x1024 : Shape := ⟨2, ![16384, 1024]⟩
abbrev S73728 : Shape := ⟨1, ![73728]⟩
abbrev S_ : Shape := ⟨0, ![]⟩

class Facts : Prop where
  bcast_S_S73728 : S_.BroadcastsInDim S73728 (![] : Fin 0 → Fin S73728.rank)

variable [Facts]

def fn {F : FTy → Type} [FloatOps F] (main_arg0 : FVec F S16384x1024 .bf16) (main_arg1 : IVec S73728 32) : IVec S73728 1 :=
  let main_c : IVec S_ 32 := constantI S_ 32 0#32
  let main_v0 : IVec S73728 32 := broadcastInDim S73728 ![] bcast_S_S73728 main_c
  let main_v1 : IVec S73728 1 := cmpi .sge main_arg1 main_v0
  let main_c_0 : IVec S_ 32 := constantI S_ 32 16384#32
  let main_v2 : IVec S73728 32 := broadcastInDim S73728 ![] bcast_S_S73728 main_c_0
  let main_v3 : IVec S73728 1 := cmpi .sle main_arg1 main_v2
  let main_v4 : IVec S73728 1 := andi main_v1 main_v3
  main_v4
-- ==== Pre_values_finite.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S_ : Shape := ⟨0, ![]⟩
abbrev S128 : Shape := ⟨1, ![128]⟩

class Facts : Prop where
  bitsLt_bf16_f32 : FTy.bits .bf16 < FTy.bits .f32
  bcast_S_S2x8448x8x128 : S_.BroadcastsInDim S2x8448x8x128 (![] : Fin 0 → Fin S2x8448x8x128.rank)
  reducesTo_S2x8448x8x128_S_d0_1_2_3 : S2x8448x8x128.ReducesTo [0, 1, 2, 3] S_
  h_S_ : 0 < S_.numel

variable [Facts]

def fn {F : FTy → Type} [FloatOps F] (main_arg0 : FVec F S2x8192x8x2x64 .bf16) (main_arg1 : FVec F S2x8448x8x2x64 .bf16) (main_arg2 : FVec F S2x8448x8x128 .bf16) (main_arg3 : FVec F S_ .f32) (main_arg4 : FVec F S128 .f32) : IVec S_ 1 :=
  let main_v0 : FVec F S2x8448x8x128 .f32 := (extf .f32 · bitsLt_bf16_f32) main_arg2
  let main_v1 : FVec F S2x8448x8x128 .f32 := Host.absf main_v0
  let main_cst : FVec F S_ .f32 := constant S_ .f32 0x7F800000#32
  let main_v2 : FVec F S2x8448x8x128 .f32 := broadcastInDim S2x8448x8x128 ![] bcast_S_S2x8448x8x128 main_cst
  let main_v3 : IVec S2x8448x8x128 1 := cmpf .olt main_v1 main_v2
  let main_c : IVec S_ 1 := constantI S_ 1 1#1
  let main_v4 : IVec S_ 1 := (fun x v => Host.reduce IntOp.andi x v reducesTo_S2x8448x8x128_S_d0_1_2_3 h_S_) main_v3 main_c
  let main_v5 : FVec F S_ .f32 := Host.absf main_arg3
  let main_cst_0 : FVec F S_ .f32 := constant S_ .f32 0x7F800000#32
  let main_v6 : IVec S_ 1 := cmpf .olt main_v5 main_cst_0
  let main_v7 : IVec S_ 1 := andi main_v4 main_v6
  main_v7
-- ==== Kernel.lean ====
abbrev S16384x1024 : Shape := ⟨2, ![16384, 1024]⟩
abbrev S73728 : Shape := ⟨1, ![73728]⟩
abbrev S16384x8x128 : Shape := ⟨3, ![16384, 8, 128]⟩
abbrev S_ : Shape := ⟨0, ![]⟩
abbrev S1x8x128 : Shape := ⟨3, ![1, 8, 128]⟩
abbrev S73728x8x128 : Shape := ⟨3, ![73728, 8, 128]⟩
abbrev S1 : Shape := ⟨1, ![1]⟩
abbrev S8x128 : Shape := ⟨2, ![8, 128]⟩
abbrev S73728x1024 : Shape := ⟨2, ![73728, 1024]⟩

abbrev nBuf : Space → Nat
  | .hbm => 6
  | .vmem => 0
  | .smem => 1
  | _ => 0

abbrev bufTy : (tb : Table) → Fin (tcTables nBuf tb) → BufTy
  | .hbm, ⟨0, _⟩ => ⟨S16384x1024, .bf16⟩
  | .hbm, ⟨1, _⟩ => ⟨S16384x8x128, .bf16⟩
  | .hbm, ⟨2, _⟩ => ⟨S_, .bf16⟩
  | .hbm, ⟨3, _⟩ => ⟨S1x8x128, .bf16⟩
  | .hbm, ⟨4, _⟩ => ⟨S73728x8x128, .bf16⟩
  | .hbm, ⟨5, _⟩ => ⟨S73728x1024, .bf16⟩
  | .local _ .smem, ⟨0, _⟩ => ⟨S73728, .i32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1 : Ref sig .tc := ⟨.smem, 0, rfl⟩

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v3 : BitVec 32 := Scalar.addi v0 arg6
  let v4 : Index := Scalar.indexCast v3
  ![v4.toNat]
def k0_off2 (i : grid0.Coords) (k0_t1 : Fin k0_t1_loop.trips) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v12 : BitVec 32 := Scalar.addi v0 arg6
  let c0_i32_9 : BitVec 32 := 0#32
  let c0_i32_10 : BitVec 32 := 0#32
  ![v12.toNat, 0, 0]
def k0_off3 (v5 : BitVec 32) : Fin 3 → Nat :=
  let c0_i32_11 : BitVec 32 := 0#32
  let c0_i32_12 : BitVec 32 := 0#32
  ![v5.toNat, 0, 0]
def k0_cond1 (v5 : BitVec 32) : BitVec 1 :=
  let c16384_i32 : BitVec 32 := 16384#32
  let v6 : BitVec 1 := Scalar.cmpi .slt v5 c16384_i32
  let v7 : BitVec 32 := Scalar.extui v6
  let c0_i32_6 : BitVec 32 := 0#32
  let v8 : BitVec 1 := Scalar.cmpi .ne v7 c0_i32_6
  v8

def k0_chk1 (v5 : BitVec 32) : Prop :=
  (∀ (k0_h1 : k0_cond1 v5 = 1#1), ∀ a, (k0_off3 v5) a + S1x8x128.size a ≤ S16384x8x128.size a) ∧
  (∀ (k0_h1 : k0_cond1 v5 = 1#1), ∀ (hinb : ∀ a, (k0_off3 v5) a + S1x8x128.size a ≤ S16384x8x128.size a), (Rect.unit (s := S16384x8x128) (k0_off3 v5) S1x8x128.size hinb).WholeWords (EltTy.packing .bf16))
theorem k0_off3_inb : ∀ (v5 : BitVec 32) (k0_hw1 : k0_chk1 v5), ∀ (k0_h1 : k0_cond1 v5 = 1#1), ∀ a, (k0_off3 v5) a + S1x8x128.size a ≤ S16384x8x128.size a := fun v5 k0_hw1 k0_h1 => k0_hw1.1 k0_h1
theorem k0_off3_wordsbf16 : ∀ (v5 : BitVec 32) (k0_hw1 : k0_chk1 v5), ∀ (k0_h1 : k0_cond1 v5 = 1#1), (Rect.unit (s := S16384x8x128) (k0_off3 v5) S1x8x128.size (k0_off3_inb v5 k0_hw1 k0_h1)).WholeWords (EltTy.packing .bf16) := fun v5 k0_hw1 k0_h1 => k0_hw1.2 k0_h1 (k0_off3_inb v5 k0_hw1 k0_h1)

def k0_off4 (i : grid0.Coords) (k0_t1 : Fin k0_t1_loop.trips) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v12 : BitVec 32 := Scalar.addi v0 arg6
  let c0_i32_10 : BitVec 32 := 0#32
  let c0_i32_11 : BitVec 32 := 0#32
  ![v12.toNat, 0, 0]
@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off5 (i : grid0.Coords) (k0_t2 : Fin k0_t2_loop.trips) : Fin 3 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg6 : BitVec 32 := Scf.iv c0_i32_2 c1_i32_4 k0_t2
  let v3 : BitVec 32 := Scalar.addi v0 arg6
  let c0_i32_7 : BitVec 32 := 0#32
  let c0_i32_8 : BitVec 32 := 0#32
  ![v3.toNat, 0, 0]
-- ==== Reference.lean ====
abbrev S16384x1024 : Shape := ⟨2, ![16384, 1024]⟩
abbrev S73728 : Shape := ⟨1, ![73728]⟩
abbrev S_ : Shape := ⟨0, ![]⟩
abbrev S1x1024 : Shape := ⟨2, ![1, 1024]⟩
abbrev S16385x1024 : Shape := ⟨2, ![16385, 1024]⟩
abbrev S73728x1 : Shape := ⟨2, ![73728, 1]⟩
abbrev S73728x1024 : Shape := ⟨2, ![73728, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S73728, .i32⟩
  | .hbm, ⟨2, _⟩ => ⟨S_, .bf16⟩
  | .hbm, ⟨3, _⟩ => ⟨S1x1024, .bf16⟩
  | .hbm, ⟨4, _⟩ => ⟨S16385x1024, .bf16⟩
  | .hbm, ⟨5, _⟩ => ⟨S_, .i32⟩
  | .hbm, ⟨6, _⟩ => ⟨S73728, .i32⟩
  | .hbm, ⟨7, _⟩ => ⟨S73728, .i1⟩
  | .hbm, ⟨8, _⟩ => ⟨S_, .i32⟩
  | .hbm, ⟨9, _⟩ => ⟨S73728, .i32⟩
  | .hbm, ⟨10, _⟩ => ⟨S73728, .i32⟩
  | .hbm, ⟨11, _⟩ => ⟨S73728, .i32⟩
  | .hbm, ⟨12, _⟩ => ⟨S73728x1, .i32⟩
  | .hbm, ⟨13, _⟩ => ⟨S73728x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Experts.lean ====
abbrev S73728x1024 : Shape := ⟨2, ![73728, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S73728 : Shape := ⟨1, ![73728]⟩
abbrev S32x1x2048 : Shape := ⟨3, ![32, 1, 2048]⟩
abbrev S32x1x1024 : Shape := ⟨3, ![32, 1, 1024]⟩
abbrev S73728x1 : Shape := ⟨2, ![73728, 1]⟩
abbrev S256x1024 : Shape := ⟨2, ![256, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1 : Shape := ⟨2, ![256, 1]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 18
  | .vmem => 14
  | .smem => 1
  | _ => 0

abbrev bufTy : (tb : Table) → Fin (tcTables nBuf tb) → BufTy
  | .hbm, ⟨0, _⟩ => ⟨S73728x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S73728, .f32⟩
  | .hbm, ⟨6, _⟩ => ⟨S32x1024x1024, .f32⟩
  | .hbm, ⟨7, _⟩ => ⟨S32x1024x1024, .f32⟩
  | .hbm, ⟨8, _⟩ => ⟨S32x1024x2048, .f32⟩
  | .hbm, ⟨9, _⟩ => ⟨S32x1024x2048, .bf16⟩
  | .hbm, ⟨10, _⟩ => ⟨S32x1024, .f32⟩
  | .hbm, ⟨11, _⟩ => ⟨S32x1024, .f32⟩
  | .hbm, ⟨12, _⟩ => ⟨S32x2048, .f32⟩
  | .hbm, ⟨13, _⟩ => ⟨S32x1024x1024, .bf16⟩
  | .hbm, ⟨14, _⟩ => ⟨S32x1x2048, .f32⟩
  | .hbm, ⟨15, _⟩ => ⟨S32x1x1024, .f32⟩
  | .hbm, ⟨16, _⟩ => ⟨S73728x1, .f32⟩
  | .hbm, ⟨17, _⟩ => ⟨S73728x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1, .f32⟩
  | .local _ .vmem, ⟨11, _⟩ => ⟨S256x1, .f32⟩
  | .local _ .vmem, ⟨12, _⟩ => ⟨S256x1024, .f32⟩
  | .local _ .vmem, ⟨13, _⟩ => ⟨S256x1024, .f32⟩
  | .local _ .smem, ⟨0, _⟩ => ⟨S288, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsReferenceIdeal.lean ====
abbrev S73728x1024 : Shape := ⟨2, ![73728, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S73728 : Shape := ⟨1, ![73728]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S73728x1 : Shape := ⟨2, ![73728, 1]⟩

abbrev nBuf : Space → Nat
  | .hbm => 86
  | .vmem => 0
  | .smem => 0
  | _ => 0

abbrev bufTy : (tb : Table) → Fin (tcTables nBuf tb) → BufTy
  | .hbm, ⟨0, _⟩ => ⟨S73728x1024, .bf16⟩
  | .hbm, ⟨1, _⟩ => ⟨S288, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S73728, .f32⟩
  | .hbm, ⟨7, _⟩ => ⟨S73728x1024, .f32⟩
  | .hbm, ⟨8, _⟩ => ⟨S288x256x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x1024x2048, .f32⟩
  | .hbm, ⟨18, _⟩ => ⟨S288x256x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x2048, .f32⟩
  | .hbm, ⟨28, _⟩ => ⟨S288x1x2048, .f32⟩
  | .hbm, ⟨29, _⟩ => ⟨S288x256x2048, .f32⟩
  | .hbm, ⟨30, _⟩ => ⟨S288x256x2048, .f32⟩
  | .hbm, ⟨31, _⟩ => ⟨S288x256x1024, .f32⟩
  | .hbm, ⟨32, _⟩ => ⟨S_, .f32⟩
  | .hbm, ⟨33, _⟩ => ⟨S288x256x1024, .f32⟩
  | .hbm, ⟨34, _⟩ => ⟨S288x256x1024, .f32⟩
  | .hbm, ⟨35, _⟩ => ⟨S288x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S_, .f32⟩
  | .hbm, ⟨45, _⟩ => ⟨S288x256x1024, .f32⟩
  | .hbm, ⟨46, _⟩ => ⟨S288x256x1024, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S_, .f32⟩
  | .hbm, ⟨53, _⟩ => ⟨S288x256x1024, .f32⟩
  | .hbm, ⟨54, _⟩ => ⟨S288x256x1024, .f32⟩
  | .hbm, ⟨55, _⟩ => ⟨S288x256x1024, .f32⟩
  | .hbm, ⟨56, _⟩ => ⟨S_, .f32⟩
  | .hbm, ⟨57, _⟩ => ⟨S288x256x1024, .f32⟩
  | .hbm, ⟨58, _⟩ => ⟨S288x256x1024, .f32⟩
  | .hbm, ⟨59, _⟩ => ⟨S288x256x1024, .f32⟩
  | .hbm, ⟨60, _⟩ => ⟨S_, .i32⟩
  | .hbm, ⟨61, _⟩ => ⟨S288, .i32⟩
  | .hbm, ⟨62, _⟩ => ⟨S288, .i1⟩
  | .hbm, ⟨63, _⟩ => ⟨S_, .i32⟩
  | .hbm, ⟨64, _⟩ => ⟨S288, .i32⟩
  | .hbm, ⟨65, _⟩ => ⟨S288, .i32⟩
  | .hbm, ⟨66, _⟩ => ⟨S288, .i32⟩
  | .hbm, ⟨67, _⟩ => ⟨S288x1, .i32⟩
  | .hbm, ⟨68, _⟩ => ⟨S288x1024x1024, .f32⟩
  | .hbm, ⟨69, _⟩ => ⟨S288x256x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1024, .f32⟩
  | .hbm, ⟨79, _⟩ => ⟨S288x1x1024, .f32⟩
  | .hbm, ⟨80, _⟩ => ⟨S288x256x1024, .f32⟩
  | .hbm, ⟨81, _⟩ => ⟨S288x256x1024, .f32⟩
  | .hbm, ⟨82, _⟩ => ⟨S73728x1024, .f32⟩
  | .hbm, ⟨83, _⟩ => ⟨S73728x1, .f32⟩
  | .hbm, ⟨84, _⟩ => ⟨S73728x1024, .f32⟩
  | .hbm, ⟨85, _⟩ => ⟨S73728x1024, .f32⟩
  | _, _ => ⟨S73728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Attention.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S_ : Shape := ⟨0, ![]⟩
abbrev S128 : Shape := ⟨1, ![128]⟩
abbrev S16384x1024 : Shape := ⟨2, ![16384, 1024]⟩
abbrev S2x8448x1024 : Shape := ⟨3, ![2, 8448, 1024]⟩
abbrev S1 : Shape := ⟨1, ![1]⟩
abbrev S1x128 : Shape := ⟨2, ![1, 128]⟩
abbrev S512x128 : Shape := ⟨2, ![512, 128]⟩
abbrev S1x8448x128 : Shape := ⟨3, ![1, 8448, 128]⟩
abbrev S512x1 : Shape := ⟨2, ![512, 1]⟩
abbrev S1x384x128 : Shape := ⟨3, ![1, 384, 128]⟩
abbrev S384x128 : Shape := ⟨2, ![384, 128]⟩
abbrev S512x384 : Shape := ⟨2, ![512, 384]⟩
abbrev S512 : Shape := ⟨1, ![512]⟩

abbrev nBuf : Space → Nat
  | .hbm => 16
  | .vmem => 9
  | .smem => 1
  | _ => 0

abbrev bufTy : (tb : Table) → Fin (tcTables nBuf tb) → BufTy
  | .hbm, ⟨0, _⟩ => ⟨S2x8192x8x2x64, .bf16⟩
  | .hbm, ⟨1, _⟩ => ⟨S2x8448x8x2x64, .bf16⟩
  | .hbm, ⟨2, _⟩ => ⟨S2x8448x8x128, .bf16⟩
  | .hbm, ⟨3, _⟩ => ⟨S_, .f32⟩
  | .hbm, ⟨4, _⟩ => ⟨S128, .f32⟩
  | .hbm, ⟨5, _⟩ => ⟨S2x8192x8x2x64, .f32⟩
  | .hbm, ⟨6, _⟩ => ⟨S_, .f32⟩
  | .hbm, ⟨7, _⟩ => ⟨S2x8192x8x2x64, .f32⟩
  | .hbm, ⟨8, _⟩ => ⟨S2x8192x8x2x64, .f32⟩
  | .hbm, ⟨9, _⟩ => ⟨S2x8192x8x2x64, .bf16⟩
  | .hbm, ⟨10, _⟩ => ⟨S16384x1024, .bf16⟩
  | .hbm, ⟨11, _⟩ => ⟨S2x8448x1024, .bf16⟩
  | .hbm, ⟨12, _⟩ => ⟨S2x8448x1024, .bf16⟩
  | .hbm, ⟨13, _⟩ => ⟨S1, .f32⟩
  | .hbm, ⟨14, _⟩ => ⟨S1x128, .f32⟩
  | .hbm, ⟨15, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .smem, ⟨0, _⟩ => ⟨S1, .f32⟩
  | _, _ => ⟨S2x8192x8x2x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c22_i32 : BitVec 32 := 22#32
  let v16 : BitVec 32 := Scalar.addi c0_i32 c22_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c384_i32 : BitVec 32 := 384#32
  let v44 : BitVec 32 := Scalar.muli arg9 c384_i32
  v44
def k0_off1 (k0_t1 : Fin k0_t1_loop.trips) : Fin 3 → Nat :=
  let c0_18 : Index := 0#32
  let c0_i32 : BitVec 32 := 0#32
  let c1_i32 : BitVec 32 := 1#32
  let arg9 : BitVec 32 := Scf.iv c0_i32 c1_i32 k0_t1
  let c384_i32 : BitVec 32 := 384#32
  let v44 : BitVec 32 := Scalar.muli arg9 c384_i32
  let v45 : BitVec 32 := v44
  let v46 : Index := Scalar.indexCast v45
  let c0_19 : Index := 0#32
  ![0, v46.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionReferenceIdeal.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S_ : Shape := ⟨0, ![]⟩
abbrev S128 : Shape := ⟨1, ![128]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x8x2x64, .bf16⟩
  | .hbm, ⟨1, _⟩ => ⟨S2x8448x8x2x64, .bf16⟩
  | .hbm, ⟨2, _⟩ => ⟨S2x8448x8x128, .bf16⟩
  | .hbm, ⟨3, _⟩ => ⟨S_, .f32⟩
  | .hbm, ⟨4, _⟩ => ⟨S128, .f32⟩
  | .hbm, ⟨5, _⟩ => ⟨S2x8448x8x128, .f32⟩
  | .hbm, ⟨6, _⟩ => ⟨S2x8192x8x2x64, .f32⟩
  | .hbm, ⟨7, _⟩ => ⟨S2x8448x8x2x64, .f32⟩
  | .hbm, ⟨8, _⟩ => ⟨S2x8x2x8192x8448, .f32⟩
  | .hbm, ⟨9, _⟩ => ⟨S_, .f32⟩
  | .hbm, ⟨10, _⟩ => ⟨S2x8x2x8192x8448, .f32⟩
  | .hbm, ⟨11, _⟩ => ⟨S2x8x2x8192x8448, .f32⟩
  | .hbm, ⟨12, _⟩ => ⟨S_, .f32⟩
  | .hbm, ⟨13, _⟩ => ⟨S2x8x2x8192, .f32⟩
  | .hbm, ⟨14, _⟩ => ⟨S_, .f32⟩
  | .hbm, ⟨15, _⟩ => ⟨S2x8x2x8192, .f32⟩
  | .hbm, ⟨16, _⟩ => ⟨S2x8x2x8192, .f32⟩
  | .hbm, ⟨17, _⟩ => ⟨S2x8x2x8192x1, .f32⟩
  | .hbm, ⟨18, _⟩ => ⟨S2x8x2x8192x8448, .f32⟩
  | .hbm, ⟨19, _⟩ => ⟨S2x8x2x8192x8448, .f32⟩
  | .hbm, ⟨20, _⟩ => ⟨S2x8x2x8192x8448, .f32⟩
  | .hbm, ⟨21, _⟩ => ⟨S_, .f32⟩
  | .hbm, ⟨22, _⟩ => ⟨S2x8x2x8192, .f32⟩
  | .hbm, ⟨23, _⟩ => ⟨S2x8x2x8192x1, .f32⟩
  | .hbm, ⟨24, _⟩ => ⟨S2x8x2x8192x8448, .f32⟩
  | .hbm, ⟨25, _⟩ => ⟨S2x8x2x8192x8448, .f32⟩
  | .hbm, ⟨26, _⟩ => ⟨S2x8x1x8192x8448, .f32⟩
  | .hbm, ⟨27, _⟩ => ⟨S2x8x8192x8448, .f32⟩
  | .hbm, ⟨28, _⟩ => ⟨S2x8x1x8192x8448, .f32⟩
  | .hbm, ⟨29, _⟩ => ⟨S2x8x8192x8448, .f32⟩
  | .hbm, ⟨30, _⟩ => ⟨S2x8x8192x8448, .f32⟩
  | .hbm, ⟨31, _⟩ => ⟨S2x8x8192x8448, .f32⟩
  | .hbm, ⟨32, _⟩ => ⟨S2x8x8192x8448, .f32⟩
  | .hbm, ⟨33, _⟩ => ⟨S2x8x128x8192, .f32⟩
  | .hbm, ⟨34, _⟩ => ⟨S2x8192x8x128, .f32⟩
  | .hbm, ⟨35, _⟩ => ⟨S2x8192x8x128, .f32⟩
  | .hbm, ⟨36, _⟩ => ⟨S_, .f32⟩
  | .hbm, ⟨37, _⟩ => ⟨S2x8192x8, .f32⟩
  | .hbm, ⟨38, _⟩ => ⟨S2x8192x8x1, .f32⟩
  | .hbm, ⟨39, _⟩ => ⟨S_, .f32⟩
  | .hbm, ⟨40, _⟩ => ⟨S2x8192x8x1, .f32⟩
  | .hbm, ⟨41, _⟩ => ⟨S2x8192x8x1, .f32⟩
  | .hbm, ⟨42, _⟩ => ⟨S_, .f32⟩
  | .hbm, ⟨43, _⟩ => ⟨S2x8192x8x1, .f32⟩
  | .hbm, ⟨44, _⟩ => ⟨S2x8192x8x1, .f32⟩
  | .hbm, ⟨45, _⟩ => ⟨S2x8192x8x1, .f32⟩
  | .hbm, ⟨46, _⟩ => ⟨S2x8192x8x128, .f32⟩
  | .hbm, ⟨47, _⟩ => ⟨S2x8192x8x128, .f32⟩
  | .hbm, ⟨48, _⟩ => ⟨S1x1x1x128, .f32⟩
  | .hbm, ⟨49, _⟩ => ⟨S2x8192x8x128, .f32⟩
  | .hbm, ⟨50, _⟩ => ⟨S2x8192x8x128, .f32⟩
  | .hbm, ⟨51, _⟩ => ⟨S_, .f32⟩
  | .hbm, ⟨52, _⟩ => ⟨S2x8192x8x128, .f32⟩
  | .hbm, ⟨53, _⟩ => ⟨S2x8192x8x128, .f32⟩
  | .hbm, ⟨54, _⟩ => ⟨S16384x1024, .f32⟩
  | .hbm, ⟨55, _⟩ => ⟨S16384x1024, .bf16⟩
  | _, _ => ⟨S2x8192x8x2x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Projections.lean ====
abbrev S2x8192x1024 : Shape := ⟨3, ![2, 8192, 1024]⟩
abbrev S1024 : Shape := ⟨1, ![1024]⟩
abbrev S2x1024 : Shape := ⟨2, ![2, 1024]⟩
abbrev S1024x5664 : Shape := ⟨2, ![1024, 5664]⟩
abbrev S1024x1024 : Shape := ⟨2, ![1024, 1024]⟩
abbrev S1024x1280 : Shape := ⟨2, ![1024, 1280]⟩
abbrev S1024x256 : Shape := ⟨2, ![1024, 256]⟩
abbrev S1024x1536 : Shape := ⟨2, ![1024, 1536]⟩
abbrev S1024x32 : Shape := ⟨2, ![1024, 32]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S2x1x1024 : Shape := ⟨3, ![2, 1, 1024]⟩
abbrev S16384x1536 : Shape := ⟨2, ![16384, 1536]⟩
abbrev S16384x128 : Shape := ⟨2, ![16384, 128]⟩
abbrev S256x1024 : Shape := ⟨2, ![256, 1024]⟩
abbrev S1x1x1024 : Shape := ⟨3, ![1, 1, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 27
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x5664, .f32⟩
  | .hbm, ⟨5, _⟩ => ⟨S1024x5664, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1280, .bf16⟩
  | .hbm, ⟨11, _⟩ => ⟨S1024x256, .bf16⟩
  | .hbm, ⟨12, _⟩ => ⟨S1024x1536, .bf16⟩
  | .hbm, ⟨13, _⟩ => ⟨S1024x32, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S16384x1024, .f32⟩
  | .hbm, ⟨18, _⟩ => ⟨S1x1024, .f32⟩
  | .hbm, ⟨19, _⟩ => ⟨S2x1x1024, .f32⟩
  | .hbm, ⟨20, _⟩ => ⟨S2x1x1024, .f32⟩
  | .hbm, ⟨21, _⟩ => ⟨S16384x1024, .bf16⟩
  | .hbm, ⟨22, _⟩ => ⟨S16384x1024, .bf16⟩
  | .hbm, ⟨23, _⟩ => ⟨S16384x1024, .bf16⟩
  | .hbm, ⟨24, _⟩ => ⟨S16384x1024, .bf16⟩
  | .hbm, ⟨25, _⟩ => ⟨S16384x1536, .bf16⟩
  | .hbm, ⟨26, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1536, .bf16⟩
  | .local _ .vmem, ⟨12, _⟩ => ⟨S1024x128, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1536, .bf16⟩
  | .local _ .vmem, ⟨22, _⟩ => ⟨S256x1536, .bf16⟩
  | .local _ .vmem, ⟨23, _⟩ => ⟨S256x128, .f32⟩
  | .local _ .vmem, ⟨24, _⟩ => ⟨S256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjectionsReferenceIdeal.lean ====
abbrev S2x8192x1024 : Shape := ⟨3, ![2, 8192, 1024]⟩
abbrev S1024 : Shape := ⟨1, ![1024]⟩
abbrev S2x1024 : Shape := ⟨2, ![2, 1024]⟩
abbrev S1024x5664 : Shape := ⟨2, ![1024, 5664]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5664 : Shape := ⟨3, ![2, 8192, 5664]⟩
abbrev S16384x5664 : Shape := ⟨2, ![16384, 5664]⟩
abbrev S16384x1024 : Shape := ⟨2, ![16384, 1024]⟩
abbrev S16384x1280 : Shape := ⟨2, ![16384, 1280]⟩
abbrev S16384x256 : Shape := ⟨2, ![16384, 256]⟩
abbrev S16384x1536 : Shape := ⟨2, ![16384, 1536]⟩
abbrev S16384x32 : Shape := ⟨2, ![16384, 32]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x5664, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x5664, .f32⟩
  | .hbm, ⟨31, _⟩ => ⟨S16384x5664, .f32⟩
  | .hbm, ⟨32, _⟩ => ⟨S16384x1024, .f32⟩
  | .hbm, ⟨33, _⟩ => ⟨S16384x1024, .bf16⟩
  | .hbm, ⟨34, _⟩ => ⟨S16384x1024, .f32⟩
  | .hbm, ⟨35, _⟩ => ⟨S16384x1024, .bf16⟩
  | .hbm, ⟨36, _⟩ => ⟨S16384x1024, .f32⟩
  | .hbm, ⟨37, _⟩ => ⟨S16384x1024, .bf16⟩
  | .hbm, ⟨38, _⟩ => ⟨S16384x1024, .f32⟩
  | .hbm, ⟨39, _⟩ => ⟨S16384x1024, .bf16⟩
  | .hbm, ⟨40, _⟩ => ⟨S16384x1280, .f32⟩
  | .hbm, ⟨41, _⟩ => ⟨S16384x256, .f32⟩
  | .hbm, ⟨42, _⟩ => ⟨S16384x1536, .f32⟩
  | .hbm, ⟨43, _⟩ => ⟨S16384x1536, .bf16⟩
  | .hbm, ⟨44, _⟩ => ⟨S16384x32, .f32⟩
  | .hbm, ⟨45, _⟩ => ⟨S_, .i32⟩
  | .hbm, ⟨46, _⟩ => ⟨S_, .f32⟩
  | .hbm, ⟨47, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Output.lean ====
abbrev S16384x1024 : Shape := ⟨2, ![16384, 1024]⟩
abbrev S1024 : Shape := ⟨1, ![1024]⟩
abbrev S2048x1024 : Shape := ⟨2, ![2048, 1024]⟩
abbrev S2x8192x1024 : Shape := ⟨3, ![2, 8192, 1024]⟩
abbrev S2x1024 : Shape := ⟨2, ![2, 1024]⟩
abbrev S1024x1024 : Shape := ⟨2, ![1024, 1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .bf16⟩
  | .hbm, ⟨4, _⟩ => ⟨S1024, .f32⟩
  | .hbm, ⟨5, _⟩ => ⟨S2048x1024, .f32⟩
  | .hbm, ⟨6, _⟩ => ⟨S2x8192x1024, .f32⟩
  | .hbm, ⟨7, _⟩ => ⟨S2x1024, .f32⟩
  | .hbm, ⟨8, _⟩ => ⟨S2048x1024, .bf16⟩
  | .hbm, ⟨9, _⟩ => ⟨S1024x1024, .bf16⟩
  | .hbm, ⟨10, _⟩ => ⟨S1024x1024, .bf16⟩
  | .hbm, ⟨11, _⟩ => ⟨S16384x1024, .f32⟩
  | .hbm, ⟨12, _⟩ => ⟨S1x1024, .f32⟩
  | .hbm, ⟨13, _⟩ => ⟨S2x1x1024, .f32⟩
  | .hbm, ⟨14, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutputReferenceIdeal.lean ====
abbrev S16384x1024 : Shape := ⟨2, ![16384, 1024]⟩
abbrev S1024 : Shape := ⟨1, ![1024]⟩
abbrev S2048x1024 : Shape := ⟨2, ![2048, 1024]⟩
abbrev S2x8192x1024 : Shape := ⟨3, ![2, 8192, 1024]⟩
abbrev S2x1024 : Shape := ⟨2, ![2, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S2x1x1024 : Shape := ⟨3, ![2, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .bf16⟩
  | .hbm, ⟨4, _⟩ => ⟨S1024, .f32⟩
  | .hbm, ⟨5, _⟩ => ⟨S2048x1024, .f32⟩
  | .hbm, ⟨6, _⟩ => ⟨S2x8192x1024, .f32⟩
  | .hbm, ⟨7, _⟩ => ⟨S2x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x2048, .f32⟩
  | .hbm, ⟨38, _⟩ => ⟨S16384x1024, .f32⟩
  | .hbm, ⟨39, _⟩ => ⟨S2x8192x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Mixed.lean ====
abbrev S16384x1024 : Shape := ⟨2, ![16384, 1024]⟩
abbrev S1024x1024 : Shape := ⟨2, ![1024, 1024]⟩
abbrev S2x8192x1024 : Shape := ⟨3, ![2, 8192, 1024]⟩
abbrev S2x1024 : Shape := ⟨2, ![2, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S1024x1024, .bf16⟩
  | .hbm, ⟨5, _⟩ => ⟨S16384x1024, .f32⟩
  | .hbm, ⟨6, _⟩ => ⟨S2x1x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixedReferenceIdeal.lean ====
abbrev S16384x1024 : Shape := ⟨2, ![16384, 1024]⟩
abbrev S1024x1024 : Shape := ⟨2, ![1024, 1024]⟩
abbrev S2x8192x1024 : Shape := ⟨3, ![2, 8192, 1024]⟩
abbrev S2x1024 : Shape := ⟨2, ![2, 1024]⟩
abbrev S2x1x1024 : Shape := ⟨3, ![2, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S16384x1024, .f32⟩
  | .hbm, ⟨5, _⟩ => ⟨S16384x1024, .f32⟩
  | .hbm, ⟨6, _⟩ => ⟨S2x8192x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Context.lean ====
abbrev S2x256x1024 : Shape := ⟨3, ![2, 256, 1024]⟩
abbrev S1024 : Shape := ⟨1, ![1024]⟩
abbrev S1x1024 : Shape := ⟨2, ![1, 1024]⟩
abbrev S1024x5664 : Shape := ⟨2, ![1024, 5664]⟩
abbrev S1024x1024 : Shape := ⟨2, ![1024, 1024]⟩
abbrev S1024x1280 : Shape := ⟨2, ![1024, 1280]⟩
abbrev S1024x256 : Shape := ⟨2, ![1024, 256]⟩
abbrev S1024x1536 : Shape := ⟨2, ![1024, 1536]⟩
abbrev S1024x32 : Shape := ⟨2, ![1024, 32]⟩
abbrev S_ : Shape := ⟨0, ![]⟩
abbrev S1024x128 : Shape := ⟨2, ![1024, 128]⟩
abbrev S512x1024 : Shape := ⟨2, ![512, 1024]⟩
abbrev S1x1x1024 : Shape := ⟨3, ![1, 1, 1024]⟩
abbrev S512x1536 : Shape := ⟨2, ![512, 1536]⟩
abbrev S512x128 : Shape := ⟨2, ![512, 128]⟩
abbrev S256x1024 : Shape := ⟨2, ![256, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 27
  | .vmem => 25
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5664, .f32⟩
  | .hbm, ⟨5, _⟩ => ⟨S1024x5664, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1280, .bf16⟩
  | .hbm, ⟨11, _⟩ => ⟨S1024x256, .bf16⟩
  | .hbm, ⟨12, _⟩ => ⟨S1024x1536, .bf16⟩
  | .hbm, ⟨13, _⟩ => ⟨S1024x32, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S512x1024, .f32⟩
  | .hbm, ⟨18, _⟩ => ⟨S1x1024, .f32⟩
  | .hbm, ⟨19, _⟩ => ⟨S1x1x1024, .f32⟩
  | .hbm, ⟨20, _⟩ => ⟨S1x1x1024, .f32⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S512x1024, .bf16⟩
  | .hbm, ⟨25, _⟩ => ⟨S512x1536, .bf16⟩
  | .hbm, ⟨26, _⟩ => ⟨S512x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1536, .bf16⟩
  | .local _ .vmem, ⟨12, _⟩ => ⟨S1024x128, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1536, .bf16⟩
  | .local _ .vmem, ⟨22, _⟩ => ⟨S256x1536, .bf16⟩
  | .local _ .vmem, ⟨23, _⟩ => ⟨S256x128, .f32⟩
  | .local _ .vmem, ⟨24, _⟩ => ⟨S256x128, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ContextReferenceIdeal.lean ====
abbrev S2x256x1024 : Shape := ⟨3, ![2, 256, 1024]⟩
abbrev S1024 : Shape := ⟨1, ![1024]⟩
abbrev S1x1024 : Shape := ⟨2, ![1, 1024]⟩
abbrev S1024x5664 : Shape := ⟨2, ![1024, 5664]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x5664 : Shape := ⟨3, ![2, 256, 5664]⟩
abbrev S512x5664 : Shape := ⟨2, ![512, 5664]⟩
abbrev S512x1024 : Shape := ⟨2, ![512, 1024]⟩
abbrev S512x1280 : Shape := ⟨2, ![512, 1280]⟩
abbrev S512x256 : Shape := ⟨2, ![512, 256]⟩
abbrev S512x1536 : Shape := ⟨2, ![512, 1536]⟩
abbrev S512x32 : Shape := ⟨2, ![512, 32]⟩
abbrev S512x128 : Shape := ⟨2, ![512, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5664, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S2x256x5664, .f32⟩
  | .hbm, ⟨31, _⟩ => ⟨S512x5664, .f32⟩
  | .hbm, ⟨32, _⟩ => ⟨S512x1024, .f32⟩
  | .hbm, ⟨33, _⟩ => ⟨S512x1024, .bf16⟩
  | .hbm, ⟨34, _⟩ => ⟨S512x1024, .f32⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S512x1024, .f32⟩
  | .hbm, ⟨39, _⟩ => ⟨S512x1024, .bf16⟩
  | .hbm, ⟨40, _⟩ => ⟨S512x1280, .f32⟩
  | .hbm, ⟨41, _⟩ => ⟨S512x256, .f32⟩
  | .hbm, ⟨42, _⟩ => ⟨S512x1536, .f32⟩
  | .hbm, ⟨43, _⟩ => ⟨S512x1536, .bf16⟩
  | .hbm, ⟨44, _⟩ => ⟨S512x32, .f32⟩
  | .hbm, ⟨45, _⟩ => ⟨S_, .i32⟩
  | .hbm, ⟨46, _⟩ => ⟨S_, .f32⟩
  | .hbm, ⟨47, _⟩ => ⟨S512x128, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Conditioning.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConditioningReferenceIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S8x2x6144 : Shape := ⟨3, ![8, 2, 6144]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2x6144, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Convolution.lean ====
abbrev S16384x1536 : Shape := ⟨2, ![16384, 1536]⟩
abbrev S5x1280 : Shape := ⟨2, ![5, 1280]⟩
abbrev S1280 : Shape := ⟨1, ![1280]⟩
abbrev S5x256 : Shape := ⟨2, ![5, 256]⟩
abbrev S256 : Shape := ⟨1, ![256]⟩
abbrev S5x1536 : Shape := ⟨2, ![5, 1536]⟩
abbrev S1536 : Shape := ⟨1, ![1536]⟩
abbrev S1x1536 : Shape := ⟨2, ![1, 1536]⟩
abbrev S16x1536 : Shape := ⟨2, ![16, 1536]⟩
abbrev S512x1536 : Shape := ⟨2, ![512, 1536]⟩
abbrev S544x1536 : Shape := ⟨2, ![544, 1536]⟩
abbrev S1x256 : Shape := ⟨2, ![1, 256]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S16384x1536, .bf16⟩
  | .hbm, ⟨1, _⟩ => ⟨S5x1280, .f32⟩
  | .hbm, ⟨2, _⟩ => ⟨S1280, .f32⟩
  | .hbm, ⟨3, _⟩ => ⟨S5x256, .f32⟩
  | .hbm, ⟨4, _⟩ => ⟨S256, .f32⟩
  | .hbm, ⟨5, _⟩ => ⟨S5x1536, .f32⟩
  | .hbm, ⟨6, _⟩ => ⟨S1536, .f32⟩
  | .hbm, ⟨7, _⟩ => ⟨S1x1536, .f32⟩
  | .hbm, ⟨8, _⟩ => ⟨S16384x1536, .bf16⟩
  | .local _ .vmem, ⟨0, _⟩ => ⟨S16x1536, .bf16⟩
  | .local _ .vmem, ⟨1, _⟩ => ⟨S16x1536, .bf16⟩
  | .local _ .vmem, ⟨2, _⟩ => ⟨S512x1536, .bf16⟩
  | .local _ .vmem, ⟨3, _⟩ => ⟨S512x1536, .bf16⟩
  | .local _ .vmem, ⟨4, _⟩ => ⟨S16x1536, .bf16⟩
  | .local _ .vmem, ⟨5, _⟩ => ⟨S16x1536, .bf16⟩
  | .local _ .vmem, ⟨6, _⟩ => ⟨S5x1536, .f32⟩
  | .local _ .vmem, ⟨7, _⟩ => ⟨S1x1536, .f32⟩
  | .local _ .vmem, ⟨8, _⟩ => ⟨S512x1536, .bf16⟩
  | .local _ .vmem, ⟨9, _⟩ => ⟨S512x1536, .bf16⟩
  | .local _ .vmem, ⟨10, _⟩ => ⟨S544x1536, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvolutionReferenceIdeal.lean ====
abbrev S16384x1536 : Shape := ⟨2, ![16384, 1536]⟩
abbrev S5x1280 : Shape := ⟨2, ![5, 1280]⟩
abbrev S1280 : Shape := ⟨1, ![1280]⟩
abbrev S5x256 : Shape := ⟨2, ![5, 256]⟩
abbrev S256 : Shape := ⟨1, ![256]⟩
abbrev S2x8192x1536 : Shape := ⟨3, ![2, 8192, 1536]⟩
abbrev S2x8192x1280 : Shape := ⟨3, ![2, 8192, 1280]⟩
abbrev S_ : Shape := ⟨0, ![]⟩
abbrev S2x8196x1280 : Shape := ⟨3, ![2, 8196, 1280]⟩
abbrev S1x1280 : Shape := ⟨2, ![1, 1280]⟩
abbrev S1x1x1280 : Shape := ⟨3, ![1, 1, 1280]⟩
abbrev S2x8192x256 : Shape := ⟨3, ![2, 8192, 256]⟩
abbrev S2x8196x256 : Shape := ⟨3, ![2, 8196, 256]⟩
abbrev S1x256 : Shape := ⟨2, ![1, 256]⟩
abbrev S1x1x256 : Shape := ⟨3, ![1, 1, 256]⟩

abbrev nBuf : Space → Nat
  | .hbm => 116
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S5x1280, .f32⟩
  | .hbm, ⟨2, _⟩ => ⟨S1280, .f32⟩
  | .hbm, ⟨3, _⟩ => ⟨S5x256, .f32⟩
  | .hbm, ⟨4, _⟩ => ⟨S256, .f32⟩
  | .hbm, ⟨5, _⟩ => ⟨S16384x1536, .f32⟩
  | .hbm, ⟨6, _⟩ => ⟨S2x8192x1536, .f32⟩
  | .hbm, ⟨7, _⟩ => ⟨S2x8192x1280, .f32⟩
  | .hbm, ⟨8, _⟩ => ⟨S_, .i32⟩
  | .hbm, ⟨9, _⟩ => ⟨S_, .f32⟩
  | .hbm, ⟨10, _⟩ => ⟨S2x8196x1280, .f32⟩
  | .hbm, ⟨11, _⟩ => ⟨S1x1280, .f32⟩
  | .hbm, ⟨12, _⟩ => ⟨S1280, .f32⟩
  | .hbm, ⟨13, _⟩ => ⟨S2x8192x1280, .f32⟩
  | .hbm, ⟨14, _⟩ => ⟨S1x1x1280, .f32⟩
  | .hbm, ⟨15, _⟩ => ⟨S2x8192x1280, .f32⟩
  | .hbm, ⟨16, _⟩ => ⟨S2x8192x1280, .f32⟩
  | .hbm, ⟨17, _⟩ => ⟨S_, .f32⟩
  | .hbm, ⟨18, _⟩ => ⟨S2x8192x1280, .f32⟩
  | .hbm, ⟨19, _⟩ => ⟨S2x8192x1280, .f32⟩
  | .hbm, ⟨20, _⟩ => ⟨S1x1280, .f32⟩
  | .hbm, ⟨21, _⟩ => ⟨S1280, .f32⟩
  | .hbm, ⟨22, _⟩ => ⟨S2x8192x1280, .f32⟩
  | .hbm, ⟨23, _⟩ => ⟨S1x1x1280, .f32⟩
  | .hbm, ⟨24, _⟩ => ⟨S2x8192x1280, .f32⟩
  | .hbm, ⟨25, _⟩ => ⟨S2x8192x1280, .f32⟩
  | .hbm, ⟨26, _⟩ => ⟨S2x8192x1280, .f32⟩
  | .hbm, ⟨27, _⟩ => ⟨S1x1280, .f32⟩
  | .hbm, ⟨28, _⟩ => ⟨S1280, .f32⟩
  | .hbm, ⟨29, _⟩ => ⟨S2x8192x1280, .f32⟩
  | .hbm, ⟨30, _⟩ => ⟨S1x1x1280, .f32⟩
  | .hbm, ⟨31, _⟩ => ⟨S2x8192x1280, .f32⟩
  | .hbm, ⟨32, _⟩ => ⟨S2x8192x1280, .f32⟩
  | .hbm, ⟨33, _⟩ => ⟨S2x8192x1280, .f32⟩
  | .hbm, ⟨34, _⟩ => ⟨S1x1280, .f32⟩
  | .hbm, ⟨35, _⟩ => ⟨S1280, .f32⟩
  | .hbm, ⟨36, _⟩ => ⟨S2x8192x1280, .f32⟩
  | .hbm, ⟨37, _⟩ => ⟨S1x1x1280, .f32⟩
  | .hbm, ⟨38, _⟩ => ⟨S2x8192x1280, .f32⟩
  | .hbm, ⟨39, _⟩ => ⟨S2x8192x1280, .f32⟩
  | .hbm, ⟨40, _⟩ => ⟨S2x8192x1280, .f32⟩
  | .hbm, ⟨41, _⟩ => ⟨S1x1280, .f32⟩
  | .hbm, ⟨42, _⟩ => ⟨S1280, .f32⟩
  | .hbm, ⟨43, _⟩ => ⟨S2x8192x1280, .f32⟩
  | .hbm, ⟨44, _⟩ => ⟨S1x1x1280, .f32⟩
  | .hbm, ⟨45, _⟩ => ⟨S2x8192x1280, .f32⟩
  | .hbm, ⟨46, _⟩ => ⟨S2x8192x1280, .f32⟩
  | .hbm, ⟨47, _⟩ => ⟨S2x8192x1280, .f32⟩
  | .hbm, ⟨48, _⟩ => ⟨S1x1x1280, .f32⟩
  | .hbm, ⟨49, _⟩ => ⟨S2x8192x1280, .f32⟩
  | .hbm, ⟨50, _⟩ => ⟨S2x8192x1280, .f32⟩
  | .hbm, ⟨51, _⟩ => ⟨S2x8192x1280, .f32⟩
  | .hbm, ⟨52, _⟩ => ⟨S2x8192x1280, .f32⟩
  | .hbm, ⟨53, _⟩ => ⟨S_, .f32⟩
  | .hbm, ⟨54, _⟩ => ⟨S2x8192x1280, .f32⟩
  | .hbm, ⟨55, _⟩ => ⟨S2x8192x1280, .f32⟩
  | .hbm, ⟨56, _⟩ => ⟨S_, .f32⟩
  | .hbm, ⟨57, _⟩ => ⟨S2x8192x1280, .f32⟩
  | .hbm, ⟨58, _⟩ => ⟨S2x8192x1280, .f32⟩
  | .hbm, ⟨59, _⟩ => ⟨S2x8192x1280, .f32⟩
  | .hbm, ⟨60, _⟩ => ⟨S2x8192x256, .f32⟩
  | .hbm, ⟨61, _⟩ => ⟨S_, .i32⟩
  | .hbm, ⟨62, _⟩ => ⟨S_, .f32⟩
  | .hbm, ⟨63, _⟩ => ⟨S2x8196x256, .f32⟩
  | .hbm, ⟨64, _⟩ => ⟨S1x256, .f32⟩
  | .hbm, ⟨65, _⟩ => ⟨S256, .f32⟩
  | .hbm, ⟨66, _⟩ => ⟨S2x8192x256, .f32⟩
  | .hbm, ⟨67, _⟩ => ⟨S1x1x256, .f32⟩
  | .hbm, ⟨68, _⟩ => ⟨S2x8192x256, .f32⟩
  | .hbm, ⟨69, _⟩ => ⟨S2x8192x256, .f32⟩
  | .hbm, ⟨70, _⟩ => ⟨S_, .f32⟩
  | .hbm, ⟨71, _⟩ => ⟨S2x8192x256, .f32⟩
  | .hbm, ⟨72, _⟩ => ⟨S2x8192x256, .f32⟩
  | .hbm, ⟨73, _⟩ => ⟨S1x256, .f32⟩
  | .hbm, ⟨74, _⟩ => ⟨S256, .f32⟩
  | .hbm, ⟨75, _⟩ => ⟨S2x8192x256, .f32⟩
  | .hbm, ⟨76, _⟩ => ⟨S1x1x256, .f32⟩
  | .hbm, ⟨77, _⟩ => ⟨S2x8192x256, .f32⟩
  | .hbm, ⟨78, _⟩ => ⟨S2x8192x256, .f32⟩
  | .hbm, ⟨79, _⟩ => ⟨S2x8192x256, .f32⟩
  | .hbm, ⟨80, _⟩ => ⟨S1x256, .f32⟩
  | .hbm, ⟨81, _⟩ => ⟨S256, .f32⟩
  | .hbm, ⟨82, _⟩ => ⟨S2x8192x256, .f32⟩
  | .hbm, ⟨83, _⟩ => ⟨S1x1x256, .f32⟩
  | .hbm, ⟨84, _⟩ => ⟨S2x8192x256, .f32⟩
  | .hbm, ⟨85, _⟩ => ⟨S2x8192x256, .f32⟩
  | .hbm, ⟨86, _⟩ => ⟨S2x8192x256, .f32⟩
  | .hbm, ⟨87, _⟩ => ⟨S1x256, .f32⟩
  | .hbm, ⟨88, _⟩ => ⟨S256, .f32⟩
  | .hbm, ⟨89, _⟩ => ⟨S2x8192x256, .f32⟩
  | .hbm, ⟨90, _⟩ => ⟨S1x1x256, .f32⟩
  | .hbm, ⟨91, _⟩ => ⟨S2x8192x256, .f32⟩
  | .hbm, ⟨92, _⟩ => ⟨S2x8192x256, .f32⟩
  | .hbm, ⟨93, _⟩ => ⟨S2x8192x256, .f32⟩
  | .hbm, ⟨94, _⟩ => ⟨S1x256, .f32⟩
  | .hbm, ⟨95, _⟩ => ⟨S256, .f32⟩
  | .hbm, ⟨96, _⟩ => ⟨S2x8192x256, .f32⟩
  | .hbm, ⟨97, _⟩ => ⟨S1x1x256, .f32⟩
  | .hbm, ⟨98, _⟩ => ⟨S2x8192x256, .f32⟩
  | .hbm, ⟨99, _⟩ => ⟨S2x8192x256, .f32⟩
  | .hbm, ⟨100, _⟩ => ⟨S2x8192x256, .f32⟩
  | .hbm, ⟨101, _⟩ => ⟨S1x1x256, .f32⟩
  | .hbm, ⟨102, _⟩ => ⟨S2x8192x256, .f32⟩
  | .hbm, ⟨103, _⟩ => ⟨S2x8192x256, .f32⟩
  | .hbm, ⟨104, _⟩ => ⟨S2x8192x256, .f32⟩
  | .hbm, ⟨105, _⟩ => ⟨S2x8192x256, .f32⟩
  | .hbm, ⟨106, _⟩ => ⟨S_, .f32⟩
  | .hbm, ⟨107, _⟩ => ⟨S2x8192x256, .f32⟩
  | .hbm, ⟨108, _⟩ => ⟨S2x8192x256, .f32⟩
  | .hbm, ⟨109, _⟩ => ⟨S_, .f32⟩
  | .hbm, ⟨110, _⟩ => ⟨S2x8192x256, .f32⟩
  | .hbm, ⟨111, _⟩ => ⟨S2x8192x256, .f32⟩
  | .hbm, ⟨112, _⟩ => ⟨S2x8192x256, .f32⟩
  | .hbm, ⟨113, _⟩ => ⟨S2x8192x1536, .f32⟩
  | .hbm, ⟨114, _⟩ => ⟨S16384x1536, .f32⟩
  | .hbm, ⟨115, _⟩ => ⟨S16384x1536, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v43 : Ref sig .tc := ⟨.hbm, 59, rfl⟩
abbrev main_v44 : Ref sig .tc := ⟨.hbm, 60, rfl⟩
abbrev main_c_0 : Ref sig .tc := ⟨.hbm, 61, rfl⟩
abbrev main_call2_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== ContextConvolution.lean ====
abbrev S512x1536 : Shape := ⟨2, ![512, 1536]⟩
abbrev S5x1280 : Shape := ⟨2, ![5, 1280]⟩
abbrev S1280 : Shape := ⟨1, ![1280]⟩
abbrev S5x256 : Shape := ⟨2, ![5, 256]⟩
abbrev S256 : Shape := ⟨1, ![256]⟩
abbrev S5x1536 : Shape := ⟨2, ![5, 1536]⟩
abbrev S1536 : Shape := ⟨1, ![1536]⟩
abbrev S1x1536 : Shape := ⟨2, ![1, 1536]⟩
abbrev S16x1536 : Shape := ⟨2, ![16, 1536]⟩
abbrev S256x1536 : Shape := ⟨2, ![256, 1536]⟩
abbrev S288x1536 : Shape := ⟨2, ![288, 1536]⟩
abbrev S1x256 : Shape := ⟨2, ![1, 256]⟩
abbrev S256x256 : Shape := ⟨2, ![256, 256]⟩

abbrev nBuf : Space → Nat
  | .hbm => 9
  | .vmem => 11
  | .smem => 0
  | _ => 0

abbrev bufTy : (tb : Table) → Fin (tcTables nBuf tb) → BufTy
  | .hbm, ⟨0, _⟩ => ⟨S512x1536, .bf16⟩
  | .hbm, ⟨1, _⟩ => ⟨S5x1280, .f32⟩
  | .hbm, ⟨2, _⟩ => ⟨S1280, .f32⟩
  | .hbm, ⟨3, _⟩ => ⟨S5x256, .f32⟩
  | .hbm, ⟨4, _⟩ => ⟨S256, .f32⟩
  | .hbm, ⟨5, _⟩ => ⟨S5x1536, .f32⟩
  | .hbm, ⟨6, _⟩ => ⟨S1536, .f32⟩
  | .hbm, ⟨7, _⟩ => ⟨S1x1536, .f32⟩
  | .hbm, ⟨8, _⟩ => ⟨S512x1536, .bf16⟩
  | .local _ .vmem, ⟨0, _⟩ => ⟨S16x1536, .bf16⟩
  | .local _ .vmem, ⟨1, _⟩ => ⟨S16x1536, .bf16⟩
  | .local _ .vmem, ⟨2, _⟩ => ⟨S256x1536, .bf16⟩
  | .local _ .vmem, ⟨3, _⟩ => ⟨S256x1536, .bf16⟩
  | .local _ .vmem, ⟨4, _⟩ => ⟨S16x1536, .bf16⟩
  | .local _ .vmem, ⟨5, _⟩ => ⟨S16x1536, .bf16⟩
  | .local _ .vmem, ⟨6, _⟩ => ⟨S5x1536, .f32⟩
  | .local _ .vmem, ⟨7, _⟩ => ⟨S1x1536, .f32⟩
  | .local _ .vmem, ⟨8, _⟩ => ⟨S256x1536, .bf16⟩
  | .local _ .vmem, ⟨9, _⟩ => ⟨S256x1536, .bf16⟩
  | .local _ .vmem, ⟨10, _⟩ => ⟨S288x1536, .f32⟩
  | _, _ => ⟨S512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ContextConvolutionReferenceIdeal.lean ====
abbrev S512x1536 : Shape := ⟨2, ![512, 1536]⟩
abbrev S5x1280 : Shape := ⟨2, ![5, 1280]⟩
abbrev S1280 : Shape := ⟨1, ![1280]⟩
abbrev S5x256 : Shape := ⟨2, ![5, 256]⟩
abbrev S256 : Shape := ⟨1, ![256]⟩
abbrev S2x256x1536 : Shape := ⟨3, ![2, 256, 1536]⟩
abbrev S2x256x1280 : Shape := ⟨3, ![2, 256, 1280]⟩
abbrev S_ : Shape := ⟨0, ![]⟩
abbrev S2x260x1280 : Shape := ⟨3, ![2, 260, 1280]⟩
abbrev S1x1280 : Shape := ⟨2, ![1, 1280]⟩
abbrev S1x1x1280 : Shape := ⟨3, ![1, 1, 1280]⟩
abbrev S2x256x256 : Shape := ⟨3, ![2, 256, 256]⟩
abbrev S2x260x256 : Shape := ⟨3, ![2, 260, 256]⟩
abbrev S1x256 : Shape := ⟨2, ![1, 256]⟩
abbrev S1x1x256 : Shape := ⟨3, ![1, 1, 256]⟩

abbrev nBuf : Space → Nat
  | .hbm => 116
  | .vmem => 0
  | .smem => 0
  | _ => 0

abbrev bufTy : (tb : Table) → Fin (tcTables nBuf tb) → BufTy
  | .hbm, ⟨0, _⟩ => ⟨S512x1536, .bf16⟩
  | .hbm, ⟨1, _⟩ => ⟨S5x1280, .f32⟩
  | .hbm, ⟨2, _⟩ => ⟨S1280, .f32⟩
  | .hbm, ⟨3, _⟩ => ⟨S5x256, .f32⟩
  | .hbm, ⟨4, _⟩ => ⟨S256, .f32⟩
  | .hbm, ⟨5, _⟩ => ⟨S512x1536, .f32⟩
  | .hbm, ⟨6, _⟩ => ⟨S2x256x1536, .f32⟩
  | .hbm, ⟨7, _⟩ => ⟨S2x256x1280, .f32⟩
  | .hbm, ⟨8, _⟩ => ⟨S_, .i32⟩
  | .hbm, ⟨9, _⟩ => ⟨S_, .f32⟩
  | .hbm, ⟨10, _⟩ => ⟨S2x260x1280, .f32⟩
  | .hbm, ⟨11, _⟩ => ⟨S1x1280, .f32⟩
  | .hbm, ⟨12, _⟩ => ⟨S1280, .f32⟩
  | .hbm, ⟨13, _⟩ => ⟨S2x256x1280, .f32⟩
  | .hbm, ⟨14, _⟩ => ⟨S1x1x1280, .f32⟩
  | .hbm, ⟨15, _⟩ => ⟨S2x256x1280, .f32⟩
  | .hbm, ⟨16, _⟩ => ⟨S2x256x1280, .f32⟩
  | .hbm, ⟨17, _⟩ => ⟨S_, .f32⟩
  | .hbm, ⟨18, _⟩ => ⟨S2x256x1280, .f32⟩
  | .hbm, ⟨19, _⟩ => ⟨S2x256x1280, .f32⟩
  | .hbm, ⟨20, _⟩ => ⟨S1x1280, .f32⟩
  | .hbm, ⟨21, _⟩ => ⟨S1280, .f32⟩
  | .hbm, ⟨22, _⟩ => ⟨S2x256x1280, .f32⟩
  | .hbm, ⟨23, _⟩ => ⟨S1x1x1280, .f32⟩
  | .hbm, ⟨24, _⟩ => ⟨S2x256x1280, .f32⟩
  | .hbm, ⟨25, _⟩ => ⟨S2x256x1280, .f32⟩
  | .hbm, ⟨26, _⟩ => ⟨S2x256x1280, .f32⟩
  | .hbm, ⟨27, _⟩ => ⟨S1x1280, .f32⟩
  | .hbm, ⟨28, _⟩ => ⟨S1280, .f32⟩
  | .hbm, ⟨29, _⟩ => ⟨S2x256x1280, .f32⟩
  | .hbm, ⟨30, _⟩ => ⟨S1x1x1280, .f32⟩
  | .hbm, ⟨31, _⟩ => ⟨S2x256x1280, .f32⟩
  | .hbm, ⟨32, _⟩ => ⟨S2x256x1280, .f32⟩
  | .hbm, ⟨33, _⟩ => ⟨S2x256x1280, .f32⟩
  | .hbm, ⟨34, _⟩ => ⟨S1x1280, .f32⟩
  | .hbm, ⟨35, _⟩ => ⟨S1280, .f32⟩
  | .hbm, ⟨36, _⟩ => ⟨S2x256x1280, .f32⟩
  | .hbm, ⟨37, _⟩ => ⟨S1x1x1280, .f32⟩
  | .hbm, ⟨38, _⟩ => ⟨S2x256x1280, .f32⟩
  | .hbm, ⟨39, _⟩ => ⟨S2x256x1280, .f32⟩
  | .hbm, ⟨40, _⟩ => ⟨S2x256x1280, .f32⟩
  | .hbm, ⟨41, _⟩ => ⟨S1x1280, .f32⟩
  | .hbm, ⟨42, _⟩ => ⟨S1280, .f32⟩
  | .hbm, ⟨43, _⟩ => ⟨S2x256x1280, .f32⟩
  | .hbm, ⟨44, _⟩ => ⟨S1x1x1280, .f32⟩
  | .hbm, ⟨45, _⟩ => ⟨S2x256x1280, .f32⟩
  | .hbm, ⟨46, _⟩ => ⟨S2x256x1280, .f32⟩
  | .hbm, ⟨47, _⟩ => ⟨S2x256x1280, .f32⟩
  | .hbm, ⟨48, _⟩ => ⟨S1x1x1280, .f32⟩
  | .hbm, ⟨49, _⟩ => ⟨S2x256x1280, .f32⟩
  | .hbm, ⟨50, _⟩ => ⟨S2x256x1280, .f32⟩
  | .hbm, ⟨51, _⟩ => ⟨S2x256x1280, .f32⟩
  | .hbm, ⟨52, _⟩ => ⟨S2x256x1280, .f32⟩
  | .hbm, ⟨53, _⟩ => ⟨S_, .f32⟩
  | .hbm, ⟨54, _⟩ => ⟨S2x256x1280, .f32⟩
  | .hbm, ⟨55, _⟩ => ⟨S2x256x1280, .f32⟩
  | .hbm, ⟨56, _⟩ => ⟨S_, .f32⟩
  | .hbm, ⟨57, _⟩ => ⟨S2x256x1280, .f32⟩
  | .hbm, ⟨58, _⟩ => ⟨S2x256x1280, .f32⟩
  | .hbm, ⟨59, _⟩ => ⟨S2x256x1280, .f32⟩
  | .hbm, ⟨60, _⟩ => ⟨S2x256x256, .f32⟩
  | .hbm, ⟨61, _⟩ => ⟨S_, .i32⟩
  | .hbm, ⟨62, _⟩ => ⟨S_, .f32⟩
  | .hbm, ⟨63, _⟩ => ⟨S2x260x256, .f32⟩
  | .hbm, ⟨64, _⟩ => ⟨S1x256, .f32⟩
  | .hbm, ⟨65, _⟩ => ⟨S256, .f32⟩
  | .hbm, ⟨66, _⟩ => ⟨S2x256x256, .f32⟩
  | .hbm, ⟨67, _⟩ => ⟨S1x1x256, .f32⟩
  | .hbm, ⟨68, _⟩ => ⟨S2x256x256, .f32⟩
  | .hbm, ⟨69, _⟩ => ⟨S2x256x256, .f32⟩
  | .hbm, ⟨70, _⟩ => ⟨S_, .f32⟩
  | .hbm, ⟨71, _⟩ => ⟨S2x256x256, .f32⟩
  | .hbm, ⟨72, _⟩ => ⟨S2x256x256, .f32⟩
  | .hbm, ⟨73, _⟩ => ⟨S1x256, .f32⟩
  | .hbm, ⟨74, _⟩ => ⟨S256, .f32⟩
  | .hbm, ⟨75, _⟩ => ⟨S2x256x256, .f32⟩
  | .hbm, ⟨76, _⟩ => ⟨S1x1x256, .f32⟩
  | .hbm, ⟨77, _⟩ => ⟨S2x256x256, .f32⟩
  | .hbm, ⟨78, _⟩ => ⟨S2x256x256, .f32⟩
  | .hbm, ⟨79, _⟩ => ⟨S2x256x256, .f32⟩
  | .hbm, ⟨80, _⟩ => ⟨S1x256, .f32⟩
  | .hbm, ⟨81, _⟩ => ⟨S256, .f32⟩
  | .hbm, ⟨82, _⟩ => ⟨S2x256x256, .f32⟩
  | .hbm, ⟨83, _⟩ => ⟨S1x1x256, .f32⟩
  | .hbm, ⟨84, _⟩ => ⟨S2x256x256, .f32⟩
  | .hbm, ⟨85, _⟩ => ⟨S2x256x256, .f32⟩
  | .hbm, ⟨86, _⟩ => ⟨S2x256x256, .f32⟩
  | .hbm, ⟨87, _⟩ => ⟨S1x256, .f32⟩
  | .hbm, ⟨88, _⟩ => ⟨S256, .f32⟩
  | .hbm, ⟨89, _⟩ => ⟨S2x256x256, .f32⟩
  | .hbm, ⟨90, _⟩ => ⟨S1x1x256, .f32⟩
  | .hbm, ⟨91, _⟩ => ⟨S2x256x256, .f32⟩
  | .hbm, ⟨92, _⟩ => ⟨S2x256x256, .f32⟩
  | .hbm, ⟨93, _⟩ => ⟨S2x256x256, .f32⟩
  | .hbm, ⟨94, _⟩ => ⟨S1x256, .f32⟩
  | .hbm, ⟨95, _⟩ => ⟨S256, .f32⟩
  | .hbm, ⟨96, _⟩ => ⟨S2x256x256, .f32⟩
  | .hbm, ⟨97, _⟩ => ⟨S1x1x256, .f32⟩
  | .hbm, ⟨98, _⟩ => ⟨S2x256x256, .f32⟩
  | .hbm, ⟨99, _⟩ => ⟨S2x256x256, .f32⟩
  | .hbm, ⟨100, _⟩ => ⟨S2x256x256, .f32⟩
  | .hbm, ⟨101, _⟩ => ⟨S1x1x256, .f32⟩
  | .hbm, ⟨102, _⟩ => ⟨S2x256x256, .f32⟩
  | .hbm, ⟨103, _⟩ => ⟨S2x256x256, .f32⟩
  | .hbm, ⟨104, _⟩ => ⟨S2x256x256, .f32⟩
  | .hbm, ⟨105, _⟩ => ⟨S2x256x256, .f32⟩
  | .hbm, ⟨106, _⟩ => ⟨S_, .f32⟩
  | .hbm, ⟨107, _⟩ => ⟨S2x256x256, .f32⟩
  | .hbm, ⟨108, _⟩ => ⟨S2x256x256, .f32⟩
  | .hbm, ⟨109, _⟩ => ⟨S_, .f32⟩
  | .hbm, ⟨110, _⟩ => ⟨S2x256x256, .f32⟩
  | .hbm, ⟨111, _⟩ => ⟨S2x256x256, .f32⟩
  | .hbm, ⟨112, _⟩ => ⟨S2x256x256, .f32⟩
  | .hbm, ⟨113, _⟩ => ⟨S2x256x1536, .f32⟩
  | .hbm, ⟨114, _⟩ => ⟨S512x1536, .f32⟩
  | .hbm, ⟨115, _⟩ => ⟨S512x1536, .bf16⟩
  | _, _ => ⟨S512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v43 : Ref sig .tc := ⟨.hbm, 59, rfl⟩
abbrev main_v44 : Ref sig .tc := ⟨.hbm, 60, rfl⟩
abbrev main_c_0 : Ref sig .tc := ⟨.hbm, 61, rfl⟩
abbrev main_call2_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Proof.GatherSetup.lean ====
/- The gather of rows: what one grid point moves, and what one trip of its two loops does. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameSuffixV
public import Idealize.ShloMosaic.Lib.Batch
public import Idealize.ShloMosaic.Lib.Ring
public import Idealize.ShloMosaic.Lib.Tactic

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Rows -/

/-- An element of the source array: row `r`, the place inside the row taken from an element of the result. -/
def srcIx (r : Fin 16384) (y : S73728x8x128.Idx) : S16384x8x128.Idx :=
  fun | ⟨0, _⟩ => r | ⟨1, _⟩ => y 1 | ⟨2, _⟩ => y 2
/-- The same place inside the one row of zeros. -/
def zeroIx (y : S73728x8x128.Idx) : S1x8x128.Idx :=
  fun | ⟨0, _⟩ => (0 : Fin 1) | ⟨1, _⟩ => y 1 | ⟨2, _⟩ => y 2

/-- A position of the table of row numbers. -/
def tblIx (n : Fin 73728) : S73728.Idx := fun | ⟨0, _⟩ => n

/-- The gathered array: row `n` is the source's row `tbl n` where that is a row of the source, the row of zeros otherwise. -/
def gath (tbl : S73728.Idx → BitVec 32) (fs : S16384x8x128.Idx → Elt F .bf16) (fz : S1x8x128.Idx → Elt F .bf16) :
    S73728x8x128.Idx → Elt F .bf16 := fun y =>
  if h : (tbl (tblIx (y 0))).toNat < 16384 then fs (srcIx ⟨(tbl (tblIx (y 0))).toNat, h⟩ y) else fz (zeroIx y)

/-- Every row number is between 0 and 16384. -/
def InRange (tbl : S73728.Idx → BitVec 32) : Prop := ∀ x, (tbl x).toNat ≤ 16384

/-- Row `n`'s elements of the result, and row `r`'s of the source. -/
theorem dinb (n : ℕ) (h : n < 73728) : ∀ a, (![n, 0, 0] : Fin 3 → Nat) a + S1x8x128.size a ≤ S73728x8x128.size a := by
  intro a; fin_cases a
  · show n + 1 ≤ 73728; omega
  · show 0 + 8 ≤ 8; omega
  · show 0 + 128 ≤ 128; omega
theorem sinb (n : ℕ) (h : n < 16384) : ∀ a, (![n, 0, 0] : Fin 3 → Nat) a + S1x8x128.size a ≤ S16384x8x128.size a := by
  intro a; fin_cases a
  · show n + 1 ≤ 16384; omega
  · show 0 + 8 ≤ 8; omega
  · show 0 + 128 ≤ 128; omega

abbrev dset (n : ℕ) (h : n < 73728) : Finset S73728x8x128.Idx := (Rect.unit (s := S73728x8x128) ![n, 0, 0] S1x8x128.size (dinb n h)).set
abbrev sset (n : ℕ) (h : n < 16384) : Finset S16384x8x128.Idx := (Rect.unit (s := S16384x8x128) ![n, 0, 0] S1x8x128.size (sinb n h)).set

abbrev zset : Finset S1x8x128.Idx := (Rect.unit (s := S1x8x128) ![0, 0, 0] S1x8x128.size inb_S1x8x128_S1x8x128_0_0_0).set

theorem mem_dset (n : ℕ) (h : n < 73728) (y : S73728x8x128.Idx) : y ∈ dset n h ↔ (y 0).val = n := by
  rw [Rect.mem_set_unit]
  have h1 : (y 1).val < 8 := (y 1).isLt
  have h2 : (y 2).val < 128 := (y 2).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 8; omega
    · show 0 ≤ (y 2).val ∧ (y 2).val < 0 + 128; omega

/-! ## The memrefs of a transfer -/

def dRow (n : ℕ) (h : n < 73728) : Memref sig .tc .hbm S8x128 .bf16 :=
  ((Memref.whole main_v2).slice (Rect.unit (s := S73728x8x128) ![n, 0, 0] S1x8x128.size (dinb n h)) (fun _ => rfl)).squeeze S8x128 squeezes_S1x8x128_S8x128
def sRow (n : ℕ) (h : n < 16384) : Memref sig .tc .hbm S8x128 .bf16 :=
  ((Memref.whole main_v0).slice (Rect.unit (s := S16384x8x128) ![n, 0, 0] S1x8x128.size (sinb n h)) (fun _ => rfl)).squeeze S8x128 squeezes_S1x8x128_S8x128
def zRow : Memref sig .tc .hbm S8x128 .bf16 :=
  ((Memref.whole main_v1).slice (Rect.unit (s := S1x8x128) ![0, 0, 0] S1x8x128.size inb_S1x8x128_S1x8x128_0_0_0) (fun _ => rfl)).squeeze S8x128 squeezes_S1x8x128_S8x128

theorem dRow_set (n : ℕ) (h : n < 73728) : (dRow n h).view.set = dset n h := by
  unfold dRow; exact (View.set_reshape _ _).trans (View.set_slice_whole _ _)
theorem sRow_set (n : ℕ) (h : n < 16384) : (sRow n h).view.set = sset n h := by
  unfold sRow; exact (View.set_reshape _ _).trans (View.set_slice_whole _ _)

theorem zRow_set : zRow.view.set = zset := by
  unfold zRow; exact (View.set_reshape _ _).trans (View.set_slice_whole _ _)

/-- Element `x` of a row, in the whole array. -/
def dEmb (n : ℕ) (h : n < 73728) (x : S8x128.Idx) : S73728x8x128.Idx := (dRow n h).view.emb x
def sEmb (n : ℕ) (h : n < 16384) (x : S8x128.Idx) : S16384x8x128.Idx := (sRow n h).view.emb x
def zEmb (x : S8x128.Idx) : S1x8x128.Idx := zRow.view.emb x
/-- Element `x` of a row, with the leading axis of one row kept. -/
def inRow (x : S8x128.Idx) : S1x8x128.Idx := Shape.reshapeEquiv (squeezes_S1x8x128_S8x128.numel_eq) x

theorem dEmb_val (n : ℕ) (h : n < 73728) (x : S8x128.Idx) (a : Fin 3) : (dEmb n h x a).val = (![n, 0, 0] : Fin 3 → ℕ) a + 1 * (inRow x a).val := rfl
theorem sEmb_val (n : ℕ) (h : n < 16384) (x : S8x128.Idx) (a : Fin 3) : (sEmb n h x a).val = (![n, 0, 0] : Fin 3 → ℕ) a + 1 * (inRow x a).val := rfl
theorem zEmb_val (x : S8x128.Idx) (a : Fin 3) : (zEmb x a).val = (![0, 0, 0] : Fin 3 → ℕ) a + 1 * (inRow x a).val := rfl

theorem mem_dRow (n : ℕ) (h : n < 73728) (y : S73728x8x128.Idx) (hy : y ∈ dset n h) : ∃ x, y = dEmb n h x := by
  have hy' : y ∈ (dRow n h).view.set := by rw [dRow_set]; exact hy
  obtain ⟨x, -, hx⟩ := Finset.mem_map.mp hy'
  exact ⟨x, hx.symm⟩

theorem write_dEmb (n : ℕ) (h : n < 73728) (fd : S73728x8x128.Idx → Elt F .bf16) (w : S8x128.Idx → Elt F .bf16) (x : S8x128.Idx) :
    ((dRow n h).view.write (Elt F) fd w Finset.univ : S73728x8x128.Idx → Elt F .bf16) (dEmb n h x) = w x :=
  congrFun (View.read_write_univ (v := (dRow n h).view) (Val := Elt F) fd w) x

theorem in0 (x : S8x128.Idx) : (inRow x 0).val = 0 := by have h : (inRow x 0).val < 1 := (inRow x 0).isLt; omega
theorem dEmb0 (n : ℕ) (h : n < 73728) (x : S8x128.Idx) : dEmb n h x 0 = ⟨n, h⟩ :=
  Fin.ext (by rw [dEmb_val, in0]; rfl)

theorem gath_dEmb (tbl : S73728.Idx → BitVec 32) (fs : S16384x8x128.Idx → Elt F .bf16) (fz : S1x8x128.Idx → Elt F .bf16)
    (n : ℕ) (h : n < 73728) (x : S8x128.Idx) :
    gath tbl fs fz (dEmb n h x) = if hw : (tbl (tblIx ⟨n, h⟩)).toNat < 16384 then fs (sEmb _ hw x) else fz (zEmb x) := by
  have he : tbl (tblIx (dEmb n h x 0)) = tbl (tblIx ⟨n, h⟩) := congrArg (fun r => tbl (tblIx r)) (dEmb0 n h x)
  unfold gath
  by_cases hw : (tbl (tblIx ⟨n, h⟩)).toNat < 16384
  · refine (dif_pos (by rw [he]; exact hw)).trans (Eq.trans ?_ (dif_pos hw).symm)
    congr 1
    funext a
    apply Fin.ext
    rw [sEmb_val]
    fin_cases a
    · show (tbl (tblIx (dEmb n h x 0))).toNat = (tbl (tblIx ⟨n, h⟩)).toNat + 1 * (inRow x 0).val
      rw [in0, he, Nat.mul_zero, Nat.add_zero]
    · exact dEmb_val n h x 1
    · exact dEmb_val n h x 2
  · refine (dif_neg (by rw [he]; exact hw)).trans (Eq.trans ?_ (dif_neg hw).symm)
    congr 1
    funext a
    apply Fin.ext
    rw [zEmb_val]
    fin_cases a
    · show 0 = 0 + 1 * (inRow x 0).val
      rw [in0]
    · exact dEmb_val n h x 1
    · exact dEmb_val n h x 2

/-- A copy of a source row lands the row of the gathered array. -/
theorem copy_src (tbl : S73728.Idx → BitVec 32) (fs : S16384x8x128.Idx → Elt F .bf16) (fz : S1x8x128.Idx → Elt F .bf16)
    (n : ℕ) (h : n < 73728) (hw : (tbl (tblIx ⟨n, h⟩)).toNat < 16384) (fd : S73728x8x128.Idx → Elt F .bf16)
    (y : S73728x8x128.Idx) (hy : y ∈ dset n h) :
    ((dRow n h).view.write (Elt F) fd ((sRow _ hw).view.read (Elt F) fs) Finset.univ : S73728x8x128.Idx → Elt F .bf16) y = gath tbl fs fz y := by
  obtain ⟨x, rfl⟩ := mem_dRow n h y hy
  rw [write_dEmb, gath_dEmb, dif_pos hw]; rfl

/-- A copy of the row of zeros lands the row of the gathered array. -/
theorem copy_zero (tbl : S73728.Idx → BitVec 32) (fs : S16384x8x128.Idx → Elt F .bf16) (fz : S1x8x128.Idx → Elt F .bf16)
    (n : ℕ) (h : n < 73728) (hw : ¬ (tbl (tblIx ⟨n, h⟩)).toNat < 16384) (fd : S73728x8x128.Idx → Elt F .bf16)
    (y : S73728x8x128.Idx) (hy : y ∈ dset n h) :
    ((dRow n h).view.write (Elt F) fd (zRow.view.read (Elt F) fz) Finset.univ : S73728x8x128.Idx → Elt F .bf16) y = gath tbl fs fz y := by
  obtain ⟨x, rfl⟩ := mem_dRow n h y hy
  rw [write_dEmb, gath_dEmb, dif_neg hw]; rfl

end Cert.Proof.Gather

end
-- ==== Proof.GatherBody.lean ====
/- The gather of rows: the issue loop and the drain loop of one grid point. -/
module

public import proofs.«01_k».proof.Proof.GatherSetup

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 256 := by decide
theorem trips2 : k0_t2_loop.trips = 256 := by decide

/-- The DMA semaphore of the copies. -/
abbrev d0 : DmaSem sig := cc0_scratch0.sem

/-- One row's credit on the semaphore. -/
def NN : ℕ := (dRow 0 (by omega)).view.dmaCredit
theorem NN_pos : 0 < NN := by decide
theorem amount_eq (n : ℕ) (h : n < 73728) : (dRow n h).view.amount (SemLoc.dma d0) = NN := rfl
theorem credit_eq (n : ℕ) (h : n < 73728) : (dRow n h).view.dmaCredit = NN := rfl

section Point

variable (c : Dev nD) (p : ℕ) (hp : p < 288)
  (tbl : S73728.Idx → BitVec 32) (fs : S16384x8x128.Idx → Elt F .bf16) (fz : S1x8x128.Idx → Elt F .bf16)
  (fd : S73728x8x128.Idx → Elt F .bf16)

theorem row_lt (hp : p < 288) (t : Fin 256) : 256 * p + t.val < 73728 := by have := t.isLt; omega

/-- The word of trip `t`. -/
def word (t : Fin 256) : BitVec 32 := tbl (tblIx ⟨256 * p + t.val, row_lt p hp t⟩)

/-- Row `t` of the point's rows, at given contents of the result. -/
def rowAt (f : S73728x8x128.Idx → Elt F .bf16) (t : Fin 256) : sProp 𝕄 :=
  (Memref.whole main_v2).view.loc (c : Thread nD τ) ↦[dset (256 * p + t.val) (row_lt p hp t)]{fullShare} f
/-- The read token of transfer `t` on elements `S` of the source, and on the row of zeros. -/
def sTok (S : Finset S16384x8x128.Idx) (t : Fin 256) : sProp 𝕄 :=
  (Memref.whole main_v0).view.loc (c : Thread nD τ) ↦[S]{Transfers.shareTok fullShare 256 t} fs
def zTok (S : Finset S1x8x128.Idx) (t : Fin 256) : sProp 𝕄 :=
  (Memref.whole main_v1).view.loc (c : Thread nD τ) ↦[S]{Transfers.shareTok fullShare 256 t} fz

/-- What transfer `t` borrows, and what of the tokens of trip `t` stays behind. -/
def lent (t : Fin 256) : sProp 𝕄 :=
  if h : (word p hp tbl t).toNat < 16384 then sTok c fs (sset _ h) t else zTok c fz zset t
def kept (t : Fin 256) : sProp 𝕄 :=
  if h : (word p hp tbl t).toNat < 16384 then iprop(sTok c fs (Finset.univ \ sset _ h) t ∗ zTok c fz Finset.univ t)
  else iprop(zTok c fz (Finset.univ \ zset) t ∗ sTok c fs Finset.univ t)

/-- What a trip finds, and what its transfer delivers. -/
def found (t : Fin 256) : sProp 𝕄 := iprop(rowAt c p hp fd t ∗ sTok c fs Finset.univ t ∗ zTok c fz Finset.univ t)
def landed (t : Fin 256) : sProp 𝕄 := iprop(rowAt c p hp (gath tbl fs fz) t ∗ lent c p hp tbl fs fz t)

instance landed_storable (t : Fin 256) : BI.Storable (upEmb : UEmb _ 𝕄) (landed c p hp tbl fs fz t) := by
  unfold landed lent rowAt sTok zTok; split <;> infer_instance

/-- The batch of the point's 256 copies, `j` issued and `u` units consumed. -/
abbrev batch (j u : ℕ) : sProp 𝕄 :=
  Transfers.Batch (countersEmb (U := Pipeline.UD sig nD τ)) (c : Thread nD τ) (.dma d0) () NN (landed c p hp tbl fs fz) j u

/-- The table of row numbers. -/
abbrev table : sProp 𝕄 := (Memref.whole main_arg1).view.loc (c : Thread nD τ) ↦{fullShare.right} tbl

/-- Before trip `k` of the issue loop. -/
def issueAt (k : ℕ) (_ : Unit) : sProp 𝕄 :=
  iprop(batch c p hp tbl fs fz k 0 ∗ bigSep (Ring.rangeSet 256 k 256) (found c p hp fs fz fd)
    ∗ bigSep (Ring.rangeSet 256 0 k) (kept c p hp tbl fs fz) ∗ table c tbl)

variable (i : grid0.Coords)

abbrev issueBody : Fin k0_t1_loop.trips → Unit → Prog (TpuEff nD τ sig (Elt F) Λ₀ .tc) Unit :=
  k0_t1_body i (Memref.whole main_arg1) (Memref.isWhole_whole _) (Memref.whole main_v0) (Memref.isWhole_whole _) (Memref.whole main_v1) (Memref.isWhole_whole _) (Memref.whole main_v2) (Memref.isWhole_whole _) cc0_scratch0
abbrev drainBody : Fin k0_t2_loop.trips → Unit → Prog (TpuEff nD τ sig (Elt F) Λ₀ .tc) Unit :=
  k0_t2_body i (Memref.whole main_arg1) (Memref.isWhole_whole _) (Memref.whole main_v0) (Memref.isWhole_whole _) (Memref.whole main_v1) (Memref.isWhole_whole _) (Memref.whole main_v2) (Memref.isWhole_whole _) cc0_scratch0

theorem cond_of_lt (w : BitVec 32) (h : w.toNat < 16384) : k0_cond1 w = 1#1 := by
  have h1 : w.slt 16384#32 = true := by
    rw [BitVec.slt_eq_decide, BitVec.toInt_eq_toNat_of_lt (by omega)]
    simp only [decide_eq_true_eq]
    show (w.toNat : Int) < 16384
    omega
  simp [k0_cond1, Scalar.cmpi, Scalar.extui, IntOp.cmpi, h1]
theorem cond_of_ge (w : BitVec 32) (h : ¬ w.toNat < 16384) (h' : w.toNat ≤ 16384) : ¬ k0_cond1 w = 1#1 := by
  have h1 : w = 16384#32 := BitVec.eq_of_toNat_eq (by simp; omega)
  subst h1
  decide
theorem cond2_of_lt (w : BitVec 32) (h : w.toNat < 16384) : ¬ Scalar.cmpi .ne (Scalar.extui (Scalar.cmpi .sge w 16384#32) : BitVec 32) 0#32 = 1#1 := by
  have h1 : (16384#32).sle w = false := by
    rw [BitVec.sle_eq_decide, BitVec.toInt_eq_toNat_of_lt (x := w) (by omega)]
    simp only [decide_eq_false_iff_not]
    show ¬ (16384 : Int) ≤ (w.toNat : Int)
    omega
  simp [Scalar.cmpi, Scalar.extui, IntOp.cmpi, h1]
theorem cond2_of_ge (w : BitVec 32) (h : ¬ w.toNat < 16384) (h' : w.toNat ≤ 16384) :
    Scalar.cmpi .ne (Scalar.extui (Scalar.cmpi .sge w 16384#32) : BitVec 32) 0#32 = 1#1 := by
  have h1 : w = 16384#32 := BitVec.eq_of_toNat_eq (by simp; omega)
  subst h1
  decide

theorem chk_of (w : BitVec 32) (h : w.toNat ≤ 16384) : k0_chk1 w := by
  have hin : k0_cond1 w = 1#1 → w.toNat < 16384 := fun hc => by
    by_contra hn; exact cond_of_ge w hn h hc
  refine ⟨fun hc => sinb w.toNat (hin hc), fun hc hinb => ?_⟩
  exact Affine.words_rows (of_decide_eq_true rfl) (Affine.nat_eq (Affine.ofNat 0 (by omega) : Affine.IsInt 0#32 0) 0 (by omega)) (by decide)

/-- ONE COPY issued: the row's transfer number `t` of the batch, from the source or from the row of zeros. -/
theorem issue_src (t : Fin 256) (h : (word p hp tbl t).toNat < 16384)
    (d s : Memref sig .tc .hbm S8x128 .bf16) (hd : d = dRow (256 * p + t.val) (row_lt p hp t)) (hs : s = sRow _ h)
    {hsrc : s.view.WordExact} {hdst : d.view.WordExact} {hsem : DmaTarget.Typed (nD := nD) .hbm (SemLoc.dma d0) (DmaTarget.here (p := (.tc : Proc τ)) d)}
    {kk : PUnit → Prog (TpuEff nD τ sig (Elt F) Λ₀ .tc) Unit} {Q : Unit → sProp 𝕄} :
    iprop(batch c p hp tbl fs fz t.val 0 ∗ rowAt c p hp fd t ∗ sTok c fs Finset.univ t ∗ zTok c fz Finset.univ t)
      ⊢ iprop((iprop(batch c p hp tbl fs fz (t.val + 1) 0 ∗ kept c p hp tbl fs fz t) -∗ wp frame (wpE defs₀ Variants.none (c : Thread nD τ) none) Set.univ (kk ⟨⟩) Q)
          -∗ wp frame (wpE defs₀ Variants.none (c : Thread nD τ) none) Set.univ (.op (.enqueueDma s (.here d) (.dma d0) hsrc hdst hsem) kk) Q) := by
  subst hd hs
  iintro ⟨HB, Hd, Hs, Hz⟩ Hk
  unfold rowAt
  ihave Hs' := (show sTok c fs Finset.univ t ⊢ iprop(sTok c fs (sset _ h) t ∗ sTok c fs (Finset.univ \ sset _ h) t) from
    (pointsTo_split_subset (Finset.subset_univ _)).1) $$ Hs
  icases Hs' with ⟨Hs, Hs2⟩
  iapply (Transfers.wp_dmaBatch (countersEmb (U := Pipeline.UD sig nD τ)) Variants.none (c : Thread nD τ) none
    (src := sRow _ h) (dst := dRow (256 * p + t.val) (row_lt p hp t)) (q := Transfers.shareTok fullShare 256 t) (fs := fs) (fd := fd)
    (Sd := dset (256 * p + t.val) (row_lt p hp t)) () NN (amount_eq _ _) (by rw [dRow_set]; exact Finset.Subset.refl _) (D := landed c p hp tbl fs fz) (j := t.val) (u := 0) t.isLt (Nat.zero_le _)
    (by
      unfold landed lent
      rw [dif_pos h]
      unfold rowAt sTok
      iintro ⟨H1, H2⟩
      isplitl [H1]
      · iapply (Entails.of_eq (pointsTo_congr (fun y hy => copy_src tbl fs fz (256 * p + t.val) (row_lt p hp t) h fd y hy)))
        iexact H1
      · rw [sRow_set]; iexact H2)) $$ [HB Hd Hs]
  · isplitl [Hs]
    · unfold sTok; rw [sRow_set]; iexact Hs
    isplitl [Hd]; · iexact Hd
    iexact HB
  iintro HB
  iapply Hk
  isplitl [HB]; · iexact HB
  unfold kept
  rw [dif_pos h]
  isplitl [Hs2] <;> iassumption

theorem issue_zero (t : Fin 256) (h : ¬ (word p hp tbl t).toNat < 16384)
    (d s : Memref sig .tc .hbm S8x128 .bf16) (hd : d = dRow (256 * p + t.val) (row_lt p hp t)) (hs : s = zRow)
    {hsrc : s.view.WordExact} {hdst : d.view.WordExact} {hsem : DmaTarget.Typed (nD := nD) .hbm (SemLoc.dma d0) (DmaTarget.here (p := (.tc : Proc τ)) d)}
    {kk : PUnit → Prog (TpuEff nD τ sig (Elt F) Λ₀ .tc) Unit} {Q : Unit → sProp 𝕄} :
    iprop(batch c p hp tbl fs fz t.val 0 ∗ rowAt c p hp fd t ∗ sTok c fs Finset.univ t ∗ zTok c fz Finset.univ t)
      ⊢ iprop((iprop(batch c p hp tbl fs fz (t.val + 1) 0 ∗ kept c p hp tbl fs fz t) -∗ wp frame (wpE defs₀ Variants.none (c : Thread nD τ) none) Set.univ (kk ⟨⟩) Q)
          -∗ wp frame (wpE defs₀ Variants.none (c : Thread nD τ) none) Set.univ (.op (.enqueueDma s (.here d) (.dma d0) hsrc hdst hsem) kk) Q) := by
  subst hd hs
  iintro ⟨HB, Hd, Hs, Hz⟩ Hk
  unfold rowAt
  ihave Hz' := (show zTok c fz Finset.univ t ⊢ iprop(zTok c fz zset t ∗ zTok c fz (Finset.univ \ zset) t) from
    (pointsTo_split_subset (Finset.subset_univ _)).1) $$ Hz
  icases Hz' with ⟨Hz, Hz2⟩
  iapply (Transfers.wp_dmaBatch (countersEmb (U := Pipeline.UD sig nD τ)) Variants.none (c : Thread nD τ) none
    (src := zRow) (dst := dRow (256 * p + t.val) (row_lt p hp t)) (q := Transfers.shareTok fullShare 256 t) (fs := fz) (fd := fd)
    (Sd := dset (256 * p + t.val) (row_lt p hp t)) () NN (amount_eq _ _) (by rw [dRow_set]; exact Finset.Subset.refl _) (D := landed c p hp tbl fs fz) (j := t.val) (u := 0) t.isLt (Nat.zero_le _)
    (by
      unfold landed lent
      rw [dif_neg h]
      unfold rowAt zTok
      iintro ⟨H1, H2⟩
      isplitl [H1]
      · iapply (Entails.of_eq (pointsTo_congr (fun y hy => copy_zero tbl fs fz (256 * p + t.val) (row_lt p hp t) h fd y hy)))
        iexact H1
      · rw [zRow_set]; iexact H2)) $$ [HB Hd Hz]
  · isplitl [Hz]
    · unfold zTok; rw [zRow_set]; iexact Hz
    isplitl [Hd]; · iexact Hd
    iexact HB
  iintro HB
  iapply Hk
  isplitl [HB]; · iexact HB
  unfold kept
  rw [dif_neg h]
  isplitl [Hz2] <;> iassumption

theorem dst_of {off : Fin 3 → ℕ} {n : ℕ} (ho : off = ![n, 0, 0]) (inb : ∀ a, off a + S1x8x128.size a ≤ S73728x8x128.size a) (h : n < 73728) :
    ((Memref.whole main_v2 : Memref sig .tc .hbm S73728x8x128 .bf16).slice (Rect.unit (s := S73728x8x128) off S1x8x128.size inb) (fun _ => rfl)).squeeze S8x128 squeezes_S1x8x128_S8x128
      = dRow n h := by
  subst ho; rfl
theorem dst_eq2 (k : Fin k0_t1_loop.trips) (hk : k.val < 256) (hi : (i 0).val = p) :
    ((Memref.whole main_v2 : Memref sig .tc .hbm S73728x8x128 .bf16).slice (Rect.unit (s := S73728x8x128) (k0_off2 i k) S1x8x128.size (k0_off2_inb i k)) (fun _ => rfl)).squeeze S8x128 squeezes_S1x8x128_S8x128
      = dRow (256 * p + (⟨k.val, hk⟩ : Fin 256).val) (row_lt p hp ⟨k.val, hk⟩) := by
  subst hi; exact dst_of (k0_off2_eq i k) _ _
theorem dst_eq4 (k : Fin k0_t1_loop.trips) (hk : k.val < 256) (hi : (i 0).val = p) :
    ((Memref.whole main_v2 : Memref sig .tc .hbm S73728x8x128 .bf16).slice (Rect.unit (s := S73728x8x128) (k0_off4 i k) S1x8x128.size (k0_off4_inb i k)) (fun _ => rfl)).squeeze S8x128 squeezes_S1x8x128_S8x128
      = dRow (256 * p + (⟨k.val, hk⟩ : Fin 256).val) (row_lt p hp ⟨k.val, hk⟩) := by
  subst hi; exact dst_of (k0_off4_eq i k) _ _

theorem src_of {off : Fin 3 → ℕ} {n : ℕ} (ho : off = ![n, 0, 0]) (inb : ∀ a, off a + S1x8x128.size a ≤ S16384x8x128.size a) (h : n < 16384) :
    ((Memref.whole main_v0 : Memref sig .tc .hbm S16384x8x128 .bf16).slice (Rect.unit (s := S16384x8x128) off S1x8x128.size inb) (fun _ => rfl)).squeeze S8x128 squeezes_S1x8x128_S8x128
      = sRow n h := by
  subst ho; rfl

theorem issue_step [∀ e, Nonempty (Elt F e)] (hi : (i 0).val = p) (hr : InRange tbl) (k : Fin k0_t1_loop.trips) (acc : Unit) :
    issueAt c p hp tbl fs fz fd k acc ⊢ wp frame (wpE defs₀ Variants.none (c : Thread nD τ) none) Set.univ (issueBody (F := F) i k acc)
      (issueAt c p hp tbl fs fz fd (k.val + 1)) := by
  have hk : k.val < 256 := by rw [← trips1]; exact k.isLt
  unfold issueAt
  rw [Ring.bigSep_rangeSet_head (Φ := found c p hp fs fz fd) hk hk,
    Ring.bigSep_rangeSet_last (Φ := kept c p hp tbl fs fz) (lo := 0) (hi := k.val + 1) (by omega) (by omega)]
  have hchk : ∀ x, k0_chk1 (tbl x) := fun x => chk_of _ (hr x)
  iintro ⟨HB, ⟨Hf, Hrest⟩, Hkept, Htbl⟩
  sl_unfold [issueBody, k0_t1_body]
  sl_exec
  have hw : (issue_step.sl.r (F := F) tbl i k : BitVec 32) = word p hp tbl ⟨k.val, hk⟩ := by
    unfold issue_step.sl.r
    refine congrArg tbl (funext fun a => Fin.ext ?_)
    subst hi
    have h0 : k0_off1 i k 0 = 256 * (i 0).val + k.val := by rw [k0_off1_eq]; rfl
    fin_cases a
    show k0_off1 i k 0 + 1 * 0 = 256 * (i 0).val + k.val
    omega
  have hle : (issue_step.sl.r (F := F) tbl i k : BitVec 32).toNat ≤ 16384 := by rw [hw]; exact hr _
  by_cases hlt : (issue_step.sl.r (F := F) tbl i k : BitVec 32).toNat < 16384
  · rw [dif_pos (cond_of_lt _ hlt), if_neg (cond2_of_lt _ hlt)]
    unfold found
    icases Hf with ⟨Hd, Hs, Hz⟩
    iapply (issue_src c p hp tbl fs fz fd ⟨k.val, hk⟩ (by rw [← hw]; exact hlt) _ _ (dst_eq2 p hp i k hk hi) (src_of (by rw [← hw]; rfl) _ _)) $$ [HB Hd Hs Hz]
    · isplitl [HB]; · iexact HB
      isplitl [Hd]; · iexact Hd
      isplitl [Hs] <;> iassumption
    iintro ⟨HB, HK⟩
    simp only [Prog.bind]
    sl_step
    isplitl [HB]; · iexact HB
    isplitl [Hrest]; · iexact Hrest
    isplitl [HK Hkept]
    · isplitl [HK]
      · iexact HK
      · iexact Hkept
    iexact Htbl
  · rw [dif_neg (cond_of_ge _ hlt hle), if_pos (cond2_of_ge _ hlt hle)]
    unfold found
    icases Hf with ⟨Hd, Hs, Hz⟩
    iapply (issue_zero c p hp tbl fs fz fd ⟨k.val, hk⟩ (by rw [← hw]; exact hlt) _ _ (dst_eq4 p hp i k hk hi) rfl) $$ [HB Hd Hs Hz]
    · isplitl [HB]; · iexact HB
      isplitl [Hd]; · iexact Hd
      isplitl [Hs] <;> iassumption
    iintro ⟨HB, HK⟩
    simp only [Prog.bind]
    sl_step
    isplitl [HB]; · iexact HB
    isplitl [Hrest]; · iexact Hrest
    isplitl [HK Hkept]
    · isplitl [HK]
      · iexact HK
      · iexact Hkept
    iexact Htbl

end Point

end Cert.Proof.Gather

end
-- ==== Proof.GatherRun.lean ====
/- The gather of rows: the drain loop, and one whole grid point. -/
module

public import proofs.«01_k».proof.Proof.GatherBody

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem units_lt (k : ℕ) (h : k + 1 < 256) : k * NN + NN < NN * 256 :=
  calc k * NN + NN = (k + 1) * NN := (Nat.succ_mul k NN).symm
    _ < 256 * NN := Nat.mul_lt_mul_of_pos_right h NN_pos
    _ = NN * 256 := Nat.mul_comm _ _
theorem units_last : 255 * NN + NN = NN * 256 := (Nat.succ_mul 255 NN).symm.trans (Nat.mul_comm _ _)

section Point

variable (c : Dev nD) (p : ℕ) (hp : p < 288)
  (tbl : S73728.Idx → BitVec 32) (fs : S16384x8x128.Idx → Elt F .bf16) (fz : S1x8x128.Idx → Elt F .bf16)
  (fd : S73728x8x128.Idx → Elt F .bf16) (i : grid0.Coords)

/-- Before trip `k` of the drain loop: the batch with `k` rows' units consumed, or after the last wait the semaphore at
    zero with all that the copies delivered. -/
def drainAt (k : ℕ) (_ : Unit) : sProp 𝕄 :=
  iprop(⌜k ≤ 256⌝ ∗ (∃ W, owes (c : Thread nD τ) 0 W)
    ∗ (if k < 256 then batch c p hp tbl fs fz 256 (k * NN)
       else iprop(semVal ((c : Thread nD τ), SemLoc.dma d0) 0 ∗ bigSep Finset.univ (landed c p hp tbl fs fz))))

theorem drain_step [∀ e, Nonempty (Elt F e)] (hi : (i 0).val = p) (k : Fin k0_t2_loop.trips) (acc : Unit) :
    drainAt c p hp tbl fs fz k acc ⊢ wp frame (wpE defs₀ Variants.none (c : Thread nD τ) none) Set.univ (drainBody (F := F) i k acc)
      (drainAt c p hp tbl fs fz (k.val + 1)) := by
  have hk : k.val < 256 := by rw [← trips2]; exact k.isLt
  have hN := NN_pos
  unfold drainAt
  simp only [if_pos hk]
  rcases Nat.lt_or_ge (k.val + 1) 256 with h1 | h1
  · simp only [if_pos h1]
    iintro ⟨-, ⟨%W, HO⟩, HB⟩
    sl_unfold [drainBody, k0_t2_body]
    iapply (Transfers.wp_waitBatch (countersEmb (U := Pipeline.UD sig nD τ)) Variants.none (c : Thread nD τ) none () (N := NN) (by exact rfl)
      (D := landed c p hp tbl fs fz) (u := k.val * NN) (W := W) (units_lt k.val h1)) $$ [HB HO]
    · isplitl [HB]; · iexact HB
      iexact HO
    iintro ⟨HB, HO⟩
    simp only [Prog.bind]
    sl_step
    isplitr; · ipureintro; omega
    isplitl [HO]; · iexists _; iexact HO
    rw [show (k.val + 1) * NN = k.val * NN + NN from Nat.succ_mul _ _]
    iexact HB
  · simp only [if_neg (Nat.not_lt.mpr h1)]
    have hk' : k.val = 255 := by omega
    iintro ⟨-, ⟨%W, HO⟩, HB⟩
    sl_unfold [drainBody, k0_t2_body]
    iapply (Transfers.wp_waitBatchLast (countersEmb (U := Pipeline.UD sig nD τ)) Variants.none (c : Thread nD τ) none () (N := NN) (by exact rfl) NN_pos
      (D := landed c p hp tbl fs fz) (u := k.val * NN) (W := W) (by rw [hk']; exact units_last)) $$ [HB HO]
    · isplitl [HB]; · iexact HB
      iexact HO
    iintro ⟨Hall, Hc, HO⟩
    simp only [Prog.bind]
    sl_step
    isplitr; · ipureintro; omega
    isplitl [HO]; · iexists _; iexact HO
    isplitl [Hc]; · iexact Hc
    iexact Hall

/-- The result after `n` points: their rows gathered, the others as they were. -/
def mix (n : ℕ) (y : S73728x8x128.Idx) : Elt F .bf16 := if (y 0).val < 256 * n then gath tbl fs fz y else fd y

/-- The point's rows. -/
def ptRows : Finset S73728x8x128.Idx := Finset.univ.filter fun y => 256 * p ≤ (y 0).val ∧ (y 0).val < 256 * p + 256

theorem rows_disj (t t' : Fin 256) (h : t ≠ t') :
    Disjoint (dset (256 * p + t.val) (row_lt p hp t)) (dset (256 * p + t'.val) (row_lt p hp t')) := by
  rw [Finset.disjoint_left]
  intro y h1 h2
  rw [mem_dset] at h1 h2
  exact h (Fin.ext (by omega))
theorem rows_cover : Finset.univ.biUnion (fun t : Fin 256 => dset (256 * p + t.val) (row_lt p hp t)) = ptRows p := by
  ext y
  simp only [Finset.mem_biUnion, Finset.mem_univ, true_and, mem_dset, ptRows, Finset.mem_filter]
  constructor
  · rintro ⟨t, ht⟩; have := t.isLt; omega
  · intro h; exact ⟨⟨(y 0).val - 256 * p, by omega⟩, by dsimp only; omega⟩

abbrev dstAt (f : S73728x8x128.Idx → Elt F .bf16) : sProp 𝕄 := (Memref.whole main_v2).view.loc (c : Thread nD τ) ↦{fullShare} f
abbrev dstOn (S : Finset S73728x8x128.Idx) (f : S73728x8x128.Idx → Elt F .bf16) : sProp 𝕄 := (Memref.whole main_v2).view.loc (c : Thread nD τ) ↦[S]{fullShare} f
abbrev srcAt : sProp 𝕄 := (Memref.whole main_v0).view.loc (c : Thread nD τ) ↦{fullShare} fs
abbrev zeroAt : sProp 𝕄 := (Memref.whole main_v1).view.loc (c : Thread nD τ) ↦{fullShare} fz
abbrev srcLeft : sProp 𝕄 := (Memref.whole main_v0).view.loc (c : Thread nD τ) ↦[Finset.univ]{Transfers.shareDrop fullShare 256} fs
abbrev zeroLeft : sProp 𝕄 := (Memref.whole main_v1).view.loc (c : Thread nD τ) ↦[Finset.univ]{Transfers.shareDrop fullShare 256} fz

theorem dst_rows (f : S73728x8x128.Idx → Elt F .bf16) : dstOn c (ptRows p) f = bigSep Finset.univ (rowAt c p hp f) :=
  Ring.pointsTo_sub_blocks (ℓ := (Memref.whole main_v2).view.loc (c : Thread nD τ)) (fun t : Fin 256 => dset (256 * p + t.val) (row_lt p hp t)) (rows_disj p hp) (ptRows p) (rows_cover p hp) f

theorem dst_open (f : S73728x8x128.Idx → Elt F .bf16) :
    dstAt c f ⊢ (iprop(bigSep Finset.univ (rowAt c p hp f) ∗ dstOn c (Finset.univ \ ptRows p) f) : sProp 𝕄) := by
  rw [← dst_rows]
  exact (pointsTo_split_subset (Finset.subset_univ _)).1

theorem dst_close : iprop(bigSep Finset.univ (rowAt c p hp (gath tbl fs fz)) ∗ dstOn c (Finset.univ \ ptRows p) (mix tbl fs fz fd p))
    ⊢ (dstAt c (mix tbl fs fz fd (p + 1)) : sProp 𝕄) := by
  have e1 : dstOn c (ptRows p) (gath tbl fs fz) = (dstOn c (ptRows p) (mix tbl fs fz fd (p + 1)) : sProp 𝕄) :=
    pointsTo_congr fun y hy => by
      have := (Finset.mem_filter.mp hy).2
      unfold mix; rw [if_pos (by omega)]
  have e2 : dstOn c (Finset.univ \ ptRows p) (mix tbl fs fz fd p) = (dstOn c (Finset.univ \ ptRows p) (mix tbl fs fz fd (p + 1)) : sProp 𝕄) :=
    pointsTo_congr fun y hy => by
      have hn : ¬ (256 * p ≤ (y 0).val ∧ (y 0).val < 256 * p + 256) := fun h =>
        (Finset.mem_sdiff.mp hy).2 (Finset.mem_filter.mpr ⟨Finset.mem_univ _, h⟩)
      unfold mix
      by_cases h : (y 0).val < 256 * p
      · rw [if_pos h, if_pos (by omega)]
      · rw [if_neg h, if_neg (by omega)]
  rw [← dst_rows, e1, e2]
  exact (pointsTo_split_subset (Finset.subset_univ _)).2

/-- What a copy borrowed and what stayed behind are the trip's two tokens again. -/
theorem toks_back (t : Fin 256) : iprop(lent c p hp tbl fs fz t ∗ kept c p hp tbl fs fz t)
    ⊢ (iprop(sTok c fs Finset.univ t ∗ zTok c fz Finset.univ t) : sProp 𝕄) := by
  unfold lent kept
  by_cases h : (word p hp tbl t).toNat < 16384
  · rw [dif_pos h, dif_pos h]
    iintro ⟨H1, H2, H3⟩
    isplitl [H1 H2]
    · iapply (show iprop(sTok c fs (sset _ h) t ∗ sTok c fs (Finset.univ \ sset _ h) t) ⊢ sTok c fs Finset.univ t from
        (pointsTo_split_subset (Finset.subset_univ _)).2)
      isplitl [H1]
      · iexact H1
      · iexact H2
    · iexact H3
  · rw [dif_neg h, dif_neg h]
    iintro ⟨H1, H2, H3⟩
    isplitl [H3]
    · iexact H3
    · iapply (show iprop(zTok c fz zset t ∗ zTok c fz (Finset.univ \ zset) t) ⊢ zTok c fz Finset.univ t from
        (pointsTo_split_subset (Finset.subset_univ _)).2)
      isplitl [H1]
      · iexact H1
      · iexact H2

theorem found_of : iprop(bigSep Finset.univ (rowAt c p hp fd) ∗ bigSep Finset.univ (sTok c fs Finset.univ) ∗ bigSep Finset.univ (zTok c fz Finset.univ))
    ⊢ (bigSep Finset.univ (found c p hp fs fz fd) : sProp 𝕄) := by
  rw [show found c p hp fs fz fd = fun t => iprop(rowAt c p hp fd t ∗ sTok c fs Finset.univ t ∗ zTok c fz Finset.univ t) from rfl]
  refine Entails.of_eq ?_
  exact ((BI.bigSep_sep _ _ _).trans (congrArg (fun X => iprop(bigSep Finset.univ (rowAt c p hp fd) ∗ X)) (BI.bigSep_sep _ _ _))).symm

theorem landed_back : iprop(bigSep Finset.univ (landed c p hp tbl fs fz) ∗ bigSep Finset.univ (kept c p hp tbl fs fz))
    ⊢ (iprop(bigSep Finset.univ (rowAt c p hp (gath tbl fs fz)) ∗ bigSep Finset.univ (sTok c fs Finset.univ) ∗ bigSep Finset.univ (zTok c fz Finset.univ)) : sProp 𝕄) := by
  have e : (iprop(bigSep Finset.univ (rowAt c p hp (gath tbl fs fz)) ∗ bigSep Finset.univ (sTok c fs Finset.univ) ∗ bigSep Finset.univ (zTok c fz Finset.univ)) : sProp 𝕄)
      = bigSep Finset.univ fun t => iprop(rowAt c p hp (gath tbl fs fz) t ∗ sTok c fs Finset.univ t ∗ zTok c fz Finset.univ t) :=
    ((BI.bigSep_sep _ _ _).trans (congrArg (fun X => iprop(bigSep Finset.univ (rowAt c p hp (gath tbl fs fz)) ∗ X)) (BI.bigSep_sep _ _ _))).symm
  rw [e]
  refine (Entails.of_eq (BI.bigSep_sep _ _ _).symm).trans (BI.bigSep_mono fun t _ => ?_)
  show (iprop(landed c p hp tbl fs fz t ∗ kept c p hp tbl fs fz t) : sProp 𝕄) ⊢ iprop(rowAt c p hp (gath tbl fs fz) t ∗ sTok c fs Finset.univ t ∗ zTok c fz Finset.univ t)
  unfold landed
  iintro ⟨⟨H1, H2⟩, H3⟩
  isplitl [H1]; · iexact H1
  iapply (toks_back c p hp tbl fs fz t)
  isplitl [H2]
  · iexact H2
  · iexact H3

include hp in
/-- ONE GRID POINT: from the result with the rows of the points before gathered, to the same with this point's rows. -/
theorem point_run [∀ e, Nonempty (Elt F e)] (hi : (i 0).val = p) (hr : InRange tbl) (W : Waits sig Unit) :
    iprop(dstAt c (mix tbl fs fz fd p) ∗ srcAt c fs ∗ zeroAt c fz ∗ table c tbl ∗ semVal ((c : Thread nD τ), SemLoc.dma d0) 0 ∗ owes (c : Thread nD τ) 0 W)
      ⊢ wp frame (wpE defs₀ Variants.none (c : Thread nD τ) none) Set.univ
        (cc0_moe_gather_rows (F := F) i (Memref.whole main_arg1) (Memref.isWhole_whole _) (Memref.whole main_v0) (Memref.isWhole_whole _) (Memref.whole main_v1) (Memref.isWhole_whole _) (Memref.whole main_v2) (Memref.isWhole_whole _) cc0_scratch0)
        (fun _ => iprop(dstAt c (mix tbl fs fz fd (p + 1)) ∗ srcAt c fs ∗ zeroAt c fz ∗ table c tbl ∗ semVal ((c : Thread nD τ), SemLoc.dma d0) 0 ∗ ∃ W, owes (c : Thread nD τ) 0 W)) := by
  rw [cc0_moe_gather_rows_eq_skeleton]
  iintro ⟨Hd, Hs, Hz, Ht, Hc, HO⟩
  ihave Hd' := (dst_open c p hp (mix tbl fs fz fd p)) $$ Hd
  icases Hd' with ⟨Hd, Hdrest⟩
  ihave Hs' := (show srcAt c fs ⊢ iprop(srcLeft c fs ∗ bigSep Finset.univ (sTok c fs Finset.univ)) from (Transfers.pointsTo_toks fullShare 256).1) $$ Hs
  icases Hs' with ⟨Hsleft, Hs⟩
  ihave Hz' := (show zeroAt c fz ⊢ iprop(zeroLeft c fz ∗ bigSep Finset.univ (zTok c fz Finset.univ)) from (Transfers.pointsTo_toks fullShare 256).1) $$ Hz
  icases Hz' with ⟨Hzleft, Hz⟩
  ihave Hf := (found_of c p hp fs fz (mix tbl fs fz fd p)) $$ [Hd Hs Hz]
  · isplitl [Hd]; · iexact Hd
    isplitl [Hs]; · iexact Hs
    iexact Hz
  imod (Transfers.batch_alloc' (Lvl := ℕ) (countersEmb (U := Pipeline.UD sig nD τ)) (c : Thread nD τ) () NN (landed c p hp tbl fs fz) (sm := .dma d0) (E := Set.univ)) $$ Hc with HB
  sl_unfold [cc0_moe_gather_rows_skel]
  sl_for (issueAt c p hp tbl fs fz (mix tbl fs fz fd p)) $$ [HB Hf Ht]
  · intro k acc; exact issue_step c p hp tbl fs fz (mix tbl fs fz fd p) i hi hr k acc
  · unfold issueAt
    rw [Ring.rangeSet_univ, Ring.bigSep_rangeSet_empty (le_refl 0)]
    isplitl [HB]; · iexact HB
    isplitl [Hf]; · iexact Hf
    isplitr; · iempintro
    iexact Ht
  iintro %acc HL
  ihave HL' := (show issueAt c p hp tbl fs fz (mix tbl fs fz fd p) k0_t1_loop.trips acc
      ⊢ iprop(batch c p hp tbl fs fz 256 0 ∗ bigSep Finset.univ (kept c p hp tbl fs fz) ∗ table c tbl) from by
    unfold issueAt
    rw [trips1, Ring.rangeSet_univ, Ring.bigSep_rangeSet_empty (le_refl 256)]
    iintro ⟨H1, -, H3, H4⟩
    isplitl [H1]; · iexact H1
    isplitl [H3]; · iexact H3
    iexact H4) $$ HL
  icases HL' with ⟨HB, Hk, Ht⟩
  sl_for (drainAt c p hp tbl fs fz) $$ [HB HO]
  · intro k acc; exact drain_step c p hp tbl fs fz i hi k acc
  · unfold drainAt
    rw [if_pos (by decide)]
    isplitr; · ipureintro; omega
    isplitl [HO]; · iexists _; iexact HO
    rw [Nat.zero_mul]
    iexact HB
  iintro %acc' HL
  ihave HL' := (show drainAt c p hp tbl fs fz k0_t2_loop.trips acc' ⊢ iprop((∃ W, owes (c : Thread nD τ) 0 W) ∗ semVal ((c : Thread nD τ), SemLoc.dma d0) 0 ∗ bigSep Finset.univ (landed c p hp tbl fs fz)) from by
      unfold drainAt; rw [trips2, if_neg (Nat.lt_irrefl _)]; iintro ⟨-, HO, Hc, Hall⟩
      isplitl [HO]; · iexact HO
      isplitl [Hc] <;> iassumption) $$ HL
  icases HL' with ⟨HO, Hc, Hall⟩
  ihave Hb := (landed_back c p hp tbl fs fz) $$ [Hall Hk]
  · isplitl [Hall]; · iexact Hall
    iexact Hk
  icases Hb with ⟨Hd, Hs, Hz⟩
  sl_step
  isplitl [Hd Hdrest]
  · iapply (dst_close c p hp tbl fs fz fd)
    isplitl [Hd]; · iexact Hd
    iexact Hdrest
  isplitl [Hs Hsleft]
  · iapply (show iprop(srcLeft c fs ∗ bigSep Finset.univ (sTok c fs Finset.univ)) ⊢ srcAt c fs from (Transfers.pointsTo_toks fullShare 256).2)
    isplitl [Hsleft]; · iexact Hsleft
    iexact Hs
  isplitl [Hz Hzleft]
  · iapply (show iprop(zeroLeft c fz ∗ bigSep Finset.univ (zTok c fz Finset.univ)) ⊢ zeroAt c fz from (Transfers.pointsTo_toks fullShare 256).2)
    isplitl [Hzleft]; · iexact Hzleft
    iexact Hz
  isplitl [Ht]; · iexact Ht
  isplitl [Hc]; · iexact Hc
  iexact HO

end Point

end Cert.Proof.Gather

end
-- ==== Proof.GatherLaunch.lean ====
/- The gather of rows: the whole program, from the grid points to what the host reads. -/
module

public import proofs.«01_k».proof.Proof.GatherRun

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ (Pipeline.UD sig nD τ) ℕ

section Program

variable (m : (ℓ : Loc nD τ sig) → Buf (Elt F) ℓ)

/-- The buffers when the call starts: the host has laid out the source rows in tiles and made one zero row. -/
abbrev V₀ (c : Dev nD) : Valuation τ sig (Elt F) := StableHlo.after [hostOps0 (F := F)].flatten fun b => m (c, b)

/-- The four arrays the call works on: the table, the source rows, the zero row, the result before the call. -/
abbrev tblOf (c : Dev nD) : S73728.Idx → BitVec 32 := V₀ m c (Proc.devRef .tc main_arg1)
abbrev srcOf (c : Dev nD) : S16384x8x128.Idx → Elt F .bf16 := V₀ m c (Proc.devRef .tc main_v0)
abbrev zeroOf (c : Dev nD) : S1x8x128.Idx → Elt F .bf16 := V₀ m c (Proc.devRef .tc main_v1)
abbrev dstOf (c : Dev nD) : S73728x8x128.Idx → Elt F .bf16 := V₀ m c (Proc.devRef .tc main_v2)

/-- The prefetched table is the call's second argument. -/
abbrev tables : (p : Fin 1) → (pcfgs (F := F) p).Adm :=
  fun _ => ⟨fun k => V₀ m 0 (Proc.devRef .tc (pre0.ref k)), trivial⟩

/-- What the core holds before point `n`: every row of the first `n` blocks gathered, the rest as it was. -/
def inv (c : Dev nD) (n : ℕ) : sProp 𝕄 :=
  iprop(dstAt c (mix (tblOf m c) (srcOf m c) (zeroOf m c) (dstOf m c) n) ∗ srcAt c (srcOf m c) ∗ zeroAt c (zeroOf m c)
    ∗ table c (tblOf m c) ∗ semVal ((c : Thread nD τ), SemLoc.dma d0) 0)

def dats (p : Fin 1) (c : Dev nD) : Dat τ (Elt F) Unit ℕ (Pipeline.UD sig nD τ) ℕ (pin (pcfgs (F := F)) (tables m) p) c where
  A w := w.elim0
  after w := w.elim0
  q w := w.elim0
  Φ t := inv m c t.val
  owed _ := 0

theorem body_point (hr : ∀ c, InRange (tblOf m c)) (c : Dev nD) [∀ e, Nonempty (Elt F e)] :
    BodyObligationLoose (dats m 0 c) (defs₀ (F := F)) Variants.none () Set.univ := by
  intro t
  have ht : t.val < 288 := by
    have := t.isLt
    exact lt_of_lt_of_eq this N_0
  have hi : (grid0.coords t 0).val = t.val := by
    exact (Grid.coords_val (G := grid0) t 0 (S := 1) (B := 288) (by decide) rfl).trans (by omega)
  have key : iprop((dats m 0 c).Φ t.castSucc ∗ (dats m 0 c).owesAt () t.castSucc)
      ⊢ wp frame (wpE (defs₀ (F := F)) Variants.none (c : Thread nD τ) none) Set.univ
          (defs₀ .tc (pin (pcfgs (F := F)) (tables m) 0).body
            ((pin (pcfgs (F := F)) (tables m) 0).bodyArgs t ((pin (pcfgs (F := F)) (tables m) 0).slots t)))
          fun _ => iprop((dats m 0 c).Φ t.succ ∗ (dats m 0 c).owesAt () t.succ) := by
    show iprop(inv m c t.val ∗ _) ⊢ wp frame _ _ _ fun _ => iprop(inv m c (t.val + 1) ∗ _)
    unfold inv Dat.owesAt owesWithin Dat.bound
    iintro ⟨⟨Hd, Hs, Hz, Ht, Hm⟩, %W, -, HW⟩
    iapply (wp_mono _ _ _ (Q := fun _ => iprop(dstAt c (mix (tblOf m c) (srcOf m c) (zeroOf m c) (dstOf m c) (t.val + 1)) ∗ srcAt c (srcOf m c) ∗ zeroAt c (zeroOf m c)
      ∗ table c (tblOf m c) ∗ semVal ((c : Thread nD τ), SemLoc.dma d0) 0 ∗ ∃ W, owes (c : Thread nD τ) 0 W)) fun _ => by
        iintro ⟨Hd, Hs, Hz, Ht, Hm, %W, HW⟩
        isplitl [Hd Hs Hz Ht Hm]
        · iframe Hd Hs Hz Ht Hm
        · iexists W
          isplitr
          · ipureintro; exact fun _ _ => Or.inl trivial
          · iexact HW)
    iapply (point_run c t.val ht (tblOf m c) (srcOf m c) (zeroOf m c) (dstOf m c) (grid0.coords t) hi (hr c) W)
    iframe Hd Hs Hz Ht Hm HW
  iintro ⟨HΦ, HO, -⟩
  iapply (wp_mono _ _ _ (Q := fun _ => iprop((dats m 0 c).Φ t.succ ∗ (dats m 0 c).owesAt () t.succ)) fun _ => by
    iintro ⟨HΦ, HO⟩
    isplitl [HΦ]; · iexact HΦ
    isplitl [HO]; · iexact HO
    iapply (show ∀ Ψ : Fin 0 → sProp 𝕄, (BI.emp : sProp 𝕄) ⊢ bigSep Finset.univ Ψ from fun Ψ => by
      rw [Finset.univ_eq_empty, BI.bigSep_empty])
    iempintro)
  iapply key
  iframe HΦ HO

/-- The one copy semaphore the body drains. -/
abbrev copySem : Fin 1 → SemLoc sig := fun _ => .dma d0

theorem copySem_facts : OwnSemFacts spec0 copySem := by decide

/-- The buffers when the call has run: the result buffer holds the gathered rows, all others are as before. -/
abbrev V₁ (c : Dev nD) : Valuation τ sig (Elt F) :=
  withR (V₀ m c) {main_v2} c fun b => if h : b = main_v2 then h ▸ gath (tblOf m c) (srcOf m c) (zeroOf m c) else V₀ m c (Proc.devRef .tc b)

theorem V₁_dst (c : Dev nD) : V₁ m c (Proc.devRef .tc main_v2) = gath (tblOf m c) (srcOf m c) (zeroOf m c) :=
  (withR_of_mem _ _ c _ main_v2 (Finset.mem_singleton_self _)).trans (dif_pos rfl)

theorem V₁_other (c : Dev nD) (b : Ref sig .tc) (h : b ≠ main_v2) : V₁ m c (Proc.devRef .tc b) = V₀ m c (Proc.devRef .tc b) :=
  withR_of_not_mem _ _ c _ b fun hb => h (Finset.mem_singleton.mp hb)

/-- The buffers at the end: the host gives the result its flat rows. -/
abbrev V₂ (c : Dev nD) : Valuation τ sig (Elt F) := StableHlo.after [hostOps1 (F := F)].flatten (V₁ m c)

theorem mix_all (c : Dev nD) : mix (tblOf m c) (srcOf m c) (zeroOf m c) (dstOf m c) 288 = gath (tblOf m c) (srcOf m c) (zeroOf m c) := by
  funext y
  have h : (y 0).val < 73728 := (y 0).isLt
  exact if_pos (by omega)

theorem mix_none (c : Dev nD) : mix (tblOf m c) (srcOf m c) (zeroOf m c) (dstOf m c) 0 = dstOf m c := by
  funext y
  exact if_neg (by omega)

/-- What the call leaves beside the table, kept while it runs: the host's own buffers. -/
def aside (c : Dev nD) : sProp 𝕄 :=
  iprop(((c : Thread nD τ).loc main_arg0 ↦{fullShare} V₀ m c (Proc.devRef .tc main_arg0))
    ∗ ((c : Thread nD τ).loc main_cst ↦{fullShare} V₀ m c (Proc.devRef .tc main_cst))
    ∗ ((c : Thread nD τ).loc main_v3 ↦{fullShare} V₀ m c (Proc.devRef .tc main_v3)))

theorem enter (c : Dev nD) :
    iprop(unscopedRestP pre0 spec0 c (fun b => V₀ m c (Proc.devRef .tc b)) ∗ ownSems0 copySem c)
      ⊢ (iprop((dstAt c (dstOf m c) ∗ srcAt c (srcOf m c) ∗ zeroAt c (zeroOf m c) ∗ semVal ((c : Thread nD τ), SemLoc.dma d0) 0) ∗ aside m c) : sProp 𝕄) := by
  rw [unscopedRestP0_eq]
  unfold aside ownSems0
  rw [show (Finset.univ : Finset (Fin 1)) = {0} from rfl, BI.bigSep_singleton]
  iintro ⟨⟨H0, H1, H2, H3, H4, H5⟩, Hm⟩
  isplitl [H1 H3 H4 Hm]
  · isplitl [H4]; · iexact H4
    isplitl [H1]; · iexact H1
    isplitl [H3]; · iexact H3
    iexact Hm
  · isplitl [H0]; · iexact H0
    isplitl [H2]; · iexact H2
    iexact H5

theorem leave (c : Dev nD) :
    (iprop(dstAt c (gath (tblOf m c) (srcOf m c) (zeroOf m c)) ∗ srcAt c (srcOf m c) ∗ zeroAt c (zeroOf m c) ∗ aside m c) : sProp 𝕄)
      ⊢ unscopedRestP pre0 spec0 c (fun b => V₁ m c (Proc.devRef .tc b)) := by
  rw [unscopedRestP0_eq, V₁_dst, V₁_other m c main_arg0 (by decide), V₁_other m c main_v0 (by decide), V₁_other m c main_cst (by decide),
    V₁_other m c main_v1 (by decide), V₁_other m c main_v3 (by decide)]
  unfold aside
  iintro ⟨H4, H1, H3, H0, H2, H5⟩
  isplitl [H0]; · iexact H0
  isplitl [H1]; · iexact H1
  isplitl [H2]; · iexact H2
  isplitl [H3]; · iexact H3
  isplitl [H4]; · iexact H4
  iexact H5

theorem tail_sub : ∀ ops ∈ [hostOps1 (F := F)], ∀ op ∈ ops, op.bufs ⊆ tailRefs (τ := τ) sig pre0 spec0 := by
  intro ops h op ho
  obtain rfl := List.mem_singleton.mp h
  obtain rfl := List.mem_singleton.mp ho
  refine sub_tailRefs pre0 spec0 _ (StableHlo.reshape_bufs_sub ..) fun k => ?_
  obtain rfl := Subsingleton.elim k (0 : Fin 1)
  show Proc.devRef (τ := τ) .tc main_arg1 ∉ ({Proc.devRef .tc main_v2, Proc.devRef .tc main_v3} : Finset (DevRef τ sig))
  decide

theorem tail_fresh : ∀ ops ∈ [hostOps1 (F := F)], ∀ op ∈ ops, op.fresh = ∅ := by
  intro ops h op ho
  obtain rfl := List.mem_singleton.mp h
  obtain rfl := List.mem_singleton.mp ho
  rfl

theorem no_arrays (c : Dev nD) (A) : (dats m 0 c).arrays A = (BI.emp : sProp 𝕄) := by
  unfold Dat.arrays
  exact BI.bigSep_empty

theorem no_bufs (c : Dev nD) (V) : (arrBufs spec0 c V : sProp 𝕄) = BI.emp := BI.bigSep_empty

/-- Every run of the program ends, with the table as it was, every other host buffer as the host and the gather leave it,
    and every semaphore at zero. -/
theorem run_main [∀ e, Nonempty (Elt F e)] (ρ : Dev nD → PrngReg) (hr : ∀ c, InRange (tblOf m c)) :
    θ_run (defs (F := F)) (onTc main) ⟨m, fun _ => 0, ρ⟩ fun r =>
      (∀ c : Dev nD, r.2.mem ((c : Thread nD τ).loc main_arg1) = V₀ m c (Proc.devRef .tc main_arg1)
        ∧ ∀ b ∈ restRefsP sig pre0 spec0, r.2.mem ((c : Thread nD τ).loc b) = V₂ m c (Proc.devRef .tc b))
      ∧ r.2.sem = fun _ => 0 := by
  classical
  refine θ_run_region_pf_tail'_quiescent (pcfgs (F := F)) (tables m) (dats m) () (launch0.cellOf_inj (tables m)) 0 (launch0 (F := F)).to₀.win
    copySem_facts (launch0 (F := F)).pre embL (defs₀ (F := F)) Variants.none m ρ main (fun _ => chain ([hostOps1 (F := F)].map StableHlo.seq))
    (fun c => body_point m hr c) (launch0 (F := F)).block_pos (launch0 (F := F)).arr_whole (launch0 (F := F)).stage_whole (fun _ _ => rfl)
    (G := fun _ => iprop(emp)) (u₀ := (initOf (cells (pin (pcfgs (F := F)) (tables m)) (launch0.cellOf_inj (tables m))) (launchToks (pin (pcfgs (F := F)) (tables m)) (launch0.cellOf_inj (tables m))), 1))
    (hu₀ := ?_) (V := fun c b => V₀ m c (Proc.devRef .tc b))
    (hmain := hmainP_around (pcfgs (F := F)) 0 (defs₀ (F := F)) Variants.none m main [hostOps0 (F := F)] [hostOps1 (F := F)]
      (show List.Forall _ [hostOps0 (F := F)] from hostOps0_sub) (show List.Forall _ [hostOps0 (F := F)] from ⟨rfl, rfl, rfl⟩) fun c => main_chain c)
    (hsplit := ?_) (hpf := ?_)
    (X := fun c => iprop(dstAt c (dstOf m c) ∗ srcAt c (srcOf m c) ∗ zeroAt c (zeroOf m c) ∗ semVal ((c : Thread nD τ), SemLoc.dma d0) 0))
    (Y := fun c => iprop(dstAt c (gath (tblOf m c) (srcOf m c) (zeroOf m c)) ∗ srcAt c (srcOf m c) ∗ zeroAt c (zeroOf m c)))
    (Z := fun c => aside m c) (Y' := fun _ => iprop(emp))
    (Z' := fun c => unscopedRestP pre0 spec0 c (fun b => V₂ m c (Proc.devRef .tc b)))
    (hX := ?_) (hin := ?_) (hout := ?_) (htail := ?_)
    (QY := fun c s => ∀ b ∈ restRefsP sig pre0 spec0, s.mem ((c : Thread nD τ).loc b) = V₂ m c (Proc.devRef .tc b))
    (hY := ?_) (hQ := ?_)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · intro c
    exact (Entails.of_eq (no_bufs c _)).trans (Entails.of_eq (no_arrays m c _).symm)
  · intro c k
    obtain rfl := Subsingleton.elim c 0
    rfl
  · intro c
    iintro ⟨HU, Ho, -, -, -⟩
    imodintro
    iapply (enter m c)
    isplitl [HU]; · iexact HU
    iexact Ho
  · intro c
    obtain rfl := Subsingleton.elim c 0
    show _ ⊢ inv m 0 0
    unfold inv prefHeld
    rw [show (Finset.univ : Finset (Fin 1)) = {0} from rfl, BI.bigSep_singleton, mix_none]
    iintro ⟨⟨Hd, Hs, Hz, Hm⟩, Ht, -⟩
    isplitl [Hd]; · iexact Hd
    isplitl [Hs]; · iexact Hs
    isplitl [Hz]; · iexact Hz
    isplitl [Ht]; · iexact Ht
    iexact Hm
  · intro c
    show inv m c (Fin.last grid0.N).val ⊢ _
    rw [Fin.val_last, N_0]
    unfold inv ownSems0
    rw [show (Finset.univ : Finset (Fin 1)) = {0} from rfl, BI.bigSep_singleton, mix_all]
    iintro ⟨Hd, Hs, Hz, -, Hm⟩
    isplitl [Hd Hs Hz]
    · isplitl [Hd]; · iexact Hd
      isplitl [Hs]; · iexact Hs
      iexact Hz
    · isplitl [Hm]; · iexact Hm
      iapply (show (BI.emp : sProp 𝕄) ⊢ scopedRest spec0 c from Entails.of_eq (scopedRest0_eq c).symm)
      iempintro
  · intro c Q'
    iintro ⟨Hk, Hb, -, ⟨Hd, Hs, Hz⟩, Ha⟩
    ihave Hu := (leave m c) $$ [Hd Hs Hz Ha]
    · iframe Hd Hs Hz Ha
    rw [← List.append_nil (List.map StableHlo.seq [hostOps1 (F := F)])]
    iapply (wp_seqs_then (pcfgs (F := F)) (defs₀ (F := F)) Variants.none c (tailRefs sig pre0 spec0) [] [hostOps1 (F := F)] tail_sub tail_fresh (V₁ m c)) $$ [Hb Hu]
    · isplitl [Hb]; · iexact Hb
      rw [held_tailRefs_bufs pre0 spec0 c, no_bufs]
      isplitr; · iempintro
      iexact Hu
    · rw [chain_nil, wp_pure, held_tailRefs_bufs pre0 spec0 c]
      iintro ⟨Hb, -, Hu⟩
      imodintro
      iapply Hk
      isplitl [Hb]; · iexact Hb
      isplitr
      · iapply (Entails.of_eq (no_arrays m c _).symm); iempintro
      isplitr; · iempintro
      iexact Hu
  · intro c s'
    unfold unscopedRestP
    iintro ⟨-, HZ, HSI⟩
    ihave H := (pointsTo_read_all (restRefsP sig pre0 spec0) (fun b => (c : Thread nD τ).loc b) (fun b => V₂ m c (Proc.devRef .tc b)) s') $$ [HZ HSI]
    · isplitl [HZ]; · iexact HZ
      iexact HSI
    icases H with ⟨%hZ, HSI⟩
    imodintro
    isplitr
    · ipureintro; exact hZ
    · iexact HSI
  · intro s h hz
    refine ⟨fun c => ⟨?_, (h c).2.2⟩, hz⟩
    obtain rfl := Subsingleton.elim c 0
    exact (h 0).2.1 0

end Program

end Cert.Proof.Gather
-- ==== Proof.GatherValue.lean ====
/- The gather of rows: what the result holds, of the kernel and of the reference, over any floats. -/
module

public import proofs.«01_k».proof.Proof.GatherLaunch
public import proofs.«01_k».proof.Proof.Gen.ReferenceIdeal.Run
public import proofs.«01_k».proof.Proof.Gen.Pre_row_tok_in_range
public import Idealize.ShloMosaic.Lib.Routing.Ops

@[expose] public section

noncomputable section

namespace Cert.Proof.Gather

open Cert.KernelIdeal Cert.KernelIdeal.Gen
open Idealize.ShloMosaic Idealize.ShloMosaic.TcCoe Idealize.SL.Sem Idealize.ShloMosaic.StableHlo
open Idealize.ShloMosaic.Pipeline Idealize.ShloMosaic.ValueIdx

variable {F : FTy → Type} [FloatOps F]

/-- The rows of `x` that `tbl` names, one after another; a number past the last row names a row of zeros. -/
def rowsOf (x : S16384x1024.Idx → Elt F .bf16) (tbl : S73728.Idx → BitVec 32) : S73728x1024.Idx → Elt F .bf16 := fun y =>
  if h : (tbl (tblIx (y 0))).toNat < 16384 then x (ix2 ⟨(tbl (tblIx (y 0))).toNat, h⟩ (y 1)) else FloatOps.ofBits .bf16 0x0000#16

section Kernel

variable (m : (ℓ : Loc nD τ sig) → Buf (Elt F) ℓ) (c : Dev nD)

theorem V₀_arg0 : V₀ m c (Proc.devRef .tc main_arg0) = m ((c : Thread nD τ).loc main_arg0) := by
  show StableHlo.after (hostOps0 (F := F)) (fun b => m (c, b)) _ = _
  after_results <;> rfl
theorem V₀_arg1 : V₀ m c (Proc.devRef .tc main_arg1) = m ((c : Thread nD τ).loc main_arg1) := by
  show StableHlo.after (hostOps0 (F := F)) (fun b => m (c, b)) _ = _
  after_results <;> rfl
theorem V₀_v0 : V₀ m c (Proc.devRef .tc main_v0)
    = shapeCast S16384x8x128 (m ((c : Thread nD τ).loc main_arg0)) shapeCasts_S16384x1024_S16384x8x128 := by
  show StableHlo.after (hostOps0 (F := F)) (fun b => m (c, b)) _ = _
  after_results <;> rfl
theorem V₀_v1 : V₀ m c (Proc.devRef .tc main_v1) = broadcastInDim S1x8x128 ![] bcast_S_S1x8x128 (constant (F := F) S_ .bf16 0x0000#16) := by
  show StableHlo.after (hostOps0 (F := F)) (fun b => m (c, b)) _ = _
  after_results <;> rfl
theorem V₂_v3 : V₂ m c (Proc.devRef .tc main_v3)
    = shapeCast S73728x1024 (V₁ m c (Proc.devRef .tc main_v2)) shapeCasts_S73728x8x128_S73728x1024 := by
  show StableHlo.after (hostOps1 (F := F)) (V₁ m c) _ = _
  after_results <;> rfl
theorem V₂_arg0 : V₂ m c (Proc.devRef .tc main_arg0) = V₁ m c (Proc.devRef .tc main_arg0) := by
  show StableHlo.after (hostOps1 (F := F)) (V₁ m c) _ = _
  after_results <;> rfl

theorem flat_ix (h : S73728x1024.numel = S73728x8x128.numel) (r : Fin 73728) (j : Fin 1024) (a : Fin 8) (b : Fin 128) (e : j.val = a.val * 128 + b.val) :
    Shape.reshapeEquiv h (ix2 (n0 := 73728) (n1 := 1024) r j) = ix3 (n0 := 73728) (n1 := 8) (n2 := 128) r a b :=
  Shape.reshapeEquiv_eq_of_rowMajor h (by
    rw [Shape.rowMajor_val_three, Shape.rowMajor_val_two]
    show (r.val * 8 + a.val) * 128 + b.val = r.val * 1024 + j.val
    omega)

theorem tile_ix (h : S16384x8x128.numel = S16384x1024.numel) (r : Fin 16384) (a : Fin 8) (b : Fin 128) (j : Fin 1024) (e : j.val = a.val * 128 + b.val) :
    Shape.reshapeEquiv h (ix3 (n0 := 16384) (n1 := 8) (n2 := 128) r a b) = ix2 (n0 := 16384) (n1 := 1024) r j :=
  Shape.reshapeEquiv_eq_of_rowMajor h (by
    rw [Shape.rowMajor_val_three, Shape.rowMajor_val_two]
    show r.val * 1024 + j.val = (r.val * 8 + a.val) * 128 + b.val
    omega)

theorem srcIx_eq (r : Fin 16384) (n : Fin 73728) (a : Fin 8) (b : Fin 128) :
    srcIx r (ix3 (n0 := 73728) (n1 := 8) (n2 := 128) n a b) = ix3 (n0 := 16384) (n1 := 8) (n2 := 128) r a b := by
  funext k
  match k with
  | ⟨0, _⟩ => rfl
  | ⟨1, _⟩ => rfl
  | ⟨2, _⟩ => rfl

/-- The kernel's result: the rows of the first argument that the second names. -/
theorem kernel_value : V₂ m c (Proc.devRef .tc main_v3)
    = rowsOf (m ((c : Thread nD τ).loc main_arg0)) (m ((c : Thread nD τ).loc main_arg1)) := by
  rw [V₂_v3, V₁_dst]
  have key : ∀ (r : Fin 73728) (j : Fin 1024),
      shapeCast S73728x1024 (gath (tblOf m c) (srcOf m c) (zeroOf m c)) shapeCasts_S73728x8x128_S73728x1024 (ix2 r j)
        = rowsOf (m ((c : Thread nD τ).loc main_arg0)) (m ((c : Thread nD τ).loc main_arg1)) (ix2 r j) := by
    intro r j
    have ej : j.val = (⟨j.val / 128, by omega⟩ : Fin 8).val * 128 + (⟨j.val % 128, by omega⟩ : Fin 128).val := by
      show j.val = j.val / 128 * 128 + j.val % 128
      omega
    unfold shapeCast
    rw [flat_ix _ r j _ _ ej]
    unfold gath rowsOf
    rw [show tblOf m c = m ((c : Thread nD τ).loc main_arg1) from V₀_arg1 m c]
    show (if h : (m ((c : Thread nD τ).loc main_arg1) (tblIx r)).toNat < 16384 then srcOf m c (srcIx ⟨_, h⟩ _) else _)
      = (if h : (m ((c : Thread nD τ).loc main_arg1) (tblIx r)).toNat < 16384 then m ((c : Thread nD τ).loc main_arg0) (ix2 ⟨_, h⟩ j) else _)
    split
    · rw [srcIx_eq, show srcOf m c = _ from V₀_v0 m c]
      unfold shapeCast
      rw [tile_ix _ _ _ _ j ej]
    · rw [show zeroOf m c = _ from V₀_v1 m c]
      rfl
  funext y
  rw [eq_ix2 y]
  exact key (y 0) (y 1)

theorem kernel_arg0 : V₂ m c (Proc.devRef .tc main_arg0) = m ((c : Thread nD τ).loc main_arg0) :=
  (V₂_arg0 m c).trans ((V₁_other m c main_arg0 (by decide)).trans (V₀_arg0 m c))

end Kernel

/-- What a run of the kernel ends with: the rows named, the arguments as they were, every semaphore at zero. -/
theorem run_value [∀ e, Nonempty (Elt F e)] (m : (ℓ : Loc nD τ sig) → Buf (Elt F) ℓ) (ρ : Dev nD → PrngReg)
    (hr : ∀ c : Dev nD, InRange (m ((c : Thread nD τ).loc main_arg1))) :
    θ_run (defs (F := F)) (onTc main) ⟨m, fun _ => 0, ρ⟩ fun r =>
      (∀ c : Dev nD, r.2.mem ((c : Thread nD τ).loc main_v3) = rowsOf (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run _ _ _).mono (fun r h => ⟨fun c => ⟨((h.1 c).2 main_v3 (by decide)).trans (kernel_value m c),
      ((h.1 c).2 main_arg0 (by decide)).trans (kernel_arg0 m c), (h.1 c).1.trans (V₀_arg1 m c)⟩, h.2⟩)
    (run_main m ρ fun c => by rw [show tblOf m c = _ from V₀_arg1 m c]; exact hr c)

/-- The precondition in the words of the proof: as naturals the row numbers are at most 16384. -/
theorem range_of_pre (x : S16384x1024.Idx → Elt F .bf16) (t : S73728.Idx → BitVec 32)
    (h : Cert.Pre_row_tok_in_range.fn (F := F) x t = fun _ => 1#1) : InRange t := by
  intro i
  have e := congrFun h i
  have e' : (IntOp.cmpi .sge (t i) 0#32 &&& IntOp.cmpi .sle (t i) 16384#32) = 1#1 := e
  revert e'
  generalize t i = v
  intro e'
  have h0 : (0#32).sle v = true := by
    by_contra hn
    simp [IntOp.cmpi, Bool.eq_false_of_not_eq_true hn] at e'
  have h1 : v.sle 16384#32 = true := by
    by_contra hn
    simp [IntOp.cmpi, Bool.eq_false_of_not_eq_true hn] at e'
  simp only [BitVec.sle, decide_eq_true_eq, BitVec.toInt_eq_toNat_cond] at h0 h1
  have := v.isLt
  simp at h0 h1
  split at h0 <;> omega

/-- The reference's result: its select and its clamp never act on a row number in range, and row 16384 of the
    concatenation is the row of zeros. -/
theorem reference_value (x : S16384x1024.Idx → Elt F .bf16) (t : S73728.Idx → BitVec 32) (hr : InRange t) :
    Host.gather Cert.ReferenceIdeal.gather_S16385x1024_S73728x1_S73728x1024_1_0_n_n_0_1_11024
      (concatenate Cert.ReferenceIdeal.S16385x1024 0 [⟨S16384x1024, x⟩, ⟨Cert.ReferenceIdeal.S1x1024, broadcastInDim Cert.ReferenceIdeal.S1x1024 ![] Cert.ReferenceIdeal.Gen.bcast_S_S1x1024 (constant (F := F) S_ .bf16 0x0000#16)⟩]
        Cert.ReferenceIdeal.Gen.concatenates_S16384x1024_S1x1024_S16385x1024_d0)
      (broadcastInDim Cert.ReferenceIdeal.S73728x1 ![0] Cert.ReferenceIdeal.Gen.bcast_S73728_S73728x1_0
        (select (cmpi .slt t (broadcastInDim S73728 ![] Cert.ReferenceIdeal.Gen.bcast_S_S73728 (constantI S_ 32 0#32)))
          (addi t (broadcastInDim S73728 ![] Cert.ReferenceIdeal.Gen.bcast_S_S73728 (constantI S_ 32 16385#32))) t))
      = rowsOf x t := by
  funext y
  obtain ⟨r, j, rfl⟩ : ∃ (r : Fin 73728) (j : Fin 1024), y = ix2 r j := ⟨y 0, y 1, eq_ix2 y⟩
  have hb : (t (tblIx r)).toNat < 16385 := by have := hr (tblIx r); omega
  refine (Routing.gather_row (nb := 16385) (B := 1024) (n := 73728) _ rfl rfl rfl rfl rfl _ _ r j ⟨(t (tblIx r)).toNat, hb⟩ ?_ (by decide)).trans ?_
  · refine (broadcastInDim_apply _ _ _ _ (tblIx r) fun a => by
      match a with
      | ⟨0, _⟩ => rfl).trans ?_
    show (if IntOp.cmpi .slt (t (tblIx r)) 0#32 = 1#1 then _ else t (tblIx r)) = _
    rw [if_neg]
    · exact BitVec.eq_of_toNat_eq (by simp)
    · show ¬ BitVec.ofBool ((t (tblIx r)).slt 0#32) = 1#1
      have h16 := hr (tblIx r)
      have hs : (t (tblIx r)).slt 0#32 = false := by
        rw [BitVec.slt, decide_eq_false_iff_not, BitVec.toInt_eq_toNat_of_lt (by omega)]
        simp
      rw [hs]
      decide
  · unfold rowsOf
    show _ = (if h : (t (tblIx r)).toNat < 16384 then x (ix2 ⟨_, h⟩ j) else _)
    split
    · rename_i h
      exact concatenate_pair_apply_left (t := Cert.ReferenceIdeal.S16385x1024) 0 x _ _ (ix2 (n0 := 16385) (n1 := 1024) ⟨(t (tblIx r)).toNat, hb⟩ j) rfl (ix2 ⟨(t (tblIx r)).toNat, h⟩ j) (fun b => by
        match b with
        | ⟨0, _⟩ => rfl
        | ⟨1, _⟩ => rfl)
    · rename_i h
      refine (concatenate_pair_apply_right (t := Cert.ReferenceIdeal.S16385x1024) (s₂ := Cert.ReferenceIdeal.S1x1024) 0 x _ _ (ix2 (n0 := 16385) (n1 := 1024) ⟨(t (tblIx r)).toNat, hb⟩ j) rfl rfl (ix2 (n0 := 1) (n1 := 1024) (0 : Fin 1) j) (fun b hb => by
        match b with
        | ⟨0, _⟩ => exact absurd rfl hb
        | ⟨1, _⟩ => rfl) ?_).trans rfl
      show 0 + 16384 = (t (tblIx r)).toNat
      omega

end Cert.Proof.Gather
-- ==== Proof.GatherClaims.lean ====
/- The gather of rows: the claims. -/
module

public import proofs.«01_k».proof.Defs
public import proofs.«01_k».proof.Proof.Gen.Kernel
public import proofs.«01_k».proof.Proof.Gen.Reference
public import proofs.«01_k».proof.Proof.Gen.Reference.Run
public import proofs.«01_k».proof.Proof.GatherValue

@[expose] public section

noncomputable section

namespace Cert.Proof.Gather

open Idealize.ShloMosaic Idealize.ShloMosaic.TcCoe Idealize.SL.Sem

theorem frame_kernel : Cert.quiescent_Kernel := fun m ρ hp =>
  (θ_run Cert.KernelIdeal.defs _ _).mono (fun _ h => ⟨fun c => (h.1 c).2, h.2⟩)
    (run_value (F := Bits) m ρ fun c => range_of_pre _ _ (hp c))

theorem frame_ideal : Cert.quiescent_KernelIdeal := fun m ρ hp =>
  (θ_run Cert.KernelIdeal.defs _ _).mono (fun _ h => ⟨fun c => (h.1 c).2, h.2⟩)
    (run_value (F := Ideal) m ρ fun c => range_of_pre _ _ (hp c))

theorem frame_reference_ideal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_reference_ideal_pre : Cert.quiescent_ReferenceIdeal_pre_row_tok_in_range := fun m ρ _ =>
  frame_reference_ideal m ρ trivial

theorem frame_reference : Cert.quiescent_Reference := fun m ρ _ =>
  (θ_run Cert.ReferenceIdeal.defs _ _).mono (fun r h => ⟨fun c => (h c).2, sem_eq_zero_of_no_sems rfl r.2⟩)
    (Cert.ReferenceIdeal.Value.run (F := Bits) m ρ)

theorem algebraic : Cert.algebraic_KernelIdeal_ReferenceIdeal := by
  intro m ρ m' ρ' hp hm
  have hr := fun c => range_of_pre _ _ (hp c)
  refine ⟨fun c => rowsOf (F := Ideal) (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · exact (θ_run Cert.KernelIdeal.defs _ _).mono (fun _ h c => h.1 c) (run_value (F := Ideal) m ρ hr)
  · refine (θ_run Cert.ReferenceIdeal.defs _ _).mono (fun _ h c => ⟨(h c).1.trans ?_, (h c).2⟩) (Cert.ReferenceIdeal.Value.run (F := Ideal) m' ρ')
    exact (reference_value (F := Ideal) _ _ ((congrArg InRange (hm c).2).mpr (hr c))).trans (congrArg₂ (rowsOf (F := Ideal)) (hm c).1 (hm c).2)

theorem bitexact : Cert.bitexact_Kernel_Reference := by
  intro m ρ m' ρ' hp hm
  have hr := fun c => range_of_pre _ _ (hp c)
  refine ⟨fun c => rowsOf (F := Bits) (m ((c : Thread Cert.Kernel.nD Cert.Kernel.τ).loc Cert.Kernel.main_arg0))
    (m ((c : Thread Cert.Kernel.nD Cert.Kernel.τ).loc Cert.Kernel.main_arg1)), ?_, ?_⟩
  · exact (θ_run Cert.KernelIdeal.defs _ _).mono (fun _ h c => h.1 c) (run_value (F := Bits) m ρ hr)
  · refine (θ_run Cert.ReferenceIdeal.defs _ _).mono (fun _ h c => ⟨(h c).1.trans ?_, (h c).2⟩) (Cert.ReferenceIdeal.Value.run (F := Bits) m' ρ')
    exact (reference_value (F := Bits) _ _ ((congrArg InRange (hm c).2).mpr (hr c))).trans (congrArg₂ (rowsOf (F := Bits)) (hm c).1 (hm c).2)

end Cert.Proof.Gather
-- ==== Proof.ExpertsTable.lean ====
/- The experts: the table of experts, and what it says of the blocks. -/
module

public import proofs.«01_k».proof.Proof.Gen.ExpertsIdeal.Frame
public import proofs.«01_k».proof.Proof.Gen.Pre_blk_e_in_range
public import proofs.«01_k».proof.Pre_blk_e_in_range
public import Idealize.ShloMosaic.Lib.Routing.Ops

@[expose] public section

noncomputable section

namespace Cert.Proof.Experts

open Idealize.ShloMosaic Idealize.ShloMosaic.TcCoe Idealize.SL.Sem
open Idealize.ShloMosaic.ValueIdx
open Cert.ExpertsIdeal

variable {F : FTy → Type} [FloatOps F]

/-- The precondition in the words of the proof: as naturals the experts' numbers are below 32. -/
def InRange (t : S288.Idx → BitVec 32) : Prop := ∀ i, (t i).toNat < 32

theorem range_of_pre (a0 : S73728x1024.Idx → Elt F .bf16) (t : S288.Idx → BitVec 32) (a2 : S32x1024x2048.Idx → Elt F .f32)
    (a3 : S32x2048.Idx → Elt F .f32) (a4 : S32x1024x1024.Idx → Elt F .f32) (a5 : S32x1024.Idx → Elt F .f32) (a6 : S73728.Idx → Elt F .f32)
    (h : Cert.Pre_blk_e_in_range.fn (F := F) a0 t a2 a3 a4 a5 a6 = fun _ => 1#1) : InRange t := by
  intro i
  have e := congrFun h i
  have e' : (IntOp.cmpi .sge (t i) 0#32 &&& IntOp.cmpi .slt (t i) 32#32) = 1#1 := e
  revert e'
  generalize t i = v
  intro e'
  have h0 : (0#32).sle v = true := by
    by_contra hn
    simp [IntOp.cmpi, Bool.eq_false_of_not_eq_true hn] at e'
  have h1 : v.slt 32#32 = true := by
    by_contra hn
    simp [IntOp.cmpi, Bool.eq_false_of_not_eq_true hn] at e'
  simp only [BitVec.sle, BitVec.slt, decide_eq_true_eq, BitVec.toInt_eq_toNat_cond] at h0 h1
  have := v.isLt
  simp at h0 h1
  split at h0 <;> omega

/-- The word an index map reads at point `i` is the table's entry `i`. -/
theorem at_eq (pf : pre0.Contents (Elt F)) (i : grid0.Coords) (off : Fin 1 → Nat) (ho : off 0 = (i 0).val) (h) (h1) :
    pf.at 0 (Rect.unit (s := S288) off S1.size h) h1 = (pf 0 : S288.Idx → BitVec 32) (ix1 (n := 288) (i 0)) := by
  refine congrArg (pf 0 : S288.Idx → BitVec 32) (funext fun a => Fin.ext ?_)
  match a with
  | ⟨0, _⟩ => exact (show off 0 + 1 * 0 = (i 0).val by omega)

theorem word_eq (i : grid0.Coords) : (Scalar.indexCast (BitVec.ofNat 32 (i 0).val) : Index).toNat = (i 0).val := by
  have := congrFun (Gen.k0_off1_eq i) 0
  exact this

theorem transform_1_eq (pf : pre0.Contents (Elt F)) (i : grid0.Coords) (h) (h1) :
    cc0_transform_1 h h1 pf i = ![((pf 0 : S288.Idx → BitVec 32) (ix1 (n := 288) (i 0))).toNat, 0, 0] := by
  exact congrArg (fun v : BitVec 32 => ![v.toNat, 0, 0]) (at_eq pf i _ (word_eq i) (h i) h1)

theorem transform_2_eq (pf : pre0.Contents (Elt F)) (i : grid0.Coords) (h) (h1) :
    cc0_transform_2 h h1 pf i = ![((pf 0 : S288.Idx → BitVec 32) (ix1 (n := 288) (i 0))).toNat, 0, 0] := transform_1_eq pf i h h1

theorem transform_3_eq (pf : pre0.Contents (Elt F)) (i : grid0.Coords) (h) (h1) :
    cc0_transform_3 h h1 pf i = ![((pf 0 : S288.Idx → BitVec 32) (ix1 (n := 288) (i 0))).toNat, 0, 0] := transform_1_eq pf i h h1

theorem transform_4_eq (pf : pre0.Contents (Elt F)) (i : grid0.Coords) (h) (h1) :
    cc0_transform_4 h h1 pf i = ![((pf 0 : S288.Idx → BitVec 32) (ix1 (n := 288) (i 0))).toNat, 0, 0] := transform_1_eq pf i h h1

theorem ok_of_range (pf : pre0.Contents (Elt F)) (hr : InRange (pf 0)) : ok0 (F := F) pf := by
  unfold ok0
  refine ⟨fun i => ?_, fun i => ?_, fun i => ?_, fun i => ?_⟩
  · have hb := hr (ix1 (n := 288) (i 0))
    refine ⟨fun a => ?_, .inr ?_⟩
    · rw [transform_1_eq]
      match a with
      | ⟨0, _⟩ => exact (show (((pf 0 : S288.Idx → BitVec 32) (ix1 (n := 288) (i 0))).toNat + 1) * 1 ≤ 32 by omega)
      | ⟨1, _⟩ => exact (show (0 + 1) * 1024 ≤ 1024 by decide)
      | ⟨2, _⟩ => exact (show (0 + 1) * 2048 ≤ 2048 by decide)
    · exact Affine.block_words_dvd (of_decide_eq_true rfl) (by decide)
  · have hb := hr (ix1 (n := 288) (i 0))
    refine ⟨fun a => ?_, .inl rfl⟩
    rw [transform_2_eq]
    match a with
    | ⟨0, _⟩ => exact (show (((pf 0 : S288.Idx → BitVec 32) (ix1 (n := 288) (i 0))).toNat + 1) * 1 ≤ 32 by omega)
    | ⟨1, _⟩ => exact (show (0 + 1) * 1 ≤ 1 by decide)
    | ⟨2, _⟩ => exact (show (0 + 1) * 2048 ≤ 2048 by decide)
  · have hb := hr (ix1 (n := 288) (i 0))
    refine ⟨fun a => ?_, .inr ?_⟩
    · rw [transform_3_eq]
      match a with
      | ⟨0, _⟩ => exact (show (((pf 0 : S288.Idx → BitVec 32) (ix1 (n := 288) (i 0))).toNat + 1) * 1 ≤ 32 by omega)
      | ⟨1, _⟩ => exact (show (0 + 1) * 1024 ≤ 1024 by decide)
      | ⟨2, _⟩ => exact (show (0 + 1) * 1024 ≤ 1024 by decide)
    · exact Affine.block_words_dvd (of_decide_eq_true rfl) (by decide)
  · have hb := hr (ix1 (n := 288) (i 0))
    refine ⟨fun a => ?_, .inl rfl⟩
    rw [transform_4_eq]
    match a with
    | ⟨0, _⟩ => exact (show (((pf 0 : S288.Idx → BitVec 32) (ix1 (n := 288) (i 0))).toNat + 1) * 1 ≤ 32 by omega)
    | ⟨1, _⟩ => exact (show (0 + 1) * 1 ≤ 1 by decide)
    | ⟨2, _⟩ => exact (show (0 + 1) * 1024 ≤ 1024 by decide)

end Cert.Proof.Experts

end
-- ==== Proof.ExpertsSpec.lean ====
/- The experts: what is computed, entry by entry, in the extended reals. -/
module

public import proofs.«01_k».proof.Proof.ExpertsTable
public import Idealize.ShloMosaic.Lib.Pointwise

@[expose] public section

noncomputable section

namespace Cert.Proof.Experts

open Idealize.ShloMosaic
open Cert.ExpertsIdeal

/-- The expert of row `r`: rows go to experts in blocks of 256, and the table names each block's expert. -/
def expertOf (t : S288.Idx → BitVec 32) (r : Fin 73728) : Fin 32 :=
  ⟨(t (Idealize.ShloMosaic.ix1 (n0 := 288) ⟨r.val / 256, by omega⟩)).toNat % 32, Nat.mod_lt _ (by decide)⟩

/-- The clamped, gated product of one gate column's value `a` and one linear column's value `b`. -/
def gated (a b : EReal) : EReal :=
  min a (Ideal.ofBits FTy.f32 1088421888#32) * Ideal.logistic (Ideal.ofBits FTy.f32 1071242019#32 * min a (Ideal.ofBits FTy.f32 1088421888#32))
    * (min (Ideal.ofBits FTy.f32 1088421888#32) (max (Ideal.ofBits FTy.f32 3235905536#32) b) + 1)

/-- Entry `k` of row `r`'s product with its expert's first matrix, with the bias. -/
def guOf (x : Vec Ideal S73728x1024 .bf16) (t : S288.Idx → BitVec 32) (w : Vec Ideal S32x1024x2048 .f32) (b : Vec Ideal S32x2048 .f32)
    (r : Fin 73728) (k : Fin 2048) : EReal :=
  ∑ c : Fin 1024, x (Idealize.ShloMosaic.ix2 r c) * w (Idealize.ShloMosaic.ix3 (expertOf t r) c k) + b (Idealize.ShloMosaic.ix2 (expertOf t r) k)

/-- Entry `j` of row `r`'s activation: even columns are the gates, odd columns the linear part. -/
def actOf (x : Vec Ideal S73728x1024 .bf16) (t : S288.Idx → BitVec 32) (w : Vec Ideal S32x1024x2048 .f32) (b : Vec Ideal S32x2048 .f32)
    (r : Fin 73728) (j : Fin 1024) : EReal :=
  gated (guOf x t w b r ⟨2 * j.val, by omega⟩) (guOf x t w b r ⟨1 + 2 * j.val, by omega⟩)

/-- Entry `q` of row `r` of the result. -/
def entryOf (x : Vec Ideal S73728x1024 .bf16) (t : S288.Idx → BitVec 32) (w : Vec Ideal S32x1024x2048 .f32) (b : Vec Ideal S32x2048 .f32)
    (wd : Vec Ideal S32x1024x1024 .f32) (bd : Vec Ideal S32x1024 .f32) (g : Vec Ideal S73728 .f32) (r : Fin 73728) (q : Fin 1024) : EReal :=
  (∑ j : Fin 1024, actOf x t w b r j * wd (Idealize.ShloMosaic.ix3 (expertOf t r) j q) + bd (Idealize.ShloMosaic.ix2 (expertOf t r) q)) * g (Idealize.ShloMosaic.ix1 r)

/-- The result: every row through its expert, scaled by the row's gate. -/
def expertsOf (x : Vec Ideal S73728x1024 .bf16) (t : S288.Idx → BitVec 32) (w : Vec Ideal S32x1024x2048 .f32) (b : Vec Ideal S32x2048 .f32)
    (wd : Vec Ideal S32x1024x1024 .f32) (bd : Vec Ideal S32x1024 .f32) (g : Vec Ideal S73728 .f32) : Vec Ideal S73728x1024 .f32 :=
  fun i => entryOf x t w b wd bd g (i 0) (i 1)

end Cert.Proof.Experts

end
-- ==== Proof.ExpertsValue.lean ====
/- The experts: what a block of the result holds. -/
module

public import proofs.«01_k».proof.Proof.ExpertsSpec
public import proofs.«01_k».proof.Proof.Gen.ExpertsIdeal.Skeleton
public import Idealize.ShloMosaic.Lib.Pipeline.ValueKit
public import Idealize.ShloMosaic.Lib.Pipeline.ValueKit.Point
public import Idealize.ShloMosaic.Lib.Pointwise

@[expose] public section

noncomputable section

namespace Cert.Proof.Experts

open Idealize.ShloMosaic Idealize.ShloMosaic.TcCoe Idealize.SL.Sem
open Cert.ExpertsIdeal Cert.ExpertsIdeal.Gen

/-- Entry `(p, q)` of what one grid point stores, of its six blocks. -/
theorem pay_apply (x : Vec Ideal S256x1024 .bf16) (w : Vec Ideal S1x1024x2048 .bf16) (b : Vec Ideal S1x1x2048 .f32) (wd : Vec Ideal S1x1024x1024 .bf16)
    (bd : Vec Ideal S1x1x1024 .f32) (g : Vec Ideal S256x1 .f32) (p : Fin 256) (q : Fin 1024) :
    k0_pay1 (F := Ideal) x w b wd bd g (Idealize.ShloMosaic.ix2 p q)
      = ((∑ j : Fin 1024,
            gated (∑ c : Fin 1024, x (Idealize.ShloMosaic.ix2 p c) * w (Idealize.ShloMosaic.ix3 (0 : Fin 1) c ⟨j.val, by omega⟩) + b (Idealize.ShloMosaic.ix3 (0 : Fin 1) (0 : Fin 1) ⟨j.val, by omega⟩))
              (∑ c : Fin 1024, x (Idealize.ShloMosaic.ix2 p c) * w (Idealize.ShloMosaic.ix3 (0 : Fin 1) c ⟨1024 + j.val, by omega⟩) + b (Idealize.ShloMosaic.ix3 (0 : Fin 1) (0 : Fin 1) ⟨1024 + j.val, by omega⟩))
            * wd (Idealize.ShloMosaic.ix3 (0 : Fin 1) j q)
          + bd (Idealize.ShloMosaic.ix3 (0 : Fin 1) (0 : Fin 1) q)) * g (Idealize.ShloMosaic.ix2 p (0 : Fin 1)) : EReal) := by
  pointwise [k0_pay1, gated]

variable (m : (ℓ : Loc nD τ sig) → Buf (Elt Ideal) ℓ)

/-- The first matrices as the call takes them: the even columns come first … -/
theorem V_main_v3_even (c : Dev nD) (e : Fin 32) (k j : Fin 1024) :
    V m c main_v3 (Idealize.ShloMosaic.ix3 e k (⟨j.val, by omega⟩ : Fin 2048))
      = m ((c : Thread nD τ).loc main_arg2) (Idealize.ShloMosaic.ix3 e k (⟨2 * j.val, by omega⟩ : Fin 2048)) := by
  entry_read
  pointwise

/-- … and the odd ones after. -/
theorem V_main_v3_odd (c : Dev nD) (e : Fin 32) (k j : Fin 1024) :
    V m c main_v3 (Idealize.ShloMosaic.ix3 e k (⟨1024 + j.val, by omega⟩ : Fin 2048))
      = m ((c : Thread nD τ).loc main_arg2) (Idealize.ShloMosaic.ix3 e k (⟨1 + 2 * j.val, by omega⟩ : Fin 2048)) := by
  entry_read
  pointwise

/-- The first biases likewise. -/
theorem V_main_v8_even (c : Dev nD) (e : Fin 32) (j : Fin 1024) :
    V m c main_v8 (Idealize.ShloMosaic.ix3 e (0 : Fin 1) (⟨j.val, by omega⟩ : Fin 2048))
      = m ((c : Thread nD τ).loc main_arg3) (Idealize.ShloMosaic.ix2 e (⟨2 * j.val, by omega⟩ : Fin 2048)) := by
  entry_read
  pointwise

/-- The first biases' odd columns. -/
theorem V_main_v8_odd (c : Dev nD) (e : Fin 32) (j : Fin 1024) :
    V m c main_v8 (Idealize.ShloMosaic.ix3 e (0 : Fin 1) (⟨1024 + j.val, by omega⟩ : Fin 2048))
      = m ((c : Thread nD τ).loc main_arg3) (Idealize.ShloMosaic.ix2 e (⟨1 + 2 * j.val, by omega⟩ : Fin 2048)) := by
  entry_read
  pointwise

/-- The second matrices: a change of format only. -/
theorem V_main_v7_eq (c : Dev nD) :
    V m c main_v7
      = m ((c : Thread nD τ).loc main_arg4) := by
  entry_read
  rfl

/-- The second biases. -/
theorem V_main_v9_apply (c : Dev nD) (e : Fin 32) (j : Fin 1024) :
    V m c main_v9 (Idealize.ShloMosaic.ix3 e (0 : Fin 1) j)
      = m ((c : Thread nD τ).loc main_arg5) (Idealize.ShloMosaic.ix2 e j) := by
  entry_read
  pointwise

/-- The gates. -/
theorem V_main_v10_apply (c : Dev nD) (r : Fin 73728) :
    V m c main_v10 (Idealize.ShloMosaic.ix2 r (0 : Fin 1))
      = m ((c : Thread nD τ).loc main_arg6) (Idealize.ShloMosaic.ix1 r) := by
  entry_read
  pointwise

/-- The run's table is the argument. -/
theorem tbl_eq (c : Dev nD) : (tbl m 0 : S288.Idx → BitVec 32) = m ((c : Thread nD τ).loc main_arg1) :=
  (V_pre m c 0).symm.trans (V_main_arg1 m c)

theorem coords_val : ∀ t : Fin grid0.N, (grid0.coords t 0).val = t.val := by decide +kernel

theorem idx0 (hO : Ok m) (t : Fin (cfgM m hO).N) : ((cfgM m hO).win 0).index t = ![t.val, 0] :=
  (by decide +kernel : ∀ t : Fin grid0.N, cc0_transform_0 (grid0.coords t) = ![t.val, 0]) t
theorem idx5 (hO : Ok m) (t : Fin (cfgM m hO).N) : ((cfgM m hO).win 5).index t = ![t.val, 0] :=
  (by decide +kernel : ∀ t : Fin grid0.N, cc0_transform_5 (grid0.coords t) = ![t.val, 0]) t
theorem idx6 (hO : Ok m) (t : Fin (cfgM m hO).N) : ((cfgM m hO).win 6).index t = ![t.val, 0] :=
  (by decide +kernel : ∀ t : Fin grid0.N, cc0_transform_6 (grid0.coords t) = ![t.val, 0]) t

theorem iblk0_apply (hO : Ok m) (c : Dev nD) (t : Fin 288) (p : Fin 256) (k : Fin 1024) :
    iblk m hO c 0 t (Idealize.ShloMosaic.ix2 p k) = m ((c : Thread nD τ).loc main_arg0) (Idealize.ShloMosaic.ix2 (⟨t.val * 256 + p.val, by omega⟩ : Fin 73728) k) := by
  blk_ext! [iblk, V, idx0 m hO t]

/-- The expert the table names for block `t`. -/
def blockExpert (tab : S288.Idx → BitVec 32) (t : Fin 288) : Fin 32 := ⟨(tab (Idealize.ShloMosaic.ix1 t)).toNat % 32, Nat.mod_lt _ (by decide)⟩

theorem expertOf_block (tab : S288.Idx → BitVec 32) (t : Fin 288) (p : Fin 256) : expertOf tab ⟨t.val * 256 + p.val, by omega⟩ = blockExpert tab t := by
  unfold expertOf blockExpert
  have h : (⟨(t.val * 256 + p.val) / 256, by omega⟩ : Fin 288) = t := Fin.ext (by show (t.val * 256 + p.val) / 256 = t.val; omega)
  exact congrArg (fun z : Fin 288 => (⟨(tab (Idealize.ShloMosaic.ix1 z)).toNat % 32, Nat.mod_lt _ (by decide)⟩ : Fin 32)) h

theorem expert_word (c : Dev nD) (hr : InRange (m ((c : Thread nD τ).loc main_arg1))) (t : Fin 288) :
    ((tbl m 0 : S288.Idx → BitVec 32) (ValueIdx.ix1 (n := 288) (grid0.coords t 0))).toNat = (blockExpert (m ((c : Thread nD τ).loc main_arg1)) t).val := by
  rw [tbl_eq m c]
  have h : (grid0.coords t 0 : Fin 288) = t := Fin.ext (coords_val t)
  rw [h]
  exact (Nat.mod_eq_of_lt (hr _)).symm

theorem idx1 (hO : Ok m) (c : Dev nD) (hr : InRange (m ((c : Thread nD τ).loc main_arg1))) (t : Fin (cfgM m hO).N) :
    ((cfgM m hO).win 1).index t = ![(blockExpert (m ((c : Thread nD τ).loc main_arg1)) t).val, 0, 0] :=
  (transform_1_eq (tbl m) (grid0.coords t) _ _).trans (congrArg (fun v : Nat => ![v, 0, 0]) (expert_word m c hr t))
theorem idx2 (hO : Ok m) (c : Dev nD) (hr : InRange (m ((c : Thread nD τ).loc main_arg1))) (t : Fin (cfgM m hO).N) :
    ((cfgM m hO).win 2).index t = ![(blockExpert (m ((c : Thread nD τ).loc main_arg1)) t).val, 0, 0] :=
  (transform_2_eq (tbl m) (grid0.coords t) _ _).trans (congrArg (fun v : Nat => ![v, 0, 0]) (expert_word m c hr t))
theorem idx3 (hO : Ok m) (c : Dev nD) (hr : InRange (m ((c : Thread nD τ).loc main_arg1))) (t : Fin (cfgM m hO).N) :
    ((cfgM m hO).win 3).index t = ![(blockExpert (m ((c : Thread nD τ).loc main_arg1)) t).val, 0, 0] :=
  (transform_3_eq (tbl m) (grid0.coords t) _ _).trans (congrArg (fun v : Nat => ![v, 0, 0]) (expert_word m c hr t))
theorem idx4 (hO : Ok m) (c : Dev nD) (hr : InRange (m ((c : Thread nD τ).loc main_arg1))) (t : Fin (cfgM m hO).N) :
    ((cfgM m hO).win 4).index t = ![(blockExpert (m ((c : Thread nD τ).loc main_arg1)) t).val, 0, 0] :=
  (transform_4_eq (tbl m) (grid0.coords t) _ _).trans (congrArg (fun v : Nat => ![v, 0, 0]) (expert_word m c hr t))

theorem iblk1_apply (hO : Ok m) (c : Dev nD) (hr : InRange (m ((c : Thread nD τ).loc main_arg1))) (t : Fin 288) (k : Fin 1024) (j : Fin 2048) :
    iblk m hO c 1 t (Idealize.ShloMosaic.ix3 (0 : Fin 1) k j) = V m c main_v3 (Idealize.ShloMosaic.ix3 (blockExpert (m ((c : Thread nD τ).loc main_arg1)) t) k j) := by
  blk_ext [iblk, idx1 m hO c hr t]
theorem iblk2_apply (hO : Ok m) (c : Dev nD) (hr : InRange (m ((c : Thread nD τ).loc main_arg1))) (t : Fin 288) (k : Fin 1) (j : Fin 2048) :
    iblk m hO c 2 t (Idealize.ShloMosaic.ix3 (0 : Fin 1) k j) = V m c main_v8 (Idealize.ShloMosaic.ix3 (blockExpert (m ((c : Thread nD τ).loc main_arg1)) t) k j) := by
  blk_ext [iblk, idx2 m hO c hr t]
theorem iblk3_apply (hO : Ok m) (c : Dev nD) (hr : InRange (m ((c : Thread nD τ).loc main_arg1))) (t : Fin 288) (k : Fin 1024) (j : Fin 1024) :
    iblk m hO c 3 t (Idealize.ShloMosaic.ix3 (0 : Fin 1) k j) = V m c main_v7 (Idealize.ShloMosaic.ix3 (blockExpert (m ((c : Thread nD τ).loc main_arg1)) t) k j) := by
  blk_ext [iblk, idx3 m hO c hr t]
theorem iblk4_apply (hO : Ok m) (c : Dev nD) (hr : InRange (m ((c : Thread nD τ).loc main_arg1))) (t : Fin 288) (k : Fin 1) (j : Fin 1024) :
    iblk m hO c 4 t (Idealize.ShloMosaic.ix3 (0 : Fin 1) k j) = V m c main_v9 (Idealize.ShloMosaic.ix3 (blockExpert (m ((c : Thread nD τ).loc main_arg1)) t) k j) := by
  blk_ext [iblk, idx4 m hO c hr t]

theorem iblk5_apply (hO : Ok m) (c : Dev nD) (t : Fin 288) (p : Fin 256) :
    iblk m hO c 5 t (Idealize.ShloMosaic.ix2 p (0 : Fin 1)) = V m c main_v10 (Idealize.ShloMosaic.ix2 (⟨t.val * 256 + p.val, by omega⟩ : Fin 73728) (0 : Fin 1)) := by
  blk_ext [iblk, idx5 m hO t]

/-- What one grid point stores is its 256 rows of the result. -/
theorem point (hO : Ok m) (c : Dev nD) (hr : InRange (m ((c : Thread nD τ).loc main_arg1))) (t : Fin 288) (p : Fin 256) (q : Fin 1024) :
    k0_pay1 (F := Ideal) (iblk m hO c 0 t) (iblk m hO c 1 t) (iblk m hO c 2 t) (iblk m hO c 3 t) (iblk m hO c 4 t) (iblk m hO c 5 t) (Idealize.ShloMosaic.ix2 p q)
      = entryOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          ⟨t.val * 256 + p.val, by omega⟩ q := by
  refine (pay_apply _ _ _ _ _ _ p q).trans ?_
  unfold entryOf actOf guOf
  rw [expertOf_block]
  refine congrArg₂ (· * ·) (congrArg₂ (· + ·) (Finset.sum_congr rfl fun j _ => congrArg₂ (· * ·) (congrArg₂ gated ?_ ?_) ?_) ?_) ?_
  · refine congrArg₂ (· + ·) (Finset.sum_congr rfl fun k _ => congrArg₂ (· * ·) (iblk0_apply m hO c t p k) ?_) ?_
    · exact (iblk1_apply m hO c hr t k _).trans (V_main_v3_even m c _ k j)
    · exact (iblk2_apply m hO c hr t 0 _).trans (V_main_v8_even m c _ j)
  · refine congrArg₂ (· + ·) (Finset.sum_congr rfl fun k _ => congrArg₂ (· * ·) (iblk0_apply m hO c t p k) ?_) ?_
    · exact (iblk1_apply m hO c hr t k _).trans (V_main_v3_odd m c _ k j)
    · exact (iblk2_apply m hO c hr t 0 _).trans (V_main_v8_odd m c _ j)
  · exact (iblk3_apply m hO c hr t j q).trans (congrFun (V_main_v7_eq m c) _)
  · exact (iblk4_apply m hO c hr t 0 q).trans (V_main_v9_apply m c _ q)
  · exact (iblk5_apply m hO c t p).trans (V_main_v10_apply m c _)

theorem pay_congr {x x' : Vec Ideal S256x1024 .bf16} {w w' : Vec Ideal S1x1024x2048 .bf16} {b b' : Vec Ideal S1x1x2048 .f32} {wd wd' : Vec Ideal S1x1024x1024 .bf16}
    {bd bd' : Vec Ideal S1x1x1024 .f32} {g g' : Vec Ideal S256x1 .f32} (h0 : x = x') (h1 : w = w') (h2 : b = b') (h3 : wd = wd') (h4 : bd = bd') (h5 : g = g') :
    k0_pay1 (F := Ideal) x w b wd bd g = k0_pay1 x' w' b' wd' bd' g' := by
  subst h0 h1 h2 h3 h4 h5; rfl

theorem idx6' (hO : Ok m) (t : Fin 288) : (pcfg0.win (adm m hO) 6).index t = ![t.val, 0] := idx6 m hO t

theorem emb6 (hO : Ok m) (t : Fin 288) (p : Fin 256) (q : Fin 1024) :
    (((spec0 6).arr.view.slice ((pcfg0.win (adm m hO) 6).rect t)).emb (Idealize.ShloMosaic.ix2 p q)) = (Idealize.ShloMosaic.ix2 (⟨t.val * 256 + p.val, by omega⟩ : Fin 73728) q : S73728x1024.Idx) := by
  blk_ext [idx6' m hO t]

theorem split_row (i : S73728x1024.Idx) : ∃ (t : Fin 288) (p : Fin 256) (q : Fin 1024), i = Idealize.ShloMosaic.ix2 (⟨t.val * 256 + p.val, by omega⟩ : Fin 73728) q := by
  have h0 : (i 0).val < 73728 := (i 0).isLt
  refine ⟨⟨(i 0).val / 256, by omega⟩, ⟨(i 0).val % 256, Nat.mod_lt _ (by decide)⟩, i 1, (ValueIdx.eq_ix2 (n0 := 73728) (n1 := 1024) i).trans ?_⟩
  refine congrArg (fun r : Fin 73728 => Idealize.ShloMosaic.ix2 r (i 1 : Fin 1024)) (Fin.ext ?_)
  show (i 0).val = (i 0).val / 256 * 256 + (i 0).val % 256
  omega

/-- Every entry of the result lies in some point's block. -/
theorem cover6 (hO : Ok m) (c : Dev nD) (i : (((cfgM m hO).win 6).arr.view.loc (c.tc : Thread nD τ)).2.ty.Idx) :
    ∃ t : Fin (cfgM m hO).N, ((cfgM m hO).win 6).flush t = true ∧ i ∈ (((cfgM m hO).win 6).blk t).view.set := by
  obtain ⟨t, p, q, h⟩ := split_row i
  refine ⟨t, flush0_6 _ _, ?_⟩
  rw [h.trans (emb6 m hO t p q).symm]
  exact View.emb_mem_set _ _

/-- The body's stores, read back, are its payload of the six blocks. -/
theorem outs_eq (hO : Ok m) (c : Dev nD) (t : Fin (cfgM m hO).N) :
    outsAt0 m hO c t = k0_pay1 (F := Ideal) (iblk m hO c 0 t) (iblk m hO c 1 t) (iblk m hO c 2 t) (iblk m hO c 3 t) (iblk m hO c 4 t) (iblk m hO c 5 t) := by
  unfold outsAt0
  frame_out
  exact pay_congr ((hs0_0 m hO t).read_unread _) ((hs0_1 m hO t).read_unread _) ((hs0_2 m hO t).read_unread _) ((hs0_3 m hO t).read_unread _)
      ((hs0_4 m hO t).read_unread _) ((hs0_5 m hO t).read_unread _)

theorem outs_apply (hO : Ok m) (c : Dev nD) (hr : InRange (m ((c : Thread nD τ).loc main_arg1))) (t : Fin 288) (p : Fin 256) (q : Fin 1024) :
    outsAt0 m hO c t (Idealize.ShloMosaic.ix2 p q) = expertsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Idealize.ShloMosaic.ix2 (⟨t.val * 256 + p.val, by omega⟩ : Fin 73728) q) :=
  (congrFun (outs_eq m hO c t) _).trans (point m hO c hr t p q)

theorem point_eq (hO : Ok m) (c : Dev nD) (hr : InRange (m ((c : Thread nD τ).loc main_arg1))) (t : Fin 288) (p : Fin 256) (q : Fin 1024) :
    outsAt0 m hO c t (Idealize.ShloMosaic.ix2 p q)
      = expertsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((spec0 6).arr.view.slice ((pcfg0.win (adm m hO) 6).rect t)).emb (Idealize.ShloMosaic.ix2 p q)) := by
  rw [emb6 m hO t p q]
  exact outs_apply m hO c hr t p q

theorem split_blk (y : S256x1024.Idx) : ∃ (p : Fin 256) (q : Fin 1024), y = Idealize.ShloMosaic.ix2 p q := ⟨y 0, y 1, ValueIdx.eq_ix2 y⟩

/-- The result array after the run is the experts' result of the arguments. -/
theorem final (hO : Ok m) (c : Dev nD) (hr : InRange (m ((c : Thread nD τ).loc main_arg1))) :
    (dats m hO 0 c).arrAt 6 (cfgM m hO).N
      = expertsOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m hO 0 c).arrAt_eq_of_emb 6 _ (fun t hf y => ?_) fun i => ?_
  · blk_simp
    rw [after0_6]
    obtain ⟨p, q, rfl⟩ := split_blk y
    exact point_eq m hO c hr t p q
  · exact cover6 m hO c i

end Cert.Proof.Experts

end
-- ==== Proof.ExpertsReference.lean ====
/- The experts: what the reference computes. -/
module

public import proofs.«01_k».proof.Proof.ExpertsSpec
public import proofs.«01_k».proof.Proof.Gen.ExpertsReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Experts

open Idealize.ShloMosaic Idealize.ShloMosaic.TcCoe Idealize.SL.Sem
open Cert.ExpertsReferenceIdeal Cert.ExpertsReferenceIdeal.Value Cert.ExpertsReferenceIdeal.Gen

/-- The first product with its bias, block by block, of the experts' weights `W` and biases `B` taken out per block. -/
def refGu (x : Vec Ideal S73728x1024 .bf16) (W : Vec Ideal S288x1024x2048 .f32) (B : Vec Ideal S288x2048 .f32) : Vec Ideal S288x256x2048 .f32 :=
  addf (F := Ideal) (Host.dotGeneral (F := Ideal) (φ₁ := .f32) (φ₂ := .f32) dot_S288x256x1024_S288x1024x2048_S288x256x2048_2_1_1_2_0_0 none (shapeCast _ (extf (F := Ideal) .f32 x bitsLt_bf16_f32) shapeCasts_S73728x1024_S288x256x1024) W)
    (broadcastInDim S288x256x2048 ![0, 1, 2] bcast_S288x1x2048_S288x256x2048_0_1_2 (broadcastInDim S288x1x2048 ![0, 2] bcast_S288x2048_S288x1x2048_0_2 B))

/-- The clamped and gated product of its even and odd columns. -/
def refAct (G : Vec Ideal S288x256x2048 .f32) : Vec Ideal S288x256x1024 .f32 :=
  mulf (F := Ideal) (mulf (F := Ideal) (minimumf (F := Ideal) (Host.slice S288x256x1024 ![0, 0, 0] ![1, 1, 2] G slicesBy_S288x256x2048_S288x256x1024_0s1_0s1_0s2) (broadcastInDim S288x256x1024 ![] bcast_S_S288x256x1024 (constant (F := Ideal) S_ .f32 0x40E00000#32))) (Host.divf (F := Ideal) (broadcastInDim S288x256x1024 ![] bcast_S_S288x256x1024 (constant (F := Ideal) S_ .f32 0x3F800000#32)) (addf (F := Ideal) (broadcastInDim S288x256x1024 ![] bcast_S_S288x256x1024 (constant (F := Ideal) S_ .f32 0x3F800000#32)) (Host.exp (F := Ideal) (Host.negf (F := Ideal) (mulf (F := Ideal) (broadcastInDim S288x256x1024 ![] bcast_S_S288x256x1024 (constant (F := Ideal) S_ .f32 0x3FD9DB23#32)) (minimumf (F := Ideal) (Host.slice S288x256x1024 ![0, 0, 0] ![1, 1, 2] G slicesBy_S288x256x2048_S288x256x1024_0s1_0s1_0s2) (broadcastInDim S288x256x1024 ![] bcast_S_S288x256x1024 (constant (F := Ideal) S_ .f32 0x40E00000#32)))))))))
    (addf (F := Ideal) (minimumf (F := Ideal) (broadcastInDim S288x256x1024 ![] bcast_S_S288x256x1024 (id (constant (F := Ideal) S_ .f32 0x40E00000#32))) (maximumf (F := Ideal) (broadcastInDim S288x256x1024 ![] bcast_S_S288x256x1024 (id (constant (F := Ideal) S_ .f32 0xC0E00000#32))) (Host.slice S288x256x1024 ![0, 0, 1] ![1, 1, 2] G slicesBy_S288x256x2048_S288x256x1024_0s1_0s1_1s2))) (broadcastInDim S288x256x1024 ![] bcast_S_S288x256x1024 (constant (F := Ideal) S_ .f32 0x3F800000#32)))

/-- The second product with its bias, back in rows, times the rows' gates. -/
def refOut (A : Vec Ideal S288x256x1024 .f32) (W : Vec Ideal S288x1024x1024 .f32) (B : Vec Ideal S288x1024 .f32) (g : Vec Ideal S73728 .f32) : Vec Ideal S73728x1024 .f32 :=
  mulf (F := Ideal) (shapeCast _ (addf (F := Ideal) (Host.dotGeneral (F := Ideal) (φ₁ := .f32) (φ₂ := .f32) dot_S288x256x1024_S288x1024x1024_S288x256x1024_2_1_1_2_0_0 none A W) (broadcastInDim S288x256x1024 ![0, 1, 2] bcast_S288x1x1024_S288x256x1024_0_1_2 (broadcastInDim S288x1x1024 ![0, 2] bcast_S288x1024_S288x1x1024_0_2 B))) shapeCasts_S288x256x1024_S73728x1024)
    (broadcastInDim S73728x1024 ![0, 1] bcast_S73728x1_S73728x1024_0_1 (broadcastInDim S73728x1 ![0] bcast_S73728_S73728x1_0 g))

/-- The experts' numbers as the reference's gathers take them. -/
def refIdx (t : S288.Idx → BitVec 32) : IVec S288x1 32 :=
  broadcastInDim S288x1 ![0] bcast_S288_S288x1_0 (select (cmpi .slt t (broadcastInDim S288 ![] bcast_S_S288 (constantI S_ 32 0#32))) (addi t (broadcastInDim S288 ![] bcast_S_S288 (constantI S_ 32 32#32))) t)

theorem res_eq (m : (ℓ : Loc nD τ sig) → Buf (Elt Ideal) ℓ) (c : Dev nD) : res_main_v58 (F := Ideal) m c
    = refOut (refAct (refGu (m ((c.tc : Thread nD τ).loc main_arg0))
          (Host.gather gather_S32x1024x2048_S288x1_S288x1024x2048_12_0_n_n_0_1_110242048 (m ((c.tc : Thread nD τ).loc main_arg2)) (refIdx (m ((c.tc : Thread nD τ).loc main_arg1))))
          (Host.gather gather_S32x2048_S288x1_S288x2048_1_0_n_n_0_1_12048 (m ((c.tc : Thread nD τ).loc main_arg3)) (refIdx (m ((c.tc : Thread nD τ).loc main_arg1))))))
        (Host.gather gather_S32x1024x1024_S288x1_S288x1024x1024_12_0_n_n_0_1_110241024 (m ((c.tc : Thread nD τ).loc main_arg4)) (refIdx (m ((c.tc : Thread nD τ).loc main_arg1))))
        (Host.gather gather_S32x1024_S288x1_S288x1024_1_0_n_n_0_1_11024 (m ((c.tc : Thread nD τ).loc main_arg5)) (refIdx (m ((c.tc : Thread nD τ).loc main_arg1))))
        (m ((c.tc : Thread nD τ).loc main_arg6)) := rfl

theorem refGu_apply (x : Vec Ideal S73728x1024 .bf16) (W : Vec Ideal S288x1024x2048 .f32) (B : Vec Ideal S288x2048 .f32) (g : Fin 288) (p : Fin 256) (k : Fin 2048) :
    refGu x W B (Idealize.ShloMosaic.ix3 g p k) = (∑ c : Fin 1024, x (Idealize.ShloMosaic.ix2 ⟨g.val * 256 + p.val, by omega⟩ c) * W (Idealize.ShloMosaic.ix3 g c k) + B (Idealize.ShloMosaic.ix2 g k) : EReal) := by
  pointwise [refGu]

theorem refAct_apply (G : Vec Ideal S288x256x2048 .f32) (g : Fin 288) (p : Fin 256) (k : Fin 1024) :
    refAct G (Idealize.ShloMosaic.ix3 g p k)
      = gated (G (Idealize.ShloMosaic.ix3 g p ⟨2 * k.val, by omega⟩)) (G (Idealize.ShloMosaic.ix3 g p ⟨1 + 2 * k.val, by omega⟩)) := by
  pointwise [refAct]
  unfold gated
  rw [Ideal.logistic]
  rfl

theorem refOut_apply (A : Vec Ideal S288x256x1024 .f32) (W : Vec Ideal S288x1024x1024 .f32) (B : Vec Ideal S288x1024 .f32) (gt : Vec Ideal S73728 .f32) (r : Fin 73728) (k : Fin 1024) :
    refOut A W B gt (Idealize.ShloMosaic.ix2 r k) = ((∑ j : Fin 1024, A (Idealize.ShloMosaic.ix3 ⟨r.val / 256, by omega⟩ ⟨r.val % 256, by omega⟩ j) * W (Idealize.ShloMosaic.ix3 ⟨r.val / 256, by omega⟩ j k)
          + B (Idealize.ShloMosaic.ix2 ⟨r.val / 256, by omega⟩ k)) * gt (Idealize.ShloMosaic.ix1 r) : EReal) := by
  pointwise [refOut]

theorem refIdx_apply (t : S288.Idx → BitVec 32) (hr : InRange t) (g : Fin 288) : refIdx t (Idealize.ShloMosaic.ix2 g 0) = BitVec.ofNat 32 (t (Idealize.ShloMosaic.ix1 g)).toNat := by
  pointwise [refIdx]
  have h := hr (Idealize.ShloMosaic.ix1 (n0 := 288) g)
  rw [Scalar.select, if_neg]
  · exact BitVec.eq_of_toNat_eq (by simp)
  · show ¬ BitVec.ofBool ((t (Idealize.ShloMosaic.ix1 g)).slt 0#32) = 1#1
    have hs : (t (Idealize.ShloMosaic.ix1 g)).slt 0#32 = false := by
      rw [BitVec.slt, decide_eq_false_iff_not, BitVec.toInt_eq_toNat_of_lt (by omega)]
      simp
    rw [hs]
    decide

/-- `table[idx]` over the matrices of a stack: where `idx` holds at `(g, 0)` a number `e < nb`, entry `(g, a, b)` of the result is the
    table's entry `(e, a, b)`. -/
theorem gather_mat {nb B C n : Nat} (d : GatherDims ⟨3, ![nb, B, C]⟩ ⟨2, ![n, 1]⟩ ⟨3, ![n, B, C]⟩) (hoff : d.offsetDims = [1, 2])
    (hcoll : d.collapsedSliceDims = [0]) (hob : d.operandBatchingDims = []) (hsim : d.startIndexMap = [0]) (hivd : d.indexVectorDim = 1)
    (hss : d.sliceSizes = ![1, B, C]) (x : (⟨3, ![nb, B, C]⟩ : Shape).Idx → Elt Ideal .f32) (idx : IVec ⟨2, ![n, 1]⟩ 32) (g : Fin n) (a : Fin B) (b : Fin C)
    (e : Fin nb) (he : idx (Idealize.ShloMosaic.ix2 g (0 : Fin 1)) = BitVec.ofNat 32 e.val) (hnb : nb < 2 ^ 31) :
    Host.gather d x idx (Idealize.ShloMosaic.ix3 g a b) = x (Idealize.ShloMosaic.ix3 e a b) := by
  obtain ⟨od, cd, ob, sb, sim, ivd, ss, wf⟩ := d
  dsimp only at hoff hcoll hob hsim hivd hss
  subst hoff hcoll hob hsim hivd hss
  unfold Host.gather
  refine congrArg x (funext fun q => Fin.ext ?_)
  match q with
  | ⟨0, _⟩ =>
    have key : ∀ z : (⟨2, ![n, 1]⟩ : Shape).Idx, z = Idealize.ShloMosaic.ix2 g (0 : Fin 1) → min (idx z).toInt.toNat (nb - 1) + 0 + 0 = e.val := fun z hz => by
      rw [hz, he, StableHlo.Predicate.toInt_ofNat_small _ (by omega)]
      show min ((e.val : Int)).toNat (nb - 1) + 0 + 0 = e.val
      omega
    exact key _ (funext fun z => by
      match z with
      | ⟨0, _⟩ => rfl
      | ⟨1, _⟩ => rfl)
  | ⟨1, _⟩ => exact (show 0 + 0 + a.val = a.val by omega)
  | ⟨2, _⟩ => exact (show 0 + 0 + b.val = b.val by omega)

/-- Where the experts' numbers are in range the reference computes the experts' result. -/
theorem reference_value (m : (ℓ : Loc nD τ sig) → Buf (Elt Ideal) ℓ) (c : Dev nD) (hr : InRange (m ((c.tc : Thread nD τ).loc main_arg1))) :
    res_main_v58 (F := Ideal) m c = expertsOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  rw [res_eq]
  generalize m ((c.tc : Thread nD τ).loc main_arg0) = x
  generalize m ((c.tc : Thread nD τ).loc main_arg1) = t at hr ⊢
  generalize m ((c.tc : Thread nD τ).loc main_arg2) = w
  generalize m ((c.tc : Thread nD τ).loc main_arg3) = b
  generalize m ((c.tc : Thread nD τ).loc main_arg4) = wd
  generalize m ((c.tc : Thread nD τ).loc main_arg5) = bd
  generalize m ((c.tc : Thread nD τ).loc main_arg6) = gt
  funext i
  obtain ⟨r, q, rfl⟩ : ∃ (r : Fin 73728) (q : Fin 1024), i = Idealize.ShloMosaic.ix2 r q := ⟨i 0, i 1, ValueIdx.eq_ix2 i⟩
  have hq : r.val / 256 < 288 := by omega
  have he : refIdx t (Idealize.ShloMosaic.ix2 (⟨r.val / 256, hq⟩ : Fin 288) (0 : Fin 1)) = BitVec.ofNat 32 (expertOf t r).val := by
    refine (refIdx_apply t hr _).trans (congrArg (BitVec.ofNat 32) ?_)
    exact (Nat.mod_eq_of_lt (hr _)).symm
  have hrow : (⟨r.val / 256 * 256 + r.val % 256, by omega⟩ : Fin 73728) = r := Fin.ext (by show r.val / 256 * 256 + r.val % 256 = r.val; omega)
  rw [refOut_apply]
  show _ = entryOf x t w b wd bd gt r q
  unfold entryOf
  refine congrArg (· * _) (congrArg₂ (· + ·) (Finset.sum_congr rfl fun j _ => ?_) ?_)
  · rw [refAct_apply]
    refine congrArg₂ (· * ·) ?_ (gather_mat _ rfl rfl rfl rfl rfl rfl wd _ _ j q _ he (by decide))
    have hgu : ∀ k : Fin 2048, refGu x (Host.gather gather_S32x1024x2048_S288x1_S288x1024x2048_12_0_n_n_0_1_110242048 w (refIdx t))
          (Host.gather gather_S32x2048_S288x1_S288x2048_1_0_n_n_0_1_12048 b (refIdx t)) (Idealize.ShloMosaic.ix3 ⟨r.val / 256, hq⟩ ⟨r.val % 256, by omega⟩ k)
        = guOf x t w b r k := fun k => by
      rw [refGu_apply]
      unfold guOf
      refine congrArg₂ (· + ·) (Finset.sum_congr rfl fun e _ => ?_) ?_
      · refine congrArg₂ (· * ·) (congrArg (fun z => x (Idealize.ShloMosaic.ix2 z e)) hrow) (gather_mat _ rfl rfl rfl rfl rfl rfl w _ _ e k _ he (by decide))
      · exact Routing.gather_row _ rfl rfl rfl rfl rfl b _ _ k _ he (by decide)
    rw [hgu, hgu]
    rfl
  · exact Routing.gather_row _ rfl rfl rfl rfl rfl bd _ _ q _ he (by decide)

end Cert.Proof.Experts

end
-- ==== Proof.ExpertsClaims.lean ====
/- The experts: the claims. -/
module

public import proofs.«01_k».proof.Defs
public import proofs.«01_k».proof.Proof.Gen.Experts.Frame
public import proofs.«01_k».proof.Proof.ExpertsValue
public import proofs.«01_k».proof.Proof.ExpertsReference

@[expose] public section

noncomputable section

namespace Cert.Proof.Experts

open Idealize.ShloMosaic Idealize.ShloMosaic.TcCoe Idealize.SL.Sem

section Table

open Cert.ExpertsIdeal Cert.ExpertsIdeal.Gen

variable {F : FTy → Type} [FloatOps F]

/-- Where the experts' numbers are in range every block the table names lies inside its array. -/
theorem ok_of_pre (m : (ℓ : Loc nD τ sig) → Buf (Elt F) ℓ) (h : ∀ c : Dev nD, InRange (m ((c.tc : Thread nD τ).loc main_arg1))) : Ok m := by
  refine ok_of_range (F := F) (tbl m) ?_
  have e : (tbl m 0 : S288.Idx → BitVec 32) = m (((0 : Dev nD).tc : Thread nD τ).loc main_arg1) := (V_pre m 0 0).symm.trans (V_main_arg1 m 0)
  intro i
  rw [e]
  exact h 0 i

end Table

theorem frame_kernel : Cert.quiescent_Experts := fun m ρ hp =>
  Cert.Experts.Gen.frame (F := Bits) m ρ (ok_of_pre (F := Bits) m fun c => range_of_pre _ _ _ _ _ _ _ (hp c))

theorem frame_ideal : Cert.quiescent_ExpertsIdeal := fun m ρ hp =>
  Cert.ExpertsIdeal.Gen.frame (F := Ideal) m ρ (ok_of_pre (F := Ideal) m fun c => range_of_pre _ _ _ _ _ _ _ (hp c))

theorem frame_reference_ideal : Cert.quiescent_ExpertsReferenceIdeal := fun m ρ _ =>
  (θ_run Cert.ExpertsReferenceIdeal.defs _ _).mono (fun r h => ⟨fun c => (h c).2, sem_eq_zero_of_no_sems rfl r.2⟩)
    (Cert.ExpertsReferenceIdeal.Value.run (F := Ideal) m ρ)

theorem frame_reference_ideal_pre : Cert.quiescent_ExpertsReferenceIdeal_pre_blk_e_in_range := fun m ρ _ =>
  frame_reference_ideal m ρ trivial

/-- Equal arguments, equal results. -/
theorem expertsOf_congr {x x' : Vec Ideal Cert.ExpertsIdeal.S73728x1024 .bf16} {t t' : Cert.ExpertsIdeal.S288.Idx → BitVec 32} {w w' : Vec Ideal Cert.ExpertsIdeal.S32x1024x2048 .f32}
    {b b' : Vec Ideal Cert.ExpertsIdeal.S32x2048 .f32} {wd wd' : Vec Ideal Cert.ExpertsIdeal.S32x1024x1024 .f32} {bd bd' : Vec Ideal Cert.ExpertsIdeal.S32x1024 .f32}
    {g g' : Vec Ideal Cert.ExpertsIdeal.S73728 .f32} (h0 : x = x') (h1 : t = t') (h2 : w = w') (h3 : b = b') (h4 : wd = wd') (h5 : bd = bd') (h6 : g = g') :
    expertsOf x t w b wd bd g = expertsOf x' t' w' b' wd' bd' g' := by
  subst h0 h1 h2 h3 h4 h5 h6; rfl

theorem algebraic : Cert.algebraic_ExpertsIdeal_ExpertsReferenceIdeal := by
  intro m ρ m' ρ' hp hm
  have hr : ∀ c : Dev Cert.ExpertsIdeal.nD, InRange (m ((c.tc : Thread Cert.ExpertsIdeal.nD Cert.ExpertsIdeal.τ).loc Cert.ExpertsIdeal.main_arg1)) :=
    fun c => range_of_pre _ _ _ _ _ _ _ (hp c)
  have hO := ok_of_pre (F := Ideal) m hr
  refine ⟨fun c => expertsOf (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)), ?_, ?_⟩
  · exact (θ_run Cert.ExpertsIdeal.defs _ _).mono (fun _ h c => ⟨(h.1.out_eq c 6).trans (final m hO c (hr c)), h.2 c⟩)
      (θ_run_and (Cert.ExpertsIdeal.Gen.run_main (F := Ideal) m ρ hO) (Cert.ExpertsIdeal.Gen.unchanged (F := Ideal) m ρ hO))
  · refine (θ_run Cert.ExpertsReferenceIdeal.defs _ _).mono (fun _ h c => ⟨(h c).1.trans ?_, (h c).2⟩) (Cert.ExpertsReferenceIdeal.Value.run (F := Ideal) m' ρ')
    obtain ⟨e0, e1, e2, e3, e4, e5, e6⟩ := hm c
    exact (reference_value m' c ((congrArg InRange e1).mpr (hr c))).trans (expertsOf_congr e0 e1 e2 e3 e4 e5 e6)

end Cert.Proof.Experts

end
-- ==== Proof.AttentionSoftmax.lean ====
/-
  Softmax by tiles, over the extended reals. A running maximum, a running sum of exponentials and a running weighted sum,
  each rescaled as the maximum moves, are at every tile the sums of the exponentials shifted by the maximum so far. The
  scores may be infinite: with a score of plus infinity, or with none above minus infinity, all exponentials are zero.
-/
module

public import Idealize.ShloMosaic.Lib.Pointwise
public import Idealize.ShloMosaic.PureOps.Ideal.Laws

@[expose] public section

namespace Cert.Proof.Attention

open Idealize.ShloMosaic

/-- A real is a coerced number: neither infinity. -/
theorem real_of_finite {x : EReal} (h1 : x ≠ ⊤) (h2 : x ≠ ⊥) : ((x.toReal : ℝ) : EReal) = x := EReal.coe_toReal h1 h2

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = ((Real.exp x : ℝ) : EReal) := rfl

theorem max_coe (x y : ℝ) : max (x : EReal) (y : EReal) = ((max x y : ℝ) : EReal) :=
  (EReal.coe_strictMono.monotone.map_max).symm

/-- The quotient of two reals, the divisor positive. -/
theorem div_coe {x y : ℝ} (hy : 0 < y) : Ideal.div (x : EReal) (y : EReal) = ((x / y : ℝ) : EReal) := by
  unfold Ideal.div
  rw [if_neg (by exact_mod_cast hy.ne'), div_eq_mul_inv, EReal.coe_mul, EReal.coe_inv]

/-- The largest of the first `n` scores. -/
noncomputable def rowTop (s : ℕ → EReal) (n : ℕ) : EReal := Finset.fold max ⊥ s (Finset.range n)

theorem rowTop_le {s : ℕ → EReal} {n : ℕ} {c : EReal} : rowTop s n ≤ c ↔ ∀ j < n, s j ≤ c := by
  simp [rowTop, Finset.fold_max_le]

theorem le_rowTop {s : ℕ → EReal} {n j : ℕ} (hj : j < n) : s j ≤ rowTop s n := rowTop_le.1 le_rfl j hj

theorem fold_le {ι : Type} [Fintype ι] {f : ι → EReal} {c : EReal} : Finset.fold max ⊥ f Finset.univ ≤ c ↔ ∀ x, f x ≤ c := by
  simp [Finset.fold_max_le]

theorem fold_eq_rowTop (s : ℕ → EReal) (n : ℕ) : Finset.fold max ⊥ (fun x : Fin n => s x) Finset.univ = rowTop s n :=
  eq_of_forall_ge_iff fun c => by
    rw [fold_le, rowTop_le]
    exact ⟨fun h j hj => h ⟨j, hj⟩, fun h x => h x x.isLt⟩

theorem rowTop_add (s : ℕ → EReal) (n k : ℕ) :
    rowTop s (n + k) = max (rowTop s n) (Finset.fold max ⊥ (fun x : Fin k => s (n + x)) Finset.univ) :=
  eq_of_forall_ge_iff fun c => by
    rw [max_le_iff, fold_le, rowTop_le, rowTop_le]
    refine ⟨fun h => ⟨fun j hj => h j (by omega), fun x => h (n + x) (by omega)⟩, fun h j hj => ?_⟩
    rcases lt_or_ge j n with hn | hn
    · exact h.1 j hn
    · have := h.2 ⟨j - n, by omega⟩
      rwa [show n + (⟨j - n, by omega⟩ : Fin k).val = j by show n + (j - n) = j; omega] at this

/-- The exponential of a score shifted by a bound of it, a real. -/
noncomputable def ex (x m : EReal) : ℝ := (Ideal.exp (x - m)).toReal

theorem ex_top (x : EReal) : Ideal.exp (x - ⊤) = 0 := by
  induction x using EReal.rec <;> rfl

theorem ex_bot (m : EReal) : Ideal.exp (⊥ - m) = 0 := by
  rw [sub_eq_add_neg, EReal.bot_add]; rfl

/-- With no real maximum the exponentials are zero. -/
theorem exp_zero {x m : EReal} (h : x ≤ m) (hm : m = ⊤ ∨ m = ⊥) : Ideal.exp (x - m) = 0 := by
  rcases hm with rfl | rfl
  · exact ex_top x
  · rw [le_bot_iff.1 h]; exact ex_bot _

theorem exp_pos {x : EReal} (μ : ℝ) (hx : x ≠ ⊥) (h : x ≤ μ) : ∃ r : ℝ, 0 < r ∧ Ideal.exp (x - μ) = (r : EReal) := by
  induction x using EReal.rec with
  | bot => exact absurd rfl hx
  | top => exact absurd (le_antisymm le_top h) (by simp)
  | coe y => exact ⟨Real.exp (y - μ), Real.exp_pos _, by rw [← EReal.coe_sub]; rfl⟩

theorem ex_coe {x m : EReal} (h : x ≤ m) : Ideal.exp (x - m) = ((ex x m : ℝ) : EReal) := by
  unfold ex
  induction m using EReal.rec with
  | bot => rw [exp_zero h (.inr rfl)]; rfl
  | top => rw [ex_top]; rfl
  | coe μ =>
    rcases eq_or_ne x ⊥ with rfl | hx
    · rw [ex_bot]; rfl
    · obtain ⟨r, -, hr⟩ := exp_pos μ hx h
      rw [hr]; rfl

theorem ex_mul {x m M : EReal} (h : x ≤ m) (hM : m ≤ M) : ex m M * ex x m = ex x M := by
  have z : ∀ {y z : EReal}, Ideal.exp (y - z) = 0 → ex y z = 0 := fun e => by rw [ex, e]; rfl
  induction M using EReal.rec with
  | bot => rw [z (exp_zero hM (.inr rfl)), z (exp_zero (h.trans hM) (.inr rfl)), zero_mul]
  | top => rw [z (ex_top _), z (ex_top _), zero_mul]
  | coe ν =>
    induction m using EReal.rec with
    | bot => rw [le_bot_iff.1 h, z (ex_bot _), z (ex_bot _), zero_mul]
    | top => exact absurd (le_antisymm le_top hM) (by simp)
    | coe μ =>
      induction x using EReal.rec with
      | bot => rw [z (ex_bot _), z (ex_bot _), mul_zero]
      | top => exact absurd (le_antisymm le_top h) (by simp)
      | coe y =>
        have e : ∀ a b : ℝ, ex (a : EReal) (b : EReal) = Real.exp (a - b) := fun a b => by unfold ex; rw [← EReal.coe_sub]; rfl
        rw [e, e, e, ← Real.exp_add]
        congr 1
        ring

/-- The first `n` terms of the weighted sum of shifted exponentials. -/
noncomputable def wsum (s : ℕ → EReal) (v : ℕ → ℝ) (n : ℕ) (m : EReal) : ℝ := ∑ j ∈ Finset.range n, ex (s j) m * v j

/-- After `n` terms: the running maximum and the running sum. -/
def Held (s : ℕ → EReal) (v : ℕ → ℝ) (n : ℕ) (m a : EReal) : Prop := m = rowTop s n ∧ a = ((wsum s v n m : ℝ) : EReal)

theorem held_zero (s : ℕ → EReal) (v : ℕ → ℝ) {m a : EReal} (hm : m = ⊥) (ha : a = 0) : Held s v 0 m a :=
  ⟨by rw [hm]; exact Finset.fold_empty.symm, by rw [ha]; simp [wsum]⟩

/-- One tile: the new maximum, the old sum rescaled, and the tile's terms added. -/
theorem Held.step {s : ℕ → EReal} {v : ℕ → ℝ} {n k : ℕ} {m a M : EReal} (h : Held s v n m a)
    (hM : M = max m (Finset.fold max ⊥ (fun x : Fin k => s (n + x)) Finset.univ)) :
    Held s v (n + k) M (Ideal.exp (m - M) * a + ∑ x : Fin k, Ideal.exp (s (n + x) - M) * ((v (n + x) : ℝ) : EReal)) := by
  obtain ⟨rfl, rfl⟩ := h
  have hM' : M = rowTop s (n + k) := hM.trans (rowTop_add s n k).symm
  have hle : rowTop s n ≤ M := hM ▸ le_max_left _ _
  refine ⟨hM', ?_⟩
  have ht : (∑ x : Fin k, Ideal.exp (s (n + x) - M) * ((v (n + x) : ℝ) : EReal))
      = ((∑ x : Fin k, ex (s (n + x)) M * v (n + x) : ℝ) : EReal) := by
    rw [coe_sum]
    refine Finset.sum_congr rfl fun x _ => ?_
    rw [ex_coe (hM' ▸ le_rowTop (by omega)), EReal.coe_mul]
  rw [ht, ex_coe hle, ← EReal.coe_mul, ← EReal.coe_add]
  congr 1
  unfold wsum
  rw [Finset.sum_range_add, Finset.sum_range (fun x => ex (s (n + x)) M * v (n + x)), Finset.mul_sum]
  congr 1
  refine Finset.sum_congr rfl fun j hj => ?_
  rw [← mul_assoc, ex_mul (le_rowTop (Finset.mem_range.1 hj)) hle]

/-- The quotient of the two running sums. -/
theorem Held.div {s : ℕ → EReal} {v : ℕ → ℝ} {n : ℕ} {m l a : EReal} (hl : Held s (fun _ => 1) n m l) (ha : Held s v n m a) :
    Ideal.div a l = Ideal.div ((wsum s v n (rowTop s n) : ℝ) : EReal) ((wsum s (fun _ => 1) n (rowTop s n) : ℝ) : EReal) := by
  rw [hl.2, ha.2, ha.1]

/-- A multiple of a sum of products, the factor a nonnegative real, is the sum of products of multiples. -/
theorem score_sum {n : ℕ} (q k : Fin n → EReal) (c : ℝ) (hc : 0 ≤ c) :
    (∑ d : Fin n, (q d * (c : EReal)) * k d) = (∑ d : Fin n, q d * k d) * (c : EReal) := by
  classical
  have h : ∀ s : Finset (Fin n), (∑ d ∈ s, (q d * (c : EReal)) * k d) = (∑ d ∈ s, q d * k d) * (c : EReal) := by
    intro s
    induction s using Finset.induction_on with
    | empty => simp
    | insert a s ha ih =>
      rw [Finset.sum_insert ha, Finset.sum_insert ha, ih,
        EReal.right_distrib_of_nonneg_of_ne_top (EReal.coe_nonneg.2 hc) (EReal.coe_ne_top c), mul_right_comm]
  exact h Finset.univ

/-- The shifted exponentials of a row: either their sum is positive or all of them are zero. -/
theorem row_cases (s : ℕ → EReal) (n : ℕ) :
    (0 < ∑ x : Fin n, ex (s x) (rowTop s n)) ∨ ∀ x : Fin n, ex (s x) (rowTop s n) = 0 := by
  have h0 : ∀ x : Fin n, 0 ≤ ex (s x) (rowTop s n) := by
    intro x
    unfold ex
    refine EReal.toReal_nonneg ?_
    generalize s x - rowTop s n = y
    induction y using EReal.rec with
    | bot => exact le_rfl
    | top => exact le_top
    | coe y => exact EReal.coe_nonneg.2 (Real.exp_pos y).le
  rcases (Finset.sum_nonneg fun x _ => h0 x).lt_or_eq with h | h
  · exact .inl h
  · exact .inr fun x => (Finset.sum_eq_zero_iff_of_nonneg fun x _ => h0 x).1 h.symm x (Finset.mem_univ x)

/-- The scale of the scores, an eighth. -/
theorem ofBits_eighth : Ideal.ofBits .f32 0x3E000000#32 = (((1 : ℝ) / 8 : ℝ) : EReal) := by
  simp [Ideal.ofBits, Ideal.ieee, -EReal.coe_mul]; norm_num

theorem ofBits_neg_inf : Ideal.ofBits .f32 0xFF800000#32 = ⊥ := by simp [Ideal.ofBits, Ideal.ieee]

end Cert.Proof.Attention
-- ==== Proof.AttentionSpec.lean ====
/- The attention: what is computed, entry by entry. -/
module

public import proofs.«01_k».proof.AttentionIdeal
public import proofs.«01_k».proof.Proof.AttentionSoftmax
public import Idealize.ShloMosaic.Lib.Pointwise

@[expose] public section

noncomputable section

namespace Cert.Proof.Attention

open Idealize.ShloMosaic
open Cert.AttentionIdeal

/-- Every entry is a real. -/
def Finite {s : Shape} (x : s.Idx → EReal) : Prop := ∀ i, (((x i).toReal : ℝ) : EReal) = x i

/-- The score of query `i` and key `j` of component `c` of head `h`: their product, scaled. -/
def scoreOf (q : Vec Ideal S2x8192x8x2x64 .bf16) (k : Vec Ideal S2x8448x8x2x64 .bf16) (b : Fin 2) (h : Fin 8) (c : Fin 2) (i : Fin 8192) (j : ℕ) : EReal :=
  if hj : j < 8448 then
    (∑ d : Fin 64, q (Idealize.ShloMosaic.ix5 b i h c d) * k (Idealize.ShloMosaic.ix5 b ⟨j, hj⟩ h c d)) * Ideal.ofBits .f32 0x3E000000#32
  else ⊥

/-- Lane `e` of value `j` of head `h`. -/
def valueOf (v : Vec Ideal S2x8448x8x128 .bf16) (b : Fin 2) (h : Fin 8) (e : Fin 128) (j : ℕ) : ℝ :=
  if hj : j < 8448 then (v (Idealize.ShloMosaic.ix4 b ⟨j, hj⟩ h e)).toReal else 0

/-- Lane `e` of the values averaged by the softmax of a row of scores. -/
def softOf (s : ℕ → EReal) (v : Fin 128 → ℕ → ℝ) (e : Fin 128) : EReal :=
  Ideal.div ((wsum s (v e) 8448 (rowTop s 8448) : ℝ) : EReal) ((wsum s (fun _ => 1) 8448 (rowTop s 8448) : ℝ) : EReal)

/-- A head's output before its norm: component 0 minus `lam` times component 1. -/
def diff (x0 x1 : Fin 128 → EReal) (lam : EReal) (e : Fin 128) : EReal := x0 e - lam * x1 e

/-- A head's normed output: root-mean-square normed over its lanes, times the gain and the constant. -/
def normed (o : Fin 128 → EReal) (g : EReal) (e : Fin 128) : EReal :=
  o e * Ideal.rsqrt (Ideal.div (∑ x : Fin 128, o x * o x) (Ideal.ofBits .f32 0x43000000#32) + Ideal.ofBits .f32 0x358637BD#32)
    * g * Ideal.ofBits .f32 0x3F4CCCCD#32

/-- A head all of whose lanes are zero or infinite is normed to zero. -/
theorem normed_zero (o : Fin 128 → EReal) (ho : ∀ e, o e = 0 ∨ o e = ⊤ ∨ o e = ⊥) (g : EReal) (e : Fin 128) : normed o g e = 0 := by
  unfold normed
  by_cases h : ∃ x, o x ≠ 0
  · obtain ⟨x, hx⟩ := h
    have h0 : ∀ y, 0 ≤ o y * o y := by
      intro y
      rcases ho y with h | h | h <;> rw [h] <;> simp
    have hx2 : o x * o x = ⊤ := by
      rcases ho x with h | h | h
      · exact absurd h hx
      · rw [h]; rfl
      · rw [h]; rfl
    have hs : (∑ y : Fin 128, o y * o y) = ⊤ :=
      top_le_iff.1 (hx2 ▸ Finset.single_le_sum (fun y _ => h0 y) (Finset.mem_univ x))
    have hd : Ideal.ofBits .f32 0x43000000#32 = ((128 : ℝ) : EReal) := by
      simp [Ideal.ofBits, Ideal.ieee, -EReal.coe_mul]; norm_num
    obtain ⟨ε, hε⟩ : ∃ ε : ℝ, Ideal.ofBits .f32 0x358637BD#32 = (ε : EReal) := ⟨_, by simp [Ideal.ofBits, Ideal.ieee, -EReal.coe_mul]; rfl⟩
    rw [hs, hd, Ideal.div_coe (by norm_num), EReal.top_mul_coe_of_pos (by norm_num), hε, EReal.top_add_coe, Ideal.rsqrt_top,
      mul_zero, zero_mul, zero_mul]
  · have hz : o e = 0 := by by_contra hn; exact h ⟨e, hn⟩
    rw [hz, zero_mul, zero_mul, zero_mul]

/-- A multiple of an infinity, by a real, is zero or an infinity. -/
theorem coe_mul_inf (r : ℝ) {w : EReal} (hw : w = ⊤ ∨ w = ⊥) : ((r : ℝ) : EReal) * w = 0 ∨ (r : EReal) * w = ⊤ ∨ (r : EReal) * w = ⊥ := by
  rcases lt_trichotomy r 0 with h | rfl | h
  · rcases hw with rfl | rfl
    · exact .inr (.inr (EReal.coe_mul_top_of_neg h))
    · exact .inr (.inl (EReal.coe_mul_bot_of_neg h))
  · exact .inl (by rw [EReal.coe_zero, zero_mul])
  · rcases hw with rfl | rfl
    · exact .inr (.inl (EReal.coe_mul_top_of_pos h))
    · exact .inr (.inr (EReal.coe_mul_bot_of_pos h))

theorem add_inf {x y : EReal} (hx : x = 0 ∨ x = ⊤ ∨ x = ⊥) (hy : y = 0 ∨ y = ⊤ ∨ y = ⊥) : x + y = 0 ∨ x + y = ⊤ ∨ x + y = ⊥ := by
  rcases hx with rfl | rfl | rfl <;> rcases hy with rfl | rfl | rfl <;> simp

theorem sum_inf {ι : Type} (s : Finset ι) (f : ι → EReal) (hf : ∀ x, f x = 0 ∨ f x = ⊤ ∨ f x = ⊥) :
    (∑ x ∈ s, f x) = 0 ∨ (∑ x ∈ s, f x) = ⊤ ∨ (∑ x ∈ s, f x) = ⊥ := by
  classical
  induction s using Finset.induction_on with
  | empty => exact .inl rfl
  | insert a s ha ih => rw [Finset.sum_insert ha]; exact add_inf (hf a) ih

theorem div_zero_zero : Ideal.div ((0 : ℝ) : EReal) ((0 : ℝ) : EReal) = ⊥ := by simp [Ideal.div]

/-- The values weighted by a difference of two rows of weights, normed, is the difference of the two averages, normed. A
    row whose weights are all zero gives minus infinity in every lane, and the norm then gives zero either way. -/
theorem diff_rows {n : ℕ} (E0 E1 : Fin n → ℝ) (v : Fin 128 → Fin n → ℝ) (lam : ℝ) (g : EReal) (e : Fin 128)
    (h0 : (0 < ∑ x, E0 x) ∨ ∀ x, E0 x = 0) (h1 : (0 < ∑ x, E1 x) ∨ ∀ x, E1 x = 0) :
    normed (fun e => ∑ x : Fin n, ((v e x : ℝ) : EReal)
        * (Ideal.div (E0 x : EReal) ((∑ y, E0 y : ℝ) : EReal) - (lam : EReal) * Ideal.div (E1 x : EReal) ((∑ y, E1 y : ℝ) : EReal))) g e
      = normed (diff (fun e => Ideal.div ((∑ x, E0 x * v e x : ℝ) : EReal) ((∑ y, E0 y : ℝ) : EReal))
          (fun e => Ideal.div ((∑ x, E1 x * v e x : ℝ) : EReal) ((∑ y, E1 y : ℝ) : EReal)) lam) g e := by
  have good : ∀ E : Fin n → ℝ, ∀ f : Fin n → ℝ, ∑ x, E x * f x = ∑ x, f x * E x := fun E f =>
    Finset.sum_congr rfl fun x _ => mul_comm _ _
  by_cases z0 : 0 < ∑ x, E0 x
  · by_cases z1 : 0 < ∑ x, E1 x
    · refine congrArg (fun o => normed o g e) (funext fun e => ?_)
      unfold diff
      simp only [div_coe z0, div_coe z1]
      rw [← EReal.coe_mul, ← EReal.coe_sub, good, good, Finset.sum_div, Finset.sum_div, Finset.mul_sum, ← Finset.sum_sub_distrib, coe_sum]
      refine Finset.sum_congr rfl fun x _ => ?_
      rw [← EReal.coe_mul, ← EReal.coe_sub, ← EReal.coe_mul]
      congr 1
      ring
    · have w1 : ∀ x, E1 x = 0 := h1.resolve_left z1
      simp only [diff, div_coe z0, w1, Finset.sum_const_zero, zero_mul, div_zero_zero]
      by_cases hl : lam = 0
      · subst hl
        refine congrArg (fun o => normed o g e) (funext fun e => ?_)
        unfold diff
        simp only [EReal.coe_zero, zero_mul, sub_zero]
        rw [good, Finset.sum_div, coe_sum]
        refine Finset.sum_congr rfl fun x _ => ?_
        rw [← EReal.coe_mul]
        congr 1
        ring
      · have hi : ∀ r : ℝ, (r : EReal) - (lam : EReal) * ⊥ = ⊤ ∨ (r : EReal) - (lam : EReal) * ⊥ = ⊥ := by
          intro r
          rcases lt_or_gt_of_ne hl with h | h
          · rw [EReal.coe_mul_bot_of_neg h]; exact .inr rfl
          · rw [EReal.coe_mul_bot_of_pos h]; exact .inl rfl
        exact (normed_zero _ (fun e => sum_inf _ _ fun x => coe_mul_inf _ (hi _)) g e).trans
          (normed_zero (diff _ _ _) (fun e => .inr (hi _)) g e).symm
  · have w0 : ∀ x, E0 x = 0 := h0.resolve_left z0
    simp only [diff, w0, Finset.sum_const_zero, zero_mul, div_zero_zero, sub_eq_add_neg, EReal.bot_add]
    exact (normed_zero _ (fun e => sum_inf _ _ fun x => coe_mul_inf _ (.inr rfl)) g e).trans
      (normed_zero (diff _ _ _) (fun e => .inr (.inr (by unfold diff; rw [sub_eq_add_neg, EReal.bot_add]))) g e).symm

/-- Lane `e` of head `h` of query `i`. -/
def headOf (q : Vec Ideal S2x8192x8x2x64 .bf16) (k : Vec Ideal S2x8448x8x2x64 .bf16) (v : Vec Ideal S2x8448x8x128 .bf16)
    (lam : EReal) (g : EReal) (b : Fin 2) (h : Fin 8) (i : Fin 8192) (e : Fin 128) : EReal :=
  normed (diff (softOf (scoreOf q k b h 0 i) (valueOf v b h)) (softOf (scoreOf q k b h 1 i) (valueOf v b h)) lam) g e

/-- The result: row `r` is query `r % 8192` of batch `r / 8192`, column `w` is lane `w % 128` of head `w / 128`. -/
def attentionOf (q : Vec Ideal S2x8192x8x2x64 .bf16) (k : Vec Ideal S2x8448x8x2x64 .bf16) (v : Vec Ideal S2x8448x8x128 .bf16)
    (lam : Vec Ideal S_ .f32) (g : Vec Ideal S128 .f32) : Vec Ideal S16384x1024 .bf16 :=
  fun i =>
    headOf q k v (lam Idealize.ShloMosaic.ix0) (g (Idealize.ShloMosaic.ix1 (⟨(i 1).val % 128, Nat.mod_lt _ (by decide)⟩ : Fin 128)))
      ⟨(i 0).val / 8192, Nat.div_lt_of_lt_mul (i 0).isLt⟩ ⟨(i 1).val / 128, Nat.div_lt_of_lt_mul (i 1).isLt⟩
      ⟨(i 0).val % 8192, Nat.mod_lt _ (by decide)⟩ ⟨(i 1).val % 128, Nat.mod_lt _ (by decide)⟩

theorem attentionOf_apply (q : Vec Ideal S2x8192x8x2x64 .bf16) (k : Vec Ideal S2x8448x8x2x64 .bf16) (v : Vec Ideal S2x8448x8x128 .bf16)
    (lam : Vec Ideal S_ .f32) (g : Vec Ideal S128 .f32) (b : Fin 2) (i : Fin 8192) (h : Fin 8) (e : Fin 128) :
    attentionOf q k v lam g (Idealize.ShloMosaic.ix2 (⟨b.val * 8192 + i.val, by omega⟩ : Fin 16384) (⟨h.val * 128 + e.val, by omega⟩ : Fin 1024))
      = headOf q k v (lam Idealize.ShloMosaic.ix0) (g (Idealize.ShloMosaic.ix1 e)) b h i e := by
  have hb : (b.val * 8192 + i.val) / 8192 = b.val := by omega
  have hi : (b.val * 8192 + i.val) % 8192 = i.val := by omega
  have hh : (h.val * 128 + e.val) / 128 = h.val := by omega
  have he : (h.val * 128 + e.val) % 128 = e.val := by omega
  have key : ∀ (b' : Fin 2) (h' : Fin 8) (i' : Fin 8192) (e' : Fin 128), b' = b → h' = h → i' = i → e' = e →
      headOf q k v (lam Idealize.ShloMosaic.ix0) (g (Idealize.ShloMosaic.ix1 e')) b' h' i' e' = headOf q k v (lam Idealize.ShloMosaic.ix0) (g (Idealize.ShloMosaic.ix1 e)) b h i e := by
    rintro _ _ _ _ rfl rfl rfl rfl; rfl
  exact key _ _ _ _ (Fin.ext hb) (Fin.ext hh) (Fin.ext hi) (Fin.ext he)

end Cert.Proof.Attention

end
-- ==== Proof.AttentionTile.lean ====
/-
  The attention kernel's pieces, read at an index: the scores of a tile of keys, the running maximum, sum and weighted sum,
  and the row's last step.
-/
module

public import proofs.«01_k».proof.Proof.Gen.AttentionIdeal.Frame
public import proofs.«01_k».proof.Proof.Gen.AttentionIdeal.Skeleton
public import Idealize.ShloMosaic.Lib.Pipeline.ValueKit
public import Idealize.ShloMosaic.Lib.Pipeline.ValueKit.Point
public import Idealize.ShloMosaic.Lib.Pointwise
public import proofs.«01_k».proof.Proof.AttentionSpec

@[expose] public section

noncomputable section

namespace Cert.Proof.Attention

open Idealize.ShloMosaic Idealize.ShloMosaic.TcCoe Idealize.SL.Sem
open Cert.AttentionIdeal Cert.AttentionIdeal.Gen

theorem lane_slt : ∀ x : Fin 128, IntOp.cmpi .slt (BitVec.ofNat 32 x.val) 64#32 = if x.val < 64 then 1#1 else 0#1 := by decide
theorem lane_sge : ∀ x : Fin 128, IntOp.cmpi .sge (BitVec.ofNat 32 x.val) 64#32 = if x.val < 64 then 0#1 else 1#1 := by decide

/-- Lane `d` of component 0 of a head. -/
abbrev lane0 (d : Fin 64) : Fin 128 := ⟨d.val, by omega⟩
/-- Lane `d` of component 1 of a head. -/
abbrev lane1 (d : Fin 64) : Fin 128 := ⟨64 + d.val, by omega⟩

theorem sum_lanes (f : Fin 128 → EReal) : (∑ x : Fin 128, f x) = (∑ d : Fin 64, f (lane0 d)) + ∑ d : Fin 64, f (lane1 d) :=
  Fin.sum_univ_add (a := 64) (b := 64) f

/-- A product whose first factor is kept on the lower lanes and zero on the others. -/
theorem sum_low (f k : Fin 128 → EReal) :
    (∑ x : Fin 128, Scalar.select (IntOp.cmpi .slt (BitVec.ofNat 32 x.val) 64#32) (f x) 0 * k x)
      = ∑ d : Fin 64, f (lane0 d) * k (lane0 d) := by
  rw [sum_lanes]
  have h0 : ∀ d : Fin 64, Scalar.select (IntOp.cmpi .slt (BitVec.ofNat 32 (lane0 d).val) 64#32) (f (lane0 d)) 0 = f (lane0 d) := by
    intro d; rw [lane_slt, if_pos d.isLt]; rfl
  have h1 : ∀ d : Fin 64, Scalar.select (IntOp.cmpi .slt (BitVec.ofNat 32 (lane1 d).val) 64#32) (f (lane1 d)) 0 = 0 := by
    intro d; rw [lane_slt, if_neg (by show ¬ 64 + d.val < 64; omega)]; rfl
  simp only [h0, h1, zero_mul, Finset.sum_const_zero, add_zero]

/-- A product whose first factor is kept on the upper lanes and zero on the others. -/
theorem sum_high (f k : Fin 128 → EReal) :
    (∑ x : Fin 128, Scalar.select (IntOp.cmpi .sge (BitVec.ofNat 32 x.val) 64#32) (f x) 0 * k x)
      = ∑ d : Fin 64, f (lane1 d) * k (lane1 d) := by
  rw [sum_lanes]
  have h0 : ∀ d : Fin 64, Scalar.select (IntOp.cmpi .sge (BitVec.ofNat 32 (lane0 d).val) 64#32) (f (lane0 d)) 0 = 0 := by
    intro d; rw [lane_sge, if_pos d.isLt]; rfl
  have h1 : ∀ d : Fin 64, Scalar.select (IntOp.cmpi .sge (BitVec.ofNat 32 (lane1 d).val) 64#32) (f (lane1 d)) 0 = f (lane1 d) := by
    intro d; rw [lane_sge, if_neg (by show ¬ 64 + d.val < 64; omega)]; rfl
  simp only [h0, h1, zero_mul, Finset.sum_const_zero, zero_add]

variable (q : Vec Ideal S512x128 .bf16) (k v : Vec Ideal S1x384x128 .bf16)

theorem pay12_apply (p : Fin 512) (j : Fin 384) :
    k0_pay12 q k (Idealize.ShloMosaic.ix2 p j)
      = ∑ d : Fin 64, q (Idealize.ShloMosaic.ix2 p (lane0 d)) * k (Idealize.ShloMosaic.ix3 0 j (lane0 d)) := by
  rw [← sum_low (fun x => q (Idealize.ShloMosaic.ix2 p x)) fun x => k (Idealize.ShloMosaic.ix3 0 j x)]
  pointwise [k0_pay12, k0_pay2, k0_pay10, k0_pay3]

theorem pay18_apply (p : Fin 512) (j : Fin 384) :
    k0_pay18 q k (Idealize.ShloMosaic.ix2 p j)
      = ∑ d : Fin 64, q (Idealize.ShloMosaic.ix2 p (lane1 d)) * k (Idealize.ShloMosaic.ix3 0 j (lane1 d)) := by
  rw [← sum_high (fun x => q (Idealize.ShloMosaic.ix2 p x)) fun x => k (Idealize.ShloMosaic.ix3 0 j x)]
  pointwise [k0_pay18, k0_pay2, k0_pay10, k0_pay3]

variable (m l : FVec Ideal S512x1 .f32) (a : FVec Ideal S512x128 .f32)

theorem pay13_apply (p : Fin 512) :
    k0_pay13 q m k (Idealize.ShloMosaic.ix2 p 0) = max (m (Idealize.ShloMosaic.ix2 p 0))
      (Finset.fold max (Ideal.ofBits FTy.f32 4286578688#32) (fun x : Fin 384 => k0_pay12 q k (Idealize.ShloMosaic.ix2 p x)) Finset.univ) := by
  pointwise [k0_pay13]

theorem pay19_apply (p : Fin 512) :
    k0_pay19 q m k (Idealize.ShloMosaic.ix2 p 0) = max (m (Idealize.ShloMosaic.ix2 p 0))
      (Finset.fold max (Ideal.ofBits FTy.f32 4286578688#32) (fun x : Fin 384 => k0_pay18 q k (Idealize.ShloMosaic.ix2 p x)) Finset.univ) := by
  pointwise [k0_pay19]

theorem pay16_apply (p : Fin 512) :
    k0_pay16 q m l k (Idealize.ShloMosaic.ix2 p 0)
      = Ideal.exp (m (Idealize.ShloMosaic.ix2 p 0) - k0_pay13 q m k (Idealize.ShloMosaic.ix2 p 0)) * l (Idealize.ShloMosaic.ix2 p 0)
        + ∑ x : Fin 384, Ideal.exp (k0_pay12 q k (Idealize.ShloMosaic.ix2 p x) - k0_pay13 q m k (Idealize.ShloMosaic.ix2 p 0)) := by
  pointwise [k0_pay16, k0_pay14, k0_pay15]

theorem pay22_apply (p : Fin 512) :
    k0_pay22 q m l k (Idealize.ShloMosaic.ix2 p 0)
      = Ideal.exp (m (Idealize.ShloMosaic.ix2 p 0) - k0_pay19 q m k (Idealize.ShloMosaic.ix2 p 0)) * l (Idealize.ShloMosaic.ix2 p 0)
        + ∑ x : Fin 384, Ideal.exp (k0_pay18 q k (Idealize.ShloMosaic.ix2 p x) - k0_pay19 q m k (Idealize.ShloMosaic.ix2 p 0)) := by
  pointwise [k0_pay22, k0_pay20, k0_pay21]

theorem pay17_apply (p : Fin 512) (e : Fin 128) :
    k0_pay17 q m a k v (Idealize.ShloMosaic.ix2 p e)
      = Ideal.exp (m (Idealize.ShloMosaic.ix2 p 0) - k0_pay13 q m k (Idealize.ShloMosaic.ix2 p 0)) * a (Idealize.ShloMosaic.ix2 p e)
        + ∑ x : Fin 384, Ideal.exp (k0_pay12 q k (Idealize.ShloMosaic.ix2 p x) - k0_pay13 q m k (Idealize.ShloMosaic.ix2 p 0))
            * v (Idealize.ShloMosaic.ix3 0 x e) := by
  pointwise [k0_pay17, k0_pay14, k0_pay15, k0_pay11]

theorem pay23_apply (p : Fin 512) (e : Fin 128) :
    k0_pay23 q m a k v (Idealize.ShloMosaic.ix2 p e)
      = Ideal.exp (m (Idealize.ShloMosaic.ix2 p 0) - k0_pay19 q m k (Idealize.ShloMosaic.ix2 p 0)) * a (Idealize.ShloMosaic.ix2 p e)
        + ∑ x : Fin 384, Ideal.exp (k0_pay18 q k (Idealize.ShloMosaic.ix2 p x) - k0_pay19 q m k (Idealize.ShloMosaic.ix2 p 0))
            * v (Idealize.ShloMosaic.ix3 0 x e) := by
  pointwise [k0_pay23, k0_pay20, k0_pay21, k0_pay11]

/-- The row's last step. -/
theorem last_apply (l0 l1 : FVec Ideal S512x1 .f32) (a0 a1 : FVec Ideal S512x128 .f32) (lam : Ideal .f32)
    (g : Vec Ideal S1x128 .f32) (p : Fin 512) (e : Fin 128) :
    k0_pay1 (k0_pay24 l0 a0 l1 a1 lam) g (Idealize.ShloMosaic.ix2 p e)
      = normed (diff (fun x => Ideal.div (a0 (Idealize.ShloMosaic.ix2 p x)) (l0 (Idealize.ShloMosaic.ix2 p 0)))
          (fun x => Ideal.div (a1 (Idealize.ShloMosaic.ix2 p x)) (l1 (Idealize.ShloMosaic.ix2 p 0))) lam)
          (g (Idealize.ShloMosaic.ix2 0 e)) e := by
  unfold normed diff
  pointwise [k0_pay24, k0_pay1]

/-- What the sums start from. -/
theorem start_apply (p : Fin 512) (e : Fin 128) :
    (k0_pay4 (F := Ideal)) (Idealize.ShloMosaic.ix2 p 0) = ⊥ ∧ (k0_pay5 (F := Ideal)) (Idealize.ShloMosaic.ix2 p 0) = 0
      ∧ (k0_pay6 (F := Ideal)) (Idealize.ShloMosaic.ix2 p e) = 0 ∧ (k0_pay7 (F := Ideal)) (Idealize.ShloMosaic.ix2 p 0) = ⊥
      ∧ (k0_pay8 (F := Ideal)) (Idealize.ShloMosaic.ix2 p 0) = 0 ∧ (k0_pay9 (F := Ideal)) (Idealize.ShloMosaic.ix2 p e) = 0 :=
  ⟨ofBits_neg_inf, Ideal.ofBits_zero_f32, Ideal.ofBits_zero_f32, ofBits_neg_inf, Ideal.ofBits_zero_f32, Ideal.ofBits_zero_f32⟩

end Cert.Proof.Attention

end
-- ==== Proof.AttentionPoint.lean ====
/-
  What one grid point of the attention stores: 22 tiles of 384 keys, each leaving the sums shifted by the maximum so far, then the head's norm.
-/
module

public import proofs.«01_k».proof.Proof.AttentionTile

@[expose] public section

noncomputable section

namespace Cert.Proof.Attention

open Idealize.ShloMosaic Idealize.ShloMosaic.TcCoe Idealize.SL.Sem
open Cert.AttentionIdeal Cert.AttentionIdeal.Gen

/-- The six running values: for each component the maximum, the sum and the weighted sum. -/
abbrev Run : Type := FVec Ideal S512x1 .f32 × FVec Ideal S512x1 .f32 × FVec Ideal S512x128 .f32
  × FVec Ideal S512x1 .f32 × FVec Ideal S512x1 .f32 × FVec Ideal S512x128 .f32

/-- The running values after `n` keys, of the scores `s0`, `s1` of each row and the values `w` of each lane. -/
def Kept (s0 s1 : Fin 512 → ℕ → EReal) (w : Fin 128 → ℕ → ℝ) (n : ℕ) (st : Run) : Prop :=
  ∀ (p : Fin 512) (e : Fin 128),
    (Held (s0 p) (fun _ => 1) n (st.1 (Idealize.ShloMosaic.ix2 p 0)) (st.2.1 (Idealize.ShloMosaic.ix2 p 0))
      ∧ Held (s0 p) (w e) n (st.1 (Idealize.ShloMosaic.ix2 p 0)) (st.2.2.1 (Idealize.ShloMosaic.ix2 p e)))
    ∧ Held (s1 p) (fun _ => 1) n (st.2.2.2.1 (Idealize.ShloMosaic.ix2 p 0)) (st.2.2.2.2.1 (Idealize.ShloMosaic.ix2 p 0))
      ∧ Held (s1 p) (w e) n (st.2.2.2.1 (Idealize.ShloMosaic.ix2 p 0)) (st.2.2.2.2.2 (Idealize.ShloMosaic.ix2 p e))

theorem kept_zero (s0 s1 : Fin 512 → ℕ → EReal) (w : Fin 128 → ℕ → ℝ) :
    Kept s0 s1 w 0 (k0_pay4 (F := Ideal), k0_pay5 (F := Ideal), k0_pay6 (F := Ideal), k0_pay7 (F := Ideal), k0_pay8 (F := Ideal), k0_pay9 (F := Ideal)) := by
  intro p e
  obtain ⟨h4, h5, h6, h7, h8, h9⟩ := start_apply p e
  exact ⟨⟨held_zero _ _ h4 h5, held_zero _ _ h4 h6⟩, held_zero _ _ h7 h8, held_zero _ _ h7 h9⟩

/-- One row and one tile. -/
theorem held_tile {s : ℕ → EReal} {v : ℕ → ℝ} {n : ℕ} {m a M : EReal} (h : Held s v n m a) {P V : Fin 384 → EReal}
    (hP : ∀ x : Fin 384, P x = s (n + x)) (hV : ∀ x : Fin 384, V x = ((v (n + x) : ℝ) : EReal))
    (hM : M = max m (Finset.fold max (Ideal.ofBits FTy.f32 4286578688#32) P Finset.univ)) :
    Held s v (n + 384) M (Ideal.exp (m - M) * a + ∑ x : Fin 384, Ideal.exp (P x - M) * V x) := by
  obtain rfl : P = fun x : Fin 384 => s (n + x) := funext hP
  obtain rfl : V = fun x : Fin 384 => ((v (n + x) : ℝ) : EReal) := funext hV
  rw [ofBits_neg_inf] at hM
  exact h.step (k := 384) hM

/-- The same for the sum, whose weights are one. -/
theorem held_tile_one {s : ℕ → EReal} {n : ℕ} {m a M : EReal} (h : Held s (fun _ => 1) n m a) {P : Fin 384 → EReal}
    (hP : ∀ x : Fin 384, P x = s (n + x))
    (hM : M = max m (Finset.fold max (Ideal.ofBits FTy.f32 4286578688#32) P Finset.univ)) :
    Held s (fun _ => 1) (n + 384) M (Ideal.exp (m - M) * a + ∑ x : Fin 384, Ideal.exp (P x - M)) := by
  have := held_tile h hP (V := fun _ => 1) (fun _ => EReal.coe_one.symm) hM
  simpa only [mul_one] using this

/-- The running values after one more tile. -/
theorem kept_tile {s0 s1 : Fin 512 → ℕ → EReal} {w : Fin 128 → ℕ → ℝ} {n : ℕ} {st : Run} (h : Kept s0 s1 w n st)
    (q : Vec Ideal S512x128 .bf16) (K V : Vec Ideal S1x384x128 .bf16)
    (h0 : ∀ (p : Fin 512) (x : Fin 384), (∑ d : Fin 64, q (Idealize.ShloMosaic.ix2 p (lane0 d)) * K (Idealize.ShloMosaic.ix3 0 x (lane0 d))) = s0 p (n + x))
    (h1 : ∀ (p : Fin 512) (x : Fin 384), (∑ d : Fin 64, q (Idealize.ShloMosaic.ix2 p (lane1 d)) * K (Idealize.ShloMosaic.ix3 0 x (lane1 d))) = s1 p (n + x))
    (hw : ∀ (e : Fin 128) (x : Fin 384), V (Idealize.ShloMosaic.ix3 0 x e) = ((w e (n + x) : ℝ) : EReal)) :
    Kept s0 s1 w (n + 384)
      (k0_pay13 q st.1 K, k0_pay16 q st.1 st.2.1 K, k0_pay17 q st.1 st.2.2.1 K V,
        k0_pay19 q st.2.2.2.1 K, k0_pay22 q st.2.2.2.1 st.2.2.2.2.1 K, k0_pay23 q st.2.2.2.1 st.2.2.2.2.2 K V) := by
  intro p e
  obtain ⟨⟨a1, a2⟩, a3, a4⟩ := h p e
  have g0 : ∀ x : Fin 384, k0_pay12 q K (Idealize.ShloMosaic.ix2 p x) = s0 p (n + x) := fun x => (pay12_apply q K p x).trans (h0 p x)
  have g1 : ∀ x : Fin 384, k0_pay18 q K (Idealize.ShloMosaic.ix2 p x) = s1 p (n + x) := fun x => (pay18_apply q K p x).trans (h1 p x)
  refine ⟨⟨?_, ?_⟩, ?_, ?_⟩
  · dsimp only
    rw [pay16_apply]
    exact held_tile_one a1 g0 (pay13_apply q K _ p)
  · dsimp only
    rw [pay17_apply]
    exact held_tile a2 g0 (hw e) (pay13_apply q K _ p)
  · dsimp only
    rw [pay22_apply]
    exact held_tile_one a3 g1 (pay19_apply q K _ p)
  · dsimp only
    rw [pay23_apply]
    exact held_tile a4 g1 (hw e) (pay19_apply q K _ p)

/-- What the running values give after the last key. -/
theorem kept_last {s0 s1 : Fin 512 → ℕ → EReal} {w : Fin 128 → ℕ → ℝ} {n : ℕ} {st : Run} (h : Kept s0 s1 w n st)
    (lam : Ideal .f32) (g : Vec Ideal S1x128 .f32) (p : Fin 512) (e : Fin 128) :
    k0_pay1 (k0_pay24 st.2.1 st.2.2.1 st.2.2.2.2.1 st.2.2.2.2.2 lam) g (Idealize.ShloMosaic.ix2 p e)
      = normed (diff (fun x => Ideal.div ((wsum (s0 p) (w x) n (rowTop (s0 p) n) : ℝ) : EReal) ((wsum (s0 p) (fun _ => 1) n (rowTop (s0 p) n) : ℝ) : EReal))
          (fun x => Ideal.div ((wsum (s1 p) (w x) n (rowTop (s1 p) n) : ℝ) : EReal) ((wsum (s1 p) (fun _ => 1) n (rowTop (s1 p) n) : ℝ) : EReal)) lam)
          (g (Idealize.ShloMosaic.ix2 0 e)) e := by
  rw [last_apply]
  have e0 : (fun x => Ideal.div (st.2.2.1 (Idealize.ShloMosaic.ix2 p x)) (st.2.1 (Idealize.ShloMosaic.ix2 p 0)))
      = fun x => Ideal.div ((wsum (s0 p) (w x) n (rowTop (s0 p) n) : ℝ) : EReal) ((wsum (s0 p) (fun _ => 1) n (rowTop (s0 p) n) : ℝ) : EReal) :=
    funext fun x => Held.div (h p x).1.1 (h p x).1.2
  have e1 : (fun x => Ideal.div (st.2.2.2.2.2 (Idealize.ShloMosaic.ix2 p x)) (st.2.2.2.2.1 (Idealize.ShloMosaic.ix2 p 0)))
      = fun x => Ideal.div ((wsum (s1 p) (w x) n (rowTop (s1 p) n) : ℝ) : EReal) ((wsum (s1 p) (fun _ => 1) n (rowTop (s1 p) n) : ℝ) : EReal) :=
    funext fun x => Held.div (h p x).2.1 (h p x).2.2
  rw [e0, e1]

theorem off1_eq : ∀ k : Fin k0_t1_loop.trips, k0_off1 k = ![0, 384 * k.val, 0] := by decide +kernel

/-- Tile `k` of a block of keys or values, read through the load the kernel does. -/
theorem tile_apply {M : Memref sig .tc .vmem S1x8448x128 .bf16} (hM : M.IsWhole) (X : Vec Ideal S1x8448x128 .bf16)
    (k : Fin k0_t1_loop.trips) (h : ∀ a, k0_off1 k a + S1x384x128.size a ≤ S1x8448x128.size a) (x : Fin 384) (e : Fin 128)
    (hx : 384 * k.val + x.val < 8448) :
    View.readAt (Elt Ideal) M.view (Rect.unit (s := S1x8448x128) (k0_off1 k) S1x384x128.size h).toLoadRect (hM.unread X) (Idealize.ShloMosaic.ix3 0 x e)
      = X (Idealize.ShloMosaic.ix3 0 (⟨384 * k.val + x.val, hx⟩ : Fin 8448) e) := by
  rw [View.readAt_apply]
  refine (congrFun (hM.read_unread X) _).trans (congrArg X ?_)
  funext a
  refine Fin.ext ?_
  have hk := off1_eq k
  fin_cases a <;> simp [Rect.unit, Rect.toLoadRect, LoadRect.idx, hk, Idealize.ShloMosaic.ix3]

end Cert.Proof.Attention

end
-- ==== Proof.AttentionValue.lean ====
/- The attention: what a block of the result holds. -/
module

public import proofs.«01_k».proof.Proof.AttentionPoint

@[expose] public section

noncomputable section

namespace Cert.Proof.Attention

open Idealize.ShloMosaic Idealize.ShloMosaic.TcCoe Idealize.SL.Sem
open Cert.AttentionIdeal Cert.AttentionIdeal.Gen

variable (m : (ℓ : Loc nD τ sig) → Buf (Elt Ideal) ℓ)

/-- The running values before tile `n`, of blocks whose products are the scores given and whose values the reals given. -/
theorem kept_trips (c : Dev nD) (t : Fin cfg0.N) (q : Vec Ideal S512x128 .bf16) (x2 x3 : Vec Ideal S1x8448x128 .bf16)
    {s0 s1 : Fin 512 → ℕ → EReal} {w : Fin 128 → ℕ → ℝ}
    (h0 : ∀ (p : Fin 512) (j : Fin 8448), (∑ d : Fin 64, q (Idealize.ShloMosaic.ix2 p (lane0 d)) * x2 (Idealize.ShloMosaic.ix3 0 j (lane0 d))) = s0 p j)
    (h1 : ∀ (p : Fin 512) (j : Fin 8448), (∑ d : Fin 64, q (Idealize.ShloMosaic.ix2 p (lane1 d)) * x2 (Idealize.ShloMosaic.ix3 0 j (lane1 d))) = s1 p j)
    (hw : ∀ (e : Fin 128) (j : Fin 8448), x3 (Idealize.ShloMosaic.ix3 0 j e) = ((w e j : ℝ) : EReal)) :
    ∀ n : ℕ, n ≤ 22 → Kept s0 s1 w (384 * n)
      (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) q
        ((hs0_2 t).unread x2) ((hs0_3 t).unread x3)
        (k0_pay4 (F := Ideal), k0_pay5 (F := Ideal), k0_pay6 (F := Ideal), k0_pay7 (F := Ideal), k0_pay8 (F := Ideal), k0_pay9 (F := Ideal)) n)
  | 0, _ => kept_zero s0 s1 w
  | n + 1, hn => by
    have hN : n < k0_t1_loop.trips := lt_of_lt_of_le (Nat.lt_of_succ_le hn) (by decide +kernel)
    have ih := kept_trips c t q x2 x3 h0 h1 hw n (by omega)
    rw [show n + 1 = (⟨n, hN⟩ : Fin k0_t1_loop.trips).val + 1 from rfl, st_k0_t1_succ]
    unfold tripR_k0_t1 trip_k0_t1
    dsimp only
    refine kept_tile ih q _ _ (fun p x => ?_) (fun p x => ?_) fun e x => ?_
    · have hx : 384 * n + x.val < 8448 := by omega
      exact (Finset.sum_congr rfl fun d _ => congrArg _ (tile_apply (hs0_2 t) x2 ⟨n, hN⟩ _ x (lane0 d) hx)).trans (h0 p ⟨384 * n + x.val, hx⟩)
    · have hx : 384 * n + x.val < 8448 := by omega
      exact (Finset.sum_congr rfl fun d _ => congrArg _ (tile_apply (hs0_2 t) x2 ⟨n, hN⟩ _ x (lane1 d) hx)).trans (h1 p ⟨384 * n + x.val, hx⟩)
    · have hx : 384 * n + x.val < 8448 := by omega
      exact (tile_apply (hs0_3 t) x3 ⟨n, hN⟩ _ x e hx).trans (hw e ⟨384 * n + x.val, hx⟩)

/-- The scaled queries as the call takes them. -/
theorem V_main_v4_apply (c : Dev nD) (b : Fin 2) (i : Fin 8192) (h : Fin 8) (cc : Fin 2) (d : Fin 64) :
    V m c main_v4 (Idealize.ShloMosaic.ix2 (⟨b.val * 8192 + i.val, by omega⟩ : Fin 16384) (⟨h.val * 128 + cc.val * 64 + d.val, by omega⟩ : Fin 1024))
      = HMul.hMul (α := EReal) (β := EReal) (γ := EReal) (m ((c : Thread nD τ).loc main_arg0) (Idealize.ShloMosaic.ix5 b i h cc d)) (Ideal.ofBits .f32 0x3E000000#32) := by
  entry_read
  pointwise

/-- The keys. -/
theorem V_main_v5_apply (c : Dev nD) (b : Fin 2) (j : Fin 8448) (h : Fin 8) (cc : Fin 2) (d : Fin 64) :
    V m c main_v5 (Idealize.ShloMosaic.ix3 b j (⟨h.val * 128 + cc.val * 64 + d.val, by omega⟩ : Fin 1024))
      = m ((c : Thread nD τ).loc main_arg1) (Idealize.ShloMosaic.ix5 b j h cc d) := by
  entry_read
  pointwise

/-- The values. -/
theorem V_main_v6_apply (c : Dev nD) (b : Fin 2) (j : Fin 8448) (h : Fin 8) (e : Fin 128) :
    V m c main_v6 (Idealize.ShloMosaic.ix3 b j (⟨h.val * 128 + e.val, by omega⟩ : Fin 1024))
      = m ((c : Thread nD τ).loc main_arg2) (Idealize.ShloMosaic.ix4 b j h e) := by
  entry_read
  pointwise

/-- The factor of component 1. -/
theorem V_main_v7_apply (c : Dev nD) :
    V m c main_v7 (Idealize.ShloMosaic.ix1 (0 : Fin 1)) = m ((c : Thread nD τ).loc main_arg3) Idealize.ShloMosaic.ix0 := by
  entry_read
  pointwise

/-- The gains. -/
theorem V_main_v8_apply (c : Dev nD) (e : Fin 128) :
    V m c main_v8 (Idealize.ShloMosaic.ix2 (0 : Fin 1) e) = m ((c : Thread nD τ).loc main_arg4) (Idealize.ShloMosaic.ix1 e) := by
  entry_read
  pointwise

theorem idx0 (t : Fin cfg0.N) : (cfg0.win 0).index t = ![0] :=
  (by decide +kernel : ∀ t : Fin grid0.N, cc0_transform_0 (grid0.coords t) = ![0]) t
theorem idx1 (t : Fin cfg0.N) : (cfg0.win 1).index t = ![t.val / 128 * 16 + t.val % 16, t.val / 16 % 8] :=
  (by decide +kernel : ∀ t : Fin grid0.N, cc0_transform_1 (grid0.coords t) = ![t.val / 128 * 16 + t.val % 16, t.val / 16 % 8]) t
theorem idx2 (t : Fin cfg0.N) : (cfg0.win 2).index t = ![t.val / 128, 0, t.val / 16 % 8] :=
  (by decide +kernel : ∀ t : Fin grid0.N, cc0_transform_2 (grid0.coords t) = ![t.val / 128, 0, t.val / 16 % 8]) t
theorem idx3 (t : Fin cfg0.N) : (cfg0.win 3).index t = ![t.val / 128, 0, t.val / 16 % 8] :=
  (by decide +kernel : ∀ t : Fin grid0.N, cc0_transform_3 (grid0.coords t) = ![t.val / 128, 0, t.val / 16 % 8]) t
theorem idx4 (t : Fin cfg0.N) : (cfg0.win 4).index t = ![0, 0] :=
  (by decide +kernel : ∀ t : Fin grid0.N, cc0_transform_4 (grid0.coords t) = ![0, 0]) t
theorem idx5 (t : Fin cfg0.N) : (cfg0.win 5).index t = ![t.val / 128 * 16 + t.val % 16, t.val / 16 % 8] :=
  (by decide +kernel : ∀ t : Fin grid0.N, cc0_transform_5 (grid0.coords t) = ![t.val / 128 * 16 + t.val % 16, t.val / 16 % 8]) t

theorem iblk1_apply (c : Dev nD) (t : Fin 256) (p : Fin 512) (e : Fin 128) :
    iblk m c 1 t (Idealize.ShloMosaic.ix2 p e)
      = V m c main_v4 (Idealize.ShloMosaic.ix2 (⟨(t.val / 128 * 16 + t.val % 16) * 512 + p.val, by omega⟩ : Fin 16384) (⟨t.val / 16 % 8 * 128 + e.val, by omega⟩ : Fin 1024)) := by
  blk_ext [iblk, idx1 t]
theorem iblk2_apply (c : Dev nD) (t : Fin 256) (j : Fin 8448) (e : Fin 128) :
    iblk m c 2 t (Idealize.ShloMosaic.ix3 (0 : Fin 1) j e)
      = V m c main_v5 (Idealize.ShloMosaic.ix3 (⟨t.val / 128, by omega⟩ : Fin 2) j (⟨t.val / 16 % 8 * 128 + e.val, by omega⟩ : Fin 1024)) := by
  blk_ext [iblk, idx2 t]
theorem iblk3_apply (c : Dev nD) (t : Fin 256) (j : Fin 8448) (e : Fin 128) :
    iblk m c 3 t (Idealize.ShloMosaic.ix3 (0 : Fin 1) j e)
      = V m c main_v6 (Idealize.ShloMosaic.ix3 (⟨t.val / 128, by omega⟩ : Fin 2) j (⟨t.val / 16 % 8 * 128 + e.val, by omega⟩ : Fin 1024)) := by
  blk_ext [iblk, idx3 t]
theorem iblk4_apply (c : Dev nD) (t : Fin 256) (e : Fin 128) :
    iblk m c 4 t (Idealize.ShloMosaic.ix2 (0 : Fin 1) e) = V m c main_v8 (Idealize.ShloMosaic.ix2 (0 : Fin 1) e) := by
  blk_ext [iblk, idx4 t]
theorem iblk0_apply (c : Dev nD) (t : Fin 256) :
    iblk m c 0 t (Idealize.ShloMosaic.ix1 (0 : Fin 1)) = V m c main_v7 (Idealize.ShloMosaic.ix1 (0 : Fin 1)) := by
  blk_ext [iblk, idx0 t]

theorem emb5 (t : Fin 256) (p : Fin 512) (e : Fin 128) :
    (((spec0 5).arr.view.slice ((cfg0.win 5).rect t)).emb (Idealize.ShloMosaic.ix2 p e))
      = (Idealize.ShloMosaic.ix2 (⟨(t.val / 128 * 16 + t.val % 16) * 512 + p.val, by omega⟩ : Fin 16384) (⟨t.val / 16 % 8 * 128 + e.val, by omega⟩ : Fin 1024) : S16384x1024.Idx) := by
  blk_ext [idx5 t]

/-- The batch, the head and the query of a row of grid point `t`. -/
abbrev batchOf (t : Fin 256) : Fin 2 := ⟨t.val / 128, by omega⟩
abbrev headAt (t : Fin 256) : Fin 8 := ⟨t.val / 16 % 8, by omega⟩
abbrev queryOf (t : Fin 256) (p : Fin 512) : Fin 8192 := ⟨t.val % 16 * 512 + p.val, by omega⟩

theorem q_at (c : Dev nD) (t : Fin 256) (p : Fin 512) (w : Fin 128) (cc : Fin 2) (d : Fin 64) (hw : w.val = cc.val * 64 + d.val) :
    iblk m c 1 t (Idealize.ShloMosaic.ix2 p w)
      = HMul.hMul (α := EReal) (β := EReal) (γ := EReal) (m ((c : Thread nD τ).loc main_arg0) (Idealize.ShloMosaic.ix5 (batchOf t) (queryOf t p) (headAt t) cc d)) (Ideal.ofBits .f32 0x3E000000#32) := by
  refine (iblk1_apply m c t p w).trans (Eq.trans ?_ (V_main_v4_apply m c (batchOf t) (queryOf t p) (headAt t) cc d))
  refine congrArg₂ (fun (r : Fin 16384) (x : Fin 1024) => V m c main_v4 (Idealize.ShloMosaic.ix2 r x)) (Fin.ext ?_) (Fin.ext ?_)
  · show (t.val / 128 * 16 + t.val % 16) * 512 + p.val = t.val / 128 * 8192 + (t.val % 16 * 512 + p.val)
    omega
  · show t.val / 16 % 8 * 128 + w.val = t.val / 16 % 8 * 128 + cc.val * 64 + d.val
    omega

theorem k_at (c : Dev nD) (t : Fin 256) (j : Fin 8448) (w : Fin 128) (cc : Fin 2) (d : Fin 64) (hw : w.val = cc.val * 64 + d.val) :
    iblk m c 2 t (Idealize.ShloMosaic.ix3 (0 : Fin 1) j w)
      = m ((c : Thread nD τ).loc main_arg1) (Idealize.ShloMosaic.ix5 (batchOf t) j (headAt t) cc d) := by
  refine (iblk2_apply m c t j w).trans (Eq.trans ?_ (V_main_v5_apply m c (batchOf t) j (headAt t) cc d))
  refine congrArg (fun (x : Fin 1024) => V m c main_v5 (Idealize.ShloMosaic.ix3 (batchOf t) j x)) (Fin.ext ?_)
  show t.val / 16 % 8 * 128 + w.val = t.val / 16 % 8 * 128 + cc.val * 64 + d.val
  omega

/-- The kernel's scores are the scaled products. -/
theorem score_at (c : Dev nD)
    (t : Fin 256) (p : Fin 512) (j : Fin 8448) (cc : Fin 2) (lane : Fin 64 → Fin 128) (hl : ∀ d, (lane d).val = cc.val * 64 + d.val)
    (Q : Vec Ideal S512x128 .bf16) (K : Vec Ideal S1x8448x128 .bf16) (hQ : Q = iblk m c 1 t) (hK : K = iblk m c 2 t) :
    (∑ d : Fin 64, Q (Idealize.ShloMosaic.ix2 p (lane d)) * K (Idealize.ShloMosaic.ix3 (0 : Fin 1) j (lane d)))
      = scoreOf (m ((c : Thread nD τ).loc main_arg0)) (m ((c : Thread nD τ).loc main_arg1)) (batchOf t) (headAt t) cc (queryOf t p) j := by
  subst hQ hK
  rw [scoreOf, dif_pos j.isLt, ofBits_eighth, ← score_sum _ _ _ (by norm_num)]
  refine Finset.sum_congr rfl fun d _ => ?_
  refine congrArg₂ (fun x y : EReal => x * y) ((q_at m c t p (lane d) cc d (hl d)).trans ?_) (k_at m c t j (lane d) cc d (hl d))
  exact congrArg (fun y : EReal => _ * y) ofBits_eighth

theorem value_at (c : Dev nD) (hv : Finite (s := S2x8448x8x128) (m ((c : Thread nD τ).loc main_arg2))) (t : Fin 256) (e : Fin 128) (j : Fin 8448) :
    iblk m c 3 t (Idealize.ShloMosaic.ix3 (0 : Fin 1) j e) = ((valueOf (m ((c : Thread nD τ).loc main_arg2)) (batchOf t) (headAt t) e j : ℝ) : EReal) := by
  rw [valueOf, dif_pos j.isLt]
  exact (iblk3_apply m c t j e).trans ((V_main_v6_apply m c (batchOf t) j (headAt t) e).trans (hv _).symm)

/-- The factor of component 1, as the kernel loads it. -/
theorem lam_at (c : Dev nD) (t : Fin 256) (x : S1.Idx) :
    iblk m c 0 t x = m ((c : Thread nD τ).loc main_arg3) Idealize.ShloMosaic.ix0 := by
  have hx : x = Idealize.ShloMosaic.ix1 (0 : Fin 1) := (Idealize.ShloMosaic.eq_ix1 (n0 := 1) x).trans (congrArg (fun z : Fin 1 => Idealize.ShloMosaic.ix1 z) (Subsingleton.elim _ _))
  subst hx
  exact (iblk0_apply m c t).trans (V_main_v7_apply m c)

theorem out_entry (c : Dev nD) (hv : Finite (s := S2x8448x8x128) (m ((c : Thread nD τ).loc main_arg2))) (t : Fin 256) (p : Fin 512) (e : Fin 128) :
    outsAt0 m c t (Idealize.ShloMosaic.ix2 p e)
      = headOf (m ((c : Thread nD τ).loc main_arg0)) (m ((c : Thread nD τ).loc main_arg1)) (m ((c : Thread nD τ).loc main_arg2))
          (m ((c : Thread nD τ).loc main_arg3) Idealize.ShloMosaic.ix0) (m ((c : Thread nD τ).loc main_arg4) (Idealize.ShloMosaic.ix1 e))
          (batchOf t) (headAt t) (queryOf t p) e := by
  unfold outsAt0
  frame_out
  have hkept := kept_trips c t (iblk m c 1 t) (iblk m c 2 t) (iblk m c 3 t)
    (s0 := fun p => scoreOf (m ((c : Thread nD τ).loc main_arg0)) (m ((c : Thread nD τ).loc main_arg1)) (batchOf t) (headAt t) 0 (queryOf t p))
    (s1 := fun p => scoreOf (m ((c : Thread nD τ).loc main_arg0)) (m ((c : Thread nD τ).loc main_arg1)) (batchOf t) (headAt t) 1 (queryOf t p))
    (w := valueOf (m ((c : Thread nD τ).loc main_arg2)) (batchOf t) (headAt t))
    (fun p j => score_at m c t p j 0 lane0 (fun d => by show d.val = 0 * 64 + d.val; omega) _ _ rfl rfl)
    (fun p j => score_at m c t p j 1 lane1 (fun d => by show 64 + d.val = 1 * 64 + d.val; omega) _ _ rfl rfl)
    (fun e j => value_at m c hv t e j) 22 le_rfl
  refine (kept_last (n := 8448) hkept _ (iblk m c 4 t) p e).trans ?_
  unfold headOf
  exact congrArg₂ (fun l g : EReal => normed (diff (softOf (scoreOf (m ((c : Thread nD τ).loc main_arg0)) (m ((c : Thread nD τ).loc main_arg1)) (batchOf t) (headAt t) 0 (queryOf t p)) (valueOf (m ((c : Thread nD τ).loc main_arg2)) (batchOf t) (headAt t)))
      (softOf (scoreOf (m ((c : Thread nD τ).loc main_arg0)) (m ((c : Thread nD τ).loc main_arg1)) (batchOf t) (headAt t) 1 (queryOf t p)) (valueOf (m ((c : Thread nD τ).loc main_arg2)) (batchOf t) (headAt t))) l) g e)
    (lam_at m c t _) ((iblk4_apply m c t e).trans (V_main_v8_apply m c e))

theorem row_eq (t : Fin 256) (p : Fin 512) (e : Fin 128) :
    (Idealize.ShloMosaic.ix2 (⟨(t.val / 128 * 16 + t.val % 16) * 512 + p.val, by omega⟩ : Fin 16384) (⟨t.val / 16 % 8 * 128 + e.val, by omega⟩ : Fin 1024) : S16384x1024.Idx)
      = Idealize.ShloMosaic.ix2 (⟨(batchOf t).val * 8192 + (queryOf t p).val, by omega⟩ : Fin 16384) (⟨(headAt t).val * 128 + e.val, by omega⟩ : Fin 1024) := by
  refine congrArg (fun r : Fin 16384 => (Idealize.ShloMosaic.ix2 r (⟨t.val / 16 % 8 * 128 + e.val, by omega⟩ : Fin 1024) : S16384x1024.Idx)) (Fin.ext ?_)
  show (t.val / 128 * 16 + t.val % 16) * 512 + p.val = t.val / 128 * 8192 + (t.val % 16 * 512 + p.val)
  omega

theorem point_eq (c : Dev nD) (hv : Finite (s := S2x8448x8x128) (m ((c : Thread nD τ).loc main_arg2))) (t : Fin 256) (p : Fin 512) (e : Fin 128) :
    outsAt0 m c t (Idealize.ShloMosaic.ix2 p e)
      = attentionOf (m ((c : Thread nD τ).loc main_arg0)) (m ((c : Thread nD τ).loc main_arg1)) (m ((c : Thread nD τ).loc main_arg2))
          (m ((c : Thread nD τ).loc main_arg3)) (m ((c : Thread nD τ).loc main_arg4))
          (((spec0 5).arr.view.slice ((cfg0.win 5).rect t)).emb (Idealize.ShloMosaic.ix2 p e)) := by
  rw [emb5 t p e, row_eq t p e, attentionOf_apply]
  exact out_entry m c hv t p e

theorem split_row (i : S16384x1024.Idx) : ∃ (t : Fin 256) (p : Fin 512) (e : Fin 128),
    i = Idealize.ShloMosaic.ix2 (⟨(t.val / 128 * 16 + t.val % 16) * 512 + p.val, by omega⟩ : Fin 16384) (⟨t.val / 16 % 8 * 128 + e.val, by omega⟩ : Fin 1024) := by
  have h0 : (i 0).val < 16384 := (i 0).isLt
  have h1 : (i 1).val < 1024 := (i 1).isLt
  refine ⟨⟨(i 0).val / 8192 * 128 + (i 1).val / 128 * 16 + (i 0).val / 512 % 16, by omega⟩, ⟨(i 0).val % 512, Nat.mod_lt _ (by decide)⟩,
    ⟨(i 1).val % 128, Nat.mod_lt _ (by decide)⟩, (Idealize.ShloMosaic.eq_ix2 (n0 := 16384) (n1 := 1024) i).trans ?_⟩
  refine congrArg₂ (fun (r : Fin 16384) (w : Fin 1024) => Idealize.ShloMosaic.ix2 r w) (Fin.ext ?_) (Fin.ext ?_)
  · show (i 0).val = (((i 0).val / 8192 * 128 + (i 1).val / 128 * 16 + (i 0).val / 512 % 16) / 128 * 16
      + ((i 0).val / 8192 * 128 + (i 1).val / 128 * 16 + (i 0).val / 512 % 16) % 16) * 512 + (i 0).val % 512
    omega
  · show (i 1).val = ((i 0).val / 8192 * 128 + (i 1).val / 128 * 16 + (i 0).val / 512 % 16) / 16 % 8 * 128 + (i 1).val % 128
    omega

/-- Every entry of the result lies in some point's block. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, p, e, h⟩ := split_row i
  refine ⟨t, flush0_5 _, ?_⟩
  rw [h.trans (emb5 t p e).symm]
  exact View.emb_mem_set _ _

theorem split_blk (y : S512x128.Idx) : ∃ (p : Fin 512) (e : Fin 128), y = Idealize.ShloMosaic.ix2 p e := ⟨y 0, y 1, Idealize.ShloMosaic.eq_ix2 (n0 := 512) (n1 := 128) y⟩

/-- The result array after the run is the attention of the arguments. -/
theorem final (c : Dev nD) (hv : Finite (s := S2x8448x8x128) (m ((c : Thread nD τ).loc main_arg2))) :
    (dats m 0 c).arrAt 5 cfg0.N
      = attentionOf (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_emb 5 _ (fun t hf y => ?_) fun i => ?_
  · blk_simp
    rw [after0_5]
    obtain ⟨p, e, rfl⟩ := split_blk y
    exact point_eq m c hv t p e
  · exact cover5 c i

end Cert.Proof.Attention

end
-- ==== Proof.AttentionReference.lean ====
/- The attention: what the reference computes. -/
module

public import proofs.«01_k».proof.Proof.AttentionSpec
public import proofs.«01_k».proof.Proof.Gen.AttentionReferenceIdeal.Run
public import Idealize.ShloMosaic.Lib.Pipeline.ValueKit
public import Idealize.ShloMosaic.Lib.Pipeline.ValueKit.Point
public import Idealize.ShloMosaic.Lib.KernelVsHost
public import Idealize.ShloMosaic.Lib.Pointwise

@[expose] public section

noncomputable section

namespace Cert.Proof.Attention

open Idealize.ShloMosaic Idealize.ShloMosaic.TcCoe Idealize.SL.Sem
open Cert.AttentionReferenceIdeal Cert.AttentionReferenceIdeal.Value Cert.AttentionReferenceIdeal.Gen

/-- The scaled scores. -/
def refScore (q : Vec Ideal S2x8192x8x2x64 .bf16) (k : Vec Ideal S2x8448x8x2x64 .bf16) : Vec Ideal S2x8x2x8192x8448 .f32 :=
  mulf (F := Ideal) (Host.dotGeneral (F := Ideal) (φ₁ := .f32) (φ₂ := .f32) dot_S2x8192x8x2x64_S2x8448x8x2x64_S2x8x2x8192x8448_4_4_1_1_023_023 none (extf (F := Ideal) .f32 q bitsLt_bf16_f32) (extf (F := Ideal) .f32 k bitsLt_bf16_f32))
    (broadcastInDim S2x8x2x8192x8448 ![] bcast_S_S2x8x2x8192x8448 (constant (F := Ideal) S_ .f32 0x3E000000#32))

/-- Each row's maximum. -/
def refMax (S : Vec Ideal S2x8x2x8192x8448 .f32) : Vec Ideal S2x8x2x8192 .f32 :=
  maximumf (F := Ideal) (broadcastInDim S2x8x2x8192 ![] bcast_S_S2x8x2x8192 (constant (F := Ideal) S_ .f32 0xFF800000#32))
    (Host.reduce FloatOps.maximumf S (constant (F := Ideal) S_ .f32 0xFF800000#32) reducesTo_S2x8x2x8192x8448_S2x8x2x8192_d4 h_S_)

/-- The exponentials of the shifted scores. -/
def refExp (S : Vec Ideal S2x8x2x8192x8448 .f32) (M : Vec Ideal S2x8x2x8192 .f32) : Vec Ideal S2x8x2x8192x8448 .f32 :=
  Host.exp (F := Ideal) (φ := .f32) (subf (F := Ideal) (φ := .f32) S (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 M)))

/-- The softmax weights. -/
def refWeights (E : Vec Ideal S2x8x2x8192x8448 .f32) : Vec Ideal S2x8x2x8192x8448 .f32 :=
  Host.divf (F := Ideal) E (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 (Host.reduceAdd (F := Ideal) E (constant (F := Ideal) S_ .f32 0x00000000#32) reducesTo_S2x8x2x8192x8448_S2x8x2x8192_d4 h_S_)))

/-- The values weighted by component 0's weights minus `lam` times component 1's. -/
def refHead (v : Vec Ideal S2x8448x8x128 .bf16) (lam : Vec Ideal S_ .f32) (P : Vec Ideal S2x8x2x8192x8448 .f32) : Vec Ideal S2x8192x8x128 .f32 :=
  transpose S2x8192x8x128 [0, 3, 1, 2] (Host.dotGeneral (F := Ideal) (φ₁ := .f32) (φ₂ := .f32) dot_S2x8448x8x128_S2x8x8192x8448_S2x8x128x8192_1_3_3_2_02_01 none (extf (F := Ideal) .f32 v bitsLt_bf16_f32) (subf (F := Ideal) (shapeCast _ (extractStridedSlice S2x8x1x8192x8448 ![0, 0, 0, 0, 0] P slices_S2x8x2x8192x8448_S2x8x1x8192x8448_0_0_0_0_0) shapeCasts_S2x8x1x8192x8448_S2x8x8192x8448) (mulf (F := Ideal) (broadcastInDim S2x8x8192x8448 ![] bcast_S_S2x8x8192x8448 lam) (shapeCast _ (extractStridedSlice S2x8x1x8192x8448 ![0, 0, 1, 0, 0] P slices_S2x8x2x8192x8448_S2x8x1x8192x8448_0_0_1_0_0) shapeCasts_S2x8x1x8192x8448_S2x8x8192x8448)))) transposes_S2x8x128x8192_S2x8192x8x128_0_3_1_2

/-- The norm over a head's lanes, the gain and the constant. -/
def refNorm (O : Vec Ideal S2x8192x8x128 .f32) (g : Vec Ideal S128 .f32) : Vec Ideal S2x8192x8x128 .f32 :=
  mulf (F := Ideal) (mulf (F := Ideal) (mulf (F := Ideal) O (broadcastInDim S2x8192x8x128 ![0, 1, 2, 3] bcast_S2x8192x8x1_S2x8192x8x128_0_1_2_3 (Host.rsqrt (F := Ideal) (addf (F := Ideal) (Host.divf (F := Ideal) (broadcastInDim S2x8192x8x1 ![0, 1, 2] bcast_S2x8192x8_S2x8192x8x1_0_1_2 (Host.reduceAdd (F := Ideal) (mulf (F := Ideal) O O) (constant (F := Ideal) S_ .f32 0x00000000#32) reducesTo_S2x8192x8x128_S2x8192x8_d3 h_S_)) (broadcastInDim S2x8192x8x1 ![] bcast_S_S2x8192x8x1 (constant (F := Ideal) S_ .f32 0x43000000#32))) (broadcastInDim S2x8192x8x1 ![] bcast_S_S2x8192x8x1 (constant (F := Ideal) S_ .f32 0x358637BD#32)))))) (broadcastInDim S2x8192x8x128 ![0, 1, 2, 3] bcast_S1x1x1x128_S2x8192x8x128_0_1_2_3 (broadcastInDim S1x1x1x128 ![3] bcast_S128_S1x1x1x128_3 g))) (broadcastInDim S2x8192x8x128 ![] bcast_S_S2x8192x8x128 (constant (F := Ideal) S_ .f32 0x3F4CCCCD#32))

/-- Rows of the result. -/
def refRows (N : Vec Ideal S2x8192x8x128 .f32) : Vec Ideal S16384x1024 .bf16 :=
  truncf (F := Ideal) .bf16 (shapeCast _ N shapeCasts_S2x8192x8x128_S16384x1024) bitsLt_bf16_f32

theorem res_eq (m : (ℓ : Loc nD τ sig) → Buf (Elt Ideal) ℓ) (c : Dev nD) : res_main_v42 (F := Ideal) m c
    = refRows (refNorm (refHead (m ((c.tc : Thread nD τ).loc main_arg2)) (m ((c.tc : Thread nD τ).loc main_arg3))
        (refWeights (refExp (refScore (m ((c.tc : Thread nD τ).loc main_arg0)) (m ((c.tc : Thread nD τ).loc main_arg1)))
          (refMax (refScore (m ((c.tc : Thread nD τ).loc main_arg0)) (m ((c.tc : Thread nD τ).loc main_arg1)))))))
        (m ((c.tc : Thread nD τ).loc main_arg4))) := rfl

theorem refScore_apply (q : Vec Ideal S2x8192x8x2x64 .bf16) (k : Vec Ideal S2x8448x8x2x64 .bf16) (b : Fin 2) (h : Fin 8) (c : Fin 2) (i : Fin 8192) (j : Fin 8448) :
    refScore q k (Idealize.ShloMosaic.ix5 b h c i j)
      = (∑ d : Fin 64, q (Idealize.ShloMosaic.ix5 b i h c d) * k (Idealize.ShloMosaic.ix5 b j h c d)) * Ideal.ofBits .f32 0x3E000000#32 := by
  pointwise [refScore]

/-- A maximum over one axis. -/
theorem hostMax_apply {s t u : Shape} {a : Fin s.rank} (x : FVec Ideal s .f32) (h : s.ReducesTo [a] t) (hu : 0 < u.numel)
    (hr : s.Reduces [a] t) (y : t.Idx) :
    Host.reduce (FloatOps.maximumf (F := Ideal) (φ := .f32)) x (constant (F := Ideal) u .f32 0xFF800000#32) h hu y
      = (Finset.univ : Finset (Fin (s.size a))).fold max (⊥ : EReal) (x ∘ hr.lift y) := by
  have e : Host.reduce (FloatOps.maximumf (F := Ideal) (φ := .f32)) x (constant (F := Ideal) u .f32 0xFF800000#32) h hu y
      = (Finset.univ : Finset (Fin (s.size a))).fold max (FloatOps.ofBits (F := Ideal) .f32 0xFF800000#32) (x ∘ hr.lift y) :=
    (congrFun (hostReduce_maximumf_eq_multiReduction (F := Ideal) (φ := .f32) x 0xFF800000#32 h hu hr (.inl rfl) rfl) y).trans
      (Ideal.multiReduction_maximumf_single x _ hr (.inl rfl) rfl y)
  have hb : (FloatOps.ofBits (F := Ideal) .f32 0xFF800000#32 : EReal) = ⊥ := ofBits_neg_inf
  rw [e, hb]

/-- The maximum with minus infinity. -/
theorem maxBot_apply {t : Shape} (B R : FVec Ideal t .f32) (y : t.Idx) (hB : B y = ⊥) : maximumf (F := Ideal) B R y = R y := by
  show max (B y) (R y) = _
  rw [hB]
  exact max_eq_right bot_le

theorem row_reduces : S2x8x2x8192x8448.Reduces [4] S2x8x2x8192 := by decide

/-- The last coordinate inserted. -/
theorem lift_last {n0 n1 n2 n3 n4 : ℕ} (h : (⟨5, ![n0, n1, n2, n3, n4]⟩ : Shape).Reduces [4] ⟨4, ![n0, n1, n2, n3]⟩)
    (a : Fin n0) (b : Fin n1) (c : Fin n2) (d : Fin n3) (e : Fin n4) :
    h.lift (Idealize.ShloMosaic.ix4 a b c d) e = Idealize.ShloMosaic.ix5 a b c d e := by
  funext x
  refine Fin.ext ?_
  refine (Shape.Reduces.lift_val h _ e x).trans ?_
  fin_cases x <;> simp [Shape.Reduces.liftVal, Idealize.ShloMosaic.ix4, Idealize.ShloMosaic.ix5]

/-- The maximum of a row. -/
theorem refMax_apply (S : Vec Ideal S2x8x2x8192x8448 .f32) (b : Fin 2) (h : Fin 8) (c : Fin 2) (i : Fin 8192) :
    refMax S (Idealize.ShloMosaic.ix4 b h c i)
      = Finset.fold max (⊥ : EReal) (fun j : Fin 8448 => S (Idealize.ShloMosaic.ix5 b h c i j)) Finset.univ :=
  (maxBot_apply _ _ _ ofBits_neg_inf).trans
    ((hostMax_apply S reducesTo_S2x8x2x8192x8448_S2x8x2x8192_d4 h_S_ row_reduces _).trans
      (congrArg (fun f : Fin 8448 → EReal => Finset.fold max (⊥ : EReal) f Finset.univ)
        (funext fun j => congrArg S (lift_last row_reduces b h c i j))))

theorem refExp_apply (S : Vec Ideal S2x8x2x8192x8448 .f32) (M : Vec Ideal S2x8x2x8192 .f32) (b : Fin 2) (h : Fin 8) (c : Fin 2) (i : Fin 8192) (j : Fin 8448) :
    refExp S M (Idealize.ShloMosaic.ix5 b h c i j) = Ideal.exp (S (Idealize.ShloMosaic.ix5 b h c i j) - M (Idealize.ShloMosaic.ix4 b h c i)) := by
  pointwise [refExp]

theorem refWeights_apply (E : Vec Ideal S2x8x2x8192x8448 .f32) (b : Fin 2) (h : Fin 8) (c : Fin 2) (i : Fin 8192) (j : Fin 8448) :
    refWeights E (Idealize.ShloMosaic.ix5 b h c i j)
      = Ideal.div (E (Idealize.ShloMosaic.ix5 b h c i j)) (∑ y : Fin 8448, E (Idealize.ShloMosaic.ix5 b h c i y)) := by
  pointwise [refWeights]

theorem refHead_apply (v : Vec Ideal S2x8448x8x128 .bf16) (lam : Vec Ideal S_ .f32) (P : Vec Ideal S2x8x2x8192x8448 .f32) (b : Fin 2) (i : Fin 8192) (h : Fin 8) (e : Fin 128) :
    refHead v lam P (Idealize.ShloMosaic.ix4 b i h e)
      = ∑ x : Fin 8448, v (Idealize.ShloMosaic.ix4 b x h e)
          * (P (Idealize.ShloMosaic.ix5 b h 0 i x) - lam Idealize.ShloMosaic.ix0 * P (Idealize.ShloMosaic.ix5 b h 1 i x)) := by
  pointwise [refHead]

theorem refNorm_apply (O : Vec Ideal S2x8192x8x128 .f32) (g : Vec Ideal S128 .f32) (b : Fin 2) (i : Fin 8192) (h : Fin 8) (e : Fin 128) :
    refNorm O g (Idealize.ShloMosaic.ix4 b i h e)
      = normed (fun x => O (Idealize.ShloMosaic.ix4 b i h x)) (g (Idealize.ShloMosaic.ix1 e)) e := by
  unfold normed
  pointwise [refNorm]

theorem refRows_apply (N : Vec Ideal S2x8192x8x128 .f32) (b : Fin 2) (i : Fin 8192) (h : Fin 8) (e : Fin 128) :
    refRows N (Idealize.ShloMosaic.ix2 (⟨b.val * 8192 + i.val, by omega⟩ : Fin 16384) (⟨h.val * 128 + e.val, by omega⟩ : Fin 1024))
      = N (Idealize.ShloMosaic.ix4 b i h e) := by
  pointwise [refRows]

theorem score_at_ref (q : Vec Ideal S2x8192x8x2x64 .bf16) (k : Vec Ideal S2x8448x8x2x64 .bf16)
    (b : Fin 2) (h : Fin 8) (c : Fin 2) (i : Fin 8192) (j : Fin 8448) :
    refScore q k (Idealize.ShloMosaic.ix5 b h c i j) = scoreOf q k b h c i j := by
  rw [refScore_apply, scoreOf, dif_pos j.isLt]

theorem max_at_ref (q : Vec Ideal S2x8192x8x2x64 .bf16) (k : Vec Ideal S2x8448x8x2x64 .bf16)
    (b : Fin 2) (h : Fin 8) (c : Fin 2) (i : Fin 8192) :
    refMax (refScore q k) (Idealize.ShloMosaic.ix4 b h c i) = rowTop (scoreOf q k b h c i) 8448 :=
  (refMax_apply _ b h c i).trans
    ((congrArg (fun f : Fin 8448 → EReal => Finset.fold max (⊥ : EReal) f Finset.univ) (funext fun j => score_at_ref q k b h c i j)).trans
      (fold_eq_rowTop _ 8448))

/-- One softmax weight. -/
theorem weights_at (q : Vec Ideal S2x8192x8x2x64 .bf16) (k : Vec Ideal S2x8448x8x2x64 .bf16)
    (b : Fin 2) (h : Fin 8) (c : Fin 2) (i : Fin 8192) (j : Fin 8448) :
    refWeights (refExp (refScore q k) (refMax (refScore q k))) (Idealize.ShloMosaic.ix5 b h c i j)
      = Ideal.div ((ex (scoreOf q k b h c i j) (rowTop (scoreOf q k b h c i) 8448) : ℝ) : EReal)
          ((∑ y : Fin 8448, ex (scoreOf q k b h c i y) (rowTop (scoreOf q k b h c i) 8448) : ℝ) : EReal) := by
  have e : ∀ j : Fin 8448, refExp (refScore q k) (refMax (refScore q k)) (Idealize.ShloMosaic.ix5 b h c i j)
      = ((ex (scoreOf q k b h c i j) (rowTop (scoreOf q k b h c i) 8448) : ℝ) : EReal) := by
    intro j
    rw [refExp_apply, max_at_ref, score_at_ref, ex_coe (le_rowTop j.isLt)]
  rw [refWeights_apply, e j, Finset.sum_congr rfl fun y _ => e y, coe_sum]

theorem softOf_fin (s : ℕ → EReal) (v : Fin 128 → ℕ → ℝ) : softOf s v
    = fun e => Ideal.div ((∑ x : Fin 8448, ex (s x) (rowTop s 8448) * v e x : ℝ) : EReal) ((∑ x : Fin 8448, ex (s x) (rowTop s 8448) : ℝ) : EReal) := by
  funext e
  unfold softOf wsum
  rw [Finset.sum_range (fun j => ex (s j) (rowTop s 8448) * v e j), Finset.sum_range (fun j => ex (s j) (rowTop s 8448) * 1)]
  simp only [mul_one]

theorem head_at (q : Vec Ideal S2x8192x8x2x64 .bf16) (k : Vec Ideal S2x8448x8x2x64 .bf16) (v : Vec Ideal S2x8448x8x128 .bf16)
    (lam : Vec Ideal S_ .f32) (g : EReal) (hv : Finite v) (hl : Finite lam) (b : Fin 2) (i : Fin 8192) (h : Fin 8) (e : Fin 128) :
    normed (fun x => refHead v lam (refWeights (refExp (refScore q k) (refMax (refScore q k)))) (Idealize.ShloMosaic.ix4 b i h x)) g e
      = headOf q k v (lam Idealize.ShloMosaic.ix0) g b h i e := by
  unfold headOf
  rw [softOf_fin, softOf_fin, ← hl Idealize.ShloMosaic.ix0,
    ← diff_rows _ _ (fun e (x : Fin 8448) => valueOf v b h e x) _ g e (row_cases (scoreOf q k b h 0 i) 8448) (row_cases (scoreOf q k b h 1 i) 8448)]
  refine congrArg (fun o => normed o g e) (funext fun x => ?_)
  rw [refHead_apply]
  refine Finset.sum_congr rfl fun y _ => ?_
  rw [weights_at, weights_at, hl, valueOf, dif_pos y.isLt, hv]

/-- A row and a column of the result are a batch and a query, a head and a lane. -/
theorem split_result (y : S16384x1024.Idx) : ∃ (b : Fin 2) (i : Fin 8192) (h : Fin 8) (e : Fin 128),
    y = Idealize.ShloMosaic.ix2 (⟨b.val * 8192 + i.val, by omega⟩ : Fin 16384) (⟨h.val * 128 + e.val, by omega⟩ : Fin 1024) := by
  have h0 : (y 0).val < 16384 := (y 0).isLt
  have h1 : (y 1).val < 1024 := (y 1).isLt
  refine ⟨⟨(y 0).val / 8192, by omega⟩, ⟨(y 0).val % 8192, Nat.mod_lt _ (by decide)⟩, ⟨(y 1).val / 128, by omega⟩,
    ⟨(y 1).val % 128, Nat.mod_lt _ (by decide)⟩, (Idealize.ShloMosaic.eq_ix2 (n0 := 16384) (n1 := 1024) y).trans ?_⟩
  refine congrArg₂ (fun (r : Fin 16384) (w : Fin 1024) => Idealize.ShloMosaic.ix2 r w) (Fin.ext ?_) (Fin.ext ?_)
  · show (y 0).val = (y 0).val / 8192 * 8192 + (y 0).val % 8192
    omega
  · show (y 1).val = (y 1).val / 128 * 128 + (y 1).val % 128
    omega

/-- With finite values and a finite `lam` the reference computes the attention. -/
theorem reference_value (m : (ℓ : Loc nD τ sig) → Buf (Elt Ideal) ℓ) (c : Dev nD)
    (hv : Finite (s := S2x8448x8x128) (m ((c.tc : Thread nD τ).loc main_arg2))) (hl : Finite (s := S_) (m ((c.tc : Thread nD τ).loc main_arg3))) :
    res_main_v42 (F := Ideal) m c
      = attentionOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (res_eq m c).trans (funext fun y => ?_)
  obtain ⟨b, i, h, e, rfl⟩ := split_result y
  rw [refRows_apply, refNorm_apply, attentionOf_apply]
  exact head_at _ _ _ _ _ hv hl b i h e

end Cert.Proof.Attention

end
-- ==== Proof.AttentionClaims.lean ====
/- The attention: the claims. -/
module

public import proofs.«01_k».proof.Defs
public import proofs.«01_k».proof.Proof.Gen.Attention.Frame
public import proofs.«01_k».proof.Proof.Gen.AttentionIdeal.Value
public import proofs.«01_k».proof.Proof.Gen.Pre_values_finite
public import proofs.«01_k».proof.Proof.AttentionValue
public import proofs.«01_k».proof.Proof.AttentionReference
public import Idealize.ShloMosaic.Lib.ReduceAll

@[expose] public section

noncomputable section

namespace Cert.Proof.Attention

open Idealize.ShloMosaic Idealize.ShloMosaic.TcCoe Idealize.SL.Sem

theorem andi_all {s : Shape} (x y : IVec s 1) (h : andi x y = fun _ => 1#1) : (x = fun _ => 1#1) ∧ y = fun _ => 1#1 :=
  ⟨funext fun i => (IntOp.andi_eq_one.1 (congrFun h i)).1, funext fun i => (IntOp.andi_eq_one.1 (congrFun h i)).2⟩

theorem ofBits_inf : Ideal.ofBits .f32 0x7F800000#32 = ⊤ := by simp [Ideal.ofBits, Ideal.ieee]

/-- An array whose magnitudes are all below infinity holds reals. -/
theorem finite_of_lt {s : Shape} (x y : s.Idx → EReal) (hy : ∀ i, y i = ⊤)
    (h : ∀ i, Ideal.cmp .olt (max (x i) (-(x i))) (y i) = 1#1) : Finite x := by
  intro i
  have hi : max (x i) (-(x i)) < ⊤ := by
    have e := h i
    rw [hy i] at e
    by_contra hn
    rw [Ideal.cmp, decide_eq_false hn] at e
    exact absurd e (by decide)
  refine real_of_finite (fun ht => ?_) fun hb => ?_
  · rw [ht] at hi; exact absurd (lt_of_le_of_lt (le_max_left _ _) hi) (lt_irrefl _)
  · rw [hb, EReal.neg_bot] at hi; exact absurd (lt_of_le_of_lt (le_max_right _ _) hi) (lt_irrefl _)

section Pre

open Cert.Pre_values_finite

instance : Subsingleton S_.Idx := ⟨fun a b => funext fun i => i.elim0⟩

/-- The precondition in the words of the proof. -/
theorem finite_of_pre (q : FVec Ideal S2x8192x8x2x64 .bf16) (k : FVec Ideal S2x8448x8x2x64 .bf16) (v : FVec Ideal S2x8448x8x128 .bf16)
    (lam : FVec Ideal S_ .f32) (g : FVec Ideal S128 .f32) (h : Cert.Pre_values_finite.fn (F := Ideal) q k v lam g = fun _ => 1#1) :
    Finite v ∧ Finite lam := by
  unfold fn at h
  dsimp only at h
  obtain ⟨hv, hl⟩ := andi_all _ _ h
  refine ⟨?_, ?_⟩
  · exact finite_of_lt v _ (fun _ => ofBits_inf) fun i => Host.reduce_andi_all _ _ _ _ Idealize.ShloMosaic.ix0 (congrFun hv _) i
  · exact finite_of_lt lam _ (fun _ => ofBits_inf) fun i => congrFun hl i

end Pre

theorem frame_kernel : Cert.quiescent_Attention := fun m ρ _ => Cert.Attention.Gen.frame (F := Bits) m ρ

theorem frame_ideal : Cert.quiescent_AttentionIdeal := fun m ρ _ => Cert.AttentionIdeal.Gen.frame (F := Ideal) m ρ

theorem frame_ideal_pre : Cert.quiescent_AttentionIdeal_pre_values_finite := fun m ρ _ => Cert.AttentionIdeal.Gen.frame (F := Ideal) m ρ

theorem frame_reference_ideal : Cert.quiescent_AttentionReferenceIdeal := fun m ρ _ =>
  (θ_run Cert.AttentionReferenceIdeal.defs _ _).mono (fun r h => ⟨fun c => (h c).2, sem_eq_zero_of_no_sems rfl r.2⟩)
    (Cert.AttentionReferenceIdeal.Value.run (F := Ideal) m ρ)

theorem frame_reference_ideal_pre : Cert.quiescent_AttentionReferenceIdeal_pre_values_finite := fun m ρ _ =>
  frame_reference_ideal m ρ trivial

open Cert.AttentionIdeal in
/-- Equal arguments, equal results. -/
theorem attentionOf_congr {q q' : Vec Ideal S2x8192x8x2x64 .bf16} {k k' : Vec Ideal S2x8448x8x2x64 .bf16} {v v' : Vec Ideal S2x8448x8x128 .bf16}
    {lam lam' : Vec Ideal S_ .f32} {g g' : Vec Ideal S128 .f32} (h0 : q = q') (h1 : k = k') (h2 : v = v') (h3 : lam = lam') (h4 : g = g') :
    attentionOf q k v lam g = attentionOf q' k' v' lam' g' := by
  subst h0 h1 h2 h3 h4; rfl

theorem algebraic : Cert.algebraic_AttentionIdeal_AttentionReferenceIdeal_pre_values_finite := by
  intro m ρ m' ρ' hp hm
  have hf := fun c => finite_of_pre _ _ _ _ _ (hp c)
  refine ⟨fun c => attentionOf (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)), ?_, ?_⟩
  · exact (θ_run Cert.AttentionIdeal.defs _ _).mono (fun _ h c => ⟨(h c).1.trans (final m c (hf c).1), (h c).2⟩)
      (Cert.AttentionIdeal.Value.run_blocks m ρ)
  · refine (θ_run Cert.AttentionReferenceIdeal.defs _ _).mono (fun _ h c => ⟨(h c).1.trans ?_, (h c).2⟩) (Cert.AttentionReferenceIdeal.Value.run (F := Ideal) m' ρ')
    obtain ⟨e0, e1, e2, e3, e4⟩ := hm c
    exact (reference_value m' c ((congrArg (Finite (s := Cert.AttentionIdeal.S2x8448x8x128)) e2).mpr (hf c).1)
      ((congrArg (Finite (s := Cert.AttentionIdeal.S_)) e3).mpr (hf c).2)).trans (attentionOf_congr e0 e1 e2 e3 e4)

end Cert.Proof.Attention

end
-- ==== Proof.ProjectionsSpec.lean ====
/- The input projections: what is computed, entry by entry, in the extended reals. -/
module

public import proofs.«01_k».proof.ProjectionsIdeal
public import Idealize.ShloMosaic.Lib.Pointwise

@[expose] public section

noncomputable section

namespace Cert.Proof.Projections

open Idealize.ShloMosaic
open Cert.ProjectionsIdeal

/-- Entry `k` of a row of `x`: root-mean-square normed, times the gain `g`, scaled by one plus `sc` and shifted by `sh`. -/
def normRow (x : Fin 1024 → EReal) (g sh sc : EReal) (k : Fin 1024) : EReal :=
  x k * Ideal.rsqrt (Ideal.div (∑ l : Fin 1024, x l * x l) (Ideal.ofBits .f32 0x44800000#32) + Ideal.ofBits .f32 0x358637BD#32)
    * g * (1 + sc) + sh

/-- Entry `k` of row `r` of the normed input; the rows of the two batches follow each other. -/
def normedOf (x : Vec Ideal S2x8192x1024 .f32) (g : Vec Ideal S1024 .f32) (sh sc : Vec Ideal S2x1024 .f32) (r : Fin 16384) (k : Fin 1024) : EReal :=
  normRow (fun l => x (Idealize.ShloMosaic.ix3 (⟨r.val / 8192, by omega⟩ : Fin 2) (⟨r.val % 8192, by omega⟩ : Fin 8192) l))
    (g (Idealize.ShloMosaic.ix1 k)) (sh (Idealize.ShloMosaic.ix2 (⟨r.val / 8192, by omega⟩ : Fin 2) k))
    (sc (Idealize.ShloMosaic.ix2 (⟨r.val / 8192, by omega⟩ : Fin 2) k)) k

/-- Entry `(r, q)` of the normed rows times the whole weight matrix. -/
def projOf (x : Vec Ideal S2x8192x1024 .f32) (g : Vec Ideal S1024 .f32) (sh sc : Vec Ideal S2x1024 .f32) (w : Vec Ideal S1024x5664 .f32)
    (r : Fin 16384) (q : Fin 5664) : EReal :=
  ∑ k : Fin 1024, normedOf x g sh sc r k * w (Idealize.ShloMosaic.ix2 k q)

/-- The 1024 columns from `o` on. -/
def colsOf (o : ℕ) (ho : o + 1024 ≤ 5664) (x : Vec Ideal S2x8192x1024 .f32) (g : Vec Ideal S1024 .f32) (sh sc : Vec Ideal S2x1024 .f32)
    (w : Vec Ideal S1024x5664 .f32) : Vec Ideal S16384x1024 .bf16 :=
  fun i => projOf x g sh sc w (i 0) ⟨o + (i 1).val, by have h : (i 1).val < 1024 := (i 1).isLt; omega⟩

/-- The 1280 columns from 4352 on, then the 256 from 2048 on. -/
def xbcOf (x : Vec Ideal S2x8192x1024 .f32) (g : Vec Ideal S1024 .f32) (sh sc : Vec Ideal S2x1024 .f32)
    (w : Vec Ideal S1024x5664 .f32) : Vec Ideal S16384x1536 .bf16 :=
  fun i => if h : (i 1).val < 1280 then projOf x g sh sc w (i 0) ⟨4352 + (i 1).val, by omega⟩
    else projOf x g sh sc w (i 0) ⟨2048 + ((i 1).val - 1280), by have h : (i 1).val < 1536 := (i 1).isLt; omega⟩

/-- The 32 columns from 5632 on, then zeros. -/
def dtOf (x : Vec Ideal S2x8192x1024 .f32) (g : Vec Ideal S1024 .f32) (sh sc : Vec Ideal S2x1024 .f32)
    (w : Vec Ideal S1024x5664 .f32) : Vec Ideal S16384x128 .f32 :=
  fun i => if h : (i 1).val < 32 then projOf x g sh sc w (i 0) ⟨5632 + (i 1).val, by omega⟩ else (0 : EReal)

end Cert.Proof.Projections

end
-- ==== Proof.ProjectionsValue.lean ====
/- The input projections: what the kernel leaves. -/
module

public import proofs.«01_k».proof.Proof.ProjectionsSpec
public import proofs.«01_k».proof.Proof.Gen.ProjectionsIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Projections

open Idealize.ShloMosaic Idealize.ShloMosaic.TcCoe Idealize.SL.Sem
open Cert.ProjectionsIdeal Cert.ProjectionsIdeal.Gen Cert.ProjectionsIdeal.Value

/-- Entry `(p, k)` of the normed block of rows. -/
theorem pay6_apply (x : Vec Ideal S256x1024 .f32) (g : Vec Ideal S1x1024 .f32) (sh sc : Vec Ideal S1x1x1024 .f32) (p : Fin 256) (k : Fin 1024) :
    k0_pay6 (F := Ideal) x g sh sc (Idealize.ShloMosaic.ix2 p k)
      = normRow (fun l => x (Idealize.ShloMosaic.ix2 p l)) (g (Idealize.ShloMosaic.ix2 (0 : Fin 1) k)) (sh (Idealize.ShloMosaic.ix3 (0 : Fin 1) (0 : Fin 1) k)) (sc (Idealize.ShloMosaic.ix3 (0 : Fin 1) (0 : Fin 1) k)) k := by
  pointwise [k0_pay6, normRow]

/-- Rows times columns. -/
def dotRC {n : ℕ} (h : Vec Ideal S256x1024 .bf16) (w : Vec Ideal ⟨2, ![1024, n]⟩ .bf16) (p : Fin 256) (q : Fin n) : EReal :=
  ∑ k : Fin 1024, h (Idealize.ShloMosaic.ix2 p k) * w (Idealize.ShloMosaic.ix2 k q)

/-- The product one store writes, of 512 columns. -/
def pay (h : FVec Ideal S256x1024 .bf16) (w : Vec Ideal S1024x512 .bf16) : FVec Ideal S256x512 .bf16 :=
  truncf (F := Ideal) .bf16 (matmul (F := Ideal) (φ₁ := .bf16) (φ₂ := .bf16) dot_S256x1024_S1024x512_S256x512_1_0_0_1_n_n none h (shapeCast S1024x512 w shapeCasts_S1024x512_S1024x512) (constant (F := Ideal) S256x512 .f32 0x00000000#32)) bitsLt_bf16_f32

theorem pay_apply (h : FVec Ideal S256x1024 .bf16) (w : Vec Ideal S1024x512 .bf16) (p : Fin 256) (q : Fin 512) :
    pay h w (Idealize.ShloMosaic.ix2 p q) = dotRC h w p q := by
  pointwise [pay, dotRC]

theorem pay5_apply (h : FVec Ideal S256x1024 .bf16) (w : Vec Ideal S1024x128 .bf16) (p : Fin 256) (q : Fin 128) :
    k0_pay5 (F := Ideal) h w (Idealize.ShloMosaic.ix2 p q) = dotRC h w p q := by
  pointwise [k0_pay5, dotRC]

variable (x0 : Vec Ideal S256x1024 .f32) (x1 : Vec Ideal S1x1024 .f32) (x2 x3 : Vec Ideal S1x1x1024 .f32)
  (x4 x5 x6 x7 : Vec Ideal S1024x1024 .bf16) (x8 : Vec Ideal S1024x1536 .bf16) (x9 : Vec Ideal S1024x128 .bf16)

theorem normed_ld : k0_pay6 (F := Ideal) (View.ld x0 r0_0) (View.ld x1 r0_1) (View.ld x2 r0_2) (View.ld x3 r0_2) = k0_pay6 (F := Ideal) x0 x1 x2 x3 := by
  simp (disch := decide) only [View.ld_unit_lit]

/-- One stored piece, at one of its entries, is the product with the whole matrix at the entry it lands on. -/
theorem piece {n : ℕ} (h : FVec Ideal S256x1024 .bf16) (w : Vec Ideal ⟨2, ![1024, n]⟩ .bf16) (off : ℕ) (inb)
    (x : S256x512.Idx) (p : Fin 256) (q : Fin n) (hp : p.val = (x 0).val) (hq : q.val = off + (x 1).val) :
    pay h (View.ld w (Rect.unit (s := ⟨2, ![1024, n]⟩) ![0, off] S1024x512.size inb)) x = dotRC h w p q := by
  obtain rfl : p = x 0 := Fin.ext hp
  rw [Idealize.ShloMosaic.eq_ix2 (n0 := 256) (n1 := 512) x]
  refine (pay_apply _ _ (x 0) (x 1)).trans ?_
  refine Finset.sum_congr rfl fun k _ => ?_
  refine congrArg (fun a : EReal => _ * a) ?_
  refine View.ld_unit_apply_of _ _ _ _ _ _ fun a => ?_
  fin_cases a
  · show k.val = 0 + k.val
    omega
  · exact hq

theorem out10_apply (p : Fin 256) (q : Fin 1024) :
    out0_10 (F := Ideal) x0 x1 x2 x3 x4 x5 x6 x7 x8 x9 (Idealize.ShloMosaic.ix2 p q) = dotRC (k0_pay6 (F := Ideal) x0 x1 x2 x3) x4 p q := by
  rw [← normed_ld]
  canon_tiles x h using cover0_10 ..
  · exact piece _ x4 512 inb_S1024x1024_S1024x512_0_512 x p q h0 h1
  · exact piece _ x4 0 inb_S1024x1024_S1024x512_0_0 x p q h0 (by rw [Nat.zero_add]; exact h1)

theorem out11_apply (p : Fin 256) (q : Fin 1024) :
    out0_11 (F := Ideal) x0 x1 x2 x3 x4 x5 x6 x7 x8 x9 (Idealize.ShloMosaic.ix2 p q) = dotRC (k0_pay6 (F := Ideal) x0 x1 x2 x3) x5 p q := by
  rw [← normed_ld]
  canon_tiles x h using cover0_11 ..
  · exact piece _ x5 512 inb_S1024x1024_S1024x512_0_512 x p q h0 h1
  · exact piece _ x5 0 inb_S1024x1024_S1024x512_0_0 x p q h0 (by rw [Nat.zero_add]; exact h1)

theorem out12_apply (p : Fin 256) (q : Fin 1024) :
    out0_12 (F := Ideal) x0 x1 x2 x3 x4 x5 x6 x7 x8 x9 (Idealize.ShloMosaic.ix2 p q) = dotRC (k0_pay6 (F := Ideal) x0 x1 x2 x3) x6 p q := by
  rw [← normed_ld]
  canon_tiles x h using cover0_12 ..
  · exact piece _ x6 512 inb_S1024x1024_S1024x512_0_512 x p q h0 h1
  · exact piece _ x6 0 inb_S1024x1024_S1024x512_0_0 x p q h0 (by rw [Nat.zero_add]; exact h1)

theorem out13_apply (p : Fin 256) (q : Fin 1024) :
    out0_13 (F := Ideal) x0 x1 x2 x3 x4 x5 x6 x7 x8 x9 (Idealize.ShloMosaic.ix2 p q) = dotRC (k0_pay6 (F := Ideal) x0 x1 x2 x3) x7 p q := by
  rw [← normed_ld]
  canon_tiles x h using cover0_13 ..
  · exact piece _ x7 512 inb_S1024x1024_S1024x512_0_512 x p q h0 h1
  · exact piece _ x7 0 inb_S1024x1024_S1024x512_0_0 x p q h0 (by rw [Nat.zero_add]; exact h1)

theorem out14_apply (p : Fin 256) (q : Fin 1536) :
    out0_14 (F := Ideal) x0 x1 x2 x3 x4 x5 x6 x7 x8 x9 (Idealize.ShloMosaic.ix2 p q) = dotRC (k0_pay6 (F := Ideal) x0 x1 x2 x3) x8 p q := by
  rw [← normed_ld]
  canon_tiles x h using cover0_14 ..
  · exact piece _ x8 1024 inb_S1024x1536_S1024x512_0_1024 x p q h0 h1
  · exact piece _ x8 512 inb_S1024x1536_S1024x512_0_512 x p q h0 h1
  · exact piece _ x8 0 inb_S1024x1536_S1024x512_0_0 x p q h0 (by rw [Nat.zero_add]; exact h1)

theorem out15_apply (p : Fin 256) (q : Fin 128) :
    out0_15 (F := Ideal) x0 x1 x2 x3 x4 x5 x6 x7 x8 x9 (Idealize.ShloMosaic.ix2 p q) = dotRC (k0_pay6 (F := Ideal) x0 x1 x2 x3) x9 p q := by
  unfold_out out0_15
  rw [normed_ld]
  simp (disch := decide) only [View.ld_unit_lit, View.canon_cons_unit_lit]
  exact pay5_apply _ x9 p q

variable (m : (ℓ : Loc nD τ sig) → Buf (Elt Ideal) ℓ)

/-! The arrays as the call takes them. -/

theorem V_main_v10_apply (c : Dev nD) (r : Fin 16384) (k : Fin 1024) :
    V m c main_v10 (Idealize.ShloMosaic.ix2 r k)
      = m ((c : Thread nD τ).loc main_arg0) (Idealize.ShloMosaic.ix3 (⟨r.val / 8192, by omega⟩ : Fin 2) (⟨r.val % 8192, by omega⟩ : Fin 8192) k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v11_apply (c : Dev nD) (k : Fin 1024) :
    V m c main_v11 (Idealize.ShloMosaic.ix2 (0 : Fin 1) k) = m ((c : Thread nD τ).loc main_arg1) (Idealize.ShloMosaic.ix1 k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v12_apply (c : Dev nD) (b : Fin 2) (k : Fin 1024) :
    V m c main_v12 (Idealize.ShloMosaic.ix3 b (0 : Fin 1) k) = m ((c : Thread nD τ).loc main_arg2) (Idealize.ShloMosaic.ix2 b k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v13_apply (c : Dev nD) (b : Fin 2) (k : Fin 1024) :
    V m c main_v13 (Idealize.ShloMosaic.ix3 b (0 : Fin 1) k) = m ((c : Thread nD τ).loc main_arg3) (Idealize.ShloMosaic.ix2 b k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v1_apply (c : Dev nD) (k q : Fin 1024) :
    V m c main_v1 (Idealize.ShloMosaic.ix2 k q) = m ((c : Thread nD τ).loc main_arg4) (Idealize.ShloMosaic.ix2 k (⟨0 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v2_apply (c : Dev nD) (k q : Fin 1024) :
    V m c main_v2 (Idealize.ShloMosaic.ix2 k q) = m ((c : Thread nD τ).loc main_arg4) (Idealize.ShloMosaic.ix2 k (⟨2304 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v3_apply (c : Dev nD) (k q : Fin 1024) :
    V m c main_v3 (Idealize.ShloMosaic.ix2 k q) = m ((c : Thread nD τ).loc main_arg4) (Idealize.ShloMosaic.ix2 k (⟨3328 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v4_apply (c : Dev nD) (k q : Fin 1024) :
    V m c main_v4 (Idealize.ShloMosaic.ix2 k q) = m ((c : Thread nD τ).loc main_arg4) (Idealize.ShloMosaic.ix2 k (⟨1024 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v7_left (c : Dev nD) (k : Fin 1024) (q : Fin 1280) :
    V m c main_v7 (Idealize.ShloMosaic.ix2 k (⟨q.val, by omega⟩ : Fin 1536)) = m ((c : Thread nD τ).loc main_arg4) (Idealize.ShloMosaic.ix2 k (⟨4352 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v7_right (c : Dev nD) (k : Fin 1024) (q : Fin 256) :
    V m c main_v7 (Idealize.ShloMosaic.ix2 k (⟨1280 + q.val, by omega⟩ : Fin 1536)) = m ((c : Thread nD τ).loc main_arg4) (Idealize.ShloMosaic.ix2 k (⟨2048 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v9_left (c : Dev nD) (k : Fin 1024) (q : Fin 32) :
    V m c main_v9 (Idealize.ShloMosaic.ix2 k (⟨q.val, by omega⟩ : Fin 128)) = m ((c : Thread nD τ).loc main_arg4) (Idealize.ShloMosaic.ix2 k (⟨5632 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v9_right (c : Dev nD) (k : Fin 1024) (q : Fin 96) :
    V m c main_v9 (Idealize.ShloMosaic.ix2 k (⟨32 + q.val, by omega⟩ : Fin 128)) = (0 : EReal) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise
  show (((0#32).toInt : ℝ) : EReal) = 0
  simp

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val / 32, 0, 0] := by decide +kernel
theorem idx3 : ∀ t : Fin cfg0.N, (cfg0.win 3).index t = ![t.val / 32, 0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val, 0] := by decide +kernel
theorem idx11 : ∀ t : Fin cfg0.N, (cfg0.win 11).index t = ![t.val, 0] := by decide +kernel
theorem idx12 : ∀ t : Fin cfg0.N, (cfg0.win 12).index t = ![t.val, 0] := by decide +kernel
theorem idx13 : ∀ t : Fin cfg0.N, (cfg0.win 13).index t = ![t.val, 0] := by decide +kernel
theorem idx14 : ∀ t : Fin cfg0.N, (cfg0.win 14).index t = ![t.val, 0] := by decide +kernel
theorem idx15 : ∀ t : Fin cfg0.N, (cfg0.win 15).index t = ![t.val, 0] := by decide +kernel

theorem iblk0_apply (c : Dev nD) (t : Fin 64) (p : Fin 256) (k : Fin 1024) :
    iblk m c 0 t (Idealize.ShloMosaic.ix2 p k) = V m c main_v10 (Idealize.ShloMosaic.ix2 (⟨t.val * 256 + p.val, by omega⟩ : Fin 16384) k) := by
  blk_ext [iblk, idx0 t]
theorem iblk1_apply (c : Dev nD) (t : Fin 64) (k : Fin 1024) :
    iblk m c 1 t (Idealize.ShloMosaic.ix2 (0 : Fin 1) k) = V m c main_v11 (Idealize.ShloMosaic.ix2 (0 : Fin 1) k) := by
  blk_ext [iblk, idx1 t]
theorem iblk2_apply (c : Dev nD) (t : Fin 64) (k : Fin 1024) :
    iblk m c 2 t (Idealize.ShloMosaic.ix3 (0 : Fin 1) (0 : Fin 1) k) = V m c main_v12 (Idealize.ShloMosaic.ix3 (⟨t.val / 32, by omega⟩ : Fin 2) (0 : Fin 1) k) := by
  blk_ext [iblk, idx2 t]
theorem iblk3_apply (c : Dev nD) (t : Fin 64) (k : Fin 1024) :
    iblk m c 3 t (Idealize.ShloMosaic.ix3 (0 : Fin 1) (0 : Fin 1) k) = V m c main_v13 (Idealize.ShloMosaic.ix3 (⟨t.val / 32, by omega⟩ : Fin 2) (0 : Fin 1) k) := by
  blk_ext [iblk, idx3 t]
theorem iblk4_apply (c : Dev nD) (t : Fin 64) (k q : Fin 1024) : iblk m c 4 t (Idealize.ShloMosaic.ix2 k q) = V m c main_v1 (Idealize.ShloMosaic.ix2 k q) := by
  blk_ext [iblk, idx4 t]
theorem iblk5_apply (c : Dev nD) (t : Fin 64) (k q : Fin 1024) : iblk m c 5 t (Idealize.ShloMosaic.ix2 k q) = V m c main_v2 (Idealize.ShloMosaic.ix2 k q) := by
  blk_ext [iblk, idx5 t]
theorem iblk6_apply (c : Dev nD) (t : Fin 64) (k q : Fin 1024) : iblk m c 6 t (Idealize.ShloMosaic.ix2 k q) = V m c main_v3 (Idealize.ShloMosaic.ix2 k q) := by
  blk_ext [iblk, idx6 t]
theorem iblk7_apply (c : Dev nD) (t : Fin 64) (k q : Fin 1024) : iblk m c 7 t (Idealize.ShloMosaic.ix2 k q) = V m c main_v4 (Idealize.ShloMosaic.ix2 k q) := by
  blk_ext [iblk, idx7 t]
theorem iblk8_apply (c : Dev nD) (t : Fin 64) (k : Fin 1024) (q : Fin 1536) : iblk m c 8 t (Idealize.ShloMosaic.ix2 k q) = V m c main_v7 (Idealize.ShloMosaic.ix2 k q) := by
  blk_ext [iblk, idx8 t]
theorem iblk9_apply (c : Dev nD) (t : Fin 64) (k : Fin 1024) (q : Fin 128) : iblk m c 9 t (Idealize.ShloMosaic.ix2 k q) = V m c main_v9 (Idealize.ShloMosaic.ix2 k q) := by
  blk_ext [iblk, idx9 t]

theorem emb10 (t : Fin 64) (p : Fin 256) (q : Fin 1024) :
    (((spec0 10).arr.view.slice ((cfg0.win 10).rect t)).emb (Idealize.ShloMosaic.ix2 p q)) = (Idealize.ShloMosaic.ix2 (⟨t.val * 256 + p.val, by omega⟩ : Fin 16384) q : S16384x1024.Idx) := by
  blk_ext [idx10 t]
theorem emb11 (t : Fin 64) (p : Fin 256) (q : Fin 1024) :
    (((spec0 11).arr.view.slice ((cfg0.win 11).rect t)).emb (Idealize.ShloMosaic.ix2 p q)) = (Idealize.ShloMosaic.ix2 (⟨t.val * 256 + p.val, by omega⟩ : Fin 16384) q : S16384x1024.Idx) := by
  blk_ext [idx11 t]
theorem emb12 (t : Fin 64) (p : Fin 256) (q : Fin 1024) :
    (((spec0 12).arr.view.slice ((cfg0.win 12).rect t)).emb (Idealize.ShloMosaic.ix2 p q)) = (Idealize.ShloMosaic.ix2 (⟨t.val * 256 + p.val, by omega⟩ : Fin 16384) q : S16384x1024.Idx) := by
  blk_ext [idx12 t]
theorem emb13 (t : Fin 64) (p : Fin 256) (q : Fin 1024) :
    (((spec0 13).arr.view.slice ((cfg0.win 13).rect t)).emb (Idealize.ShloMosaic.ix2 p q)) = (Idealize.ShloMosaic.ix2 (⟨t.val * 256 + p.val, by omega⟩ : Fin 16384) q : S16384x1024.Idx) := by
  blk_ext [idx13 t]
theorem emb14 (t : Fin 64) (p : Fin 256) (q : Fin 1536) :
    (((spec0 14).arr.view.slice ((cfg0.win 14).rect t)).emb (Idealize.ShloMosaic.ix2 p q)) = (Idealize.ShloMosaic.ix2 (⟨t.val * 256 + p.val, by omega⟩ : Fin 16384) q : S16384x1536.Idx) := by
  blk_ext [idx14 t]
theorem emb15 (t : Fin 64) (p : Fin 256) (q : Fin 128) :
    (((spec0 15).arr.view.slice ((cfg0.win 15).rect t)).emb (Idealize.ShloMosaic.ix2 p q)) = (Idealize.ShloMosaic.ix2 (⟨t.val * 256 + p.val, by omega⟩ : Fin 16384) q : S16384x128.Idx) := by
  blk_ext [idx15 t]

/-- The normed block of grid point `t` is its 256 rows of the normed input. -/
theorem normed_at (c : Dev nD) (t : Fin 64) (p : Fin 256) (k : Fin 1024) :
    k0_pay6 (F := Ideal) (iblk m c 0 t) (iblk m c 1 t) (iblk m c 2 t) (iblk m c 3 t) (Idealize.ShloMosaic.ix2 p k)
      = normedOf (m ((c : Thread nD τ).loc main_arg0)) (m ((c : Thread nD τ).loc main_arg1)) (m ((c : Thread nD τ).loc main_arg2)) (m ((c : Thread nD τ).loc main_arg3))
          ⟨t.val * 256 + p.val, by omega⟩ k := by
  refine (pay6_apply _ _ _ _ p k).trans ?_
  unfold normedOf
  have hb : (⟨t.val / 32, by omega⟩ : Fin 2) = ⟨(t.val * 256 + p.val) / 8192, by omega⟩ := Fin.ext (by show t.val / 32 = (t.val * 256 + p.val) / 8192; omega)
  have e0 : (fun l : Fin 1024 => (iblk m c 0 t (Idealize.ShloMosaic.ix2 p l) : EReal)) = fun l => m ((c : Thread nD τ).loc main_arg0)
      (Idealize.ShloMosaic.ix3 (⟨(t.val * 256 + p.val) / 8192, by omega⟩ : Fin 2) (⟨(t.val * 256 + p.val) % 8192, by omega⟩ : Fin 8192) l) :=
    funext fun l => (iblk0_apply m c t p l).trans (V_main_v10_apply m c _ l)
  have e1 := (iblk1_apply m c t k).trans (V_main_v11_apply m c k)
  have e2 := (iblk2_apply m c t k).trans ((V_main_v12_apply m c _ k).trans (congrArg (fun b : Fin 2 => m ((c : Thread nD τ).loc main_arg2) (Idealize.ShloMosaic.ix2 b k)) hb))
  have e3 := (iblk3_apply m c t k).trans ((V_main_v13_apply m c _ k).trans (congrArg (fun b : Fin 2 => m ((c : Thread nD τ).loc main_arg3) (Idealize.ShloMosaic.ix2 b k)) hb))
  exact congr (congr (congr (congrArg₂ normRow e0 e1) e2) e3) rfl

/-- A block's product with a matrix whose column `q` is column `q'` of the weights. -/
theorem dot_at (c : Dev nD) (t : Fin 64) (p : Fin 256) {n : ℕ} (w : Vec Ideal ⟨2, ![1024, n]⟩ .bf16) (q : Fin n) (q' : Fin 5664)
    (hw : ∀ k : Fin 1024, w (Idealize.ShloMosaic.ix2 k q) = m ((c : Thread nD τ).loc main_arg4) (Idealize.ShloMosaic.ix2 k q')) :
    dotRC (k0_pay6 (F := Ideal) (iblk m c 0 t) (iblk m c 1 t) (iblk m c 2 t) (iblk m c 3 t)) w p q
      = projOf (m ((c : Thread nD τ).loc main_arg0)) (m ((c : Thread nD τ).loc main_arg1)) (m ((c : Thread nD τ).loc main_arg2)) (m ((c : Thread nD τ).loc main_arg3))
          (m ((c : Thread nD τ).loc main_arg4)) ⟨t.val * 256 + p.val, by omega⟩ q' := by
  unfold dotRC projOf
  exact Finset.sum_congr rfl fun k _ => congrArg₂ (fun a b : EReal => a * b) (normed_at m c t p k) (hw k)

/-- … and with one whose column `q` is zero. -/
theorem dot_zero (h : FVec Ideal S256x1024 .bf16) (p : Fin 256) {n : ℕ} (w : Vec Ideal ⟨2, ![1024, n]⟩ .bf16) (q : Fin n)
    (hw : ∀ k : Fin 1024, w (Idealize.ShloMosaic.ix2 k q) = (0 : EReal)) : dotRC h w p q = 0 := by
  unfold dotRC
  exact Finset.sum_eq_zero fun k _ => (congrArg (fun b : EReal => (h (Idealize.ShloMosaic.ix2 p k) : EReal) * b) (hw k)).trans (mul_zero _)

theorem split_row {n : ℕ} (i : (⟨2, ![16384, n]⟩ : Shape).Idx) : ∃ (t : Fin 64) (p : Fin 256) (q : Fin n),
    i = Idealize.ShloMosaic.ix2 (⟨t.val * 256 + p.val, by omega⟩ : Fin 16384) q := by
  have h0 : (i 0).val < 16384 := (i 0).isLt
  refine ⟨⟨(i 0).val / 256, by omega⟩, ⟨(i 0).val % 256, Nat.mod_lt _ (by decide)⟩, i 1, (Idealize.ShloMosaic.eq_ix2 (n0 := 16384) (n1 := n) i).trans ?_⟩
  refine congrArg (fun r : Fin 16384 => (Idealize.ShloMosaic.ix2 r (i 1) : (⟨2, ![16384, n]⟩ : Shape).Idx)) (Fin.ext ?_)
  show (i 0).val = (i 0).val / 256 * 256 + (i 0).val % 256
  omega

theorem split_blk {n : ℕ} (y : (⟨2, ![256, n]⟩ : Shape).Idx) : ∃ (p : Fin 256) (q : Fin n), y = Idealize.ShloMosaic.ix2 p q :=
  ⟨y 0, y 1, Idealize.ShloMosaic.eq_ix2 (n0 := 256) (n1 := n) y⟩

theorem final10 (c : Dev nD) : (dats m 0 c).arrAt 10 cfg0.N = colsOf 0 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 10 _ (fun t hf y => ?_) fun i => ?_
  · blk_simp
    rw [after0_10]
    obtain ⟨p, q, rfl⟩ := split_blk y
    rw [emb10 t p q]
    refine (out10_apply _ _ _ _ _ _ _ _ _ _ p q).trans ?_
    exact dot_at m c t p _ q _ fun k => (iblk4_apply m c t k q).trans (V_main_v1_apply m c k q)
  · obtain ⟨t, p, q, h⟩ := split_row i
    refine ⟨t, flush0_10 _, ?_⟩
    rw [h.trans (emb10 t p q).symm]
    exact View.emb_mem_set _ _

theorem final11 (c : Dev nD) : (dats m 0 c).arrAt 11 cfg0.N = colsOf 2304 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 11 _ (fun t hf y => ?_) fun i => ?_
  · blk_simp
    rw [after0_11]
    obtain ⟨p, q, rfl⟩ := split_blk y
    rw [emb11 t p q]
    refine (out11_apply _ _ _ _ _ _ _ _ _ _ p q).trans ?_
    exact dot_at m c t p _ q _ fun k => (iblk5_apply m c t k q).trans (V_main_v2_apply m c k q)
  · obtain ⟨t, p, q, h⟩ := split_row i
    refine ⟨t, flush0_11 _, ?_⟩
    rw [h.trans (emb11 t p q).symm]
    exact View.emb_mem_set _ _

theorem final12 (c : Dev nD) : (dats m 0 c).arrAt 12 cfg0.N = colsOf 3328 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 12 _ (fun t hf y => ?_) fun i => ?_
  · blk_simp
    rw [after0_12]
    obtain ⟨p, q, rfl⟩ := split_blk y
    rw [emb12 t p q]
    refine (out12_apply _ _ _ _ _ _ _ _ _ _ p q).trans ?_
    exact dot_at m c t p _ q _ fun k => (iblk6_apply m c t k q).trans (V_main_v3_apply m c k q)
  · obtain ⟨t, p, q, h⟩ := split_row i
    refine ⟨t, flush0_12 _, ?_⟩
    rw [h.trans (emb12 t p q).symm]
    exact View.emb_mem_set _ _

theorem final13 (c : Dev nD) : (dats m 0 c).arrAt 13 cfg0.N = colsOf 1024 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 13 _ (fun t hf y => ?_) fun i => ?_
  · blk_simp
    rw [after0_13]
    obtain ⟨p, q, rfl⟩ := split_blk y
    rw [emb13 t p q]
    refine (out13_apply _ _ _ _ _ _ _ _ _ _ p q).trans ?_
    exact dot_at m c t p _ q _ fun k => (iblk7_apply m c t k q).trans (V_main_v4_apply m c k q)
  · obtain ⟨t, p, q, h⟩ := split_row i
    refine ⟨t, flush0_13 _, ?_⟩
    rw [h.trans (emb13 t p q).symm]
    exact View.emb_mem_set _ _

theorem final14 (c : Dev nD) : (dats m 0 c).arrAt 14 cfg0.N = xbcOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 14 _ (fun t hf y => ?_) fun i => ?_
  · blk_simp
    rw [after0_14]
    obtain ⟨p, q, rfl⟩ := split_blk y
    rw [emb14 t p q]
    refine (out14_apply _ _ _ _ _ _ _ _ _ _ p q).trans ?_
    unfold xbcOf
    by_cases h : q.val < 1280
    · refine Eq.trans ?_ (dif_pos (α := EReal) h).symm
      exact dot_at m c t p _ q _ fun k => (iblk8_apply m c t k q).trans (V_main_v7_left m c k ⟨q.val, h⟩)
    · refine Eq.trans ?_ (dif_neg (α := EReal) h).symm
      have e : q = ⟨1280 + (q.val - 1280), by omega⟩ := Fin.ext (by show q.val = 1280 + (q.val - 1280); omega)
      exact dot_at m c t p _ q _ fun k => (iblk8_apply m c t k q).trans
        ((congrArg (fun z : Fin 1536 => V m c main_v7 (Idealize.ShloMosaic.ix2 k z)) e).trans (V_main_v7_right m c k ⟨q.val - 1280, by omega⟩))
  · obtain ⟨t, p, q, h⟩ := split_row i
    refine ⟨t, flush0_14 _, ?_⟩
    rw [h.trans (emb14 t p q).symm]
    exact View.emb_mem_set _ _

theorem final15 (c : Dev nD) : (dats m 0 c).arrAt 15 cfg0.N = dtOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 15 _ (fun t hf y => ?_) fun i => ?_
  · blk_simp
    rw [after0_15]
    obtain ⟨p, q, rfl⟩ := split_blk y
    rw [emb15 t p q]
    refine (out15_apply _ _ _ _ _ _ _ _ _ _ p q).trans ?_
    unfold dtOf
    by_cases h : q.val < 32
    · refine Eq.trans ?_ (dif_pos (α := EReal) h).symm
      exact dot_at m c t p _ q _ fun k => (iblk9_apply m c t k q).trans (V_main_v9_left m c k ⟨q.val, h⟩)
    · refine Eq.trans ?_ (dif_neg (α := EReal) h).symm
      have e : q = ⟨32 + (q.val - 32), by omega⟩ := Fin.ext (by show q.val = 32 + (q.val - 32); omega)
      exact dot_zero _ p _ q fun k => (iblk9_apply m c t k q).trans
        ((congrArg (fun z : Fin 128 => V m c main_v9 (Idealize.ShloMosaic.ix2 k z)) e).trans (V_main_v9_right m c k ⟨q.val - 32, by omega⟩))
  · obtain ⟨t, p, q, h⟩ := split_row i
    refine ⟨t, flush0_15 _, ?_⟩
    rw [h.trans (emb15 t p q).symm]
    exact View.emb_mem_set _ _

end Cert.Proof.Projections

end
-- ==== Proof.ProjectionsReference.lean ====
/- The input projections: what the reference computes. -/
module

public import proofs.«01_k».proof.Proof.ProjectionsSpec
public import proofs.«01_k».proof.Proof.Gen.ProjectionsReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Projections

open Idealize.ShloMosaic Idealize.ShloMosaic.TcCoe Idealize.SL.Sem
open Cert.ProjectionsReferenceIdeal Cert.ProjectionsReferenceIdeal.Value Cert.ProjectionsReferenceIdeal.Gen

/-- The reference's normed input. -/
def refNormed (x : Vec Ideal S2x8192x1024 .f32) (g : Vec Ideal S1024 .f32) (sh sc : Vec Ideal S2x1024 .f32) : Vec Ideal S2x8192x1024 .f32 :=
  addf (F := Ideal) (mulf (F := Ideal) (mulf (F := Ideal) (mulf (F := Ideal) x
      (broadcastInDim S2x8192x1024 ![0, 1, 2] bcast_S2x8192x1_S2x8192x1024_0_1_2 (Host.rsqrt (F := Ideal) (addf (F := Ideal)
        (Host.divf (F := Ideal) (broadcastInDim S2x8192x1 ![0, 1] bcast_S2x8192_S2x8192x1_0_1 (Host.reduceAdd (F := Ideal) (mulf (F := Ideal) x x) (constant (F := Ideal) S_ .f32 0x00000000#32) reducesTo_S2x8192x1024_S2x8192_d2 h_S_))
          (broadcastInDim S2x8192x1 ![] bcast_S_S2x8192x1 (constant (F := Ideal) S_ .f32 0x44800000#32)))
        (broadcastInDim S2x8192x1 ![] bcast_S_S2x8192x1 (constant (F := Ideal) S_ .f32 0x358637BD#32))))))
      (broadcastInDim S2x8192x1024 ![0, 1, 2] bcast_S1x1x1024_S2x8192x1024_0_1_2 (broadcastInDim S1x1x1024 ![2] bcast_S1024_S1x1x1024_2 g)))
      (broadcastInDim S2x8192x1024 ![0, 1, 2] bcast_S2x1x1024_S2x8192x1024_0_1_2 (addf (F := Ideal) (broadcastInDim S2x1x1024 ![] bcast_S_S2x1x1024 (constant (F := Ideal) S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- Its product with the whole weight matrix, in rows. -/
def refProj (h : Vec Ideal S2x8192x1024 .f32) (w : Vec Ideal S1024x5664 .f32) : Vec Ideal S16384x5664 .f32 :=
  shapeCast _ (Host.dotGeneral (F := Ideal) (φ₁ := .f32) (φ₂ := .f32) dot_S2x8192x1024_S1024x5664_S2x8192x5664_2_0_01_1_n_n none h w) shapeCasts_S2x8192x5664_S16384x5664

theorem refNormed_apply (x : Vec Ideal S2x8192x1024 .f32) (g : Vec Ideal S1024 .f32) (sh sc : Vec Ideal S2x1024 .f32) (b : Fin 2) (i : Fin 8192) (k : Fin 1024) :
    refNormed x g sh sc (Idealize.ShloMosaic.ix3 b i k)
      = normRow (fun l => x (Idealize.ShloMosaic.ix3 b i l)) (g (Idealize.ShloMosaic.ix1 k)) (sh (Idealize.ShloMosaic.ix2 b k)) (sc (Idealize.ShloMosaic.ix2 b k)) k := by
  pointwise [refNormed, normRow]

theorem refProj_apply (h : Vec Ideal S2x8192x1024 .f32) (w : Vec Ideal S1024x5664 .f32) (r : Fin 16384) (q : Fin 5664) :
    refProj h w (Idealize.ShloMosaic.ix2 r q)
      = (∑ k : Fin 1024, h (Idealize.ShloMosaic.ix3 (⟨r.val / 8192, by omega⟩ : Fin 2) (⟨r.val % 8192, by omega⟩ : Fin 8192) k) * w (Idealize.ShloMosaic.ix2 k q) : EReal) := by
  pointwise [refProj]

/-- The reference's product, entry by entry. -/
theorem refProj_eq (x : Vec Ideal S2x8192x1024 .f32) (g : Vec Ideal S1024 .f32) (sh sc : Vec Ideal S2x1024 .f32) (w : Vec Ideal S1024x5664 .f32)
    (r : Fin 16384) (q : Fin 5664) : refProj (refNormed x g sh sc) w (Idealize.ShloMosaic.ix2 r q) = projOf x g sh sc w r q := by
  rw [refProj_apply]
  unfold projOf normedOf
  exact Finset.sum_congr rfl fun k _ => congrArg (fun a : EReal => a * w (Idealize.ShloMosaic.ix2 k q)) (refNormed_apply x g sh sc _ _ k)

theorem cut0 (P : Vec Ideal S16384x5664 .f32) (r : Fin 16384) (q : Fin 1024) :
    truncf (F := Ideal) .bf16 (extractStridedSlice S16384x1024 ![0, 0] P slices_S16384x5664_S16384x1024_0_0) bitsLt_bf16_f32 (Idealize.ShloMosaic.ix2 r q)
      = P (Idealize.ShloMosaic.ix2 r (⟨0 + q.val, by omega⟩ : Fin 5664)) := by
  pointwise

theorem cut2304 (P : Vec Ideal S16384x5664 .f32) (r : Fin 16384) (q : Fin 1024) :
    truncf (F := Ideal) .bf16 (extractStridedSlice S16384x1024 ![0, 2304] P slices_S16384x5664_S16384x1024_0_2304) bitsLt_bf16_f32 (Idealize.ShloMosaic.ix2 r q)
      = P (Idealize.ShloMosaic.ix2 r (⟨2304 + q.val, by omega⟩ : Fin 5664)) := by
  pointwise

theorem cut3328 (P : Vec Ideal S16384x5664 .f32) (r : Fin 16384) (q : Fin 1024) :
    truncf (F := Ideal) .bf16 (extractStridedSlice S16384x1024 ![0, 3328] P slices_S16384x5664_S16384x1024_0_3328) bitsLt_bf16_f32 (Idealize.ShloMosaic.ix2 r q)
      = P (Idealize.ShloMosaic.ix2 r (⟨3328 + q.val, by omega⟩ : Fin 5664)) := by
  pointwise

theorem cut1024 (P : Vec Ideal S16384x5664 .f32) (r : Fin 16384) (q : Fin 1024) :
    truncf (F := Ideal) .bf16 (extractStridedSlice S16384x1024 ![0, 1024] P slices_S16384x5664_S16384x1024_0_1024) bitsLt_bf16_f32 (Idealize.ShloMosaic.ix2 r q)
      = P (Idealize.ShloMosaic.ix2 r (⟨1024 + q.val, by omega⟩ : Fin 5664)) := by
  pointwise

/-- The two groups of columns side by side. -/
def refXbc (P : Vec Ideal S16384x5664 .f32) : Vec Ideal S16384x1536 .bf16 :=
  truncf (F := Ideal) .bf16 (concatenate S16384x1536 1 [⟨S16384x1280, extractStridedSlice S16384x1280 ![0, 4352] P slices_S16384x5664_S16384x1280_0_4352⟩,
    ⟨S16384x256, extractStridedSlice S16384x256 ![0, 2048] P slices_S16384x5664_S16384x256_0_2048⟩] concatenates_S16384x1280_S16384x256_S16384x1536_d1) bitsLt_bf16_f32

theorem refXbc_left (P : Vec Ideal S16384x5664 .f32) (r : Fin 16384) (q : Fin 1280) :
    refXbc P (Idealize.ShloMosaic.ix2 r (⟨q.val, by omega⟩ : Fin 1536)) = P (Idealize.ShloMosaic.ix2 r (⟨4352 + q.val, by omega⟩ : Fin 5664)) := by
  pointwise [refXbc]

theorem refXbc_right (P : Vec Ideal S16384x5664 .f32) (r : Fin 16384) (q : Fin 256) :
    refXbc P (Idealize.ShloMosaic.ix2 r (⟨1280 + q.val, by omega⟩ : Fin 1536)) = P (Idealize.ShloMosaic.ix2 r (⟨2048 + q.val, by omega⟩ : Fin 5664)) := by
  pointwise [refXbc]

/-- The last columns, padded with zeros. -/
def refDt (P : Vec Ideal S16384x5664 .f32) : Vec Ideal S16384x128 .f32 :=
  pad S16384x128 ![0, 0] ![0, 96] ![0, 0] (extractStridedSlice S16384x32 ![0, 5632] P slices_S16384x5664_S16384x32_0_5632)
    (sitofp (F := Ideal) .f32 (constantI S_ 32 0#32)) pads_S16384x32_S16384x128_000_0960 h_S_

theorem refDt_left (P : Vec Ideal S16384x5664 .f32) (r : Fin 16384) (q : Fin 32) :
    refDt P (Idealize.ShloMosaic.ix2 r (⟨q.val, by omega⟩ : Fin 128)) = P (Idealize.ShloMosaic.ix2 r (⟨5632 + q.val, by omega⟩ : Fin 5664)) := by
  pointwise [refDt]

theorem refDt_right (P : Vec Ideal S16384x5664 .f32) (r : Fin 16384) (q : Fin 96) :
    refDt P (Idealize.ShloMosaic.ix2 r (⟨32 + q.val, by omega⟩ : Fin 128)) = (0 : EReal) := by
  pointwise [refDt]
  show (((0#32).toInt : ℝ) : EReal) = 0
  simp

section Values

variable (x : Vec Ideal S2x8192x1024 .f32) (g : Vec Ideal S1024 .f32) (sh sc : Vec Ideal S2x1024 .f32) (w : Vec Ideal S1024x5664 .f32)

theorem value0 : truncf (F := Ideal) .bf16 (extractStridedSlice S16384x1024 ![0, 0] (refProj (refNormed x g sh sc) w) slices_S16384x5664_S16384x1024_0_0) bitsLt_bf16_f32
    = colsOf 0 (by norm_num) x g sh sc w := by
  funext i
  rw [Idealize.ShloMosaic.eq_ix2 (n0 := 16384) (n1 := 1024) i]
  exact (cut0 _ (i 0) (i 1)).trans (refProj_eq x g sh sc w _ _)

theorem value1 : truncf (F := Ideal) .bf16 (extractStridedSlice S16384x1024 ![0, 2304] (refProj (refNormed x g sh sc) w) slices_S16384x5664_S16384x1024_0_2304) bitsLt_bf16_f32
    = colsOf 2304 (by norm_num) x g sh sc w := by
  funext i
  rw [Idealize.ShloMosaic.eq_ix2 (n0 := 16384) (n1 := 1024) i]
  exact (cut2304 _ (i 0) (i 1)).trans (refProj_eq x g sh sc w _ _)

theorem value2 : truncf (F := Ideal) .bf16 (extractStridedSlice S16384x1024 ![0, 3328] (refProj (refNormed x g sh sc) w) slices_S16384x5664_S16384x1024_0_3328) bitsLt_bf16_f32
    = colsOf 3328 (by norm_num) x g sh sc w := by
  funext i
  rw [Idealize.ShloMosaic.eq_ix2 (n0 := 16384) (n1 := 1024) i]
  exact (cut3328 _ (i 0) (i 1)).trans (refProj_eq x g sh sc w _ _)

theorem value3 : truncf (F := Ideal) .bf16 (extractStridedSlice S16384x1024 ![0, 1024] (refProj (refNormed x g sh sc) w) slices_S16384x5664_S16384x1024_0_1024) bitsLt_bf16_f32
    = colsOf 1024 (by norm_num) x g sh sc w := by
  funext i
  rw [Idealize.ShloMosaic.eq_ix2 (n0 := 16384) (n1 := 1024) i]
  exact (cut1024 _ (i 0) (i 1)).trans (refProj_eq x g sh sc w _ _)

theorem value4 : refXbc (refProj (refNormed x g sh sc) w) = xbcOf x g sh sc w := by
  funext i
  have h1 : (i 1).val < 1536 := (i 1).isLt
  refine (congrArg _ (Idealize.ShloMosaic.eq_ix2 (n0 := 16384) (n1 := 1536) i)).trans ?_
  unfold xbcOf
  by_cases h : (i 1).val < 1280
  · rw [dif_pos h]
    exact (refXbc_left _ (i 0) ⟨(i 1).val, h⟩).trans (refProj_eq x g sh sc w _ _)
  · rw [dif_neg h]
    have e : (i 1 : Fin 1536) = ⟨1280 + ((i 1).val - 1280), by omega⟩ := Fin.ext (by show (i 1).val = 1280 + ((i 1).val - 1280); omega)
    refine (congrArg (fun z : Fin 1536 => refXbc (refProj (refNormed x g sh sc) w) (Idealize.ShloMosaic.ix2 (i 0) z)) e).trans ?_
    exact (refXbc_right _ (i 0) ⟨(i 1).val - 1280, by omega⟩).trans (refProj_eq x g sh sc w _ _)

theorem value5 : refDt (refProj (refNormed x g sh sc) w) = dtOf x g sh sc w := by
  funext i
  have h1 : (i 1).val < 128 := (i 1).isLt
  refine (congrArg _ (Idealize.ShloMosaic.eq_ix2 (n0 := 16384) (n1 := 128) i)).trans ?_
  unfold dtOf
  by_cases h : (i 1).val < 32
  · rw [dif_pos h]
    exact (refDt_left _ (i 0) ⟨(i 1).val, h⟩).trans (refProj_eq x g sh sc w _ _)
  · rw [dif_neg h]
    have e : (i 1 : Fin 128) = ⟨32 + ((i 1).val - 32), by omega⟩ := Fin.ext (by show (i 1).val = 32 + ((i 1).val - 32); omega)
    refine (congrArg (fun z : Fin 128 => refDt (refProj (refNormed x g sh sc) w) (Idealize.ShloMosaic.ix2 (i 0) z)) e).trans ?_
    exact refDt_right _ (i 0) ⟨(i 1).val - 32, by omega⟩

end Values

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = colsOf 0 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = colsOf 2304 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v28) = colsOf 3328 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = colsOf 1024 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = xbcOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = dtOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ProjectionsReferenceIdeal.Value.run (F := Ideal) m ρ)
  obtain ⟨e0, e1, e2, e3, e4, e5, rest⟩ := h c
  exact ⟨e0.trans (value0 _ _ _ _ _), e1.trans (value1 _ _ _ _ _), e2.trans (value2 _ _ _ _ _), e3.trans (value3 _ _ _ _ _),
    e4.trans (value4 _ _ _ _ _), e5.trans (value5 _ _ _ _ _), rest⟩

end Cert.Proof.Projections

end
-- ==== Proof.ProjectionsClaims.lean ====
/- The input projections: the claims. -/
module

public import proofs.«01_k».proof.Defs
public import proofs.«01_k».proof.Proof.Gen.Projections.Frame
public import proofs.«01_k».proof.Proof.Gen.ProjectionsIdeal.Value
public import proofs.«01_k».proof.Proof.ProjectionsValue
public import proofs.«01_k».proof.Proof.ProjectionsReference

@[expose] public section

noncomputable section

namespace Cert.Proof.Projections

open Idealize.ShloMosaic Idealize.ShloMosaic.TcCoe Idealize.SL.Sem

theorem frame_kernel : Cert.quiescent_Projections := fun m ρ _ => Cert.Projections.Gen.frame (F := Bits) m ρ

theorem frame_ideal : Cert.quiescent_ProjectionsIdeal := fun m ρ _ => Cert.ProjectionsIdeal.Gen.frame (F := Ideal) m ρ

theorem frame_reference_ideal : Cert.quiescent_ProjectionsReferenceIdeal := fun m ρ _ =>
  (θ_run Cert.ProjectionsReferenceIdeal.defs _ _).mono (fun r h => ⟨fun c => (h c).2.2.2.2.2.2, sem_eq_zero_of_no_sems rfl r.2⟩)
    (Cert.ProjectionsReferenceIdeal.Value.run (F := Ideal) m ρ)

open Cert.ProjectionsIdeal in
/-- Equal arguments, equal results. -/
theorem congr_args {α : Type} (f : Vec Ideal S2x8192x1024 .f32 → Vec Ideal S1024 .f32 → Vec Ideal S2x1024 .f32 → Vec Ideal S2x1024 .f32 → Vec Ideal S1024x5664 .f32 → α)
    {x x' : Vec Ideal S2x8192x1024 .f32} {g g' : Vec Ideal S1024 .f32} {sh sh' sc sc' : Vec Ideal S2x1024 .f32} {w w' : Vec Ideal S1024x5664 .f32}
    (h0 : x = x') (h1 : g = g') (h2 : sh = sh') (h3 : sc = sc') (h4 : w = w') : f x g sh sc w = f x' g' sh' sc' w' := by
  subst h0 h1 h2 h3 h4; rfl

theorem algebraic : Cert.algebraic_ProjectionsIdeal_ProjectionsReferenceIdeal := by
  intro m ρ m' ρ' _ hm
  refine ⟨fun c => colsOf 0 (by norm_num) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)),
    fun c => colsOf 2304 (by norm_num) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)),
    fun c => colsOf 3328 (by norm_num) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)),
    fun c => colsOf 1024 (by norm_num) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)),
    fun c => xbcOf (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)),
    fun c => dtOf (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)), ?_, ?_⟩
  · refine (θ_run Cert.ProjectionsIdeal.defs _ _).mono (fun _ h c => ?_) (Cert.ProjectionsIdeal.Value.run_blocks m ρ)
    obtain ⟨e0, e1, e2, e3, e4, e5, rest⟩ := h c
    exact ⟨e0.trans (final10 m c), e1.trans (final11 m c), e2.trans (final12 m c), e3.trans (final13 m c), e4.trans (final14 m c), e5.trans (final15 m c), rest⟩
  · refine (θ_run Cert.ProjectionsReferenceIdeal.defs _ _).mono (fun _ h c => ?_) (reference_run m' ρ')
    obtain ⟨a0, a1, a2, a3, a4⟩ := hm c
    obtain ⟨e0, e1, e2, e3, e4, e5, rest⟩ := h c
    exact ⟨e0.trans (congr_args (colsOf 0 (by norm_num)) a0 a1 a2 a3 a4), e1.trans (congr_args (colsOf 2304 (by norm_num)) a0 a1 a2 a3 a4),
      e2.trans (congr_args (colsOf 3328 (by norm_num)) a0 a1 a2 a3 a4), e3.trans (congr_args (colsOf 1024 (by norm_num)) a0 a1 a2 a3 a4),
      e4.trans (congr_args xbcOf a0 a1 a2 a3 a4), e5.trans (congr_args dtOf a0 a1 a2 a3 a4), rest⟩

end Cert.Proof.Projections

end
-- ==== Proof.OutputSpec.lean ====
/- The output projection: what is computed, entry by entry, in the extended reals. -/
module

public import proofs.«01_k».proof.OutputIdeal
public import Idealize.ShloMosaic.Lib.Pointwise

@[expose] public section

noncomputable section

namespace Cert.Proof.Output

open Idealize.ShloMosaic
open Cert.OutputIdeal

/-- Entry `k` of the scan's row: the two directions' sum times the gate `z * logistic z`. -/
def gatedAt (yf yb z : Fin 1024 → EReal) (k : Fin 1024) : EReal :=
  (yf k + yb k) * (z k * Ideal.logistic (z k))

/-- Entry `k` of a row `u`, root-mean-square normed and times the gain `g`. -/
def normAt (u : Fin 1024 → EReal) (g : EReal) (k : Fin 1024) : EReal :=
  u k * Ideal.rsqrt (Ideal.div (∑ l : Fin 1024, u l * u l) (Ideal.ofBits .f32 0x44800000#32) + Ideal.ofBits .f32 0x358637BD#32) * g

/-- Entry `k` of row `r` of the scan's result, gated and normed. -/
def scanAt (yf yb : Vec Ideal S16384x1024 .f32) (z : Vec Ideal S16384x1024 .bf16) (g : Vec Ideal S1024 .f32) (r : Fin 16384) (k : Fin 1024) : EReal :=
  normAt (gatedAt (fun l => yf (Idealize.ShloMosaic.ix2 r l)) (fun l => yb (Idealize.ShloMosaic.ix2 r l)) (fun l => z (Idealize.ShloMosaic.ix2 r l)))
    (g (Idealize.ShloMosaic.ix1 k)) k

/-- Entry `(r, q)` of `x` plus the gate times the product: the attention's row with the first 1024 rows of the weights, and
the scan's row with the last 1024. The rows of the two batches follow each other. -/
def outputAt (oa : Vec Ideal S16384x1024 .bf16) (yf : Vec Ideal S16384x1024 .f32) (yb : Vec Ideal S16384x1024 .f32) (z : Vec Ideal S16384x1024 .bf16) (g : Vec Ideal S1024 .f32) (w : Vec Ideal S2048x1024 .f32) (x : Vec Ideal S2x8192x1024 .f32) (gate : Vec Ideal S2x1024 .f32)
    (r : Fin 16384) (q : Fin 1024) : EReal :=
  x (Idealize.ShloMosaic.ix3 (⟨r.val / 8192, by omega⟩ : Fin 2) (⟨r.val % 8192, by omega⟩ : Fin 8192) q)
    + gate (Idealize.ShloMosaic.ix2 (⟨r.val / 8192, by omega⟩ : Fin 2) q)
      * ((∑ k : Fin 1024, oa (Idealize.ShloMosaic.ix2 r k) * w (Idealize.ShloMosaic.ix2 (⟨k.val, by omega⟩ : Fin 2048) q))
        + ∑ k : Fin 1024, scanAt yf yb z g r k * w (Idealize.ShloMosaic.ix2 (⟨1024 + k.val, by omega⟩ : Fin 2048) q))

/-- The whole result. -/
def outputOf (oa : Vec Ideal S16384x1024 .bf16) (yf : Vec Ideal S16384x1024 .f32) (yb : Vec Ideal S16384x1024 .f32) (z : Vec Ideal S16384x1024 .bf16) (g : Vec Ideal S1024 .f32) (w : Vec Ideal S2048x1024 .f32) (x : Vec Ideal S2x8192x1024 .f32) (gate : Vec Ideal S2x1024 .f32) :
    Vec Ideal S16384x1024 .f32 :=
  fun i => outputAt oa yf yb z g w x gate (i 0) (i 1)

end Cert.Proof.Output

end
-- ==== Proof.OutputValue.lean ====
/- The output projection: what the kernel leaves. -/
module

public import proofs.«01_k».proof.Proof.OutputSpec
public import proofs.«01_k».proof.Proof.Gen.OutputIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Output

open Idealize.ShloMosaic Idealize.ShloMosaic.TcCoe Idealize.SL.Sem
open Cert.OutputIdeal Cert.OutputIdeal.Gen Cert.OutputIdeal.Value

/-- A block's gated scan. -/
def blkU (yf yb : Vec Ideal S512x1024 .f32) (z : Vec Ideal S512x1024 .bf16) : FVec Ideal S512x1024 .f32 :=
  mulf (F := Ideal) (addf (F := Ideal) yf yb) (mulf (F := Ideal) (extf (F := Ideal) .f32 z bitsLt_bf16_f32) (logistic (F := Ideal) (extf (F := Ideal) .f32 z bitsLt_bf16_f32)))

/-- A block's norm. -/
def blkNorm (u : FVec Ideal S512x1024 .f32) (g : Vec Ideal S1x1024 .f32) : FVec Ideal S512x1024 .bf16 :=
  truncf (F := Ideal) .bf16 (mulf (F := Ideal) (mulf (F := Ideal) u (broadcastTo S512x1024 (rsqrt (F := Ideal) (addf (F := Ideal)
      (divf (F := Ideal) (shapeCast S512x1 (multiReduction (F := Ideal) .add [1] S512 (mulf (F := Ideal) u u) 0x00000000#32 reduces_S512x1024_S512 (.inl rfl) rfl) shapeCasts_S512_S512x1)
        (broadcast S512x1 (Scalar.ofBits (F := Ideal) .f32 0x44800000#32)))
      (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)) bitsLt_bf16_f32

/-- A block's two products. -/
def blkDots (oa n : FVec Ideal S512x1024 .bf16) (w1 w2 : Vec Ideal S1024x1024 .bf16) : FVec Ideal S512x1024 .f32 :=
  addf (F := Ideal) (matmul (F := Ideal) (φ₁ := .bf16) (φ₂ := .bf16) dot_S512x1024_S1024x1024_S512x1024_1_0_0_1_n_n none oa (shapeCast S1024x1024 w1 shapeCasts_S1024x1024_S1024x1024) (constant (F := Ideal) S512x1024 .f32 0x00000000#32))
    (matmul (F := Ideal) (φ₁ := .bf16) (φ₂ := .bf16) dot_S512x1024_S1024x1024_S512x1024_1_0_0_1_n_n none n (shapeCast S1024x1024 w2 shapeCasts_S1024x1024_S1024x1024) (constant (F := Ideal) S512x1024 .f32 0x00000000#32))

theorem pay2_eq (yf yb : Vec Ideal S512x1024 .f32) (z : Vec Ideal S512x1024 .bf16) (g : Vec Ideal S1x1024 .f32) (oa : Vec Ideal S512x1024 .bf16) (w1 w2 : Vec Ideal S1024x1024 .bf16) :
    k0_pay2 (F := Ideal) yf yb z g oa w1 w2 = blkDots oa (blkNorm (blkU yf yb z) g) w1 w2 := rfl

theorem blkU_apply (yf yb : Vec Ideal S512x1024 .f32) (z : Vec Ideal S512x1024 .bf16) (p : Fin 512) (k : Fin 1024) :
    blkU yf yb z (Idealize.ShloMosaic.ix2 p k)
      = gatedAt (fun l => yf (Idealize.ShloMosaic.ix2 p l)) (fun l => yb (Idealize.ShloMosaic.ix2 p l)) (fun l => z (Idealize.ShloMosaic.ix2 p l)) k := by
  pointwise [blkU, gatedAt]

theorem blkNorm_apply (u : FVec Ideal S512x1024 .f32) (g : Vec Ideal S1x1024 .f32) (p : Fin 512) (k : Fin 1024) :
    blkNorm u g (Idealize.ShloMosaic.ix2 p k) = normAt (fun l => u (Idealize.ShloMosaic.ix2 p l)) (g (Idealize.ShloMosaic.ix2 (0 : Fin 1) k)) k := by
  pointwise [blkNorm, normAt]

theorem blkDots_apply (oa n : FVec Ideal S512x1024 .bf16) (w1 w2 : Vec Ideal S1024x1024 .bf16) (p : Fin 512) (q : Fin 1024) :
    blkDots oa n w1 w2 (Idealize.ShloMosaic.ix2 p q)
      = ((∑ k : Fin 1024, oa (Idealize.ShloMosaic.ix2 p k) * w1 (Idealize.ShloMosaic.ix2 k q))
        + ∑ k : Fin 1024, n (Idealize.ShloMosaic.ix2 p k) * w2 (Idealize.ShloMosaic.ix2 k q) : EReal) := by
  pointwise [blkDots]

/-- A stored block: the residual plus the gate times the products. -/
def blkRes (d x : Vec Ideal S512x1024 .f32) (gate : Vec Ideal S1x1x1024 .f32) : FVec Ideal S512x1024 .f32 :=
  k0_pay1 (F := Ideal) d (k0_pay3 (F := Ideal) x) (k0_pay4 (F := Ideal) gate)

theorem blkRes_apply (d x : Vec Ideal S512x1024 .f32) (gate : Vec Ideal S1x1x1024 .f32) (p : Fin 512) (q : Fin 1024) :
    blkRes d x gate (Idealize.ShloMosaic.ix2 p q)
      = (x (Idealize.ShloMosaic.ix2 p q) + gate (Idealize.ShloMosaic.ix3 (0 : Fin 1) (0 : Fin 1) q) * d (Idealize.ShloMosaic.ix2 p q) : EReal) := by
  pointwise [blkRes, k0_pay1, k0_pay3, k0_pay4]

theorem out9_eq (x0 : Vec Ideal S512x1024 .bf16) (x1 : Vec Ideal S512x1024 .f32) (x2 : Vec Ideal S512x1024 .f32) (x3 : Vec Ideal S512x1024 .bf16) (x4 : Vec Ideal S1x1024 .f32) (x5 : Vec Ideal S1024x1024 .bf16) (x6 : Vec Ideal S1024x1024 .bf16) (x7 : Vec Ideal S512x1024 .f32) (x8 : Vec Ideal S1x1x1024 .f32) :
    out0_9 (F := Ideal) x0 x1 x2 x3 x4 x5 x6 x7 x8 = blkRes (blkDots x0 (blkNorm (blkU x1 x2 x3) x4) x5 x6) x7 x8 := by
  unfold out0_9
  simp (disch := decide) only [View.ld_unit_lit, View.canon_cons_unit_lit]
  rfl

variable (m : (ℓ : Loc nD τ sig) → Buf (Elt Ideal) ℓ)

/-! The arrays as the call takes them. -/

theorem V_main_v1_apply (c : Dev nD) (k q : Fin 1024) :
    V m c main_v1 (Idealize.ShloMosaic.ix2 k q) = m ((c : Thread nD τ).loc main_arg5) (Idealize.ShloMosaic.ix2 (⟨k.val, by omega⟩ : Fin 2048) q) := by
  entry_read
  pointwise

theorem V_main_v2_apply (c : Dev nD) (k q : Fin 1024) :
    V m c main_v2 (Idealize.ShloMosaic.ix2 k q) = m ((c : Thread nD τ).loc main_arg5) (Idealize.ShloMosaic.ix2 (⟨1024 + k.val, by omega⟩ : Fin 2048) q) := by
  entry_read
  pointwise

theorem V_main_v3_apply (c : Dev nD) (r : Fin 16384) (k : Fin 1024) :
    V m c main_v3 (Idealize.ShloMosaic.ix2 r k)
      = m ((c : Thread nD τ).loc main_arg6) (Idealize.ShloMosaic.ix3 (⟨r.val / 8192, by omega⟩ : Fin 2) (⟨r.val % 8192, by omega⟩ : Fin 8192) k) := by
  entry_read
  pointwise

theorem V_main_v4_apply (c : Dev nD) (k : Fin 1024) :
    V m c main_v4 (Idealize.ShloMosaic.ix2 (0 : Fin 1) k) = m ((c : Thread nD τ).loc main_arg4) (Idealize.ShloMosaic.ix1 k) := by
  entry_read
  pointwise

theorem V_main_v5_apply (c : Dev nD) (b : Fin 2) (k : Fin 1024) :
    V m c main_v5 (Idealize.ShloMosaic.ix3 b (0 : Fin 1) k) = m ((c : Thread nD τ).loc main_arg7) (Idealize.ShloMosaic.ix2 b k) := by
  entry_read
  pointwise

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.val, 0] := by decide +kernel
theorem idx8 : ∀ t : Fin cfg0.N, (cfg0.win 8).index t = ![t.val / 16, 0, 0] := by decide +kernel
theorem idx9 : ∀ t : Fin cfg0.N, (cfg0.win 9).index t = ![t.val, 0] := by decide +kernel

theorem iblk0_apply (c : Dev nD) (t : Fin 32) (p : Fin 512) (k : Fin 1024) :
    iblk m c 0 t (Idealize.ShloMosaic.ix2 p k) = V m c main_arg0 (Idealize.ShloMosaic.ix2 (⟨t.val * 512 + p.val, by omega⟩ : Fin 16384) k) := by
  blk_ext [iblk, idx0 t]
theorem iblk1_apply (c : Dev nD) (t : Fin 32) (p : Fin 512) (k : Fin 1024) :
    iblk m c 1 t (Idealize.ShloMosaic.ix2 p k) = V m c main_arg1 (Idealize.ShloMosaic.ix2 (⟨t.val * 512 + p.val, by omega⟩ : Fin 16384) k) := by
  blk_ext [iblk, idx1 t]
theorem iblk2_apply (c : Dev nD) (t : Fin 32) (p : Fin 512) (k : Fin 1024) :
    iblk m c 2 t (Idealize.ShloMosaic.ix2 p k) = V m c main_arg2 (Idealize.ShloMosaic.ix2 (⟨t.val * 512 + p.val, by omega⟩ : Fin 16384) k) := by
  blk_ext [iblk, idx2 t]
theorem iblk3_apply (c : Dev nD) (t : Fin 32) (p : Fin 512) (k : Fin 1024) :
    iblk m c 3 t (Idealize.ShloMosaic.ix2 p k) = V m c main_arg3 (Idealize.ShloMosaic.ix2 (⟨t.val * 512 + p.val, by omega⟩ : Fin 16384) k) := by
  blk_ext [iblk, idx3 t]
theorem iblk7_apply (c : Dev nD) (t : Fin 32) (p : Fin 512) (k : Fin 1024) :
    iblk m c 7 t (Idealize.ShloMosaic.ix2 p k) = V m c main_v3 (Idealize.ShloMosaic.ix2 (⟨t.val * 512 + p.val, by omega⟩ : Fin 16384) k) := by
  blk_ext [iblk, idx7 t]
theorem iblk4_apply (c : Dev nD) (t : Fin 32) (k : Fin 1024) : iblk m c 4 t (Idealize.ShloMosaic.ix2 (0 : Fin 1) k) = V m c main_v4 (Idealize.ShloMosaic.ix2 (0 : Fin 1) k) := by
  blk_ext [iblk, idx4 t]
theorem iblk5_apply (c : Dev nD) (t : Fin 32) (k q : Fin 1024) : iblk m c 5 t (Idealize.ShloMosaic.ix2 k q) = V m c main_v1 (Idealize.ShloMosaic.ix2 k q) := by
  blk_ext [iblk, idx5 t]
theorem iblk6_apply (c : Dev nD) (t : Fin 32) (k q : Fin 1024) : iblk m c 6 t (Idealize.ShloMosaic.ix2 k q) = V m c main_v2 (Idealize.ShloMosaic.ix2 k q) := by
  blk_ext [iblk, idx6 t]
theorem iblk8_apply (c : Dev nD) (t : Fin 32) (k : Fin 1024) :
    iblk m c 8 t (Idealize.ShloMosaic.ix3 (0 : Fin 1) (0 : Fin 1) k) = V m c main_v5 (Idealize.ShloMosaic.ix3 (⟨t.val / 16, by omega⟩ : Fin 2) (0 : Fin 1) k) := by
  blk_ext [iblk, idx8 t]

theorem emb9 (t : Fin 32) (p : Fin 512) (q : Fin 1024) :
    (((spec0 9).arr.view.slice ((cfg0.win 9).rect t)).emb (Idealize.ShloMosaic.ix2 p q)) = (Idealize.ShloMosaic.ix2 (⟨t.val * 512 + p.val, by omega⟩ : Fin 16384) q : S16384x1024.Idx) := by
  blk_ext [idx9 t]

theorem split_row (i : S16384x1024.Idx) : ∃ (t : Fin 32) (p : Fin 512) (q : Fin 1024),
    i = Idealize.ShloMosaic.ix2 (⟨t.val * 512 + p.val, by omega⟩ : Fin 16384) q := by
  have h0 : (i 0).val < 16384 := (i 0).isLt
  refine ⟨⟨(i 0).val / 512, by omega⟩, ⟨(i 0).val % 512, Nat.mod_lt _ (by decide)⟩, i 1, (Idealize.ShloMosaic.eq_ix2 (n0 := 16384) (n1 := 1024) i).trans ?_⟩
  refine congrArg (fun r : Fin 16384 => (Idealize.ShloMosaic.ix2 r (i 1) : S16384x1024.Idx)) (Fin.ext ?_)
  show (i 0).val = (i 0).val / 512 * 512 + (i 0).val % 512
  omega

theorem split_blk (y : S512x1024.Idx) : ∃ (p : Fin 512) (q : Fin 1024), y = Idealize.ShloMosaic.ix2 p q :=
  ⟨y 0, y 1, Idealize.ShloMosaic.eq_ix2 (n0 := 512) (n1 := 1024) y⟩

/-- The gated and normed block of grid point `t` is its 512 rows of the gated and normed scan. -/
theorem scan_at (c : Dev nD) (t : Fin 32) (p : Fin 512) (k : Fin 1024) :
    blkNorm (blkU (iblk m c 1 t) (iblk m c 2 t) (iblk m c 3 t)) (iblk m c 4 t) (Idealize.ShloMosaic.ix2 p k)
      = scanAt (m ((c : Thread nD τ).loc main_arg1)) (m ((c : Thread nD τ).loc main_arg2)) (m ((c : Thread nD τ).loc main_arg3)) (m ((c : Thread nD τ).loc main_arg4))
          ⟨t.val * 512 + p.val, by omega⟩ k := by
  refine (blkNorm_apply _ _ p k).trans ?_
  unfold scanAt
  have e1 := funext fun l : Fin 1024 => (iblk1_apply m c t p l).trans (congrFun (V_main_arg1 m c) _)
  have e2 := funext fun l : Fin 1024 => (iblk2_apply m c t p l).trans (congrFun (V_main_arg2 m c) _)
  have e3 := funext fun l : Fin 1024 => (iblk3_apply m c t p l).trans (congrFun (V_main_arg3 m c) _)
  have e4 := (iblk4_apply m c t k).trans (V_main_v4_apply m c k)
  refine congr (congrArg₂ normAt (funext fun l => (blkU_apply _ _ _ p l).trans ?_) e4) rfl
  exact congr (congr (congrArg₂ gatedAt e1 e2) e3) rfl

/-- What grid point `t` stores at `(p, q)`. -/
theorem stored (c : Dev nD) (t : Fin 32) (p : Fin 512) (q : Fin 1024) :
    out0_9 (F := Ideal) (iblk m c 0 t) (iblk m c 1 t) (iblk m c 2 t) (iblk m c 3 t) (iblk m c 4 t) (iblk m c 5 t) (iblk m c 6 t) (iblk m c 7 t) (iblk m c 8 t) (Idealize.ShloMosaic.ix2 p q)
      = outputAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          ⟨t.val * 512 + p.val, by omega⟩ q := by
  refine (congrFun (out9_eq _ _ _ _ _ _ _ _ _) _).trans ((blkRes_apply _ _ _ p q).trans ?_)
  unfold outputAt
  have hb : (⟨t.val / 16, by omega⟩ : Fin 2) = ⟨(t.val * 512 + p.val) / 8192, by omega⟩ := Fin.ext (by show t.val / 16 = (t.val * 512 + p.val) / 8192; omega)
  have e0 (k : Fin 1024) := (iblk0_apply m c t p k).trans (congrFun (V_main_arg0 m c) _)
  have e5 (k : Fin 1024) := (iblk5_apply m c t k q).trans (V_main_v1_apply m c k q)
  have e6 (k : Fin 1024) := (iblk6_apply m c t k q).trans (V_main_v2_apply m c k q)
  have e7 := (iblk7_apply m c t p q).trans (V_main_v3_apply m c _ q)
  have e8 := (iblk8_apply m c t q).trans ((V_main_v5_apply m c _ q).trans (congrArg (fun b : Fin 2 => m ((c : Thread nD τ).loc main_arg7) (Idealize.ShloMosaic.ix2 b q)) hb))
  refine congrArg₂ (fun a b : EReal => a + b) e7 (congrArg₂ (fun a b : EReal => a * b) e8 ((blkDots_apply _ _ _ _ p q).trans ?_))
  exact congrArg₂ (fun a b : EReal => a + b) (Finset.sum_congr rfl fun k _ => congrArg₂ (fun a b : EReal => a * b) (e0 k) (e5 k))
    (Finset.sum_congr rfl fun k _ => congrArg₂ (fun a b : EReal => a * b) (scan_at m c t p k) (e6 k))

theorem final9 (c : Dev nD) : (dats m 0 c).arrAt 9 cfg0.N = outputOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_emb 9 _ (fun t hf y => ?_) fun i => ?_
  · blk_simp
    rw [after0_9]
    obtain ⟨p, q, rfl⟩ := split_blk y
    rw [emb9 t p q]
    exact stored m c t p q
  · obtain ⟨t, p, q, h⟩ := split_row i
    refine ⟨t, flush0_9 _, ?_⟩
    rw [h.trans (emb9 t p q).symm]
    exact View.emb_mem_set _ _

end Cert.Proof.Output

end
-- ==== Proof.OutputReference.lean ====
/- The output projection: what the reference computes. -/
module

public import proofs.«01_k».proof.Proof.OutputSpec
public import proofs.«01_k».proof.Proof.Gen.OutputReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Output

open Idealize.ShloMosaic Idealize.ShloMosaic.TcCoe Idealize.SL.Sem
open Cert.OutputReferenceIdeal Cert.OutputReferenceIdeal.Value Cert.OutputReferenceIdeal.Gen

/-- The reference's gated scan. -/
def refU (yf yb : Vec Ideal S16384x1024 .f32) (z : Vec Ideal S16384x1024 .bf16) : Vec Ideal S16384x1024 .f32 :=
  mulf (F := Ideal) (addf (F := Ideal) yf yb) (mulf (F := Ideal) (extf (F := Ideal) .f32 z bitsLt_bf16_f32)
    (Host.divf (F := Ideal) (broadcastInDim S16384x1024 ![] bcast_S_S16384x1024 (constant (F := Ideal) S_ .f32 0x3F800000#32))
      (addf (F := Ideal) (broadcastInDim S16384x1024 ![] bcast_S_S16384x1024 (constant (F := Ideal) S_ .f32 0x3F800000#32))
        (Host.exp (F := Ideal) (Host.negf (F := Ideal) (extf (F := Ideal) .f32 z bitsLt_bf16_f32))))))

/-- Its norm. -/
def refNorm (u : Vec Ideal S16384x1024 .f32) (g : Vec Ideal S1024 .f32) : Vec Ideal S16384x1024 .f32 :=
  mulf (F := Ideal) (mulf (F := Ideal) u (broadcastInDim S16384x1024 ![0, 1] bcast_S16384x1_S16384x1024_0_1 (Host.rsqrt (F := Ideal) (addf (F := Ideal)
      (Host.divf (F := Ideal) (broadcastInDim S16384x1 ![0] bcast_S16384_S16384x1_0 (Host.reduceAdd (F := Ideal) (mulf (F := Ideal) u u) (constant (F := Ideal) S_ .f32 0x00000000#32) reducesTo_S16384x1024_S16384_d1 h_S_))
        (broadcastInDim S16384x1 ![] bcast_S_S16384x1 (constant (F := Ideal) S_ .f32 0x44800000#32)))
      (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 g))

/-- The attention's rows and the scan's, side by side. -/
def refCat (oa : Vec Ideal S16384x1024 .bf16) (n : Vec Ideal S16384x1024 .f32) : Vec Ideal S16384x2048 .f32 :=
  concatenate S16384x2048 1 [⟨S16384x1024, extf (F := Ideal) .f32 oa bitsLt_bf16_f32⟩, ⟨S16384x1024, n⟩] concatenates_S16384x1024_S16384x1024_S16384x2048_d1

/-- The product, the gate and the residual. -/
def refOut (h : Vec Ideal S16384x2048 .f32) (w : Vec Ideal S2048x1024 .f32) (x : Vec Ideal S2x8192x1024 .f32) (gate : Vec Ideal S2x1024 .f32) :
    Vec Ideal S16384x1024 .f32 :=
  shapeCast _ (addf (F := Ideal) x (mulf (F := Ideal) (broadcastInDim S2x8192x1024 ![0, 1, 2] bcast_S2x1x1024_S2x8192x1024_0_1_2 (broadcastInDim S2x1x1024 ![0, 2] bcast_S2x1024_S2x1x1024_0_2 gate))
    (shapeCast _ (Host.dotGeneral (F := Ideal) (φ₁ := .f32) (φ₂ := .f32) dot_S16384x2048_S2048x1024_S16384x1024_1_0_0_1_n_n none h w) shapeCasts_S16384x1024_S2x8192x1024))) shapeCasts_S2x8192x1024_S16384x1024

theorem refU_apply (yf yb : Vec Ideal S16384x1024 .f32) (z : Vec Ideal S16384x1024 .bf16) (r : Fin 16384) (k : Fin 1024) :
    refU yf yb z (Idealize.ShloMosaic.ix2 r k)
      = gatedAt (fun l => yf (Idealize.ShloMosaic.ix2 r l)) (fun l => yb (Idealize.ShloMosaic.ix2 r l)) (fun l => z (Idealize.ShloMosaic.ix2 r l)) k := by
  pointwise [refU]
  unfold gatedAt
  rw [Ideal.logistic]

theorem refNorm_apply (u : Vec Ideal S16384x1024 .f32) (g : Vec Ideal S1024 .f32) (r : Fin 16384) (k : Fin 1024) :
    refNorm u g (Idealize.ShloMosaic.ix2 r k) = normAt (fun l => u (Idealize.ShloMosaic.ix2 r l)) (g (Idealize.ShloMosaic.ix1 k)) k := by
  pointwise [refNorm, normAt]

theorem refCat_left (oa : Vec Ideal S16384x1024 .bf16) (n : Vec Ideal S16384x1024 .f32) (r : Fin 16384) (k : Fin 1024) :
    refCat oa n (Idealize.ShloMosaic.ix2 r (⟨k.val, by omega⟩ : Fin 2048)) = oa (Idealize.ShloMosaic.ix2 r k) := by
  pointwise [refCat]

theorem refCat_right (oa : Vec Ideal S16384x1024 .bf16) (n : Vec Ideal S16384x1024 .f32) (r : Fin 16384) (k : Fin 1024) :
    refCat oa n (Idealize.ShloMosaic.ix2 r (⟨1024 + k.val, by omega⟩ : Fin 2048)) = n (Idealize.ShloMosaic.ix2 r k) := by
  pointwise [refCat]

theorem refOut_apply (h : Vec Ideal S16384x2048 .f32) (w : Vec Ideal S2048x1024 .f32) (x : Vec Ideal S2x8192x1024 .f32) (gate : Vec Ideal S2x1024 .f32)
    (r : Fin 16384) (q : Fin 1024) : refOut h w x gate (Idealize.ShloMosaic.ix2 r q)
      = (x (Idealize.ShloMosaic.ix3 (⟨r.val / 8192, by omega⟩ : Fin 2) (⟨r.val % 8192, by omega⟩ : Fin 8192) q)
        + gate (Idealize.ShloMosaic.ix2 (⟨r.val / 8192, by omega⟩ : Fin 2) q)
          * ∑ k : Fin 2048, h (Idealize.ShloMosaic.ix2 r k) * w (Idealize.ShloMosaic.ix2 k q) : EReal) := by
  pointwise [refOut]

/-- A sum of 2048 terms is the sum of the first 1024 and the last. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

theorem scan_eq (yf yb : Vec Ideal S16384x1024 .f32) (z : Vec Ideal S16384x1024 .bf16) (g : Vec Ideal S1024 .f32) (r : Fin 16384) (k : Fin 1024) :
    refNorm (refU yf yb z) g (Idealize.ShloMosaic.ix2 r k) = scanAt yf yb z g r k :=
  (refNorm_apply _ g r k).trans (congrArg (fun u : Fin 1024 → EReal => normAt u (g (Idealize.ShloMosaic.ix1 k)) k) (funext fun l => refU_apply yf yb z r l))

theorem refOut_eq (oa : Vec Ideal S16384x1024 .bf16) (yf : Vec Ideal S16384x1024 .f32) (yb : Vec Ideal S16384x1024 .f32) (z : Vec Ideal S16384x1024 .bf16) (g : Vec Ideal S1024 .f32) (w : Vec Ideal S2048x1024 .f32) (x : Vec Ideal S2x8192x1024 .f32) (gate : Vec Ideal S2x1024 .f32) :
    refOut (refCat oa (refNorm (refU yf yb z) g)) w x gate = outputOf oa yf yb z g w x gate := by
  funext i
  refine (congrArg _ (Idealize.ShloMosaic.eq_ix2 (n0 := 16384) (n1 := 1024) i)).trans ((refOut_apply _ w x gate (i 0) (i 1)).trans ?_)
  unfold outputOf outputAt
  refine congrArg (fun s : EReal => _ + _ * s) ((sum_halves _).trans ?_)
  exact congrArg₂ (fun a b : EReal => a + b)
    (Finset.sum_congr rfl fun k _ => congrArg (fun a : EReal => a * _) (refCat_left oa _ (i 0) k))
    (Finset.sum_congr rfl fun k _ => congrArg (fun a : EReal => a * _) ((refCat_right oa _ (i 0) k).trans (scan_eq yf yb z g (i 0) k)))

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = outputOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Cert.OutputReferenceIdeal.Value.run (F := Ideal) m ρ)
  obtain ⟨e0, rest⟩ := h c
  exact ⟨e0.trans (refOut_eq _ _ _ _ _ _ _ _), rest⟩

end Cert.Proof.Output

end
-- ==== Proof.OutputClaims.lean ====
/- The output projection: the claims. -/
module

public import proofs.«01_k».proof.Defs
public import proofs.«01_k».proof.Proof.Gen.Output.Frame
public import proofs.«01_k».proof.Proof.Gen.OutputIdeal.Value
public import proofs.«01_k».proof.Proof.OutputValue
public import proofs.«01_k».proof.Proof.OutputReference

@[expose] public section

noncomputable section

namespace Cert.Proof.Output

open Idealize.ShloMosaic Idealize.ShloMosaic.TcCoe Idealize.SL.Sem

theorem frame_kernel : Cert.quiescent_Output := fun m ρ _ => Cert.Output.Gen.frame (F := Bits) m ρ

theorem frame_ideal : Cert.quiescent_OutputIdeal := fun m ρ _ => Cert.OutputIdeal.Gen.frame (F := Ideal) m ρ

theorem frame_reference_ideal : Cert.quiescent_OutputReferenceIdeal := fun m ρ _ =>
  (θ_run Cert.OutputReferenceIdeal.defs _ _).mono (fun r h => ⟨fun c => (h c).2, sem_eq_zero_of_no_sems rfl r.2⟩)
    (Cert.OutputReferenceIdeal.Value.run (F := Ideal) m ρ)

open Cert.OutputIdeal in
/-- Equal arguments, equal results. -/
theorem congr_args {x0 y0 : Vec Ideal S16384x1024 .bf16} {x1 y1 : Vec Ideal S16384x1024 .f32} {x2 y2 : Vec Ideal S16384x1024 .f32} {x3 y3 : Vec Ideal S16384x1024 .bf16} {x4 y4 : Vec Ideal S1024 .f32} {x5 y5 : Vec Ideal S2048x1024 .f32} {x6 y6 : Vec Ideal S2x8192x1024 .f32} {x7 y7 : Vec Ideal S2x1024 .f32}
    (h0 : x0 = y0) (h1 : x1 = y1) (h2 : x2 = y2) (h3 : x3 = y3) (h4 : x4 = y4) (h5 : x5 = y5) (h6 : x6 = y6) (h7 : x7 = y7) :
    outputOf x0 x1 x2 x3 x4 x5 x6 x7 = outputOf y0 y1 y2 y3 y4 y5 y6 y7 := by
  subst h0 h1 h2 h3 h4 h5 h6 h7; rfl

theorem algebraic : Cert.algebraic_OutputIdeal_OutputReferenceIdeal := by
  intro m ρ m' ρ' _ hm
  refine ⟨fun c => outputOf (m ((c.tc : Thread Cert.OutputIdeal.nD Cert.OutputIdeal.τ).loc Cert.OutputIdeal.main_arg0)) (m ((c.tc : Thread Cert.OutputIdeal.nD Cert.OutputIdeal.τ).loc Cert.OutputIdeal.main_arg1)) (m ((c.tc : Thread Cert.OutputIdeal.nD Cert.OutputIdeal.τ).loc Cert.OutputIdeal.main_arg2)) (m ((c.tc : Thread Cert.OutputIdeal.nD Cert.OutputIdeal.τ).loc Cert.OutputIdeal.main_arg3)) (m ((c.tc : Thread Cert.OutputIdeal.nD Cert.OutputIdeal.τ).loc Cert.OutputIdeal.main_arg4)) (m ((c.tc : Thread Cert.OutputIdeal.nD Cert.OutputIdeal.τ).loc Cert.OutputIdeal.main_arg5)) (m ((c.tc : Thread Cert.OutputIdeal.nD Cert.OutputIdeal.τ).loc Cert.OutputIdeal.main_arg6)) (m ((c.tc : Thread Cert.OutputIdeal.nD Cert.OutputIdeal.τ).loc Cert.OutputIdeal.main_arg7)), ?_, ?_⟩
  · refine (θ_run Cert.OutputIdeal.defs _ _).mono (fun _ h c => ?_) (Cert.OutputIdeal.Value.run_blocks m ρ)
    obtain ⟨e0, rest⟩ := h c
    exact ⟨e0.trans (final9 m c), rest⟩
  · refine (θ_run Cert.OutputReferenceIdeal.defs _ _).mono (fun _ h c => ?_) (reference_run m' ρ')
    obtain ⟨a0, a1, a2, a3, a4, a5, a6, a7⟩ := hm c
    obtain ⟨e0, rest⟩ := h c
    exact ⟨e0.trans (congr_args a0 a1 a2 a3 a4 a5 a6 a7), rest⟩

end Cert.Proof.Output

end
-- ==== Proof.MixedSpec.lean ====
/- The product after the position mixing: what is computed, entry by entry, in the extended reals. -/
module

public import proofs.«01_k».proof.MixedIdeal
public import Idealize.ShloMosaic.Lib.Pointwise

@[expose] public section

noncomputable section

namespace Cert.Proof.Mixed

open Idealize.ShloMosaic
open Cert.MixedIdeal

/-- Entry `(r, q)` of `x + gate * (f @ w)`; the rows of the two batches follow each other. -/
def mixedAt (f : Vec Ideal S16384x1024 .bf16) (w : Vec Ideal S1024x1024 .f32) (x : Vec Ideal S2x8192x1024 .f32) (gate : Vec Ideal S2x1024 .f32)
    (r : Fin 16384) (q : Fin 1024) : EReal :=
  x (Idealize.ShloMosaic.ix3 (⟨r.val / 8192, by omega⟩ : Fin 2) (⟨r.val % 8192, by omega⟩ : Fin 8192) q)
    + gate (Idealize.ShloMosaic.ix2 (⟨r.val / 8192, by omega⟩ : Fin 2) q) * ∑ k : Fin 1024, f (Idealize.ShloMosaic.ix2 r k) * w (Idealize.ShloMosaic.ix2 k q)

/-- The whole result. -/
def mixedOf (f : Vec Ideal S16384x1024 .bf16) (w : Vec Ideal S1024x1024 .f32) (x : Vec Ideal S2x8192x1024 .f32) (gate : Vec Ideal S2x1024 .f32) :
    Vec Ideal S16384x1024 .f32 :=
  fun i => mixedAt f w x gate (i 0) (i 1)

end Cert.Proof.Mixed

end
-- ==== Proof.MixedValue.lean ====
/- The product after the position mixing: what the kernel leaves. -/
module

public import proofs.«01_k».proof.Proof.MixedSpec
public import proofs.«01_k».proof.Proof.Gen.MixedIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Mixed

open Idealize.ShloMosaic Idealize.ShloMosaic.TcCoe Idealize.SL.Sem
open Cert.MixedIdeal Cert.MixedIdeal.Gen Cert.MixedIdeal.Value

/-- Entry `(p, q)` of a stored block. -/
theorem pay_apply (f : Vec Ideal S512x1024 .bf16) (w : Vec Ideal S1024x1024 .bf16) (x : Vec Ideal S512x1024 .f32) (gate : Vec Ideal S1x1x1024 .f32) (p : Fin 512) (q : Fin 1024) :
    k0_pay1 (F := Ideal) f w x gate (Idealize.ShloMosaic.ix2 p q)
      = (x (Idealize.ShloMosaic.ix2 p q) + gate (Idealize.ShloMosaic.ix3 (0 : Fin 1) (0 : Fin 1) q)
          * ∑ k : Fin 1024, f (Idealize.ShloMosaic.ix2 p k) * w (Idealize.ShloMosaic.ix2 k q) : EReal) := by
  pointwise [k0_pay1]

theorem out4_eq (x0 : Vec Ideal S512x1024 .bf16) (x1 : Vec Ideal S1024x1024 .bf16) (x2 : Vec Ideal S512x1024 .f32) (x3 : Vec Ideal S1x1x1024 .f32) :
    out0_4 (F := Ideal) x0 x1 x2 x3 = k0_pay1 (F := Ideal) x0 x1 x2 x3 := by
  unfold out0_4
  simp (disch := decide) only [View.ld_unit_lit, View.canon_cons_unit_lit]

variable (m : (ℓ : Loc nD τ sig) → Buf (Elt Ideal) ℓ)

/-! The arrays as the call takes them. -/

theorem V_main_v0_apply (c : Dev nD) (k q : Fin 1024) :
    V m c main_v0 (Idealize.ShloMosaic.ix2 k q) = m ((c : Thread nD τ).loc main_arg1) (Idealize.ShloMosaic.ix2 k q) := by
  entry_read
  pointwise

theorem V_main_v1_apply (c : Dev nD) (r : Fin 16384) (k : Fin 1024) :
    V m c main_v1 (Idealize.ShloMosaic.ix2 r k)
      = m ((c : Thread nD τ).loc main_arg2) (Idealize.ShloMosaic.ix3 (⟨r.val / 8192, by omega⟩ : Fin 2) (⟨r.val % 8192, by omega⟩ : Fin 8192) k) := by
  entry_read
  pointwise

theorem V_main_v2_apply (c : Dev nD) (b : Fin 2) (k : Fin 1024) :
    V m c main_v2 (Idealize.ShloMosaic.ix3 b (0 : Fin 1) k) = m ((c : Thread nD τ).loc main_arg3) (Idealize.ShloMosaic.ix2 b k) := by
  entry_read
  pointwise

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val, 0] := by decide +kernel
theorem idx3 : ∀ t : Fin cfg0.N, (cfg0.win 3).index t = ![t.val / 16, 0, 0] := by decide +kernel
theorem idx4 : ∀ t : Fin cfg0.N, (cfg0.win 4).index t = ![t.val, 0] := by decide +kernel

theorem iblk0_apply (c : Dev nD) (t : Fin 32) (p : Fin 512) (k : Fin 1024) :
    iblk m c 0 t (Idealize.ShloMosaic.ix2 p k) = V m c main_arg0 (Idealize.ShloMosaic.ix2 (⟨t.val * 512 + p.val, by omega⟩ : Fin 16384) k) := by
  blk_ext [iblk, idx0 t]
theorem iblk1_apply (c : Dev nD) (t : Fin 32) (k q : Fin 1024) : iblk m c 1 t (Idealize.ShloMosaic.ix2 k q) = V m c main_v0 (Idealize.ShloMosaic.ix2 k q) := by
  blk_ext [iblk, idx1 t]
theorem iblk2_apply (c : Dev nD) (t : Fin 32) (p : Fin 512) (k : Fin 1024) :
    iblk m c 2 t (Idealize.ShloMosaic.ix2 p k) = V m c main_v1 (Idealize.ShloMosaic.ix2 (⟨t.val * 512 + p.val, by omega⟩ : Fin 16384) k) := by
  blk_ext [iblk, idx2 t]
theorem iblk3_apply (c : Dev nD) (t : Fin 32) (k : Fin 1024) :
    iblk m c 3 t (Idealize.ShloMosaic.ix3 (0 : Fin 1) (0 : Fin 1) k) = V m c main_v2 (Idealize.ShloMosaic.ix3 (⟨t.val / 16, by omega⟩ : Fin 2) (0 : Fin 1) k) := by
  blk_ext [iblk, idx3 t]

theorem emb4 (t : Fin 32) (p : Fin 512) (q : Fin 1024) :
    (((spec0 4).arr.view.slice ((cfg0.win 4).rect t)).emb (Idealize.ShloMosaic.ix2 p q)) = (Idealize.ShloMosaic.ix2 (⟨t.val * 512 + p.val, by omega⟩ : Fin 16384) q : S16384x1024.Idx) := by
  blk_ext [idx4 t]

theorem split_row (i : S16384x1024.Idx) : ∃ (t : Fin 32) (p : Fin 512) (q : Fin 1024),
    i = Idealize.ShloMosaic.ix2 (⟨t.val * 512 + p.val, by omega⟩ : Fin 16384) q := by
  have h0 : (i 0).val < 16384 := (i 0).isLt
  refine ⟨⟨(i 0).val / 512, by omega⟩, ⟨(i 0).val % 512, Nat.mod_lt _ (by decide)⟩, i 1, (Idealize.ShloMosaic.eq_ix2 (n0 := 16384) (n1 := 1024) i).trans ?_⟩
  refine congrArg (fun r : Fin 16384 => (Idealize.ShloMosaic.ix2 r (i 1) : S16384x1024.Idx)) (Fin.ext ?_)
  show (i 0).val = (i 0).val / 512 * 512 + (i 0).val % 512
  omega

theorem split_blk (y : S512x1024.Idx) : ∃ (p : Fin 512) (q : Fin 1024), y = Idealize.ShloMosaic.ix2 p q :=
  ⟨y 0, y 1, Idealize.ShloMosaic.eq_ix2 (n0 := 512) (n1 := 1024) y⟩

/-- What grid point `t` stores at `(p, q)`. -/
theorem stored (c : Dev nD) (t : Fin 32) (p : Fin 512) (q : Fin 1024) :
    k0_pay1 (F := Ideal) (iblk m c 0 t) (iblk m c 1 t) (iblk m c 2 t) (iblk m c 3 t) (Idealize.ShloMosaic.ix2 p q)
      = mixedAt (m ((c : Thread nD τ).loc main_arg0)) (m ((c : Thread nD τ).loc main_arg1)) (m ((c : Thread nD τ).loc main_arg2)) (m ((c : Thread nD τ).loc main_arg3))
          ⟨t.val * 512 + p.val, by omega⟩ q := by
  refine (pay_apply _ _ _ _ p q).trans ?_
  unfold mixedAt
  have hb : (⟨t.val / 16, by omega⟩ : Fin 2) = ⟨(t.val * 512 + p.val) / 8192, by omega⟩ := Fin.ext (by show t.val / 16 = (t.val * 512 + p.val) / 8192; omega)
  have e0 (k : Fin 1024) := (iblk0_apply m c t p k).trans (congrFun (V_main_arg0 m c) _)
  have e1 (k : Fin 1024) := (iblk1_apply m c t k q).trans (V_main_v0_apply m c k q)
  have e2 := (iblk2_apply m c t p q).trans (V_main_v1_apply m c _ q)
  have e3 := (iblk3_apply m c t q).trans ((V_main_v2_apply m c _ q).trans (congrArg (fun b : Fin 2 => m ((c : Thread nD τ).loc main_arg3) (Idealize.ShloMosaic.ix2 b q)) hb))
  exact congrArg₂ (fun a b : EReal => a + b) e2 (congrArg₂ (fun a b : EReal => a * b) e3
    (Finset.sum_congr rfl fun k _ => congrArg₂ (fun a b : EReal => a * b) (e0 k) (e1 k)))

theorem final4 (c : Dev nD) : (dats m 0 c).arrAt 4 cfg0.N = mixedOf (m ((c : Thread nD τ).loc main_arg0)) (m ((c : Thread nD τ).loc main_arg1)) (m ((c : Thread nD τ).loc main_arg2)) (m ((c : Thread nD τ).loc main_arg3)) := by
  refine (dats m 0 c).arrAt_eq_of_emb 4 _ (fun t hf y => ?_) fun i => ?_
  · blk_simp
    rw [after0_4]
    obtain ⟨p, q, rfl⟩ := split_blk y
    rw [emb4 t p q]
    exact (congrFun (out4_eq _ _ _ _) _).trans (stored m c t p q)
  · obtain ⟨t, p, q, h⟩ := split_row i
    refine ⟨t, flush0_4 _, ?_⟩
    rw [h.trans (emb4 t p q).symm]
    exact View.emb_mem_set _ _

end Cert.Proof.Mixed

end
-- ==== Proof.MixedReference.lean ====
/- The product after the position mixing: what the reference computes. -/
module

public import proofs.«01_k».proof.Proof.MixedSpec
public import proofs.«01_k».proof.Proof.Gen.MixedReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Mixed

open Idealize.ShloMosaic Idealize.ShloMosaic.TcCoe Idealize.SL.Sem
open Cert.MixedReferenceIdeal Cert.MixedReferenceIdeal.Value Cert.MixedReferenceIdeal.Gen

/-- The reference's result. -/
def refOut (f : Vec Ideal S16384x1024 .bf16) (w : Vec Ideal S1024x1024 .f32) (x : Vec Ideal S2x8192x1024 .f32) (gate : Vec Ideal S2x1024 .f32) :
    Vec Ideal S16384x1024 .f32 :=
  shapeCast _ (addf (F := Ideal) x (mulf (F := Ideal) (broadcastInDim S2x8192x1024 ![0, 1, 2] bcast_S2x1x1024_S2x8192x1024_0_1_2 (broadcastInDim S2x1x1024 ![0, 2] bcast_S2x1024_S2x1x1024_0_2 gate))
    (shapeCast _ (Host.dotGeneral (F := Ideal) (φ₁ := .f32) (φ₂ := .f32) dot_S16384x1024_S1024x1024_S16384x1024_1_0_0_1_n_n none (extf (F := Ideal) .f32 f bitsLt_bf16_f32) w) shapeCasts_S16384x1024_S2x8192x1024))) shapeCasts_S2x8192x1024_S16384x1024

theorem refOut_apply (f : Vec Ideal S16384x1024 .bf16) (w : Vec Ideal S1024x1024 .f32) (x : Vec Ideal S2x8192x1024 .f32) (gate : Vec Ideal S2x1024 .f32)
    (r : Fin 16384) (q : Fin 1024) : refOut f w x gate (Idealize.ShloMosaic.ix2 r q) = mixedAt f w x gate r q := by
  pointwise [refOut, mixedAt]

theorem refOut_eq (f : Vec Ideal S16384x1024 .bf16) (w : Vec Ideal S1024x1024 .f32) (x : Vec Ideal S2x8192x1024 .f32) (gate : Vec Ideal S2x1024 .f32) :
    refOut f w x gate = mixedOf f w x gate := by
  funext i
  exact (congrArg _ (Idealize.ShloMosaic.eq_ix2 (n0 := 16384) (n1 := 1024) i)).trans (refOut_apply f w x gate (i 0) (i 1))

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = mixedOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Cert.MixedReferenceIdeal.Value.run (F := Ideal) m ρ)
  obtain ⟨e0, rest⟩ := h c
  exact ⟨e0.trans (refOut_eq _ _ _ _), rest⟩

end Cert.Proof.Mixed

end
-- ==== Proof.MixedClaims.lean ====
/- The product after the position mixing: the claims. -/
module

public import proofs.«01_k».proof.Defs
public import proofs.«01_k».proof.Proof.Gen.Mixed.Frame
public import proofs.«01_k».proof.Proof.Gen.MixedIdeal.Value
public import proofs.«01_k».proof.Proof.MixedValue
public import proofs.«01_k».proof.Proof.MixedReference

@[expose] public section

noncomputable section

namespace Cert.Proof.Mixed

open Idealize.ShloMosaic Idealize.ShloMosaic.TcCoe Idealize.SL.Sem

theorem frame_kernel : Cert.quiescent_Mixed := fun m ρ _ => Cert.Mixed.Gen.frame (F := Bits) m ρ

theorem frame_ideal : Cert.quiescent_MixedIdeal := fun m ρ _ => Cert.MixedIdeal.Gen.frame (F := Ideal) m ρ

theorem frame_reference_ideal : Cert.quiescent_MixedReferenceIdeal := fun m ρ _ =>
  (θ_run Cert.MixedReferenceIdeal.defs _ _).mono (fun r h => ⟨fun c => (h c).2, sem_eq_zero_of_no_sems rfl r.2⟩)
    (Cert.MixedReferenceIdeal.Value.run (F := Ideal) m ρ)

open Cert.MixedIdeal in
/-- Equal arguments, equal results. -/
theorem congr_args {x0 y0 : Vec Ideal S16384x1024 .bf16} {x1 y1 : Vec Ideal S1024x1024 .f32} {x2 y2 : Vec Ideal S2x8192x1024 .f32} {x3 y3 : Vec Ideal S2x1024 .f32}
    (h0 : x0 = y0) (h1 : x1 = y1) (h2 : x2 = y2) (h3 : x3 = y3) :
    mixedOf x0 x1 x2 x3 = mixedOf y0 y1 y2 y3 := by
  subst h0 h1 h2 h3; rfl

theorem algebraic : Cert.algebraic_MixedIdeal_MixedReferenceIdeal := by
  intro m ρ m' ρ' _ hm
  refine ⟨fun c => mixedOf (m ((c.tc : Thread Cert.MixedIdeal.nD Cert.MixedIdeal.τ).loc Cert.MixedIdeal.main_arg0)) (m ((c.tc : Thread Cert.MixedIdeal.nD Cert.MixedIdeal.τ).loc Cert.MixedIdeal.main_arg1)) (m ((c.tc : Thread Cert.MixedIdeal.nD Cert.MixedIdeal.τ).loc Cert.MixedIdeal.main_arg2)) (m ((c.tc : Thread Cert.MixedIdeal.nD Cert.MixedIdeal.τ).loc Cert.MixedIdeal.main_arg3)), ?_, ?_⟩
  · refine (θ_run Cert.MixedIdeal.defs _ _).mono (fun _ h c => ?_) (Cert.MixedIdeal.Value.run_blocks m ρ)
    obtain ⟨e0, rest⟩ := h c
    exact ⟨e0.trans (final4 m c), rest⟩
  · refine (θ_run Cert.MixedReferenceIdeal.defs _ _).mono (fun _ h c => ?_) (reference_run m' ρ')
    obtain ⟨a0, a1, a2, a3⟩ := hm c
    obtain ⟨e0, rest⟩ := h c
    exact ⟨e0.trans (congr_args a0 a1 a2 a3), rest⟩

end Cert.Proof.Mixed

end
-- ==== Proof.ContextSpec.lean ====
/- The projections of the context: what is computed, entry by entry, in the extended reals. -/
module

public import proofs.«01_k».proof.ContextIdeal
public import Idealize.ShloMosaic.Lib.Pointwise

@[expose] public section

noncomputable section

namespace Cert.Proof.Context

open Idealize.ShloMosaic
open Cert.ContextIdeal

/-- Entry `k` of a row of `x`: root-mean-square normed, times the gain `g`, scaled by one plus `sc` and shifted by `sh`. -/
def normRow (x : Fin 1024 → EReal) (g sh sc : EReal) (k : Fin 1024) : EReal :=
  x k * Ideal.rsqrt (Ideal.div (∑ l : Fin 1024, x l * x l) (Ideal.ofBits .f32 0x44800000#32) + Ideal.ofBits .f32 0x358637BD#32)
    * g * (1 + sc) + sh

/-- Entry `k` of row `r` of the normed input; the rows of the two batches follow each other. -/
def normedOf (x : Vec Ideal S2x256x1024 .f32) (g : Vec Ideal S1024 .f32) (sh sc : Vec Ideal S1x1024 .f32) (r : Fin 512) (k : Fin 1024) : EReal :=
  normRow (fun l => x (Idealize.ShloMosaic.ix3 (⟨r.val / 256, by omega⟩ : Fin 2) (⟨r.val % 256, by omega⟩ : Fin 256) l))
    (g (Idealize.ShloMosaic.ix1 k)) (sh (Idealize.ShloMosaic.ix2 (0 : Fin 1) k))
    (sc (Idealize.ShloMosaic.ix2 (0 : Fin 1) k)) k

/-- Entry `(r, q)` of the normed rows times the whole weight matrix. -/
def projOf (x : Vec Ideal S2x256x1024 .f32) (g : Vec Ideal S1024 .f32) (sh sc : Vec Ideal S1x1024 .f32) (w : Vec Ideal S1024x5664 .f32)
    (r : Fin 512) (q : Fin 5664) : EReal :=
  ∑ k : Fin 1024, normedOf x g sh sc r k * w (Idealize.ShloMosaic.ix2 k q)

/-- The 1024 columns from `o` on. -/
def colsOf (o : ℕ) (ho : o + 1024 ≤ 5664) (x : Vec Ideal S2x256x1024 .f32) (g : Vec Ideal S1024 .f32) (sh sc : Vec Ideal S1x1024 .f32)
    (w : Vec Ideal S1024x5664 .f32) : Vec Ideal S512x1024 .bf16 :=
  fun i => projOf x g sh sc w (i 0) ⟨o + (i 1).val, by have h : (i 1).val < 1024 := (i 1).isLt; omega⟩

/-- The 1280 columns from 4352 on, then the 256 from 2048 on. -/
def xbcOf (x : Vec Ideal S2x256x1024 .f32) (g : Vec Ideal S1024 .f32) (sh sc : Vec Ideal S1x1024 .f32)
    (w : Vec Ideal S1024x5664 .f32) : Vec Ideal S512x1536 .bf16 :=
  fun i => if h : (i 1).val < 1280 then projOf x g sh sc w (i 0) ⟨4352 + (i 1).val, by omega⟩
    else projOf x g sh sc w (i 0) ⟨2048 + ((i 1).val - 1280), by have h : (i 1).val < 1536 := (i 1).isLt; omega⟩

/-- The 32 columns from 5632 on, then zeros. -/
def dtOf (x : Vec Ideal S2x256x1024 .f32) (g : Vec Ideal S1024 .f32) (sh sc : Vec Ideal S1x1024 .f32)
    (w : Vec Ideal S1024x5664 .f32) : Vec Ideal S512x128 .f32 :=
  fun i => if h : (i 1).val < 32 then projOf x g sh sc w (i 0) ⟨5632 + (i 1).val, by omega⟩ else (0 : EReal)

end Cert.Proof.Context

end
-- ==== Proof.ContextValue.lean ====
/- The projections of the context: what the kernel leaves. -/
module

public import proofs.«01_k».proof.Proof.ContextSpec
public import proofs.«01_k».proof.Proof.Gen.ContextIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Context

open Idealize.ShloMosaic Idealize.ShloMosaic.TcCoe Idealize.SL.Sem
open Cert.ContextIdeal Cert.ContextIdeal.Gen Cert.ContextIdeal.Value

/-- Entry `(p, k)` of the normed block of rows. -/
theorem pay6_apply (x : Vec Ideal S256x1024 .f32) (g : Vec Ideal S1x1024 .f32) (sh sc : Vec Ideal S1x1x1024 .f32) (p : Fin 256) (k : Fin 1024) :
    k0_pay6 (F := Ideal) x g sh sc (Idealize.ShloMosaic.ix2 p k)
      = normRow (fun l => x (Idealize.ShloMosaic.ix2 p l)) (g (Idealize.ShloMosaic.ix2 (0 : Fin 1) k)) (sh (Idealize.ShloMosaic.ix3 (0 : Fin 1) (0 : Fin 1) k)) (sc (Idealize.ShloMosaic.ix3 (0 : Fin 1) (0 : Fin 1) k)) k := by
  pointwise [k0_pay6, normRow]

/-- Rows times columns. -/
def dotRC {n : ℕ} (h : Vec Ideal S256x1024 .bf16) (w : Vec Ideal ⟨2, ![1024, n]⟩ .bf16) (p : Fin 256) (q : Fin n) : EReal :=
  ∑ k : Fin 1024, h (Idealize.ShloMosaic.ix2 p k) * w (Idealize.ShloMosaic.ix2 k q)

/-- The product one store writes, of 512 columns. -/
def pay (h : FVec Ideal S256x1024 .bf16) (w : Vec Ideal S1024x512 .bf16) : FVec Ideal S256x512 .bf16 :=
  truncf (F := Ideal) .bf16 (matmul (F := Ideal) (φ₁ := .bf16) (φ₂ := .bf16) dot_S256x1024_S1024x512_S256x512_1_0_0_1_n_n none h (shapeCast S1024x512 w shapeCasts_S1024x512_S1024x512) (constant (F := Ideal) S256x512 .f32 0x00000000#32)) bitsLt_bf16_f32

theorem pay_apply (h : FVec Ideal S256x1024 .bf16) (w : Vec Ideal S1024x512 .bf16) (p : Fin 256) (q : Fin 512) :
    pay h w (Idealize.ShloMosaic.ix2 p q) = dotRC h w p q := by
  pointwise [pay, dotRC]

theorem pay5_apply (h : FVec Ideal S256x1024 .bf16) (w : Vec Ideal S1024x128 .bf16) (p : Fin 256) (q : Fin 128) :
    k0_pay5 (F := Ideal) h w (Idealize.ShloMosaic.ix2 p q) = dotRC h w p q := by
  pointwise [k0_pay5, dotRC]

variable (x0 : Vec Ideal S256x1024 .f32) (x1 : Vec Ideal S1x1024 .f32) (x2 x3 : Vec Ideal S1x1x1024 .f32)
  (x4 x5 x6 x7 : Vec Ideal S1024x1024 .bf16) (x8 : Vec Ideal S1024x1536 .bf16) (x9 : Vec Ideal S1024x128 .bf16)

theorem normed_ld : k0_pay6 (F := Ideal) (View.ld x0 r0_0) (View.ld x1 r0_1) (View.ld x2 r0_2) (View.ld x3 r0_2) = k0_pay6 (F := Ideal) x0 x1 x2 x3 := by
  simp (disch := decide) only [View.ld_unit_lit]

/-- One stored piece, at one of its entries, is the product with the whole matrix at the entry it lands on. -/
theorem piece {n : ℕ} (h : FVec Ideal S256x1024 .bf16) (w : Vec Ideal ⟨2, ![1024, n]⟩ .bf16) (off : ℕ) (inb)
    (x : S256x512.Idx) (p : Fin 256) (q : Fin n) (hp : p.val = (x 0).val) (hq : q.val = off + (x 1).val) :
    pay h (View.ld w (Rect.unit (s := ⟨2, ![1024, n]⟩) ![0, off] S1024x512.size inb)) x = dotRC h w p q := by
  obtain rfl : p = x 0 := Fin.ext hp
  rw [Idealize.ShloMosaic.eq_ix2 (n0 := 256) (n1 := 512) x]
  refine (pay_apply _ _ (x 0) (x 1)).trans ?_
  refine Finset.sum_congr rfl fun k _ => ?_
  refine congrArg (fun a : EReal => _ * a) ?_
  refine View.ld_unit_apply_of _ _ _ _ _ _ fun a => ?_
  fin_cases a
  · show k.val = 0 + k.val
    omega
  · exact hq

theorem out10_apply (p : Fin 256) (q : Fin 1024) :
    out0_10 (F := Ideal) x0 x1 x2 x3 x4 x5 x6 x7 x8 x9 (Idealize.ShloMosaic.ix2 p q) = dotRC (k0_pay6 (F := Ideal) x0 x1 x2 x3) x4 p q := by
  rw [← normed_ld]
  canon_tiles x h using cover0_10 ..
  · exact piece _ x4 512 inb_S1024x1024_S1024x512_0_512 x p q h0 h1
  · exact piece _ x4 0 inb_S1024x1024_S1024x512_0_0 x p q h0 (by rw [Nat.zero_add]; exact h1)

theorem out11_apply (p : Fin 256) (q : Fin 1024) :
    out0_11 (F := Ideal) x0 x1 x2 x3 x4 x5 x6 x7 x8 x9 (Idealize.ShloMosaic.ix2 p q) = dotRC (k0_pay6 (F := Ideal) x0 x1 x2 x3) x5 p q := by
  rw [← normed_ld]
  canon_tiles x h using cover0_11 ..
  · exact piece _ x5 512 inb_S1024x1024_S1024x512_0_512 x p q h0 h1
  · exact piece _ x5 0 inb_S1024x1024_S1024x512_0_0 x p q h0 (by rw [Nat.zero_add]; exact h1)

theorem out12_apply (p : Fin 256) (q : Fin 1024) :
    out0_12 (F := Ideal) x0 x1 x2 x3 x4 x5 x6 x7 x8 x9 (Idealize.ShloMosaic.ix2 p q) = dotRC (k0_pay6 (F := Ideal) x0 x1 x2 x3) x6 p q := by
  rw [← normed_ld]
  canon_tiles x h using cover0_12 ..
  · exact piece _ x6 512 inb_S1024x1024_S1024x512_0_512 x p q h0 h1
  · exact piece _ x6 0 inb_S1024x1024_S1024x512_0_0 x p q h0 (by rw [Nat.zero_add]; exact h1)

theorem out13_apply (p : Fin 256) (q : Fin 1024) :
    out0_13 (F := Ideal) x0 x1 x2 x3 x4 x5 x6 x7 x8 x9 (Idealize.ShloMosaic.ix2 p q) = dotRC (k0_pay6 (F := Ideal) x0 x1 x2 x3) x7 p q := by
  rw [← normed_ld]
  canon_tiles x h using cover0_13 ..
  · exact piece _ x7 512 inb_S1024x1024_S1024x512_0_512 x p q h0 h1
  · exact piece _ x7 0 inb_S1024x1024_S1024x512_0_0 x p q h0 (by rw [Nat.zero_add]; exact h1)

theorem out14_apply (p : Fin 256) (q : Fin 1536) :
    out0_14 (F := Ideal) x0 x1 x2 x3 x4 x5 x6 x7 x8 x9 (Idealize.ShloMosaic.ix2 p q) = dotRC (k0_pay6 (F := Ideal) x0 x1 x2 x3) x8 p q := by
  rw [← normed_ld]
  canon_tiles x h using cover0_14 ..
  · exact piece _ x8 1024 inb_S1024x1536_S1024x512_0_1024 x p q h0 h1
  · exact piece _ x8 512 inb_S1024x1536_S1024x512_0_512 x p q h0 h1
  · exact piece _ x8 0 inb_S1024x1536_S1024x512_0_0 x p q h0 (by rw [Nat.zero_add]; exact h1)

theorem out15_apply (p : Fin 256) (q : Fin 128) :
    out0_15 (F := Ideal) x0 x1 x2 x3 x4 x5 x6 x7 x8 x9 (Idealize.ShloMosaic.ix2 p q) = dotRC (k0_pay6 (F := Ideal) x0 x1 x2 x3) x9 p q := by
  unfold_out out0_15
  rw [normed_ld]
  simp (disch := decide) only [View.ld_unit_lit, View.canon_cons_unit_lit]
  exact pay5_apply _ x9 p q

variable (m : (ℓ : Loc nD τ sig) → Buf (Elt Ideal) ℓ)

/-! The arrays as the call takes them. -/

theorem V_main_v10_apply (c : Dev nD) (r : Fin 512) (k : Fin 1024) :
    V m c main_v10 (Idealize.ShloMosaic.ix2 r k)
      = m ((c : Thread nD τ).loc main_arg0) (Idealize.ShloMosaic.ix3 (⟨r.val / 256, by omega⟩ : Fin 2) (⟨r.val % 256, by omega⟩ : Fin 256) k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v11_apply (c : Dev nD) (k : Fin 1024) :
    V m c main_v11 (Idealize.ShloMosaic.ix2 (0 : Fin 1) k) = m ((c : Thread nD τ).loc main_arg1) (Idealize.ShloMosaic.ix1 k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v12_apply (c : Dev nD) (k : Fin 1024) :
    V m c main_v12 (Idealize.ShloMosaic.ix3 (0 : Fin 1) (0 : Fin 1) k) = m ((c : Thread nD τ).loc main_arg2) (Idealize.ShloMosaic.ix2 (0 : Fin 1) k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v13_apply (c : Dev nD) (k : Fin 1024) :
    V m c main_v13 (Idealize.ShloMosaic.ix3 (0 : Fin 1) (0 : Fin 1) k) = m ((c : Thread nD τ).loc main_arg3) (Idealize.ShloMosaic.ix2 (0 : Fin 1) k) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v1_apply (c : Dev nD) (k q : Fin 1024) :
    V m c main_v1 (Idealize.ShloMosaic.ix2 k q) = m ((c : Thread nD τ).loc main_arg4) (Idealize.ShloMosaic.ix2 k (⟨0 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v2_apply (c : Dev nD) (k q : Fin 1024) :
    V m c main_v2 (Idealize.ShloMosaic.ix2 k q) = m ((c : Thread nD τ).loc main_arg4) (Idealize.ShloMosaic.ix2 k (⟨2304 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v3_apply (c : Dev nD) (k q : Fin 1024) :
    V m c main_v3 (Idealize.ShloMosaic.ix2 k q) = m ((c : Thread nD τ).loc main_arg4) (Idealize.ShloMosaic.ix2 k (⟨3328 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v4_apply (c : Dev nD) (k q : Fin 1024) :
    V m c main_v4 (Idealize.ShloMosaic.ix2 k q) = m ((c : Thread nD τ).loc main_arg4) (Idealize.ShloMosaic.ix2 k (⟨1024 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v7_left (c : Dev nD) (k : Fin 1024) (q : Fin 1280) :
    V m c main_v7 (Idealize.ShloMosaic.ix2 k (⟨q.val, by omega⟩ : Fin 1536)) = m ((c : Thread nD τ).loc main_arg4) (Idealize.ShloMosaic.ix2 k (⟨4352 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v7_right (c : Dev nD) (k : Fin 1024) (q : Fin 256) :
    V m c main_v7 (Idealize.ShloMosaic.ix2 k (⟨1280 + q.val, by omega⟩ : Fin 1536)) = m ((c : Thread nD τ).loc main_arg4) (Idealize.ShloMosaic.ix2 k (⟨2048 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v9_left (c : Dev nD) (k : Fin 1024) (q : Fin 32) :
    V m c main_v9 (Idealize.ShloMosaic.ix2 k (⟨q.val, by omega⟩ : Fin 128)) = m ((c : Thread nD τ).loc main_arg4) (Idealize.ShloMosaic.ix2 k (⟨5632 + q.val, by omega⟩ : Fin 5664)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise

theorem V_main_v9_right (c : Dev nD) (k : Fin 1024) (q : Fin 96) :
    V m c main_v9 (Idealize.ShloMosaic.ix2 k (⟨32 + q.val, by omega⟩ : Fin 128)) = (0 : EReal) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  entry_read
  pointwise
  show (((0#32).toInt : ℝ) : EReal) = 0
  simp

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0, 0] := by decide +kernel
theorem idx3 : ∀ t : Fin cfg0.N, (cfg0.win 3).index t = ![0, 0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val, 0] := by decide +kernel
theorem idx11 : ∀ t : Fin cfg0.N, (cfg0.win 11).index t = ![t.val, 0] := by decide +kernel
theorem idx12 : ∀ t : Fin cfg0.N, (cfg0.win 12).index t = ![t.val, 0] := by decide +kernel
theorem idx13 : ∀ t : Fin cfg0.N, (cfg0.win 13).index t = ![t.val, 0] := by decide +kernel
theorem idx14 : ∀ t : Fin cfg0.N, (cfg0.win 14).index t = ![t.val, 0] := by decide +kernel
theorem idx15 : ∀ t : Fin cfg0.N, (cfg0.win 15).index t = ![t.val, 0] := by decide +kernel

theorem iblk0_apply (c : Dev nD) (t : Fin 2) (p : Fin 256) (k : Fin 1024) :
    iblk m c 0 t (Idealize.ShloMosaic.ix2 p k) = V m c main_v10 (Idealize.ShloMosaic.ix2 (⟨t.val * 256 + p.val, by omega⟩ : Fin 512) k) := by
  blk_ext [iblk, idx0 t]
theorem iblk1_apply (c : Dev nD) (t : Fin 2) (k : Fin 1024) :
    iblk m c 1 t (Idealize.ShloMosaic.ix2 (0 : Fin 1) k) = V m c main_v11 (Idealize.ShloMosaic.ix2 (0 : Fin 1) k) := by
  blk_ext [iblk, idx1 t]
theorem iblk2_apply (c : Dev nD) (t : Fin 2) (k : Fin 1024) :
    iblk m c 2 t (Idealize.ShloMosaic.ix3 (0 : Fin 1) (0 : Fin 1) k) = V m c main_v12 (Idealize.ShloMosaic.ix3 (0 : Fin 1) (0 : Fin 1) k) := by
  blk_ext [iblk, idx2 t]
theorem iblk3_apply (c : Dev nD) (t : Fin 2) (k : Fin 1024) :
    iblk m c 3 t (Idealize.ShloMosaic.ix3 (0 : Fin 1) (0 : Fin 1) k) = V m c main_v13 (Idealize.ShloMosaic.ix3 (0 : Fin 1) (0 : Fin 1) k) := by
  blk_ext [iblk, idx3 t]
theorem iblk4_apply (c : Dev nD) (t : Fin 2) (k q : Fin 1024) : iblk m c 4 t (Idealize.ShloMosaic.ix2 k q) = V m c main_v1 (Idealize.ShloMosaic.ix2 k q) := by
  blk_ext [iblk, idx4 t]
theorem iblk5_apply (c : Dev nD) (t : Fin 2) (k q : Fin 1024) : iblk m c 5 t (Idealize.ShloMosaic.ix2 k q) = V m c main_v2 (Idealize.ShloMosaic.ix2 k q) := by
  blk_ext [iblk, idx5 t]
theorem iblk6_apply (c : Dev nD) (t : Fin 2) (k q : Fin 1024) : iblk m c 6 t (Idealize.ShloMosaic.ix2 k q) = V m c main_v3 (Idealize.ShloMosaic.ix2 k q) := by
  blk_ext [iblk, idx6 t]
theorem iblk7_apply (c : Dev nD) (t : Fin 2) (k q : Fin 1024) : iblk m c 7 t (Idealize.ShloMosaic.ix2 k q) = V m c main_v4 (Idealize.ShloMosaic.ix2 k q) := by
  blk_ext [iblk, idx7 t]
theorem iblk8_apply (c : Dev nD) (t : Fin 2) (k : Fin 1024) (q : Fin 1536) : iblk m c 8 t (Idealize.ShloMosaic.ix2 k q) = V m c main_v7 (Idealize.ShloMosaic.ix2 k q) := by
  blk_ext [iblk, idx8 t]
theorem iblk9_apply (c : Dev nD) (t : Fin 2) (k : Fin 1024) (q : Fin 128) : iblk m c 9 t (Idealize.ShloMosaic.ix2 k q) = V m c main_v9 (Idealize.ShloMosaic.ix2 k q) := by
  blk_ext [iblk, idx9 t]

theorem emb10 (t : Fin 2) (p : Fin 256) (q : Fin 1024) :
    (((spec0 10).arr.view.slice ((cfg0.win 10).rect t)).emb (Idealize.ShloMosaic.ix2 p q)) = (Idealize.ShloMosaic.ix2 (⟨t.val * 256 + p.val, by omega⟩ : Fin 512) q : S512x1024.Idx) := by
  blk_ext [idx10 t]
theorem emb11 (t : Fin 2) (p : Fin 256) (q : Fin 1024) :
    (((spec0 11).arr.view.slice ((cfg0.win 11).rect t)).emb (Idealize.ShloMosaic.ix2 p q)) = (Idealize.ShloMosaic.ix2 (⟨t.val * 256 + p.val, by omega⟩ : Fin 512) q : S512x1024.Idx) := by
  blk_ext [idx11 t]
theorem emb12 (t : Fin 2) (p : Fin 256) (q : Fin 1024) :
    (((spec0 12).arr.view.slice ((cfg0.win 12).rect t)).emb (Idealize.ShloMosaic.ix2 p q)) = (Idealize.ShloMosaic.ix2 (⟨t.val * 256 + p.val, by omega⟩ : Fin 512) q : S512x1024.Idx) := by
  blk_ext [idx12 t]
theorem emb13 (t : Fin 2) (p : Fin 256) (q : Fin 1024) :
    (((spec0 13).arr.view.slice ((cfg0.win 13).rect t)).emb (Idealize.ShloMosaic.ix2 p q)) = (Idealize.ShloMosaic.ix2 (⟨t.val * 256 + p.val, by omega⟩ : Fin 512) q : S512x1024.Idx) := by
  blk_ext [idx13 t]
theorem emb14 (t : Fin 2) (p : Fin 256) (q : Fin 1536) :
    (((spec0 14).arr.view.slice ((cfg0.win 14).rect t)).emb (Idealize.ShloMosaic.ix2 p q)) = (Idealize.ShloMosaic.ix2 (⟨t.val * 256 + p.val, by omega⟩ : Fin 512) q : S512x1536.Idx) := by
  blk_ext [idx14 t]
theorem emb15 (t : Fin 2) (p : Fin 256) (q : Fin 128) :
    (((spec0 15).arr.view.slice ((cfg0.win 15).rect t)).emb (Idealize.ShloMosaic.ix2 p q)) = (Idealize.ShloMosaic.ix2 (⟨t.val * 256 + p.val, by omega⟩ : Fin 512) q : S512x128.Idx) := by
  blk_ext [idx15 t]

/-- The normed block of grid point `t` is its 256 rows of the normed input. -/
theorem normed_at (c : Dev nD) (t : Fin 2) (p : Fin 256) (k : Fin 1024) :
    k0_pay6 (F := Ideal) (iblk m c 0 t) (iblk m c 1 t) (iblk m c 2 t) (iblk m c 3 t) (Idealize.ShloMosaic.ix2 p k)
      = normedOf (m ((c : Thread nD τ).loc main_arg0)) (m ((c : Thread nD τ).loc main_arg1)) (m ((c : Thread nD τ).loc main_arg2)) (m ((c : Thread nD τ).loc main_arg3))
          ⟨t.val * 256 + p.val, by omega⟩ k := by
  refine (pay6_apply _ _ _ _ p k).trans ?_
  unfold normedOf
  have e0 : (fun l : Fin 1024 => (iblk m c 0 t (Idealize.ShloMosaic.ix2 p l) : EReal)) = fun l => m ((c : Thread nD τ).loc main_arg0)
      (Idealize.ShloMosaic.ix3 (⟨(t.val * 256 + p.val) / 256, by omega⟩ : Fin 2) (⟨(t.val * 256 + p.val) % 256, by omega⟩ : Fin 256) l) :=
    funext fun l => (iblk0_apply m c t p l).trans (V_main_v10_apply m c _ l)
  have e1 := (iblk1_apply m c t k).trans (V_main_v11_apply m c k)
  have e2 := (iblk2_apply m c t k).trans (V_main_v12_apply m c k)
  have e3 := (iblk3_apply m c t k).trans (V_main_v13_apply m c k)
  exact congr (congr (congr (congrArg₂ normRow e0 e1) e2) e3) rfl

/-- A block's product with a matrix whose column `q` is column `q'` of the weights. -/
theorem dot_at (c : Dev nD) (t : Fin 2) (p : Fin 256) {n : ℕ} (w : Vec Ideal ⟨2, ![1024, n]⟩ .bf16) (q : Fin n) (q' : Fin 5664)
    (hw : ∀ k : Fin 1024, w (Idealize.ShloMosaic.ix2 k q) = m ((c : Thread nD τ).loc main_arg4) (Idealize.ShloMosaic.ix2 k q')) :
    dotRC (k0_pay6 (F := Ideal) (iblk m c 0 t) (iblk m c 1 t) (iblk m c 2 t) (iblk m c 3 t)) w p q
      = projOf (m ((c : Thread nD τ).loc main_arg0)) (m ((c : Thread nD τ).loc main_arg1)) (m ((c : Thread nD τ).loc main_arg2)) (m ((c : Thread nD τ).loc main_arg3))
          (m ((c : Thread nD τ).loc main_arg4)) ⟨t.val * 256 + p.val, by omega⟩ q' := by
  unfold dotRC projOf
  exact Finset.sum_congr rfl fun k _ => congrArg₂ (fun a b : EReal => a * b) (normed_at m c t p k) (hw k)

/-- … and with one whose column `q` is zero. -/
theorem dot_zero (h : FVec Ideal S256x1024 .bf16) (p : Fin 256) {n : ℕ} (w : Vec Ideal ⟨2, ![1024, n]⟩ .bf16) (q : Fin n)
    (hw : ∀ k : Fin 1024, w (Idealize.ShloMosaic.ix2 k q) = (0 : EReal)) : dotRC h w p q = 0 := by
  unfold dotRC
  exact Finset.sum_eq_zero fun k _ => (congrArg (fun b : EReal => (h (Idealize.ShloMosaic.ix2 p k) : EReal) * b) (hw k)).trans (mul_zero _)

theorem split_row {n : ℕ} (i : (⟨2, ![512, n]⟩ : Shape).Idx) : ∃ (t : Fin 2) (p : Fin 256) (q : Fin n),
    i = Idealize.ShloMosaic.ix2 (⟨t.val * 256 + p.val, by omega⟩ : Fin 512) q := by
  have h0 : (i 0).val < 512 := (i 0).isLt
  refine ⟨⟨(i 0).val / 256, by omega⟩, ⟨(i 0).val % 256, Nat.mod_lt _ (by decide)⟩, i 1, (Idealize.ShloMosaic.eq_ix2 (n0 := 512) (n1 := n) i).trans ?_⟩
  refine congrArg (fun r : Fin 512 => (Idealize.ShloMosaic.ix2 r (i 1) : (⟨2, ![512, n]⟩ : Shape).Idx)) (Fin.ext ?_)
  show (i 0).val = (i 0).val / 256 * 256 + (i 0).val % 256
  omega

theorem split_blk {n : ℕ} (y : (⟨2, ![256, n]⟩ : Shape).Idx) : ∃ (p : Fin 256) (q : Fin n), y = Idealize.ShloMosaic.ix2 p q :=
  ⟨y 0, y 1, Idealize.ShloMosaic.eq_ix2 (n0 := 256) (n1 := n) y⟩

theorem final10 (c : Dev nD) : (dats m 0 c).arrAt 10 cfg0.N = colsOf 0 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 10 _ (fun t hf y => ?_) fun i => ?_
  · blk_simp
    rw [after0_10]
    obtain ⟨p, q, rfl⟩ := split_blk y
    rw [emb10 t p q]
    refine (out10_apply _ _ _ _ _ _ _ _ _ _ p q).trans ?_
    exact dot_at m c t p _ q _ fun k => (iblk4_apply m c t k q).trans (V_main_v1_apply m c k q)
  · obtain ⟨t, p, q, h⟩ := split_row i
    refine ⟨t, flush0_10 _, ?_⟩
    rw [h.trans (emb10 t p q).symm]
    exact View.emb_mem_set _ _

theorem final11 (c : Dev nD) : (dats m 0 c).arrAt 11 cfg0.N = colsOf 2304 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 11 _ (fun t hf y => ?_) fun i => ?_
  · blk_simp
    rw [after0_11]
    obtain ⟨p, q, rfl⟩ := split_blk y
    rw [emb11 t p q]
    refine (out11_apply _ _ _ _ _ _ _ _ _ _ p q).trans ?_
    exact dot_at m c t p _ q _ fun k => (iblk5_apply m c t k q).trans (V_main_v2_apply m c k q)
  · obtain ⟨t, p, q, h⟩ := split_row i
    refine ⟨t, flush0_11 _, ?_⟩
    rw [h.trans (emb11 t p q).symm]
    exact View.emb_mem_set _ _

theorem final12 (c : Dev nD) : (dats m 0 c).arrAt 12 cfg0.N = colsOf 3328 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 12 _ (fun t hf y => ?_) fun i => ?_
  · blk_simp
    rw [after0_12]
    obtain ⟨p, q, rfl⟩ := split_blk y
    rw [emb12 t p q]
    refine (out12_apply _ _ _ _ _ _ _ _ _ _ p q).trans ?_
    exact dot_at m c t p _ q _ fun k => (iblk6_apply m c t k q).trans (V_main_v3_apply m c k q)
  · obtain ⟨t, p, q, h⟩ := split_row i
    refine ⟨t, flush0_12 _, ?_⟩
    rw [h.trans (emb12 t p q).symm]
    exact View.emb_mem_set _ _

theorem final13 (c : Dev nD) : (dats m 0 c).arrAt 13 cfg0.N = colsOf 1024 (by norm_num) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 13 _ (fun t hf y => ?_) fun i => ?_
  · blk_simp
    rw [after0_13]
    obtain ⟨p, q, rfl⟩ := split_blk y
    rw [emb13 t p q]
    refine (out13_apply _ _ _ _ _ _ _ _ _ _ p q).trans ?_
    exact dot_at m c t p _ q _ fun k => (iblk7_apply m c t k q).trans (V_main_v4_apply m c k q)
  · obtain ⟨t, p, q, h⟩ := split_row i
    refine ⟨t, flush0_13 _, ?_⟩
    rw [h.trans (emb13 t p q).symm]
    exact View.emb_mem_set _ _

theorem final14 (c : Dev nD) : (dats m 0 c).arrAt 14 cfg0.N = xbcOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 14 _ (fun t hf y => ?_) fun i => ?_
  · blk_simp
    rw [after0_14]
    obtain ⟨p, q, rfl⟩ := split_blk y
    rw [emb14 t p q]
    refine (out14_apply _ _ _ _ _ _ _ _ _ _ p q).trans ?_
    unfold xbcOf
    by_cases h : q.val < 1280
    · refine Eq.trans ?_ (dif_pos (α := EReal) h).symm
      exact dot_at m c t p _ q _ fun k => (iblk8_apply m c t k q).trans (V_main_v7_left m c k ⟨q.val, h⟩)
    · refine Eq.trans ?_ (dif_neg (α := EReal) h).symm
      have e : q = ⟨1280 + (q.val - 1280), by omega⟩ := Fin.ext (by show q.val = 1280 + (q.val - 1280); omega)
      exact dot_at m c t p _ q _ fun k => (iblk8_apply m c t k q).trans
        ((congrArg (fun z : Fin 1536 => V m c main_v7 (Idealize.ShloMosaic.ix2 k z)) e).trans (V_main_v7_right m c k ⟨q.val - 1280, by omega⟩))
  · obtain ⟨t, p, q, h⟩ := split_row i
    refine ⟨t, flush0_14 _, ?_⟩
    rw [h.trans (emb14 t p q).symm]
    exact View.emb_mem_set _ _

theorem final15 (c : Dev nD) : (dats m 0 c).arrAt 15 cfg0.N = dtOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 15 _ (fun t hf y => ?_) fun i => ?_
  · blk_simp
    rw [after0_15]
    obtain ⟨p, q, rfl⟩ := split_blk y
    rw [emb15 t p q]
    refine (out15_apply _ _ _ _ _ _ _ _ _ _ p q).trans ?_
    unfold dtOf
    by_cases h : q.val < 32
    · refine Eq.trans ?_ (dif_pos (α := EReal) h).symm
      exact dot_at m c t p _ q _ fun k => (iblk9_apply m c t k q).trans (V_main_v9_left m c k ⟨q.val, h⟩)
    · refine Eq.trans ?_ (dif_neg (α := EReal) h).symm
      have e : q = ⟨32 + (q.val - 32), by omega⟩ := Fin.ext (by show q.val = 32 + (q.val - 32); omega)
      exact dot_zero _ p _ q fun k => (iblk9_apply m c t k q).trans
        ((congrArg (fun z : Fin 128 => V m c main_v9 (Idealize.ShloMosaic.ix2 k z)) e).trans (V_main_v9_right m c k ⟨q.val - 32, by omega⟩))
  · obtain ⟨t, p, q, h⟩ := split_row i
    refine ⟨t, flush0_15 _, ?_⟩
    rw [h.trans (emb15 t p q).symm]
    exact View.emb_mem_set _ _

end Cert.Proof.Context

end
-- ==== Proof.ContextReference.lean ====
/- The projections of the context: what the reference computes. -/
module

public import proofs.«01_k».proof.Proof.ContextSpec
public import proofs.«01_k».proof.Proof.Gen.ContextReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Context

open Idealize.ShloMosaic Idealize.ShloMosaic.TcCoe Idealize.SL.Sem
open Cert.ContextReferenceIdeal Cert.ContextReferenceIdeal.Value Cert.ContextReferenceIdeal.Gen

/-- The reference's normed input. -/
def refNormed (x : Vec Ideal S2x256x1024 .f32) (g : Vec Ideal S1024 .f32) (sh sc : Vec Ideal S1x1024 .f32) : Vec Ideal S2x256x1024 .f32 :=
  addf (F := Ideal) (mulf (F := Ideal) (mulf (F := Ideal) (mulf (F := Ideal) x
      (broadcastInDim S2x256x1024 ![0, 1, 2] bcast_S2x256x1_S2x256x1024_0_1_2 (Host.rsqrt (F := Ideal) (addf (F := Ideal)
        (Host.divf (F := Ideal) (broadcastInDim S2x256x1 ![0, 1] bcast_S2x256_S2x256x1_0_1 (Host.reduceAdd (F := Ideal) (mulf (F := Ideal) x x) (constant (F := Ideal) S_ .f32 0x00000000#32) reducesTo_S2x256x1024_S2x256_d2 h_S_))
          (broadcastInDim S2x256x1 ![] bcast_S_S2x256x1 (constant (F := Ideal) S_ .f32 0x44800000#32)))
        (broadcastInDim S2x256x1 ![] bcast_S_S2x256x1 (constant (F := Ideal) S_ .f32 0x358637BD#32))))))
      (broadcastInDim S2x256x1024 ![0, 1, 2] bcast_S1x1x1024_S2x256x1024_0_1_2 (broadcastInDim S1x1x1024 ![2] bcast_S1024_S1x1x1024_2 g)))
      (broadcastInDim S2x256x1024 ![0, 1, 2] bcast_S1x1x1024_S2x256x1024_0_1_2 (addf (F := Ideal) (broadcastInDim S1x1x1024 ![] bcast_S_S1x1x1024 (constant (F := Ideal) S_ .f32 0x3F800000#32)) (broadcastInDim S1x1x1024 ![0, 2] bcast_S1x1024_S1x1x1024_0_2 sc))))
    (broadcastInDim S2x256x1024 ![0, 1, 2] bcast_S1x1x1024_S2x256x1024_0_1_2 (broadcastInDim S1x1x1024 ![0, 2] bcast_S1x1024_S1x1x1024_0_2 sh))

/-- Its product with the whole weight matrix, in rows. -/
def refProj (h : Vec Ideal S2x256x1024 .f32) (w : Vec Ideal S1024x5664 .f32) : Vec Ideal S512x5664 .f32 :=
  shapeCast _ (Host.dotGeneral (F := Ideal) (φ₁ := .f32) (φ₂ := .f32) dot_S2x256x1024_S1024x5664_S2x256x5664_2_0_01_1_n_n none h w) shapeCasts_S2x256x5664_S512x5664

theorem refNormed_apply (x : Vec Ideal S2x256x1024 .f32) (g : Vec Ideal S1024 .f32) (sh sc : Vec Ideal S1x1024 .f32) (b : Fin 2) (i : Fin 256) (k : Fin 1024) :
    refNormed x g sh sc (Idealize.ShloMosaic.ix3 b i k)
      = normRow (fun l => x (Idealize.ShloMosaic.ix3 b i l)) (g (Idealize.ShloMosaic.ix1 k)) (sh (Idealize.ShloMosaic.ix2 (0 : Fin 1) k)) (sc (Idealize.ShloMosaic.ix2 (0 : Fin 1) k)) k := by
  pointwise [refNormed, normRow]

theorem refProj_apply (h : Vec Ideal S2x256x1024 .f32) (w : Vec Ideal S1024x5664 .f32) (r : Fin 512) (q : Fin 5664) :
    refProj h w (Idealize.ShloMosaic.ix2 r q)
      = (∑ k : Fin 1024, h (Idealize.ShloMosaic.ix3 (⟨r.val / 256, by omega⟩ : Fin 2) (⟨r.val % 256, by omega⟩ : Fin 256) k) * w (Idealize.ShloMosaic.ix2 k q) : EReal) := by
  pointwise [refProj]

/-- The reference's product, entry by entry. -/
theorem refProj_eq (x : Vec Ideal S2x256x1024 .f32) (g : Vec Ideal S1024 .f32) (sh sc : Vec Ideal S1x1024 .f32) (w : Vec Ideal S1024x5664 .f32)
    (r : Fin 512) (q : Fin 5664) : refProj (refNormed x g sh sc) w (Idealize.ShloMosaic.ix2 r q) = projOf x g sh sc w r q := by
  rw [refProj_apply]
  unfold projOf normedOf
  exact Finset.sum_congr rfl fun k _ => congrArg (fun a : EReal => a * w (Idealize.ShloMosaic.ix2 k q)) (refNormed_apply x g sh sc _ _ k)

theorem cut0 (P : Vec Ideal S512x5664 .f32) (r : Fin 512) (q : Fin 1024) :
    truncf (F := Ideal) .bf16 (extractStridedSlice S512x1024 ![0, 0] P slices_S512x5664_S512x1024_0_0) bitsLt_bf16_f32 (Idealize.ShloMosaic.ix2 r q)
      = P (Idealize.ShloMosaic.ix2 r (⟨0 + q.val, by omega⟩ : Fin 5664)) := by
  pointwise

theorem cut2304 (P : Vec Ideal S512x5664 .f32) (r : Fin 512) (q : Fin 1024) :
    truncf (F := Ideal) .bf16 (extractStridedSlice S512x1024 ![0, 2304] P slices_S512x5664_S512x1024_0_2304) bitsLt_bf16_f32 (Idealize.ShloMosaic.ix2 r q)
      = P (Idealize.ShloMosaic.ix2 r (⟨2304 + q.val, by omega⟩ : Fin 5664)) := by
  pointwise

theorem cut3328 (P : Vec Ideal S512x5664 .f32) (r : Fin 512) (q : Fin 1024) :
    truncf (F := Ideal) .bf16 (extractStridedSlice S512x1024 ![0, 3328] P slices_S512x5664_S512x1024_0_3328) bitsLt_bf16_f32 (Idealize.ShloMosaic.ix2 r q)
      = P (Idealize.ShloMosaic.ix2 r (⟨3328 + q.val, by omega⟩ : Fin 5664)) := by
  pointwise

theorem cut1024 (P : Vec Ideal S512x5664 .f32) (r : Fin 512) (q : Fin 1024) :
    truncf (F := Ideal) .bf16 (extractStridedSlice S512x1024 ![0, 1024] P slices_S512x5664_S512x1024_0_1024) bitsLt_bf16_f32 (Idealize.ShloMosaic.ix2 r q)
      = P (Idealize.ShloMosaic.ix2 r (⟨1024 + q.val, by omega⟩ : Fin 5664)) := by
  pointwise

/-- The two groups of columns side by side. -/
def refXbc (P : Vec Ideal S512x5664 .f32) : Vec Ideal S512x1536 .bf16 :=
  truncf (F := Ideal) .bf16 (concatenate S512x1536 1 [⟨S512x1280, extractStridedSlice S512x1280 ![0, 4352] P slices_S512x5664_S512x1280_0_4352⟩,
    ⟨S512x256, extractStridedSlice S512x256 ![0, 2048] P slices_S512x5664_S512x256_0_2048⟩] concatenates_S512x1280_S512x256_S512x1536_d1) bitsLt_bf16_f32

theorem refXbc_left (P : Vec Ideal S512x5664 .f32) (r : Fin 512) (q : Fin 1280) :
    refXbc P (Idealize.ShloMosaic.ix2 r (⟨q.val, by omega⟩ : Fin 1536)) = P (Idealize.ShloMosaic.ix2 r (⟨4352 + q.val, by omega⟩ : Fin 5664)) := by
  pointwise [refXbc]

theorem refXbc_right (P : Vec Ideal S512x5664 .f32) (r : Fin 512) (q : Fin 256) :
    refXbc P (Idealize.ShloMosaic.ix2 r (⟨1280 + q.val, by omega⟩ : Fin 1536)) = P (Idealize.ShloMosaic.ix2 r (⟨2048 + q.val, by omega⟩ : Fin 5664)) := by
  pointwise [refXbc]

/-- The last columns, padded with zeros. -/
def refDt (P : Vec Ideal S512x5664 .f32) : Vec Ideal S512x128 .f32 :=
  pad S512x128 ![0, 0] ![0, 96] ![0, 0] (extractStridedSlice S512x32 ![0, 5632] P slices_S512x5664_S512x32_0_5632)
    (sitofp (F := Ideal) .f32 (constantI S_ 32 0#32)) pads_S512x32_S512x128_000_0960 h_S_

theorem refDt_left (P : Vec Ideal S512x5664 .f32) (r : Fin 512) (q : Fin 32) :
    refDt P (Idealize.ShloMosaic.ix2 r (⟨q.val, by omega⟩ : Fin 128)) = P (Idealize.ShloMosaic.ix2 r (⟨5632 + q.val, by omega⟩ : Fin 5664)) := by
  pointwise [refDt]

theorem refDt_right (P : Vec Ideal S512x5664 .f32) (r : Fin 512) (q : Fin 96) :
    refDt P (Idealize.ShloMosaic.ix2 r (⟨32 + q.val, by omega⟩ : Fin 128)) = (0 : EReal) := by
  pointwise [refDt]
  show (((0#32).toInt : ℝ) : EReal) = 0
  simp

section Values

variable (x : Vec Ideal S2x256x1024 .f32) (g : Vec Ideal S1024 .f32) (sh sc : Vec Ideal S1x1024 .f32) (w : Vec Ideal S1024x5664 .f32)

theorem value0 : truncf (F := Ideal) .bf16 (extractStridedSlice S512x1024 ![0, 0] (refProj (refNormed x g sh sc) w) slices_S512x5664_S512x1024_0_0) bitsLt_bf16_f32
    = colsOf 0 (by norm_num) x g sh sc w := by
  funext i
  rw [Idealize.ShloMosaic.eq_ix2 (n0 := 512) (n1 := 1024) i]
  exact (cut0 _ (i 0) (i 1)).trans (refProj_eq x g sh sc w _ _)

theorem value1 : truncf (F := Ideal) .bf16 (extractStridedSlice S512x1024 ![0, 2304] (refProj (refNormed x g sh sc) w) slices_S512x5664_S512x1024_0_2304) bitsLt_bf16_f32
    = colsOf 2304 (by norm_num) x g sh sc w := by
  funext i
  rw [Idealize.ShloMosaic.eq_ix2 (n0 := 512) (n1 := 1024) i]
  exact (cut2304 _ (i 0) (i 1)).trans (refProj_eq x g sh sc w _ _)

theorem value2 : truncf (F := Ideal) .bf16 (extractStridedSlice S512x1024 ![0, 3328] (refProj (refNormed x g sh sc) w) slices_S512x5664_S512x1024_0_3328) bitsLt_bf16_f32
    = colsOf 3328 (by norm_num) x g sh sc w := by
  funext i
  rw [Idealize.ShloMosaic.eq_ix2 (n0 := 512) (n1 := 1024) i]
  exact (cut3328 _ (i 0) (i 1)).trans (refProj_eq x g sh sc w _ _)

theorem value3 : truncf (F := Ideal) .bf16 (extractStridedSlice S512x1024 ![0, 1024] (refProj (refNormed x g sh sc) w) slices_S512x5664_S512x1024_0_1024) bitsLt_bf16_f32
    = colsOf 1024 (by norm_num) x g sh sc w := by
  funext i
  rw [Idealize.ShloMosaic.eq_ix2 (n0 := 512) (n1 := 1024) i]
  exact (cut1024 _ (i 0) (i 1)).trans (refProj_eq x g sh sc w _ _)

theorem value4 : refXbc (refProj (refNormed x g sh sc) w) = xbcOf x g sh sc w := by
  funext i
  have h1 : (i 1).val < 1536 := (i 1).isLt
  refine (congrArg _ (Idealize.ShloMosaic.eq_ix2 (n0 := 512) (n1 := 1536) i)).trans ?_
  unfold xbcOf
  by_cases h : (i 1).val < 1280
  · rw [dif_pos h]
    exact (refXbc_left _ (i 0) ⟨(i 1).val, h⟩).trans (refProj_eq x g sh sc w _ _)
  · rw [dif_neg h]
    have e : (i 1 : Fin 1536) = ⟨1280 + ((i 1).val - 1280), by omega⟩ := Fin.ext (by show (i 1).val = 1280 + ((i 1).val - 1280); omega)
    refine (congrArg (fun z : Fin 1536 => refXbc (refProj (refNormed x g sh sc) w) (Idealize.ShloMosaic.ix2 (i 0) z)) e).trans ?_
    exact (refXbc_right _ (i 0) ⟨(i 1).val - 1280, by omega⟩).trans (refProj_eq x g sh sc w _ _)

theorem value5 : refDt (refProj (refNormed x g sh sc) w) = dtOf x g sh sc w := by
  funext i
  have h1 : (i 1).val < 128 := (i 1).isLt
  refine (congrArg _ (Idealize.ShloMosaic.eq_ix2 (n0 := 512) (n1 := 128) i)).trans ?_
  unfold dtOf
  by_cases h : (i 1).val < 32
  · rw [dif_pos h]
    exact (refDt_left _ (i 0) ⟨(i 1).val, h⟩).trans (refProj_eq x g sh sc w _ _)
  · rw [dif_neg h]
    have e : (i 1 : Fin 128) = ⟨32 + ((i 1).val - 32), by omega⟩ := Fin.ext (by show (i 1).val = 32 + ((i 1).val - 32); omega)
    refine (congrArg (fun z : Fin 128 => refDt (refProj (refNormed x g sh sc) w) (Idealize.ShloMosaic.ix2 (i 0) z)) e).trans ?_
    exact refDt_right _ (i 0) ⟨(i 1).val - 32, by omega⟩

end Values

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = colsOf 0 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = colsOf 2304 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v28) = colsOf 3328 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = colsOf 1024 (by norm_num) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = xbcOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = dtOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ContextReferenceIdeal.Value.run (F := Ideal) m ρ)
  obtain ⟨e0, e1, e2, e3, e4, e5, rest⟩ := h c
  exact ⟨e0.trans (value0 _ _ _ _ _), e1.trans (value1 _ _ _ _ _), e2.trans (value2 _ _ _ _ _), e3.trans (value3 _ _ _ _ _),
    e4.trans (value4 _ _ _ _ _), e5.trans (value5 _ _ _ _ _), rest⟩

end Cert.Proof.Context

end
-- ==== Proof.ContextClaims.lean ====
/- The projections of the context: the claims. -/
module

public import proofs.«01_k».proof.Defs
public import proofs.«01_k».proof.Proof.Gen.Context.Frame
public import proofs.«01_k».proof.Proof.Gen.ContextIdeal.Value
public import proofs.«01_k».proof.Proof.ContextValue
public import proofs.«01_k».proof.Proof.ContextReference

@[expose] public section

noncomputable section

namespace Cert.Proof.Context

open Idealize.ShloMosaic Idealize.ShloMosaic.TcCoe Idealize.SL.Sem

theorem frame_kernel : Cert.quiescent_Context := fun m ρ _ => Cert.Context.Gen.frame (F := Bits) m ρ

theorem frame_ideal : Cert.quiescent_ContextIdeal := fun m ρ _ => Cert.ContextIdeal.Gen.frame (F := Ideal) m ρ

theorem frame_reference_ideal : Cert.quiescent_ContextReferenceIdeal := fun m ρ _ =>
  (θ_run Cert.ContextReferenceIdeal.defs _ _).mono (fun r h => ⟨fun c => (h c).2.2.2.2.2.2, sem_eq_zero_of_no_sems rfl r.2⟩)
    (Cert.ContextReferenceIdeal.Value.run (F := Ideal) m ρ)

open Cert.ContextIdeal in
/-- Equal arguments, equal results. -/
theorem congr_args {α : Type} (f : Vec Ideal S2x256x1024 .f32 → Vec Ideal S1024 .f32 → Vec Ideal S1x1024 .f32 → Vec Ideal S1x1024 .f32 → Vec Ideal S1024x5664 .f32 → α)
    {x x' : Vec Ideal S2x256x1024 .f32} {g g' : Vec Ideal S1024 .f32} {sh sh' sc sc' : Vec Ideal S1x1024 .f32} {w w' : Vec Ideal S1024x5664 .f32}
    (h0 : x = x') (h1 : g = g') (h2 : sh = sh') (h3 : sc = sc') (h4 : w = w') : f x g sh sc w = f x' g' sh' sc' w' := by
  subst h0 h1 h2 h3 h4; rfl

theorem algebraic : Cert.algebraic_ContextIdeal_ContextReferenceIdeal := by
  intro m ρ m' ρ' _ hm
  refine ⟨fun c => colsOf 0 (by norm_num) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)),
    fun c => colsOf 2304 (by norm_num) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)),
    fun c => colsOf 3328 (by norm_num) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)),
    fun c => colsOf 1024 (by norm_num) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)),
    fun c => xbcOf (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)),
    fun c => dtOf (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)), ?_, ?_⟩
  · refine (θ_run Cert.ContextIdeal.defs _ _).mono (fun _ h c => ?_) (Cert.ContextIdeal.Value.run_blocks m ρ)
    obtain ⟨e0, e1, e2, e3, e4, e5, rest⟩ := h c
    exact ⟨e0.trans (final10 m c), e1.trans (final11 m c), e2.trans (final12 m c), e3.trans (final13 m c), e4.trans (final14 m c), e5.trans (final15 m c), rest⟩
  · refine (θ_run Cert.ContextReferenceIdeal.defs _ _).mono (fun _ h c => ?_) (reference_run m' ρ')
    obtain ⟨a0, a1, a2, a3, a4⟩ := hm c
    obtain ⟨e0, e1, e2, e3, e4, e5, rest⟩ := h c
    exact ⟨e0.trans (congr_args (colsOf 0 (by norm_num)) a0 a1 a2 a3 a4), e1.trans (congr_args (colsOf 2304 (by norm_num)) a0 a1 a2 a3 a4),
      e2.trans (congr_args (colsOf 3328 (by norm_num)) a0 a1 a2 a3 a4), e3.trans (congr_args (colsOf 1024 (by norm_num)) a0 a1 a2 a3 a4),
      e4.trans (congr_args xbcOf a0 a1 a2 a3 a4), e5.trans (congr_args dtOf a0 a1 a2 a3 a4), rest⟩

end Cert.Proof.Context

end
-- ==== Proof.ConditioningSpec.lean ====
/- The conditioning: what is computed, entry by entry, in the extended reals. -/
module

public import proofs.«01_k».proof.ConditioningIdeal
public import Idealize.ShloMosaic.Lib.Pointwise

@[expose] public section

noncomputable section

namespace Cert.Proof.Conditioning

open Idealize.ShloMosaic
open Cert.ConditioningIdeal

/-- Entry `(r, q)` of layer `l`: row `r` of `a * logistic a` times column `q` of the layer's weights, plus its bias. -/
def condAt (a : Vec Ideal S8x1024 .f32) (w : Vec Ideal S2x1024x6144 .f32) (b : Vec Ideal S2x6144 .f32)
    (l : Fin 2) (r : Fin 8) (q : Fin 6144) : EReal :=
  (∑ k : Fin 1024, (a (Idealize.ShloMosaic.ix2 r k) * Ideal.logistic (a (Idealize.ShloMosaic.ix2 r k))) * w (Idealize.ShloMosaic.ix3 l k q)) + b (Idealize.ShloMosaic.ix2 l q)

/-- The whole result. -/
def condOf (a : Vec Ideal S8x1024 .f32) (w : Vec Ideal S2x1024x6144 .f32) (b : Vec Ideal S2x6144 .f32) :
    Vec Ideal S2x8x6144 .f32 :=
  fun i => condAt a w b (i 0) (i 1) (i 2)

end Cert.Proof.Conditioning

end
-- ==== Proof.ConditioningValue.lean ====
/- The conditioning: what the kernel leaves. -/
module

public import proofs.«01_k».proof.Proof.ConditioningSpec
public import proofs.«01_k».proof.Proof.Gen.ConditioningIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Conditioning

open Idealize.ShloMosaic Idealize.ShloMosaic.TcCoe Idealize.SL.Sem
open Cert.ConditioningIdeal Cert.ConditioningIdeal.Gen Cert.ConditioningIdeal.Value

/-- Entry `(r, q)` of a stored block. -/
theorem pay_apply (a : Vec Ideal S8x1024 .f32) (w : Vec Ideal S1x1024x1536 .f32) (b : Vec Ideal S1x1x1536 .f32) (r : Fin 8) (q : Fin 1536) :
    k0_pay1 (F := Ideal) a w b (Idealize.ShloMosaic.ix3 (0 : Fin 1) r q)
      = ((∑ k : Fin 1024, (a (Idealize.ShloMosaic.ix2 r k) * Ideal.logistic (a (Idealize.ShloMosaic.ix2 r k))) * w (Idealize.ShloMosaic.ix3 (0 : Fin 1) k q)) + b (Idealize.ShloMosaic.ix3 (0 : Fin 1) (0 : Fin 1) q) : EReal) := by
  pointwise [k0_pay1]

theorem out3_eq (x0 : Vec Ideal S8x1024 .f32) (x1 : Vec Ideal S1x1024x1536 .f32) (x2 : Vec Ideal S1x1x1536 .f32) :
    out0_3 (F := Ideal) x0 x1 x2 = k0_pay1 (F := Ideal) x0 x1 x2 := by
  unfold out0_3
  simp (disch := decide) only [View.ld_unit_lit, View.canon_cons_unit_lit]

variable (m : (ℓ : Loc nD τ sig) → Buf (Elt Ideal) ℓ)

/-- The biases as the call takes them. -/
theorem V_main_v0_apply (c : Dev nD) (l : Fin 2) (q : Fin 6144) :
    V m c main_v0 (Idealize.ShloMosaic.ix3 l (0 : Fin 1) q) = m ((c : Thread nD τ).loc main_arg2) (Idealize.ShloMosaic.ix2 l q) := by
  entry_read
  pointwise

theorem idx0 : ∀ t : Fin cfg0.N, (cfg0.win 0).index t = ![0, 0] := by decide +kernel
theorem idx1 : ∀ t : Fin cfg0.N, (cfg0.win 1).index t = ![t.val / 4, 0, t.val % 4] := by decide +kernel
theorem idx2 : ∀ t : Fin cfg0.N, (cfg0.win 2).index t = ![t.val / 4, 0, t.val % 4] := by decide +kernel
theorem idx3 : ∀ t : Fin cfg0.N, (cfg0.win 3).index t = ![t.val / 4, 0, t.val % 4] := by decide +kernel

theorem iblk0_apply (c : Dev nD) (t : Fin 8) (r : Fin 8) (k : Fin 1024) : iblk m c 0 t (Idealize.ShloMosaic.ix2 r k) = V m c main_arg0 (Idealize.ShloMosaic.ix2 r k) := by
  blk_ext [iblk, idx0 t]
theorem iblk1_apply (c : Dev nD) (t : Fin 8) (k : Fin 1024) (q : Fin 1536) :
    iblk m c 1 t (Idealize.ShloMosaic.ix3 (0 : Fin 1) k q) = V m c main_arg1 (Idealize.ShloMosaic.ix3 (⟨t.val / 4, by omega⟩ : Fin 2) k (⟨t.val % 4 * 1536 + q.val, by omega⟩ : Fin 6144)) := by
  blk_ext [iblk, idx1 t]
theorem iblk2_apply (c : Dev nD) (t : Fin 8) (q : Fin 1536) :
    iblk m c 2 t (Idealize.ShloMosaic.ix3 (0 : Fin 1) (0 : Fin 1) q) = V m c main_v0 (Idealize.ShloMosaic.ix3 (⟨t.val / 4, by omega⟩ : Fin 2) (0 : Fin 1) (⟨t.val % 4 * 1536 + q.val, by omega⟩ : Fin 6144)) := by
  blk_ext [iblk, idx2 t]

theorem emb3 (t : Fin 8) (r : Fin 8) (q : Fin 1536) :
    (((spec0 3).arr.view.slice ((cfg0.win 3).rect t)).emb (Idealize.ShloMosaic.ix3 (0 : Fin 1) r q)) = (Idealize.ShloMosaic.ix3 (⟨t.val / 4, by omega⟩ : Fin 2) r (⟨t.val % 4 * 1536 + q.val, by omega⟩ : Fin 6144) : S2x8x6144.Idx) := by
  blk_ext [idx3 t]

theorem split_idx (i : S2x8x6144.Idx) : ∃ (t : Fin 8) (r : Fin 8) (q : Fin 1536), i = Idealize.ShloMosaic.ix3 (⟨t.val / 4, by omega⟩ : Fin 2) r (⟨t.val % 4 * 1536 + q.val, by omega⟩ : Fin 6144) := by
  have h0 : (i 0).val < 2 := (i 0).isLt
  have h2 : (i 2).val < 6144 := (i 2).isLt
  refine ⟨⟨(i 0).val * 4 + (i 2).val / 1536, by omega⟩, i 1, ⟨(i 2).val % 1536, Nat.mod_lt _ (by decide)⟩, (Idealize.ShloMosaic.eq_ix3 (n0 := 2) (n1 := 8) (n2 := 6144) i).trans ?_⟩
  refine congrArg₂ (fun (l : Fin 2) (q : Fin 6144) => (Idealize.ShloMosaic.ix3 l (i 1) q : S2x8x6144.Idx)) (Fin.ext ?_) (Fin.ext ?_)
  · show (i 0).val = ((i 0).val * 4 + (i 2).val / 1536) / 4
    omega
  · show (i 2).val = ((i 0).val * 4 + (i 2).val / 1536) % 4 * 1536 + (i 2).val % 1536
    omega

theorem split_blk (y : S1x8x1536.Idx) : ∃ (r : Fin 8) (q : Fin 1536), y = Idealize.ShloMosaic.ix3 (0 : Fin 1) r q := by
  refine ⟨y 1, y 2, (Idealize.ShloMosaic.eq_ix3 (n0 := 1) (n1 := 8) (n2 := 1536) y).trans ?_⟩
  exact congrArg (fun l : Fin 1 => (Idealize.ShloMosaic.ix3 l (y 1) (y 2) : S1x8x1536.Idx)) (Subsingleton.elim _ _)

/-- What grid point `t` stores at `(r, q)`. -/
theorem stored (c : Dev nD) (t : Fin 8) (r : Fin 8) (q : Fin 1536) :
    k0_pay1 (F := Ideal) (iblk m c 0 t) (iblk m c 1 t) (iblk m c 2 t) (Idealize.ShloMosaic.ix3 (0 : Fin 1) r q)
      = condAt (m ((c : Thread nD τ).loc main_arg0)) (m ((c : Thread nD τ).loc main_arg1)) (m ((c : Thread nD τ).loc main_arg2)) (⟨t.val / 4, by omega⟩ : Fin 2) r (⟨t.val % 4 * 1536 + q.val, by omega⟩ : Fin 6144) := by
  refine (pay_apply _ _ _ r q).trans ?_
  unfold condAt
  have e0 (k : Fin 1024) := (iblk0_apply m c t r k).trans (congrFun (V_main_arg0 m c) _)
  have e1 (k : Fin 1024) := (iblk1_apply m c t k q).trans (congrFun (V_main_arg1 m c) _)
  have e2 := (iblk2_apply m c t q).trans (V_main_v0_apply m c _ _)
  exact congrArg₂ (fun a b : EReal => a + b) (Finset.sum_congr rfl fun k _ =>
    congrArg₂ (fun a b : EReal => a * Ideal.logistic a * b) (e0 k) (e1 k)) e2

theorem final3 (c : Dev nD) : (dats m 0 c).arrAt 3 cfg0.N = condOf (m ((c : Thread nD τ).loc main_arg0)) (m ((c : Thread nD τ).loc main_arg1)) (m ((c : Thread nD τ).loc main_arg2)) := by
  refine (dats m 0 c).arrAt_eq_of_emb 3 _ (fun t hf y => ?_) fun i => ?_
  · blk_simp
    rw [after0_3]
    obtain ⟨r, q, rfl⟩ := split_blk y
    rw [emb3 t r q]
    exact (congrFun (out3_eq _ _ _) _).trans (stored m c t r q)
  · obtain ⟨t, r, q, h⟩ := split_idx i
    refine ⟨t, flush0_3 _, ?_⟩
    rw [h.trans (emb3 t r q).symm]
    exact View.emb_mem_set _ _

end Cert.Proof.Conditioning

end
-- ==== Proof.ConditioningReference.lean ====
/- The conditioning: what the reference computes. -/
module

public import proofs.«01_k».proof.Proof.ConditioningSpec
public import proofs.«01_k».proof.Proof.Gen.ConditioningReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Conditioning

open Idealize.ShloMosaic Idealize.ShloMosaic.TcCoe Idealize.SL.Sem
open Cert.ConditioningReferenceIdeal Cert.ConditioningReferenceIdeal.Value Cert.ConditioningReferenceIdeal.Gen

/-- The reference's result. -/
def refOut (a : Vec Ideal S8x1024 .f32) (w : Vec Ideal S2x1024x6144 .f32) (b : Vec Ideal S2x6144 .f32) :
    Vec Ideal S2x8x6144 .f32 :=
  addf (F := Ideal) (transpose S2x8x6144 [1, 0, 2] (Host.dotGeneral (F := Ideal) (φ₁ := .f32) (φ₂ := .f32) dot_S8x1024_S2x1024x6144_S8x2x6144_1_1_0_02_n_n none
      (mulf (F := Ideal) a (Host.divf (F := Ideal) (broadcastInDim S8x1024 ![] bcast_S_S8x1024 (constant (F := Ideal) S_ .f32 0x3F800000#32))
        (addf (F := Ideal) (broadcastInDim S8x1024 ![] bcast_S_S8x1024 (constant (F := Ideal) S_ .f32 0x3F800000#32)) (Host.exp (F := Ideal) (Host.negf (F := Ideal) a))))) w)
      transposes_S8x2x6144_S2x8x6144_1_0_2)
    (broadcastInDim S2x8x6144 ![0, 1, 2] bcast_S2x1x6144_S2x8x6144_0_1_2 (broadcastInDim S2x1x6144 ![0, 2] bcast_S2x6144_S2x1x6144_0_2 b))

theorem refOut_apply (a : Vec Ideal S8x1024 .f32) (w : Vec Ideal S2x1024x6144 .f32) (b : Vec Ideal S2x6144 .f32)
    (l : Fin 2) (r : Fin 8) (q : Fin 6144) : refOut a w b (Idealize.ShloMosaic.ix3 l r q) = condAt a w b l r q := by
  unfold condAt Ideal.logistic
  pointwise [refOut]

theorem refOut_eq (a : Vec Ideal S8x1024 .f32) (w : Vec Ideal S2x1024x6144 .f32) (b : Vec Ideal S2x6144 .f32) :
    refOut a w b = condOf a w b := by
  funext i
  exact (congrArg _ (Idealize.ShloMosaic.eq_ix3 (n0 := 2) (n1 := 8) (n2 := 6144) i)).trans (refOut_apply a w b (i 0) (i 1) (i 2))

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = condOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.ConditioningReferenceIdeal.Value.run (F := Ideal) m ρ)
  obtain ⟨e0, rest⟩ := h c
  exact ⟨e0.trans (refOut_eq _ _ _), rest⟩

end Cert.Proof.Conditioning

end
-- ==== Proof.ConditioningClaims.lean ====
/- The conditioning: the claims. -/
module

public import proofs.«01_k».proof.Defs
public import proofs.«01_k».proof.Proof.Gen.Conditioning.Frame
public import proofs.«01_k».proof.Proof.Gen.ConditioningIdeal.Value
public import proofs.«01_k».proof.Proof.ConditioningValue
public import proofs.«01_k».proof.Proof.ConditioningReference

@[expose] public section

noncomputable section

namespace Cert.Proof.Conditioning

open Idealize.ShloMosaic Idealize.ShloMosaic.TcCoe Idealize.SL.Sem

theorem frame_kernel : Cert.quiescent_Conditioning := fun m ρ _ => Cert.Conditioning.Gen.frame (F := Bits) m ρ

theorem frame_ideal : Cert.quiescent_ConditioningIdeal := fun m ρ _ => Cert.ConditioningIdeal.Gen.frame (F := Ideal) m ρ

theorem frame_reference_ideal : Cert.quiescent_ConditioningReferenceIdeal := fun m ρ _ =>
  (θ_run Cert.ConditioningReferenceIdeal.defs _ _).mono (fun r h => ⟨fun c => (h c).2, sem_eq_zero_of_no_sems rfl r.2⟩)
    (Cert.ConditioningReferenceIdeal.Value.run (F := Ideal) m ρ)

open Cert.ConditioningIdeal in
/-- Equal arguments, equal results. -/
theorem congr_args {x0 y0 : Vec Ideal S8x1024 .f32} {x1 y1 : Vec Ideal S2x1024x6144 .f32} {x2 y2 : Vec Ideal S2x6144 .f32}
    (h0 : x0 = y0) (h1 : x1 = y1) (h2 : x2 = y2) : condOf x0 x1 x2 = condOf y0 y1 y2 := by
  subst h0 h1 h2; rfl

theorem algebraic : Cert.algebraic_ConditioningIdeal_ConditioningReferenceIdeal := by
  intro m ρ m' ρ' _ hm
  refine ⟨fun c => condOf (m ((c.tc : Thread Cert.ConditioningIdeal.nD Cert.ConditioningIdeal.τ).loc Cert.ConditioningIdeal.main_arg0)) (m ((c.tc : Thread Cert.ConditioningIdeal.nD Cert.ConditioningIdeal.τ).loc Cert.ConditioningIdeal.main_arg1)) (m ((c.tc : Thread Cert.ConditioningIdeal.nD Cert.ConditioningIdeal.τ).loc Cert.ConditioningIdeal.main_arg2)), ?_, ?_⟩
  · refine (θ_run Cert.ConditioningIdeal.defs _ _).mono (fun _ h c => ?_) (Cert.ConditioningIdeal.Value.run_blocks m ρ)
    obtain ⟨e0, rest⟩ := h c
    exact ⟨e0.trans (final3 m c), rest⟩
  · refine (θ_run Cert.ConditioningReferenceIdeal.defs _ _).mono (fun _ h c => ?_) (reference_run m' ρ')
    obtain ⟨a0, a1, a2⟩ := hm c
    obtain ⟨e0, rest⟩ := h c
    exact ⟨e0.trans (congr_args a0 a1 a2), rest⟩

end Cert.Proof.Conditioning

end
-- ==== Proof.ConvolutionSpec.lean ====
/- The convolution: what is computed, entry by entry, in the extended reals. -/
module

public import proofs.«01_k».proof.ConvolutionIdeal
public import Idealize.ShloMosaic.Lib.Pointwise

@[expose] public section

noncomputable section

namespace Cert.Proof.Convolution

open Idealize.ShloMosaic
open Cert.ConvolutionIdeal

/-- A bias and five weighted values. -/
def conv5 (b : EReal) (w t : Fin 5 → EReal) : EReal :=
  b + w 0 * t 0 + w 1 * t 1 + w 2 * t 2 + w 3 * t 3 + w 4 * t 4

/-- A value times its logistic. -/
def silu (y : EReal) : EReal := y * Ideal.logistic y

/-- The value two rows before to two rows after row `r`, by `k`; zero where that leaves the row's sequence of 8192. -/
def tap (u : Vec Ideal S16384x1536 .bf16) (q : Fin 1536) (r : Fin 16384) (k : Fin 5) : EReal :=
  if h : 2 ≤ r.val % 8192 + k.val ∧ r.val % 8192 + k.val < 8194 then u (Idealize.ShloMosaic.ix2 (⟨r.val + k.val - 2, by omega⟩ : Fin 16384) q) else 0

/-- Entry `(r, q)`: the first 1280 columns have the first weights and biases, the others the second. -/
def convAt (u : Vec Ideal S16384x1536 .bf16) (w1 : Vec Ideal S5x1280 .f32) (b1 : Vec Ideal S1280 .f32)
    (w2 : Vec Ideal S5x256 .f32) (b2 : Vec Ideal S256 .f32) (r : Fin 16384) (q : Fin 1536) : EReal :=
  if h : q.val < 1280 then
    silu (conv5 (b1 (Idealize.ShloMosaic.ix1 (⟨q.val, h⟩ : Fin 1280))) (fun k => w1 (Idealize.ShloMosaic.ix2 k (⟨q.val, h⟩ : Fin 1280))) (tap u q r))
  else
    silu (conv5 (b2 (Idealize.ShloMosaic.ix1 (⟨q.val - 1280, by omega⟩ : Fin 256))) (fun k => w2 (Idealize.ShloMosaic.ix2 k (⟨q.val - 1280, by omega⟩ : Fin 256))) (tap u q r))

/-- The whole result. -/
def convOf (u : Vec Ideal S16384x1536 .bf16) (w1 : Vec Ideal S5x1280 .f32) (b1 : Vec Ideal S1280 .f32)
    (w2 : Vec Ideal S5x256 .f32) (b2 : Vec Ideal S256 .f32) : Vec Ideal S16384x1536 .bf16 :=
  fun i => convAt u w1 b1 w2 b2 (i 0) (i 1)

end Cert.Proof.Convolution

end
-- ==== Proof.ConvolutionValue.lean ====
/- The convolution: what the kernel leaves. -/
module

public import proofs.«01_k».proof.Proof.ConvolutionSpec
public import proofs.«01_k».proof.Proof.Gen.ConvolutionIdeal.Value
public import Idealize.ShloMosaic.Lib.Pipeline.ValueKit
public import Idealize.ShloMosaic.Lib.Pipeline.ValueKit.Point
public import Idealize.ShloMosaic.Lib.Pointwise

@[expose] public section

noncomputable section

namespace Cert.Proof.Convolution

open Idealize.ShloMosaic Idealize.ShloMosaic.TcCoe Idealize.SL.Sem
open Cert.ConvolutionIdeal Cert.ConvolutionIdeal.Gen Cert.ConvolutionIdeal.Value

/-! ## A stored piece at an entry -/

section Pieces

variable (b w0 w1 w2 w3 w4 : Vec Ideal S1x256 .f32) (s0 s1 s2 s3 s4 : Vec Ideal S512x256 .f32)

/-- A bias row and five weighted blocks, at one entry. -/
def lin (p : Fin 512) (q : Fin 256) : EReal :=
  b (Idealize.ShloMosaic.ix2 (0 : Fin 1) q) + w0 (Idealize.ShloMosaic.ix2 (0 : Fin 1) q) * s0 (Idealize.ShloMosaic.ix2 p q) + w1 (Idealize.ShloMosaic.ix2 (0 : Fin 1) q) * s1 (Idealize.ShloMosaic.ix2 p q)
    + w2 (Idealize.ShloMosaic.ix2 (0 : Fin 1) q) * s2 (Idealize.ShloMosaic.ix2 p q) + w3 (Idealize.ShloMosaic.ix2 (0 : Fin 1) q) * s3 (Idealize.ShloMosaic.ix2 p q) + w4 (Idealize.ShloMosaic.ix2 (0 : Fin 1) q) * s4 (Idealize.ShloMosaic.ix2 p q)

theorem piece0 (p : Fin 512) (q : Fin 256) :
    k0_pay5 (F := Ideal) b w0 s0 w1 s1 w2 s2 w3 s3 w4 s4 (Idealize.ShloMosaic.ix2 p q) = silu (lin b w0 w1 w2 w3 w4 s0 s1 s2 s3 s4 p q) := by
  pointwise [k0_pay5, silu, lin]

theorem piece1 (p : Fin 512) (q : Fin 256) :
    k0_pay6 (F := Ideal) b w0 s0 w1 s1 w2 s2 w3 s3 w4 s4 (Idealize.ShloMosaic.ix2 p q) = silu (lin b w0 w1 w2 w3 w4 s0 s1 s2 s3 s4 p q) := by
  pointwise [k0_pay6, silu, lin]

theorem piece2 (p : Fin 512) (q : Fin 256) :
    k0_pay9 (F := Ideal) (k0_pay7 (F := Ideal) b w0 s0 w1 s1 w2 s2 w3 s3 w4 s4) (k0_pay8 (F := Ideal) b w0 s0 w1 s1 w2 s2 w3 s3 w4 s4) (Idealize.ShloMosaic.ix2 p q) = silu (lin b w0 w1 w2 w3 w4 s0 s1 s2 s3 s4 p q) := by
  pointwise [k0_pay9, k0_pay7, k0_pay8, silu, lin]

theorem piece3 (p : Fin 512) (q : Fin 256) :
    k0_pay12 (F := Ideal) (k0_pay10 (F := Ideal) b w0 s0 w1 s1 w2 s2 w3 s3) s4 (k0_pay11 (F := Ideal) w4) (Idealize.ShloMosaic.ix2 p q) = silu (lin b w0 w1 w2 w3 w4 s0 s1 s2 s3 s4 p q) := by
  pointwise [k0_pay12, k0_pay10, k0_pay11, silu, lin]

theorem piece4 (p : Fin 512) (q : Fin 256) :
    k0_pay15 (F := Ideal) (k0_pay13 (F := Ideal) b w0 s0 w1 s1 w2 s2 w3 s3) (k0_pay14 (F := Ideal) w4) s4 (Idealize.ShloMosaic.ix2 p q) = silu (lin b w0 w1 w2 w3 w4 s0 s1 s2 s3 s4 p q) := by
  pointwise [k0_pay15, k0_pay13, k0_pay14, silu, lin]

theorem piece5 (p : Fin 512) (q : Fin 256) :
    k0_pay1 (F := Ideal) (k0_pay16 (F := Ideal) b w0 s0 w1 s1 w2 s2 w3 s3) w4 s4 (Idealize.ShloMosaic.ix2 p q) = silu (lin b w0 w1 w2 w3 w4 s0 s1 s2 s3 s4 p q) := by
  pointwise [k0_pay1, k0_pay16, silu, lin]

end Pieces

/-! ## The rows around a tile -/

/-- The tile's position in its sequence, as the kernel computes it. -/
def tileOf (i : grid0.Coords) : BitVec 32 :=
  let arg0 : BitVec 32 := BitVec.ofNat 32 (i 0).val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  v9

theorem first_iff : ∀ t : Fin cfg0.N, Scalar.cmpi .eq (tileOf (grid0.coords t)) 0#32 = if t.val % 16 = 0 then 1#1 else 0#1 := by decide +kernel
theorem last_iff : ∀ t : Fin cfg0.N, Scalar.cmpi .eq (tileOf (grid0.coords t)) 15#32 = if t.val % 16 = 15 then 1#1 else 0#1 := by decide +kernel

theorem pay2_apply (t : Fin cfg0.N) (x : Vec Ideal S16x1536 .bf16) (p : Fin 16) (q : Fin 1536) :
    k0_pay2 (F := Ideal) (grid0.coords t) x (Idealize.ShloMosaic.ix2 p q) = if t.val % 16 = 0 then (0 : EReal) else x (Idealize.ShloMosaic.ix2 p q) := by
  have e : k0_pay2 (F := Ideal) (grid0.coords t) x = shapeCast S16x1536 (Scalar.select (Scalar.cmpi .eq (tileOf (grid0.coords t)) 0#32)
      (broadcast S16x1536 (Scalar.ofBits (F := Ideal) .f32 0x00000000#32)) (extf (F := Ideal) .f32 x bitsLt_bf16_f32)) shapeCasts_S16x1536_S16x1536 := rfl
  rw [e, first_iff t]
  by_cases h : t.val % 16 = 0
  · rw [if_pos h, if_pos h, Scalar.select, if_pos (show (1#1 : BitVec 1) = 1 from rfl)]
    pointwise
  · rw [if_neg h, if_neg h, Scalar.select, if_neg (by decide)]
    pointwise

theorem pay4_apply (t : Fin cfg0.N) (x : Vec Ideal S16x1536 .bf16) (p : Fin 16) (q : Fin 1536) :
    k0_pay4 (F := Ideal) (grid0.coords t) x (Idealize.ShloMosaic.ix2 p q) = if t.val % 16 = 15 then (0 : EReal) else x (Idealize.ShloMosaic.ix2 p q) := by
  have e : k0_pay4 (F := Ideal) (grid0.coords t) x = shapeCast S16x1536 (Scalar.select (Scalar.cmpi .eq (tileOf (grid0.coords t)) 15#32)
      (broadcast S16x1536 (Scalar.ofBits (F := Ideal) .f32 0x00000000#32)) (extf (F := Ideal) .f32 x bitsLt_bf16_f32)) shapeCasts_S16x1536_S16x1536 := rfl
  rw [e, last_iff t]
  by_cases h : t.val % 16 = 15
  · rw [if_pos h, if_pos h, Scalar.select, if_pos (show (1#1 : BitVec 1) = 1 from rfl)]
    pointwise
  · rw [if_neg h, if_neg h, Scalar.select, if_neg (by decide)]
    pointwise

theorem pay3_apply (x : Vec Ideal S512x1536 .bf16) (p : Fin 512) (q : Fin 1536) :
    k0_pay3 (F := Ideal) x (Idealize.ShloMosaic.ix2 p q) = x (Idealize.ShloMosaic.ix2 p q) := by
  pointwise [k0_pay3]

variable (m : (ℓ : Loc nD τ sig) → Buf (Elt Ideal) ℓ)

theorem idx0 : ∀ t : Fin cfg0.N, (cfg0.win 0).index t = ![32 * t.val - 1, 0] := by decide +kernel
theorem idx1 : ∀ t : Fin cfg0.N, (cfg0.win 1).index t = ![t.val, 0] := by decide +kernel
theorem idx2 : ∀ t : Fin cfg0.N, (cfg0.win 2).index t = ![min (32 * t.val + 32) 1023, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val, 0] := by decide +kernel

theorem iblk0_apply (c : Dev nD) (t : Fin 32) (p : Fin 16) (q : Fin 1536) :
    iblk m c 0 t (Idealize.ShloMosaic.ix2 p q) = V m c main_arg0 (Idealize.ShloMosaic.ix2 (⟨(32 * t.val - 1) * 16 + p.val, by omega⟩ : Fin 16384) q) := by
  blk_ext [iblk, idx0 t]
theorem iblk1_apply (c : Dev nD) (t : Fin 32) (p : Fin 512) (q : Fin 1536) :
    iblk m c 1 t (Idealize.ShloMosaic.ix2 p q) = V m c main_arg0 (Idealize.ShloMosaic.ix2 (⟨t.val * 512 + p.val, by omega⟩ : Fin 16384) q) := by
  blk_ext [iblk, idx1 t]
theorem iblk2_apply (c : Dev nD) (t : Fin 32) (p : Fin 16) (q : Fin 1536) :
    iblk m c 2 t (Idealize.ShloMosaic.ix2 p q) = V m c main_arg0 (Idealize.ShloMosaic.ix2 (⟨min (32 * t.val + 32) 1023 * 16 + p.val, by omega⟩ : Fin 16384) q) := by
  blk_ext [iblk, idx2 t]
theorem iblk3_apply (c : Dev nD) (t : Fin 32) (k : Fin 5) (q : Fin 1536) : iblk m c 3 t (Idealize.ShloMosaic.ix2 k q) = V m c main_v0 (Idealize.ShloMosaic.ix2 k q) := by
  blk_ext [iblk, idx3 t]
theorem iblk4_apply (c : Dev nD) (t : Fin 32) (q : Fin 1536) : iblk m c 4 t (Idealize.ShloMosaic.ix2 (0 : Fin 1) q) = V m c main_v2 (Idealize.ShloMosaic.ix2 (0 : Fin 1) q) := by
  blk_ext [iblk, idx4 t]
theorem emb5 (t : Fin 32) (p : Fin 512) (q : Fin 1536) :
    (((spec0 5).arr.view.slice ((cfg0.win 5).rect t)).emb (Idealize.ShloMosaic.ix2 p q)) = (Idealize.ShloMosaic.ix2 (⟨t.val * 512 + p.val, by omega⟩ : Fin 16384) q : S16384x1536.Idx) := by
  blk_ext [idx5 t]

/-- The weights and the biases side by side. -/
theorem V_w_left (c : Dev nD) (k : Fin 5) (q : Fin 1280) : V m c main_v0 (Idealize.ShloMosaic.ix2 k (⟨q.val, by omega⟩ : Fin 1536)) = m ((c : Thread nD τ).loc main_arg1) (Idealize.ShloMosaic.ix2 k q) := by
  entry_read
  pointwise
theorem V_w_right (c : Dev nD) (k : Fin 5) (q : Fin 256) : V m c main_v0 (Idealize.ShloMosaic.ix2 k (⟨1280 + q.val, by omega⟩ : Fin 1536)) = m ((c : Thread nD τ).loc main_arg3) (Idealize.ShloMosaic.ix2 k q) := by
  entry_read
  pointwise
theorem V_b_left (c : Dev nD) (q : Fin 1280) : V m c main_v2 (Idealize.ShloMosaic.ix2 (0 : Fin 1) (⟨q.val, by omega⟩ : Fin 1536)) = m ((c : Thread nD τ).loc main_arg2) (Idealize.ShloMosaic.ix1 q) := by
  entry_read
  pointwise
theorem V_b_right (c : Dev nD) (q : Fin 256) : V m c main_v2 (Idealize.ShloMosaic.ix2 (0 : Fin 1) (⟨1280 + q.val, by omega⟩ : Fin 1536)) = m ((c : Thread nD τ).loc main_arg4) (Idealize.ShloMosaic.ix1 q) := by
  entry_read
  pointwise

/-- Row `R` of what the kernel gathers for tile `t`: row `R - 16` from the tile's first, zero outside the sequence. -/
def extAt (u : Vec Ideal S16384x1536 .bf16) (t : Fin 32) (R : Fin 544) (q : Fin 1536) : EReal :=
  if h : 16 ≤ t.val % 16 * 512 + R.val ∧ t.val % 16 * 512 + R.val < 8208 then u (Idealize.ShloMosaic.ix2 (⟨t.val * 512 + R.val - 16, by omega⟩ : Fin 16384) q) else 0

/-- The row of the whole that row `p` of tile `t` is. -/
def rowOf (t : Fin 32) (p : Fin 512) : Fin 16384 := ⟨t.val * 512 + p.val, by omega⟩

/-- The gathered rows by entries. -/
def ext (u : Vec Ideal S16384x1536 .bf16) (t : Fin 32) : Vec Ideal S544x1536 .f32 := fun y => extAt u t (y 0) (y 1)

theorem ext_prev (c : Dev nD) (t : Fin 32) (p : Fin 16) (q : Fin 1536) :
    k0_pay2 (F := Ideal) (grid0.coords t) (iblk m c 0 t) (Idealize.ShloMosaic.ix2 p q) = extAt (m ((c : Thread nD τ).loc main_arg0)) t (⟨p.val, by omega⟩ : Fin 544) q := by
  refine (pay2_apply t _ p q).trans ?_
  unfold extAt
  by_cases h : t.val % 16 = 0
  · rw [if_pos h, dif_neg (by show ¬ (16 ≤ t.val % 16 * 512 + p.val ∧ t.val % 16 * 512 + p.val < 8208); omega)]
  · rw [if_neg h, dif_pos (by show 16 ≤ t.val % 16 * 512 + p.val ∧ t.val % 16 * 512 + p.val < 8208; omega)]
    refine (iblk0_apply m c t p q).trans ((congrFun (V_main_arg0 m c) _).trans ?_)
    refine congrArg (fun z : Fin 16384 => m ((c : Thread nD τ).loc main_arg0) (Idealize.ShloMosaic.ix2 z q)) (Fin.ext ?_)
    show (32 * t.val - 1) * 16 + p.val = t.val * 512 + p.val - 16
    omega

theorem ext_cur (c : Dev nD) (t : Fin 32) (p : Fin 512) (q : Fin 1536) :
    k0_pay3 (F := Ideal) (iblk m c 1 t) (Idealize.ShloMosaic.ix2 p q) = extAt (m ((c : Thread nD τ).loc main_arg0)) t (⟨16 + p.val, by omega⟩ : Fin 544) q := by
  refine (pay3_apply _ p q).trans ?_
  unfold extAt
  rw [dif_pos (by show 16 ≤ t.val % 16 * 512 + (16 + p.val) ∧ t.val % 16 * 512 + (16 + p.val) < 8208; omega)]
  refine (iblk1_apply m c t p q).trans ((congrFun (V_main_arg0 m c) _).trans ?_)
  refine congrArg (fun z : Fin 16384 => m ((c : Thread nD τ).loc main_arg0) (Idealize.ShloMosaic.ix2 z q)) (Fin.ext ?_)
  show t.val * 512 + p.val = t.val * 512 + (16 + p.val) - 16
  omega

theorem ext_next (c : Dev nD) (t : Fin 32) (p : Fin 16) (q : Fin 1536) :
    k0_pay4 (F := Ideal) (grid0.coords t) (iblk m c 2 t) (Idealize.ShloMosaic.ix2 p q) = extAt (m ((c : Thread nD τ).loc main_arg0)) t (⟨528 + p.val, by omega⟩ : Fin 544) q := by
  refine (pay4_apply t _ p q).trans ?_
  unfold extAt
  by_cases h : t.val % 16 = 15
  · rw [if_pos h, dif_neg (by show ¬ (16 ≤ t.val % 16 * 512 + (528 + p.val) ∧ t.val % 16 * 512 + (528 + p.val) < 8208); omega)]
  · rw [if_neg h, dif_pos (by show 16 ≤ t.val % 16 * 512 + (528 + p.val) ∧ t.val % 16 * 512 + (528 + p.val) < 8208; omega)]
    refine (iblk2_apply m c t p q).trans ((congrFun (V_main_arg0 m c) _).trans ?_)
    refine congrArg (fun z : Fin 16384 => m ((c : Thread nD τ).loc main_arg0) (Idealize.ShloMosaic.ix2 z q)) (Fin.ext ?_)
    show min (32 * t.val + 32) 1023 * 16 + p.val = t.val * 512 + (528 + p.val) - 16
    omega

/-- What the kernel gathers, as its three stores leave it. -/
theorem gathered (c : Dev nD) (t : Fin 32) :
    View.canon (Val := Elt Ideal) (s := S544x1536) (e := .f32) [⟨Rect.unit (s := S544x1536) ![528, 0] S16x1536.size inb_S544x1536_S16x1536_528_0, k0_pay4 (F := Ideal) (grid0.coords t) (iblk m c 2 t)⟩,
      ⟨Rect.unit (s := S544x1536) ![16, 0] S512x1536.size inb_S544x1536_S512x1536_16_0, k0_pay3 (F := Ideal) (iblk m c 1 t)⟩,
      ⟨Rect.unit (s := S544x1536) ![0, 0] S16x1536.size inb_S544x1536_S16x1536_0_0, k0_pay2 (F := Ideal) (grid0.coords t) (iblk m c 0 t)⟩]
      = ext (m ((c : Thread nD τ).loc main_arg0)) t := by
  funext y
  refine View.canon_apply_of_pieces _ _ ?_ y ?_
  · simp only [List.forall_mem_cons]
    refine ⟨fun x => ?_, fun x => ?_, fun x => ?_, fun p hp => absurd hp (List.not_mem_nil)⟩
    · refine (congrArg _ (Idealize.ShloMosaic.eq_ix2 (n0 := 16) (n1 := 1536) x)).trans ((ext_next m c t (x 0) (x 1)).trans ?_)
      exact congrArg₂ (extAt _ t) (Fin.ext (Rect.idx_unit_val (s := S544x1536) ![528, 0] S16x1536.size inb_S544x1536_S16x1536_528_0 x 0).symm)
        (Fin.ext ((Nat.zero_add _).symm.trans (Rect.idx_unit_val (s := S544x1536) ![528, 0] S16x1536.size inb_S544x1536_S16x1536_528_0 x 1).symm))
    · refine (congrArg _ (Idealize.ShloMosaic.eq_ix2 (n0 := 512) (n1 := 1536) x)).trans ((ext_cur m c t (x 0) (x 1)).trans ?_)
      exact congrArg₂ (extAt _ t) (Fin.ext (Rect.idx_unit_val (s := S544x1536) ![16, 0] S512x1536.size inb_S544x1536_S512x1536_16_0 x 0).symm)
        (Fin.ext ((Nat.zero_add _).symm.trans (Rect.idx_unit_val (s := S544x1536) ![16, 0] S512x1536.size inb_S544x1536_S512x1536_16_0 x 1).symm))
    · refine (congrArg _ (Idealize.ShloMosaic.eq_ix2 (n0 := 16) (n1 := 1536) x)).trans ((ext_prev m c t (x 0) (x 1)).trans ?_)
      exact congrArg₂ (extAt _ t) (Fin.ext ((Nat.zero_add _).symm.trans (Rect.idx_unit_val (s := S544x1536) ![0, 0] S16x1536.size inb_S544x1536_S16x1536_0_0 x 0).symm))
        (Fin.ext ((Nat.zero_add _).symm.trans (Rect.idx_unit_val (s := S544x1536) ![0, 0] S16x1536.size inb_S544x1536_S16x1536_0_0 x 1).symm))
  · have h0 : (y 0).val < 544 := (y 0).isLt
    have h1 : (y 1).val < 1536 := (y 1).isLt
    by_cases ha : (y 0).val < 16
    · refine ⟨_, List.mem_cons_of_mem _ (List.mem_cons_of_mem _ List.mem_cons_self), (Rect.mem_set_unit (s := S544x1536) (inb := inb_S544x1536_S16x1536_0_0)).mpr fun a => ?_⟩
      fin_cases a
      · show 0 ≤ (y 0).val ∧ (y 0).val < 0 + 16
        omega
      · show 0 ≤ (y 1).val ∧ (y 1).val < 0 + 1536
        omega
    by_cases hb : (y 0).val < 528
    · refine ⟨_, List.mem_cons_of_mem _ List.mem_cons_self, (Rect.mem_set_unit (s := S544x1536) (inb := inb_S544x1536_S512x1536_16_0)).mpr fun a => ?_⟩
      fin_cases a
      · show 16 ≤ (y 0).val ∧ (y 0).val < 16 + 512
        omega
      · show 0 ≤ (y 1).val ∧ (y 1).val < 0 + 1536
        omega
    · refine ⟨_, List.mem_cons_self, (Rect.mem_set_unit (s := S544x1536) (inb := inb_S544x1536_S16x1536_528_0)).mpr fun a => ?_⟩
      fin_cases a
      · show 528 ≤ (y 0).val ∧ (y 0).val < 528 + 16
        omega
      · show 0 ≤ (y 1).val ∧ (y 1).val < 0 + 1536
        omega

/-- A row around the tile, seen from a result row. -/
theorem ext_tap (u : Vec Ideal S16384x1536 .bf16) (t : Fin 32) (p : Fin 512) (k : Fin 5) (q : Fin 1536) :
    extAt u t (⟨14 + k.val + p.val, by omega⟩ : Fin 544) q = tap u q (⟨t.val * 512 + p.val, by omega⟩ : Fin 16384) k := by
  unfold extAt tap
  by_cases h : 16 ≤ t.val % 16 * 512 + (14 + k.val + p.val) ∧ t.val % 16 * 512 + (14 + k.val + p.val) < 8208
  · rw [dif_pos h, dif_pos (by show 2 ≤ (t.val * 512 + p.val) % 8192 + k.val ∧ (t.val * 512 + p.val) % 8192 + k.val < 8194; omega)]
    refine congrArg (fun z : Fin 16384 => u (Idealize.ShloMosaic.ix2 z q)) (Fin.ext ?_)
    show t.val * 512 + (14 + k.val + p.val) - 16 = t.val * 512 + p.val + k.val - 2
    omega
  · rw [dif_neg h, dif_neg (by show ¬ (2 ≤ (t.val * 512 + p.val) % 8192 + k.val ∧ (t.val * 512 + p.val) % 8192 + k.val < 8194); omega)]

/-- The result from the weights and biases side by side. -/
theorem conv_cols (c : Dev nD) (r : Fin 16384) (q : Fin 1536) :
    silu (conv5 (V m c main_v2 (Idealize.ShloMosaic.ix2 (0 : Fin 1) q)) (fun k => V m c main_v0 (Idealize.ShloMosaic.ix2 k q)) (tap (m ((c : Thread nD τ).loc main_arg0)) q r))
      = convAt (m ((c : Thread nD τ).loc main_arg0)) (m ((c : Thread nD τ).loc main_arg1)) (m ((c : Thread nD τ).loc main_arg2)) (m ((c : Thread nD τ).loc main_arg3)) (m ((c : Thread nD τ).loc main_arg4)) r q := by
  unfold convAt
  by_cases h : q.val < 1280
  · rw [dif_pos h]
    refine congrArg silu (congrArg₂ (fun (b : EReal) (w : Fin 5 → EReal) => conv5 b w _) ?_ (funext fun k => ?_))
    · exact V_b_left m c ⟨q.val, h⟩
    · exact V_w_left m c k ⟨q.val, h⟩
  · rw [dif_neg h]
    have e : q = (⟨1280 + (q.val - 1280), by omega⟩ : Fin 1536) := Fin.ext (by show q.val = 1280 + (q.val - 1280); omega)
    refine congrArg silu (congrArg₂ (fun (b : EReal) (w : Fin 5 → EReal) => conv5 b w _) ?_ (funext fun k => ?_))
    · exact (congrArg (fun z : Fin 1536 => V m c main_v2 (Idealize.ShloMosaic.ix2 (0 : Fin 1) z)) e).trans (V_b_right m c ⟨q.val - 1280, by omega⟩)
    · exact (congrArg (fun z : Fin 1536 => V m c main_v0 (Idealize.ShloMosaic.ix2 k z)) e).trans (V_w_right m c k ⟨q.val - 1280, by omega⟩)

/-- A read of the gathered rows. -/
theorem read_ext (c : Dev nD) (t : Fin cfg0.N) (E : Vec Ideal S544x1536 .f32) (hE : E = ext (m ((c : Thread nD τ).loc main_arg0)) t) (r : Rect S544x1536) :
    (View.whole cc0_scratch0).readCov (Val := Elt Ideal) [⟨Rect.unit (s := S544x1536) ![528, 0] ![16, 1536] inb_S544x1536_S16x1536_528_0, k0_pay4 (F := Ideal) (grid0.coords t) (View.ld (iblk m c 2 t) (Rect.unit (s := S16x1536) ![0, 0] ![16, 1536] inb_S16x1536_S16x1536_0_0))⟩, ⟨Rect.unit (s := S544x1536) ![16, 0] ![512, 1536] inb_S544x1536_S512x1536_16_0, k0_pay3 (F := Ideal) (View.ld (iblk m c 1 t) (Rect.unit (s := S512x1536) ![0, 0] ![512, 1536] inb_S512x1536_S512x1536_0_0))⟩, ⟨Rect.unit (s := S544x1536) ![0, 0] ![16, 1536] inb_S544x1536_S16x1536_0_0, k0_pay2 (F := Ideal) (grid0.coords t) (View.ld (iblk m c 0 t) (Rect.unit (s := S16x1536) ![0, 0] ![16, 1536] inb_S16x1536_S16x1536_0_0))⟩] r.toLoadRect = View.ld E r := by
  subst hE
  have e0 : View.ld (iblk m c 0 t) (Rect.unit (s := S16x1536) ![0, 0] ![16, 1536] inb_S16x1536_S16x1536_0_0) = iblk m c 0 t := by
    exact View.ld_unit_lit (S := S16x1536) _ _ (by decide)
  have e1 : View.ld (iblk m c 1 t) (Rect.unit (s := S512x1536) ![0, 0] ![512, 1536] inb_S512x1536_S512x1536_0_0) = iblk m c 1 t := by
    exact View.ld_unit_lit (S := S512x1536) _ _ (by decide)
  have e2 : View.ld (iblk m c 2 t) (Rect.unit (s := S16x1536) ![0, 0] ![16, 1536] inb_S16x1536_S16x1536_0_0) = iblk m c 2 t := by
    exact View.ld_unit_lit (S := S16x1536) _ _ (by decide)
  rw [e0, e1, e2]
  rw [View.readCov_eq_canon', gathered m c t]
  rfl

theorem bias_ld (c : Dev nD) (t : Fin 32) (off : ℕ) (hoff : off + 256 ≤ 1536) (ib : ∀ a, (![0, off] : Fin 2 → ℕ) a + S1x256.size a ≤ S1x1536.size a) (q : Fin 256) :
    View.ld (iblk m c 4 t) (Rect.unit (s := S1x1536) ![0, off] S1x256.size ib) (Idealize.ShloMosaic.ix2 (0 : Fin 1) q) = V m c main_v2 (Idealize.ShloMosaic.ix2 (0 : Fin 1) (⟨off + q.val, by omega⟩ : Fin 1536)) := by
  refine (View.ld_unit_apply_of _ _ _ _ _ (Idealize.ShloMosaic.ix2 (0 : Fin 1) (⟨off + q.val, by omega⟩ : Fin 1536) : S1x1536.Idx) fun a => ?_).trans (iblk4_apply m c t _)
  fin_cases a <;> rfl

theorem weight_ld (c : Dev nD) (t : Fin 32) (off : ℕ) (hoff : off + 256 ≤ 1536) (k : Fin 5) (iw : ∀ a, (![k.val, off] : Fin 2 → ℕ) a + S1x256.size a ≤ S5x1536.size a) (q : Fin 256) :
    View.ld (iblk m c 3 t) (Rect.unit (s := S5x1536) ![k.val, off] S1x256.size iw) (Idealize.ShloMosaic.ix2 (0 : Fin 1) q) = V m c main_v0 (Idealize.ShloMosaic.ix2 k (⟨off + q.val, by omega⟩ : Fin 1536)) := by
  refine (View.ld_unit_apply_of _ _ _ _ _ (Idealize.ShloMosaic.ix2 k (⟨off + q.val, by omega⟩ : Fin 1536) : S5x1536.Idx) fun a => ?_).trans (iblk3_apply m c t k _)
  fin_cases a <;> rfl

theorem ext_ld (c : Dev nD) (t : Fin 32) (off : ℕ) (hoff : off + 256 ≤ 1536) (k : Fin 5) (is : ∀ a, (![14 + k.val, off] : Fin 2 → ℕ) a + S512x256.size a ≤ S544x1536.size a) (p : Fin 512) (q : Fin 256) :
    View.ld (ext (m ((c : Thread nD τ).loc main_arg0)) t) (Rect.unit (s := S544x1536) ![14 + k.val, off] S512x256.size is) (Idealize.ShloMosaic.ix2 p q)
      = tap (m ((c : Thread nD τ).loc main_arg0)) (⟨off + q.val, by omega⟩ : Fin 1536) (⟨t.val * 512 + p.val, by omega⟩ : Fin 16384) k := by
  refine (View.ld_unit_apply_of _ _ _ _ _ (Idealize.ShloMosaic.ix2 (⟨14 + k.val + p.val, by omega⟩ : Fin 544) (⟨off + q.val, by omega⟩ : Fin 1536) : S544x1536.Idx) fun a => ?_).trans (ext_tap _ t p k _)
  fin_cases a <;> rfl

/-- One stored piece at one of its entries. -/
theorem piece (c : Dev nD) (t : Fin 32) (off : ℕ) (hoff : off + 256 ≤ 1536) (ib : ∀ a, (![0, off] : Fin 2 → ℕ) a + S1x256.size a ≤ S1x1536.size a)
    (iw0 : ∀ a, (![0, off] : Fin 2 → ℕ) a + S1x256.size a ≤ S5x1536.size a) (is0 : ∀ a, (![14, off] : Fin 2 → ℕ) a + S512x256.size a ≤ S544x1536.size a) (iw1 : ∀ a, (![1, off] : Fin 2 → ℕ) a + S1x256.size a ≤ S5x1536.size a) (is1 : ∀ a, (![15, off] : Fin 2 → ℕ) a + S512x256.size a ≤ S544x1536.size a) (iw2 : ∀ a, (![2, off] : Fin 2 → ℕ) a + S1x256.size a ≤ S5x1536.size a) (is2 : ∀ a, (![16, off] : Fin 2 → ℕ) a + S512x256.size a ≤ S544x1536.size a) (iw3 : ∀ a, (![3, off] : Fin 2 → ℕ) a + S1x256.size a ≤ S5x1536.size a) (is3 : ∀ a, (![17, off] : Fin 2 → ℕ) a + S512x256.size a ≤ S544x1536.size a) (iw4 : ∀ a, (![4, off] : Fin 2 → ℕ) a + S1x256.size a ≤ S5x1536.size a) (is4 : ∀ a, (![18, off] : Fin 2 → ℕ) a + S512x256.size a ≤ S544x1536.size a) (s0 s1 s2 s3 s4 : Vec Ideal S512x256 .f32) (hs0 : s0 = View.ld (ext (m ((c : Thread nD τ).loc main_arg0)) t) (Rect.unit (s := S544x1536) ![14, off] S512x256.size is0)) (hs1 : s1 = View.ld (ext (m ((c : Thread nD τ).loc main_arg0)) t) (Rect.unit (s := S544x1536) ![15, off] S512x256.size is1)) (hs2 : s2 = View.ld (ext (m ((c : Thread nD τ).loc main_arg0)) t) (Rect.unit (s := S544x1536) ![16, off] S512x256.size is2)) (hs3 : s3 = View.ld (ext (m ((c : Thread nD τ).loc main_arg0)) t) (Rect.unit (s := S544x1536) ![17, off] S512x256.size is3)) (hs4 : s4 = View.ld (ext (m ((c : Thread nD τ).loc main_arg0)) t) (Rect.unit (s := S544x1536) ![18, off] S512x256.size is4)) (p : Fin 512) (q : Fin 256) :
    silu (lin (View.ld (iblk m c 4 t) (Rect.unit (s := S1x1536) ![0, off] S1x256.size ib)) (View.ld (iblk m c 3 t) (Rect.unit (s := S5x1536) ![0, off] S1x256.size iw0)) (View.ld (iblk m c 3 t) (Rect.unit (s := S5x1536) ![1, off] S1x256.size iw1)) (View.ld (iblk m c 3 t) (Rect.unit (s := S5x1536) ![2, off] S1x256.size iw2)) (View.ld (iblk m c 3 t) (Rect.unit (s := S5x1536) ![3, off] S1x256.size iw3)) (View.ld (iblk m c 3 t) (Rect.unit (s := S5x1536) ![4, off] S1x256.size iw4)) s0 s1 s2 s3 s4 p q)
      = convAt (m ((c : Thread nD τ).loc main_arg0)) (m ((c : Thread nD τ).loc main_arg1)) (m ((c : Thread nD τ).loc main_arg2)) (m ((c : Thread nD τ).loc main_arg3)) (m ((c : Thread nD τ).loc main_arg4)) (⟨t.val * 512 + p.val, by omega⟩ : Fin 16384) (⟨off + q.val, by omega⟩ : Fin 1536) := by
  subst hs0 hs1 hs2 hs3 hs4
  refine Eq.trans (congrArg silu ?_) (conv_cols m c _ _)
  unfold lin conv5
  exact congrArg₂ (fun a b : EReal => a + b) (congrArg₂ (fun a b : EReal => a + b) (congrArg₂ (fun a b : EReal => a + b) (congrArg₂ (fun a b : EReal => a + b) (congrArg₂ (fun a b : EReal => a + b)
    (bias_ld m c t off hoff ib q)
    (congrArg₂ (fun a b : EReal => a * b) (weight_ld m c t off hoff 0 iw0 q) (ext_ld m c t off hoff 0 is0 p q)))
    (congrArg₂ (fun a b : EReal => a * b) (weight_ld m c t off hoff 1 iw1 q) (ext_ld m c t off hoff 1 is1 p q)))
    (congrArg₂ (fun a b : EReal => a * b) (weight_ld m c t off hoff 2 iw2 q) (ext_ld m c t off hoff 2 is2 p q)))
    (congrArg₂ (fun a b : EReal => a * b) (weight_ld m c t off hoff 3 iw3 q) (ext_ld m c t off hoff 3 is3 p q)))
    (congrArg₂ (fun a b : EReal => a * b) (weight_ld m c t off hoff 4 iw4 q) (ext_ld m c t off hoff 4 is4 p q))

/-- What grid point `t` leaves. -/
theorem outs_apply (c : Dev nD) (t : Fin cfg0.N) (G : Vec Ideal S512x1536 .bf16) (hG : ∀ y, G y = convAt (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) (y 1)) (y : S512x1536.Idx) :
    outsAt0 m c t y = G y := by
  unfold outsAt0 out0_A_5
  rw [View.read_writes_eq_canon _ _ _ (fun y => cover0_A_5 c _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread]
  refine View.canon_apply_of_pieces (Val := Elt Ideal) (e := .bf16) G _ ?_ y ?_
  · simp only [List.forall_mem_cons]
    refine ⟨fun x => ?_, fun x => ?_, fun x => ?_, fun x => ?_, fun x => ?_, fun x => ?_, fun p hp => absurd hp (List.not_mem_nil)⟩
    · refine (congrArg _ (Idealize.ShloMosaic.eq_ix2 (n0 := 512) (n1 := 256) x)).trans ((piece5 _ _ _ _ _ _ _ _ _ _ _ (x 0) (x 1)).trans ((piece m c t 1280 (by norm_num) _ inb_S5x1536_S1x256_0_1280 inb_S544x1536_S512x256_14_1280 inb_S5x1536_S1x256_1_1280 inb_S544x1536_S512x256_15_1280 inb_S5x1536_S1x256_2_1280 inb_S544x1536_S512x256_16_1280 inb_S5x1536_S1x256_3_1280 inb_S544x1536_S512x256_17_1280 inb_S5x1536_S1x256_4_1280 inb_S544x1536_S512x256_18_1280 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 1280] S512x256.size inb_S512x1536_S512x256_0_1280 x 0).symm)))
        (Fin.ext (Rect.idx_unit_val (s := S512x1536) ![0, 1280] S512x256.size inb_S512x1536_S512x256_0_1280 x 1).symm)).trans (hG _).symm
    · refine (congrArg _ (Idealize.ShloMosaic.eq_ix2 (n0 := 512) (n1 := 256) x)).trans ((piece4 _ _ _ _ _ _ _ _ _ _ _ (x 0) (x 1)).trans ((piece m c t 1024 (by norm_num) _ inb_S5x1536_S1x256_0_1024 inb_S544x1536_S512x256_14_1024 inb_S5x1536_S1x256_1_1024 inb_S544x1536_S512x256_15_1024 inb_S5x1536_S1x256_2_1024 inb_S544x1536_S512x256_16_1024 inb_S5x1536_S1x256_3_1024 inb_S544x1536_S512x256_17_1024 inb_S5x1536_S1x256_4_1024 inb_S544x1536_S512x256_18_1024 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 1024] S512x256.size inb_S512x1536_S512x256_0_1024 x 0).symm)))
        (Fin.ext (Rect.idx_unit_val (s := S512x1536) ![0, 1024] S512x256.size inb_S512x1536_S512x256_0_1024 x 1).symm)).trans (hG _).symm
    · refine (congrArg _ (Idealize.ShloMosaic.eq_ix2 (n0 := 512) (n1 := 256) x)).trans ((piece3 _ _ _ _ _ _ _ _ _ _ _ (x 0) (x 1)).trans ((piece m c t 768 (by norm_num) _ inb_S5x1536_S1x256_0_768 inb_S544x1536_S512x256_14_768 inb_S5x1536_S1x256_1_768 inb_S544x1536_S512x256_15_768 inb_S5x1536_S1x256_2_768 inb_S544x1536_S512x256_16_768 inb_S5x1536_S1x256_3_768 inb_S544x1536_S512x256_17_768 inb_S5x1536_S1x256_4_768 inb_S544x1536_S512x256_18_768 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 768] S512x256.size inb_S512x1536_S512x256_0_768 x 0).symm)))
        (Fin.ext (Rect.idx_unit_val (s := S512x1536) ![0, 768] S512x256.size inb_S512x1536_S512x256_0_768 x 1).symm)).trans (hG _).symm
    · refine (congrArg _ (Idealize.ShloMosaic.eq_ix2 (n0 := 512) (n1 := 256) x)).trans ((piece2 _ _ _ _ _ _ _ _ _ _ _ (x 0) (x 1)).trans ((piece m c t 512 (by norm_num) _ inb_S5x1536_S1x256_0_512 inb_S544x1536_S512x256_14_512 inb_S5x1536_S1x256_1_512 inb_S544x1536_S512x256_15_512 inb_S5x1536_S1x256_2_512 inb_S544x1536_S512x256_16_512 inb_S5x1536_S1x256_3_512 inb_S544x1536_S512x256_17_512 inb_S5x1536_S1x256_4_512 inb_S544x1536_S512x256_18_512 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 512] S512x256.size inb_S512x1536_S512x256_0_512 x 0).symm)))
        (Fin.ext (Rect.idx_unit_val (s := S512x1536) ![0, 512] S512x256.size inb_S512x1536_S512x256_0_512 x 1).symm)).trans (hG _).symm
    · refine (congrArg _ (Idealize.ShloMosaic.eq_ix2 (n0 := 512) (n1 := 256) x)).trans ((piece1 _ _ _ _ _ _ _ _ _ _ _ (x 0) (x 1)).trans ((piece m c t 256 (by norm_num) _ inb_S5x1536_S1x256_0_256 inb_S544x1536_S512x256_14_256 inb_S5x1536_S1x256_1_256 inb_S544x1536_S512x256_15_256 inb_S5x1536_S1x256_2_256 inb_S544x1536_S512x256_16_256 inb_S5x1536_S1x256_3_256 inb_S544x1536_S512x256_17_256 inb_S5x1536_S1x256_4_256 inb_S544x1536_S512x256_18_256 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 256] S512x256.size inb_S512x1536_S512x256_0_256 x 0).symm)))
        (Fin.ext (Rect.idx_unit_val (s := S512x1536) ![0, 256] S512x256.size inb_S512x1536_S512x256_0_256 x 1).symm)).trans (hG _).symm
    · refine (congrArg _ (Idealize.ShloMosaic.eq_ix2 (n0 := 512) (n1 := 256) x)).trans ((piece0 _ _ _ _ _ _ _ _ _ _ _ (x 0) (x 1)).trans ((piece m c t 0 (by norm_num) _ inb_S5x1536_S1x256_0_0 inb_S544x1536_S512x256_14_0 inb_S5x1536_S1x256_1_0 inb_S544x1536_S512x256_15_0 inb_S5x1536_S1x256_2_0 inb_S544x1536_S512x256_16_0 inb_S5x1536_S1x256_3_0 inb_S544x1536_S512x256_17_0 inb_S5x1536_S1x256_4_0 inb_S544x1536_S512x256_18_0 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S512x1536) ![0, 0] S512x256.size inb_S512x1536_S512x256_0_0 x 0).symm)))
        (Fin.ext (Rect.idx_unit_val (s := S512x1536) ![0, 0] S512x256.size inb_S512x1536_S512x256_0_0 x 1).symm)).trans (hG _).symm
  · exact View.cover_of_tiledL (s := S512x1536) _ (![512, 256] : Fin 2 → ℕ) (by sl_kernel_rfl) y

theorem split_idx (i : S16384x1536.Idx) : ∃ (t : Fin 32) (p : Fin 512) (q : Fin 1536), i = Idealize.ShloMosaic.ix2 (⟨t.val * 512 + p.val, by omega⟩ : Fin 16384) q := by
  have h0 : (i 0).val < 16384 := (i 0).isLt
  refine ⟨⟨(i 0).val / 512, by omega⟩, ⟨(i 0).val % 512, Nat.mod_lt _ (by decide)⟩, i 1, (Idealize.ShloMosaic.eq_ix2 (n0 := 16384) (n1 := 1536) i).trans ?_⟩
  refine congrArg (fun z : Fin 16384 => (Idealize.ShloMosaic.ix2 z (i 1) : S16384x1536.Idx)) (Fin.ext ?_)
  show (i 0).val = (i 0).val / 512 * 512 + (i 0).val % 512
  omega

theorem final5 (c : Dev nD) : (dats m 0 c).arrAt 5 cfg0.N = convOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 5 _ (fun t hf y => ?_) fun i => ?_
  · blk_simp
    rw [after0_5]
    refine (outs_apply m c t (fun y => convAt (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) (y 1)) (fun _ => rfl) y).trans ?_
    obtain ⟨p, q, rfl⟩ : ∃ (p : Fin 512) (q : Fin 1536), y = Idealize.ShloMosaic.ix2 p q := ⟨y 0, y 1, Idealize.ShloMosaic.eq_ix2 (n0 := 512) (n1 := 1536) y⟩
    rw [emb5 t p q]
    rfl
  · obtain ⟨t, p, q, h⟩ := split_idx i
    refine ⟨t, flush0_5 _, ?_⟩
    rw [h.trans (emb5 t p q).symm]
    exact View.emb_mem_set _ _

end Cert.Proof.Convolution

end
-- ==== Proof.ConvolutionReference.lean ====
/- The convolution: what the reference computes. -/
module

public import proofs.«01_k».proof.Proof.ConvolutionSpec
public import proofs.«01_k».proof.Proof.Gen.ConvolutionReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.Convolution

open Idealize.ShloMosaic Idealize.ShloMosaic.TcCoe Idealize.SL.Sem
open Cert.ConvolutionReferenceIdeal Cert.ConvolutionReferenceIdeal.Value Cert.ConvolutionReferenceIdeal.Gen

/-- The first 1280 columns, with two rows of zeros before and after each sequence. -/
def padA (u : Vec Ideal S16384x1536 .bf16) : Vec Ideal S2x8196x1280 .f32 :=
  pad S2x8196x1280 ![0, 2, 0] ![0, 2, 0] ![0, 0, 0] (extractStridedSlice S2x8192x1280 ![0, 0, 0] (shapeCast _ (extf (F := Ideal) .f32 u bitsLt_bf16_f32) shapeCasts_S16384x1536_S2x8192x1536) slices_S2x8192x1536_S2x8192x1280_0_0_0) (sitofp (F := Ideal) .f32 (constantI S_ 32 0#32)) pads_S2x8192x1280_S2x8196x1280_000_220_000 h_S_

/-- The five shifted products and the bias. -/
def sumA (P : Vec Ideal S2x8196x1280 .f32) (w : Vec Ideal S5x1280 .f32) (b : Vec Ideal S1280 .f32) : Vec Ideal S2x8192x1280 .f32 :=
  addf (F := Ideal) (addf (F := Ideal) (addf (F := Ideal) (addf (F := Ideal) (addf (F := Ideal) (addf (F := Ideal) (broadcastInDim S2x8192x1280 ![] bcast_S_S2x8192x1280 (constant (F := Ideal) S_ .f32 0x00000000#32)) (mulf (F := Ideal) (broadcastInDim S2x8192x1280 ![0, 1, 2] bcast_S1x1x1280_S2x8192x1280_0_1_2 (broadcastInDim S1x1x1280 ![2] bcast_S1280_S1x1x1280_2 (shapeCast _ (extractStridedSlice S1x1280 ![0, 0] w slices_S5x1280_S1x1280_0_0) shapeCasts_S1x1280_S1280))) (extractStridedSlice S2x8192x1280 ![0, 0, 0] P slices_S2x8196x1280_S2x8192x1280_0_0_0))) (mulf (F := Ideal) (broadcastInDim S2x8192x1280 ![0, 1, 2] bcast_S1x1x1280_S2x8192x1280_0_1_2 (broadcastInDim S1x1x1280 ![2] bcast_S1280_S1x1x1280_2 (shapeCast _ (extractStridedSlice S1x1280 ![1, 0] w slices_S5x1280_S1x1280_1_0) shapeCasts_S1x1280_S1280))) (extractStridedSlice S2x8192x1280 ![0, 1, 0] P slices_S2x8196x1280_S2x8192x1280_0_1_0))) (mulf (F := Ideal) (broadcastInDim S2x8192x1280 ![0, 1, 2] bcast_S1x1x1280_S2x8192x1280_0_1_2 (broadcastInDim S1x1x1280 ![2] bcast_S1280_S1x1x1280_2 (shapeCast _ (extractStridedSlice S1x1280 ![2, 0] w slices_S5x1280_S1x1280_2_0) shapeCasts_S1x1280_S1280))) (extractStridedSlice S2x8192x1280 ![0, 2, 0] P slices_S2x8196x1280_S2x8192x1280_0_2_0))) (mulf (F := Ideal) (broadcastInDim S2x8192x1280 ![0, 1, 2] bcast_S1x1x1280_S2x8192x1280_0_1_2 (broadcastInDim S1x1x1280 ![2] bcast_S1280_S1x1x1280_2 (shapeCast _ (extractStridedSlice S1x1280 ![3, 0] w slices_S5x1280_S1x1280_3_0) shapeCasts_S1x1280_S1280))) (extractStridedSlice S2x8192x1280 ![0, 3, 0] P slices_S2x8196x1280_S2x8192x1280_0_3_0))) (mulf (F := Ideal) (broadcastInDim S2x8192x1280 ![0, 1, 2] bcast_S1x1x1280_S2x8192x1280_0_1_2 (broadcastInDim S1x1x1280 ![2] bcast_S1280_S1x1x1280_2 (shapeCast _ (extractStridedSlice S1x1280 ![4, 0] w slices_S5x1280_S1x1280_4_0) shapeCasts_S1x1280_S1280))) (extractStridedSlice S2x8192x1280 ![0, 4, 0] P slices_S2x8196x1280_S2x8192x1280_0_4_0))) (broadcastInDim S2x8192x1280 ![0, 1, 2] bcast_S1x1x1280_S2x8192x1280_0_1_2 (broadcastInDim S1x1x1280 ![2] bcast_S1280_S1x1x1280_2 b))

/-- A value times its logistic. -/
def actA (Y : Vec Ideal S2x8192x1280 .f32) : Vec Ideal S2x8192x1280 .f32 :=
  mulf (F := Ideal) Y (Host.divf (F := Ideal) (broadcastInDim S2x8192x1280 ![] bcast_S_S2x8192x1280 (constant (F := Ideal) S_ .f32 0x3F800000#32)) (addf (F := Ideal) (broadcastInDim S2x8192x1280 ![] bcast_S_S2x8192x1280 (constant (F := Ideal) S_ .f32 0x3F800000#32)) (Host.exp (F := Ideal) (Host.negf (F := Ideal) Y))))

theorem actA_apply (Y : Vec Ideal S2x8192x1280 .f32) (s : Fin 2) (i : Fin 8192) (q : Fin 1280) :
    actA Y (Idealize.ShloMosaic.ix3 s i q) = silu (Y (Idealize.ShloMosaic.ix3 s i q)) := by
  unfold silu Ideal.logistic
  pointwise [actA]

theorem sumA_apply (P : Vec Ideal S2x8196x1280 .f32) (w : Vec Ideal S5x1280 .f32) (b : Vec Ideal S1280 .f32) (s : Fin 2) (i : Fin 8192) (q : Fin 1280) :
    sumA P w b (Idealize.ShloMosaic.ix3 s i q) = conv5 (b (Idealize.ShloMosaic.ix1 q)) (fun k => w (Idealize.ShloMosaic.ix2 k q))
      (fun k => P (Idealize.ShloMosaic.ix3 s (⟨k.val + i.val, by omega⟩ : Fin 8196) q)) := by
  have h : sumA P w b (Idealize.ShloMosaic.ix3 s i q) = (0 + w (Idealize.ShloMosaic.ix2 (0 : Fin 5) q) * P (Idealize.ShloMosaic.ix3 s (⟨0 + i.val, by omega⟩ : Fin 8196) q)
      + w (Idealize.ShloMosaic.ix2 (1 : Fin 5) q) * P (Idealize.ShloMosaic.ix3 s (⟨1 + i.val, by omega⟩ : Fin 8196) q)
      + w (Idealize.ShloMosaic.ix2 (2 : Fin 5) q) * P (Idealize.ShloMosaic.ix3 s (⟨2 + i.val, by omega⟩ : Fin 8196) q)
      + w (Idealize.ShloMosaic.ix2 (3 : Fin 5) q) * P (Idealize.ShloMosaic.ix3 s (⟨3 + i.val, by omega⟩ : Fin 8196) q)
      + w (Idealize.ShloMosaic.ix2 (4 : Fin 5) q) * P (Idealize.ShloMosaic.ix3 s (⟨4 + i.val, by omega⟩ : Fin 8196) q)
      + b (Idealize.ShloMosaic.ix1 q) : EReal) := by
    pointwise [sumA]
  refine h.trans ?_
  rw [zero_add, add_comm _ (b (Idealize.ShloMosaic.ix1 q) : EReal)]
  unfold conv5
  simp only [← add_assoc]
  rfl

theorem padA_mid (u : Vec Ideal S16384x1536 .bf16) (s : Fin 2) (i : Fin 8192) (q : Fin 1280) :
    padA u (Idealize.ShloMosaic.ix3 s (⟨2 + i.val, by omega⟩ : Fin 8196) q) = u (Idealize.ShloMosaic.ix2 (⟨s.val * 8192 + i.val, by omega⟩ : Fin 16384) (⟨q.val, by omega⟩ : Fin 1536)) := by
  pointwise [padA]

theorem padA_lo (u : Vec Ideal S16384x1536 .bf16) (s : Fin 2) (i : Fin 2) (q : Fin 1280) :
    padA u (Idealize.ShloMosaic.ix3 s (⟨i.val, by omega⟩ : Fin 8196) q) = (0 : EReal) := by
  pointwise [padA]
  show (((0#32).toInt : ℝ) : EReal) = 0
  simp

theorem padA_hi (u : Vec Ideal S16384x1536 .bf16) (s : Fin 2) (i : Fin 2) (q : Fin 1280) :
    padA u (Idealize.ShloMosaic.ix3 s (⟨8194 + i.val, by omega⟩ : Fin 8196) q) = (0 : EReal) := by
  pointwise [padA]
  rw [dif_neg (by omega)]
  show (((0#32).toInt : ℝ) : EReal) = 0
  simp

/-- The padded rows a result row reads. -/
theorem padA_tap (u : Vec Ideal S16384x1536 .bf16) (r : Fin 16384) (q : Fin 1280) (k : Fin 5) :
    padA u (Idealize.ShloMosaic.ix3 (⟨r.val / 8192, by omega⟩ : Fin 2) (⟨k.val + r.val % 8192, by omega⟩ : Fin 8196) q) = tap u (⟨q.val, by omega⟩ : Fin 1536) r k := by
  unfold tap
  by_cases h : 2 ≤ r.val % 8192 + k.val ∧ r.val % 8192 + k.val < 8194
  · rw [dif_pos h]
    have e : (⟨k.val + r.val % 8192, by omega⟩ : Fin 8196) = ⟨2 + (k.val + r.val % 8192 - 2), by omega⟩ := Fin.ext (by show k.val + r.val % 8192 = 2 + (k.val + r.val % 8192 - 2); omega)
    rw [e]
    refine (padA_mid u _ ⟨k.val + r.val % 8192 - 2, by omega⟩ q).trans ?_
    refine congrArg (fun z : Fin 16384 => u (Idealize.ShloMosaic.ix2 z (⟨q.val, by omega⟩ : Fin 1536))) (Fin.ext ?_)
    show (r.val / 8192) * 8192 + (k.val + r.val % 8192 - 2) = r.val + k.val - 2
    omega
  · rw [dif_neg h]
    by_cases h2 : r.val % 8192 + k.val < 2
    · exact padA_lo u _ ⟨k.val + r.val % 8192, by omega⟩ q
    · have e : (⟨k.val + r.val % 8192, by omega⟩ : Fin 8196) = ⟨8194 + (k.val + r.val % 8192 - 8194), by omega⟩ := Fin.ext (by show k.val + r.val % 8192 = 8194 + (k.val + r.val % 8192 - 8194); omega)
      rw [e]
      exact padA_hi u _ ⟨k.val + r.val % 8192 - 8194, by omega⟩ q

/-- The last 256 columns, with two rows of zeros before and after each sequence. -/
def padB (u : Vec Ideal S16384x1536 .bf16) : Vec Ideal S2x8196x256 .f32 :=
  pad S2x8196x256 ![0, 2, 0] ![0, 2, 0] ![0, 0, 0] (extractStridedSlice S2x8192x256 ![0, 0, 1280] (shapeCast _ (extf (F := Ideal) .f32 u bitsLt_bf16_f32) shapeCasts_S16384x1536_S2x8192x1536) slices_S2x8192x1536_S2x8192x256_0_0_1280) (sitofp (F := Ideal) .f32 (constantI S_ 32 0#32)) pads_S2x8192x256_S2x8196x256_000_220_000 h_S_

/-- The five shifted products and the bias. -/
def sumB (P : Vec Ideal S2x8196x256 .f32) (w : Vec Ideal S5x256 .f32) (b : Vec Ideal S256 .f32) : Vec Ideal S2x8192x256 .f32 :=
  addf (F := Ideal) (addf (F := Ideal) (addf (F := Ideal) (addf (F := Ideal) (addf (F := Ideal) (addf (F := Ideal) (broadcastInDim S2x8192x256 ![] bcast_S_S2x8192x256 (constant (F := Ideal) S_ .f32 0x00000000#32)) (mulf (F := Ideal) (broadcastInDim S2x8192x256 ![0, 1, 2] bcast_S1x1x256_S2x8192x256_0_1_2 (broadcastInDim S1x1x256 ![2] bcast_S256_S1x1x256_2 (shapeCast _ (extractStridedSlice S1x256 ![0, 0] w slices_S5x256_S1x256_0_0) shapeCasts_S1x256_S256))) (extractStridedSlice S2x8192x256 ![0, 0, 0] P slices_S2x8196x256_S2x8192x256_0_0_0))) (mulf (F := Ideal) (broadcastInDim S2x8192x256 ![0, 1, 2] bcast_S1x1x256_S2x8192x256_0_1_2 (broadcastInDim S1x1x256 ![2] bcast_S256_S1x1x256_2 (shapeCast _ (extractStridedSlice S1x256 ![1, 0] w slices_S5x256_S1x256_1_0) shapeCasts_S1x256_S256))) (extractStridedSlice S2x8192x256 ![0, 1, 0] P slices_S2x8196x256_S2x8192x256_0_1_0))) (mulf (F := Ideal) (broadcastInDim S2x8192x256 ![0, 1, 2] bcast_S1x1x256_S2x8192x256_0_1_2 (broadcastInDim S1x1x256 ![2] bcast_S256_S1x1x256_2 (shapeCast _ (extractStridedSlice S1x256 ![2, 0] w slices_S5x256_S1x256_2_0) shapeCasts_S1x256_S256))) (extractStridedSlice S2x8192x256 ![0, 2, 0] P slices_S2x8196x256_S2x8192x256_0_2_0))) (mulf (F := Ideal) (broadcastInDim S2x8192x256 ![0, 1, 2] bcast_S1x1x256_S2x8192x256_0_1_2 (broadcastInDim S1x1x256 ![2] bcast_S256_S1x1x256_2 (shapeCast _ (extractStridedSlice S1x256 ![3, 0] w slices_S5x256_S1x256_3_0) shapeCasts_S1x256_S256))) (extractStridedSlice S2x8192x256 ![0, 3, 0] P slices_S2x8196x256_S2x8192x256_0_3_0))) (mulf (F := Ideal) (broadcastInDim S2x8192x256 ![0, 1, 2] bcast_S1x1x256_S2x8192x256_0_1_2 (broadcastInDim S1x1x256 ![2] bcast_S256_S1x1x256_2 (shapeCast _ (extractStridedSlice S1x256 ![4, 0] w slices_S5x256_S1x256_4_0) shapeCasts_S1x256_S256))) (extractStridedSlice S2x8192x256 ![0, 4, 0] P slices_S2x8196x256_S2x8192x256_0_4_0))) (broadcastInDim S2x8192x256 ![0, 1, 2] bcast_S1x1x256_S2x8192x256_0_1_2 (broadcastInDim S1x1x256 ![2] bcast_S256_S1x1x256_2 b))

/-- A value times its logistic. -/
def actB (Y : Vec Ideal S2x8192x256 .f32) : Vec Ideal S2x8192x256 .f32 :=
  mulf (F := Ideal) Y (Host.divf (F := Ideal) (broadcastInDim S2x8192x256 ![] bcast_S_S2x8192x256 (constant (F := Ideal) S_ .f32 0x3F800000#32)) (addf (F := Ideal) (broadcastInDim S2x8192x256 ![] bcast_S_S2x8192x256 (constant (F := Ideal) S_ .f32 0x3F800000#32)) (Host.exp (F := Ideal) (Host.negf (F := Ideal) Y))))

theorem actB_apply (Y : Vec Ideal S2x8192x256 .f32) (s : Fin 2) (i : Fin 8192) (q : Fin 256) :
    actB Y (Idealize.ShloMosaic.ix3 s i q) = silu (Y (Idealize.ShloMosaic.ix3 s i q)) := by
  unfold silu Ideal.logistic
  pointwise [actB]

theorem sumB_apply (P : Vec Ideal S2x8196x256 .f32) (w : Vec Ideal S5x256 .f32) (b : Vec Ideal S256 .f32) (s : Fin 2) (i : Fin 8192) (q : Fin 256) :
    sumB P w b (Idealize.ShloMosaic.ix3 s i q) = conv5 (b (Idealize.ShloMosaic.ix1 q)) (fun k => w (Idealize.ShloMosaic.ix2 k q))
      (fun k => P (Idealize.ShloMosaic.ix3 s (⟨k.val + i.val, by omega⟩ : Fin 8196) q)) := by
  have h : sumB P w b (Idealize.ShloMosaic.ix3 s i q) = (0 + w (Idealize.ShloMosaic.ix2 (0 : Fin 5) q) * P (Idealize.ShloMosaic.ix3 s (⟨0 + i.val, by omega⟩ : Fin 8196) q)
      + w (Idealize.ShloMosaic.ix2 (1 : Fin 5) q) * P (Idealize.ShloMosaic.ix3 s (⟨1 + i.val, by omega⟩ : Fin 8196) q)
      + w (Idealize.ShloMosaic.ix2 (2 : Fin 5) q) * P (Idealize.ShloMosaic.ix3 s (⟨2 + i.val, by omega⟩ : Fin 8196) q)
      + w (Idealize.ShloMosaic.ix2 (3 : Fin 5) q) * P (Idealize.ShloMosaic.ix3 s (⟨3 + i.val, by omega⟩ : Fin 8196) q)
      + w (Idealize.ShloMosaic.ix2 (4 : Fin 5) q) * P (Idealize.ShloMosaic.ix3 s (⟨4 + i.val, by omega⟩ : Fin 8196) q)
      + b (Idealize.ShloMosaic.ix1 q) : EReal) := by
    pointwise [sumB]
  refine h.trans ?_
  rw [zero_add, add_comm _ (b (Idealize.ShloMosaic.ix1 q) : EReal)]
  unfold conv5
  simp only [← add_assoc]
  rfl

theorem padB_mid (u : Vec Ideal S16384x1536 .bf16) (s : Fin 2) (i : Fin 8192) (q : Fin 256) :
    padB u (Idealize.ShloMosaic.ix3 s (⟨2 + i.val, by omega⟩ : Fin 8196) q) = u (Idealize.ShloMosaic.ix2 (⟨s.val * 8192 + i.val, by omega⟩ : Fin 16384) (⟨1280 + q.val, by omega⟩ : Fin 1536)) := by
  pointwise [padB]

theorem padB_lo (u : Vec Ideal S16384x1536 .bf16) (s : Fin 2) (i : Fin 2) (q : Fin 256) :
    padB u (Idealize.ShloMosaic.ix3 s (⟨i.val, by omega⟩ : Fin 8196) q) = (0 : EReal) := by
  pointwise [padB]
  show (((0#32).toInt : ℝ) : EReal) = 0
  simp

theorem padB_hi (u : Vec Ideal S16384x1536 .bf16) (s : Fin 2) (i : Fin 2) (q : Fin 256) :
    padB u (Idealize.ShloMosaic.ix3 s (⟨8194 + i.val, by omega⟩ : Fin 8196) q) = (0 : EReal) := by
  pointwise [padB]
  rw [dif_neg (by omega)]
  show (((0#32).toInt : ℝ) : EReal) = 0
  simp

/-- The padded rows a result row reads. -/
theorem padB_tap (u : Vec Ideal S16384x1536 .bf16) (r : Fin 16384) (q : Fin 256) (k : Fin 5) :
    padB u (Idealize.ShloMosaic.ix3 (⟨r.val / 8192, by omega⟩ : Fin 2) (⟨k.val + r.val % 8192, by omega⟩ : Fin 8196) q) = tap u (⟨1280 + q.val, by omega⟩ : Fin 1536) r k := by
  unfold tap
  by_cases h : 2 ≤ r.val % 8192 + k.val ∧ r.val % 8192 + k.val < 8194
  · rw [dif_pos h]
    have e : (⟨k.val + r.val % 8192, by omega⟩ : Fin 8196) = ⟨2 + (k.val + r.val % 8192 - 2), by omega⟩ := Fin.ext (by show k.val + r.val % 8192 = 2 + (k.val + r.val % 8192 - 2); omega)
    rw [e]
    refine (padB_mid u _ ⟨k.val + r.val % 8192 - 2, by omega⟩ q).trans ?_
    refine congrArg (fun z : Fin 16384 => u (Idealize.ShloMosaic.ix2 z (⟨1280 + q.val, by omega⟩ : Fin 1536))) (Fin.ext ?_)
    show (r.val / 8192) * 8192 + (k.val + r.val % 8192 - 2) = r.val + k.val - 2
    omega
  · rw [dif_neg h]
    by_cases h2 : r.val % 8192 + k.val < 2
    · exact padB_lo u _ ⟨k.val + r.val % 8192, by omega⟩ q
    · have e : (⟨k.val + r.val % 8192, by omega⟩ : Fin 8196) = ⟨8194 + (k.val + r.val % 8192 - 8194), by omega⟩ := Fin.ext (by show k.val + r.val % 8192 = 8194 + (k.val + r.val % 8192 - 8194); omega)
      rw [e]
      exact padB_hi u _ ⟨k.val + r.val % 8192 - 8194, by omega⟩ q

/-- The two parts side by side. -/
def both (RA : Vec Ideal S2x8192x1280 .f32) (RB : Vec Ideal S2x8192x256 .f32) : Vec Ideal S16384x1536 .bf16 :=
  truncf (F := Ideal) .bf16 (shapeCast _ (concatenate S2x8192x1536 2 [⟨S2x8192x1280, RA⟩, ⟨S2x8192x256, RB⟩] concatenates_S2x8192x1280_S2x8192x256_S2x8192x1536_d2) shapeCasts_S2x8192x1536_S16384x1536) bitsLt_bf16_f32

theorem both_left (RA : Vec Ideal S2x8192x1280 .f32) (RB : Vec Ideal S2x8192x256 .f32) (r : Fin 16384) (q : Fin 1280) :
    both RA RB (Idealize.ShloMosaic.ix2 r (⟨q.val, by omega⟩ : Fin 1536)) = RA (Idealize.ShloMosaic.ix3 (⟨r.val / 8192, by omega⟩ : Fin 2) (⟨r.val % 8192, by omega⟩ : Fin 8192) q) := by
  pointwise [both]

theorem both_right (RA : Vec Ideal S2x8192x1280 .f32) (RB : Vec Ideal S2x8192x256 .f32) (r : Fin 16384) (q : Fin 256) :
    both RA RB (Idealize.ShloMosaic.ix2 r (⟨1280 + q.val, by omega⟩ : Fin 1536)) = RB (Idealize.ShloMosaic.ix3 (⟨r.val / 8192, by omega⟩ : Fin 2) (⟨r.val % 8192, by omega⟩ : Fin 8192) q) := by
  pointwise [both]

section Values

variable (u : Vec Ideal S16384x1536 .bf16) (w1 : Vec Ideal S5x1280 .f32) (b1 : Vec Ideal S1280 .f32)
    (w2 : Vec Ideal S5x256 .f32) (b2 : Vec Ideal S256 .f32)

/-- The reference's result. -/
def refOut : Vec Ideal S16384x1536 .bf16 := both (actA (sumA (padA u) w1 b1)) (actB (sumB (padB u) w2 b2))

theorem refOut_eq : refOut u w1 b1 w2 b2 = convOf u w1 b1 w2 b2 := by
  funext i
  have h1 : (i 1).val < 1536 := (i 1).isLt
  refine (congrArg _ (Idealize.ShloMosaic.eq_ix2 (n0 := 16384) (n1 := 1536) i)).trans ?_
  unfold convOf convAt
  by_cases h : (i 1).val < 1280
  · rw [dif_pos h]
    refine (both_left _ _ (i 0) ⟨(i 1).val, h⟩).trans ?_
    refine (actA_apply _ _ _ _).trans (congrArg silu ?_)
    refine (sumA_apply _ _ _ _ _ _).trans ?_
    exact congrArg (conv5 _ _) (funext fun k => padA_tap u (i 0) ⟨(i 1).val, h⟩ k)
  · rw [dif_neg h]
    have e : (i 1 : Fin 1536) = ⟨1280 + ((i 1).val - 1280), by omega⟩ := Fin.ext (by show (i 1).val = 1280 + ((i 1).val - 1280); omega)
    refine (congrArg (fun z : Fin 1536 => refOut u w1 b1 w2 b2 (Idealize.ShloMosaic.ix2 (i 0) z)) e).trans ?_
    refine (both_right _ _ (i 0) ⟨(i 1).val - 1280, by omega⟩).trans ?_
    refine (actB_apply _ _ _ _).trans (congrArg silu ?_)
    refine (sumB_apply _ _ _ _ _ _).trans ?_
    exact congrArg (conv5 _ _) (funext fun k => (padB_tap u (i 0) ⟨(i 1).val - 1280, by omega⟩ k).trans (congrArg (fun z : Fin 1536 => tap u z (i 0) k) e.symm))

end Values

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = convOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ConvolutionReferenceIdeal.Value.run (F := Ideal) m ρ)
  obtain ⟨e0, rest⟩ := h c
  exact ⟨e0.trans (refOut_eq _ _ _ _ _), rest⟩

end Cert.Proof.Convolution

end
-- ==== Proof.ConvolutionClaims.lean ====
/- The convolution: the claims. -/
module

public import proofs.«01_k».proof.Defs
public import proofs.«01_k».proof.Proof.Gen.Convolution.Frame
public import proofs.«01_k».proof.Proof.Gen.ConvolutionIdeal.Value
public import proofs.«01_k».proof.Proof.ConvolutionValue
public import proofs.«01_k».proof.Proof.ConvolutionReference

@[expose] public section

noncomputable section

namespace Cert.Proof.Convolution

open Idealize.ShloMosaic Idealize.ShloMosaic.TcCoe Idealize.SL.Sem

theorem frame_kernel : Cert.quiescent_Convolution := fun m ρ _ => Cert.Convolution.Gen.frame (F := Bits) m ρ

theorem frame_ideal : Cert.quiescent_ConvolutionIdeal := fun m ρ _ => Cert.ConvolutionIdeal.Gen.frame (F := Ideal) m ρ

theorem frame_reference_ideal : Cert.quiescent_ConvolutionReferenceIdeal := fun m ρ _ =>
  (θ_run Cert.ConvolutionReferenceIdeal.defs _ _).mono (fun r h => ⟨fun c => (h c).2, sem_eq_zero_of_no_sems rfl r.2⟩)
    (Cert.ConvolutionReferenceIdeal.Value.run (F := Ideal) m ρ)

open Cert.ConvolutionIdeal in
/-- Equal arguments, equal results. -/
theorem congr_args {x0 y0 : Vec Ideal S16384x1536 .bf16} {x1 y1 : Vec Ideal S5x1280 .f32} {x2 y2 : Vec Ideal S1280 .f32}
    {x3 y3 : Vec Ideal S5x256 .f32} {x4 y4 : Vec Ideal S256 .f32}
    (h0 : x0 = y0) (h1 : x1 = y1) (h2 : x2 = y2) (h3 : x3 = y3) (h4 : x4 = y4) : convOf x0 x1 x2 x3 x4 = convOf y0 y1 y2 y3 y4 := by
  subst h0 h1 h2 h3 h4; rfl

theorem algebraic : Cert.algebraic_ConvolutionIdeal_ConvolutionReferenceIdeal := by
  intro m ρ m' ρ' _ hm
  refine ⟨fun c => convOf (m ((c.tc : Thread Cert.ConvolutionIdeal.nD Cert.ConvolutionIdeal.τ).loc Cert.ConvolutionIdeal.main_arg0)) (m ((c.tc : Thread Cert.ConvolutionIdeal.nD Cert.ConvolutionIdeal.τ).loc Cert.ConvolutionIdeal.main_arg1)) (m ((c.tc : Thread Cert.ConvolutionIdeal.nD Cert.ConvolutionIdeal.τ).loc Cert.ConvolutionIdeal.main_arg2)) (m ((c.tc : Thread Cert.ConvolutionIdeal.nD Cert.ConvolutionIdeal.τ).loc Cert.ConvolutionIdeal.main_arg3)) (m ((c.tc : Thread Cert.ConvolutionIdeal.nD Cert.ConvolutionIdeal.τ).loc Cert.ConvolutionIdeal.main_arg4)), ?_, ?_⟩
  · refine (θ_run Cert.ConvolutionIdeal.defs _ _).mono (fun _ h c => ?_) (Cert.ConvolutionIdeal.Value.run_blocks m ρ)
    obtain ⟨e0, rest⟩ := h c
    exact ⟨e0.trans (final5 m c), rest⟩
  · refine (θ_run Cert.ConvolutionReferenceIdeal.defs _ _).mono (fun _ h c => ?_) (reference_run m' ρ')
    obtain ⟨a0, a1, a2, a3, a4⟩ := hm c
    obtain ⟨e0, rest⟩ := h c
    exact ⟨e0.trans (congr_args a0 a1 a2 a3 a4), rest⟩

end Cert.Proof.Convolution

end
-- ==== Proof.ContextConvolutionSpec.lean ====
/- The context's convolution: what is computed, entry by entry, in the extended reals. -/
module

public import proofs.«01_k».proof.ContextConvolutionIdeal
public import Idealize.ShloMosaic.Lib.Pointwise

@[expose] public section

noncomputable section

namespace Cert.Proof.ContextConvolution

open Idealize.ShloMosaic
open Cert.ContextConvolutionIdeal

/-- A bias and five weighted values. -/
def conv5 (b : EReal) (w t : Fin 5 → EReal) : EReal :=
  b + w 0 * t 0 + w 1 * t 1 + w 2 * t 2 + w 3 * t 3 + w 4 * t 4

/-- A value times its logistic. -/
def silu (y : EReal) : EReal := y * Ideal.logistic y

/-- The value two rows before to two rows after row `r`, by `k`; zero where that leaves the row's sequence of 256. -/
def tap (u : Vec Ideal S512x1536 .bf16) (q : Fin 1536) (r : Fin 512) (k : Fin 5) : EReal :=
  if h : 2 ≤ r.val % 256 + k.val ∧ r.val % 256 + k.val < 258 then u (Idealize.ShloMosaic.ix2 (⟨r.val + k.val - 2, by omega⟩ : Fin 512) q) else 0

/-- Entry `(r, q)`: the first 1280 columns have the first weights and biases, the others the second. -/
def convAt (u : Vec Ideal S512x1536 .bf16) (w1 : Vec Ideal S5x1280 .f32) (b1 : Vec Ideal S1280 .f32)
    (w2 : Vec Ideal S5x256 .f32) (b2 : Vec Ideal S256 .f32) (r : Fin 512) (q : Fin 1536) : EReal :=
  if h : q.val < 1280 then
    silu (conv5 (b1 (Idealize.ShloMosaic.ix1 (⟨q.val, h⟩ : Fin 1280))) (fun k => w1 (Idealize.ShloMosaic.ix2 k (⟨q.val, h⟩ : Fin 1280))) (tap u q r))
  else
    silu (conv5 (b2 (Idealize.ShloMosaic.ix1 (⟨q.val - 1280, by omega⟩ : Fin 256))) (fun k => w2 (Idealize.ShloMosaic.ix2 k (⟨q.val - 1280, by omega⟩ : Fin 256))) (tap u q r))

/-- The whole result. -/
def convOf (u : Vec Ideal S512x1536 .bf16) (w1 : Vec Ideal S5x1280 .f32) (b1 : Vec Ideal S1280 .f32)
    (w2 : Vec Ideal S5x256 .f32) (b2 : Vec Ideal S256 .f32) : Vec Ideal S512x1536 .bf16 :=
  fun i => convAt u w1 b1 w2 b2 (i 0) (i 1)

end Cert.Proof.ContextConvolution

end
-- ==== Proof.ContextConvolutionValue.lean ====
/- The context's convolution: what the kernel leaves. -/
module

public import proofs.«01_k».proof.Proof.ContextConvolutionSpec
public import proofs.«01_k».proof.Proof.Gen.ContextConvolutionIdeal.Value
public import Idealize.ShloMosaic.Lib.Pipeline.ValueKit
public import Idealize.ShloMosaic.Lib.Pipeline.ValueKit.Point
public import Idealize.ShloMosaic.Lib.Pointwise

@[expose] public section

noncomputable section

namespace Cert.Proof.ContextConvolution

open Idealize.ShloMosaic Idealize.ShloMosaic.TcCoe Idealize.SL.Sem
open Cert.ContextConvolutionIdeal Cert.ContextConvolutionIdeal.Gen Cert.ContextConvolutionIdeal.Value

/-! ## A stored piece at an entry -/

section Pieces

variable (b w0 w1 w2 w3 w4 : Vec Ideal S1x256 .f32) (s0 s1 s2 s3 s4 : Vec Ideal S256x256 .f32)

/-- A bias row and five weighted blocks, at one entry. -/
def lin (p : Fin 256) (q : Fin 256) : EReal :=
  b (Idealize.ShloMosaic.ix2 (0 : Fin 1) q) + w0 (Idealize.ShloMosaic.ix2 (0 : Fin 1) q) * s0 (Idealize.ShloMosaic.ix2 p q) + w1 (Idealize.ShloMosaic.ix2 (0 : Fin 1) q) * s1 (Idealize.ShloMosaic.ix2 p q)
    + w2 (Idealize.ShloMosaic.ix2 (0 : Fin 1) q) * s2 (Idealize.ShloMosaic.ix2 p q) + w3 (Idealize.ShloMosaic.ix2 (0 : Fin 1) q) * s3 (Idealize.ShloMosaic.ix2 p q) + w4 (Idealize.ShloMosaic.ix2 (0 : Fin 1) q) * s4 (Idealize.ShloMosaic.ix2 p q)

theorem piece0 (p : Fin 256) (q : Fin 256) :
    k0_pay5 (F := Ideal) b w0 s0 w1 s1 w2 s2 w3 s3 w4 s4 (Idealize.ShloMosaic.ix2 p q) = silu (lin b w0 w1 w2 w3 w4 s0 s1 s2 s3 s4 p q) := by
  pointwise [k0_pay5, silu, lin]

theorem piece1 (p : Fin 256) (q : Fin 256) :
    k0_pay6 (F := Ideal) b w0 s0 w1 s1 w2 s2 w3 s3 w4 s4 (Idealize.ShloMosaic.ix2 p q) = silu (lin b w0 w1 w2 w3 w4 s0 s1 s2 s3 s4 p q) := by
  pointwise [k0_pay6, silu, lin]

theorem piece2 (p : Fin 256) (q : Fin 256) :
    k0_pay9 (F := Ideal) (k0_pay7 (F := Ideal) b w0 s0 w1 s1 w2 s2 w3 s3 w4 s4) (k0_pay8 (F := Ideal) b w0 s0 w1 s1 w2 s2 w3 s3 w4 s4) (Idealize.ShloMosaic.ix2 p q) = silu (lin b w0 w1 w2 w3 w4 s0 s1 s2 s3 s4 p q) := by
  pointwise [k0_pay9, k0_pay7, k0_pay8, silu, lin]

theorem piece3 (p : Fin 256) (q : Fin 256) :
    k0_pay12 (F := Ideal) (k0_pay10 (F := Ideal) b w0 s0 w1 s1 w2 s2 w3 s3) s4 (k0_pay11 (F := Ideal) w4) (Idealize.ShloMosaic.ix2 p q) = silu (lin b w0 w1 w2 w3 w4 s0 s1 s2 s3 s4 p q) := by
  pointwise [k0_pay12, k0_pay10, k0_pay11, silu, lin]

theorem piece4 (p : Fin 256) (q : Fin 256) :
    k0_pay15 (F := Ideal) (k0_pay13 (F := Ideal) b w0 s0 w1 s1 w2 s2 w3 s3) (k0_pay14 (F := Ideal) w4) s4 (Idealize.ShloMosaic.ix2 p q) = silu (lin b w0 w1 w2 w3 w4 s0 s1 s2 s3 s4 p q) := by
  pointwise [k0_pay15, k0_pay13, k0_pay14, silu, lin]

theorem piece5 (p : Fin 256) (q : Fin 256) :
    k0_pay1 (F := Ideal) (k0_pay16 (F := Ideal) b w0 s0 w1 s1 w2 s2 w3 s3) w4 s4 (Idealize.ShloMosaic.ix2 p q) = silu (lin b w0 w1 w2 w3 w4 s0 s1 s2 s3 s4 p q) := by
  pointwise [k0_pay1, k0_pay16, silu, lin]

end Pieces

/-! ## The rows around a tile -/

/-- The tile's position in its sequence, as the kernel computes it. -/
def tileOf (i : grid0.Coords) : BitVec 32 :=
  let arg0 : BitVec 32 := BitVec.ofNat 32 (i 0).val
  let v0 : BitVec 1 := Scalar.cmpi .eq 1#32 0#32
  let v1 : BitVec 32 := Scalar.select v0 1#32 1#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  v9

theorem first_iff : ∀ t : Fin cfg0.N, Scalar.cmpi .eq (tileOf (grid0.coords t)) 0#32 = if t.val % 1 = 0 then 1#1 else 0#1 := by decide +kernel
theorem last_iff : ∀ t : Fin cfg0.N, Scalar.cmpi .eq (tileOf (grid0.coords t)) 0#32 = if t.val % 1 = 0 then 1#1 else 0#1 := by decide +kernel

theorem pay2_apply (t : Fin cfg0.N) (x : Vec Ideal S16x1536 .bf16) (p : Fin 16) (q : Fin 1536) :
    k0_pay2 (F := Ideal) (grid0.coords t) x (Idealize.ShloMosaic.ix2 p q) = if t.val % 1 = 0 then (0 : EReal) else x (Idealize.ShloMosaic.ix2 p q) := by
  have e : k0_pay2 (F := Ideal) (grid0.coords t) x = shapeCast S16x1536 (Scalar.select (Scalar.cmpi .eq (tileOf (grid0.coords t)) 0#32)
      (broadcast S16x1536 (Scalar.ofBits (F := Ideal) .f32 0x00000000#32)) (extf (F := Ideal) .f32 x bitsLt_bf16_f32)) shapeCasts_S16x1536_S16x1536 := rfl
  rw [e, first_iff t]
  by_cases h : t.val % 1 = 0
  · rw [if_pos h, if_pos h, Scalar.select, if_pos (show (1#1 : BitVec 1) = 1 from rfl)]
    pointwise
  · rw [if_neg h, if_neg h, Scalar.select, if_neg (by decide)]
    pointwise

theorem pay4_apply (t : Fin cfg0.N) (x : Vec Ideal S16x1536 .bf16) (p : Fin 16) (q : Fin 1536) :
    k0_pay4 (F := Ideal) (grid0.coords t) x (Idealize.ShloMosaic.ix2 p q) = if t.val % 1 = 0 then (0 : EReal) else x (Idealize.ShloMosaic.ix2 p q) := by
  have e : k0_pay4 (F := Ideal) (grid0.coords t) x = shapeCast S16x1536 (Scalar.select (Scalar.cmpi .eq (tileOf (grid0.coords t)) 0#32)
      (broadcast S16x1536 (Scalar.ofBits (F := Ideal) .f32 0x00000000#32)) (extf (F := Ideal) .f32 x bitsLt_bf16_f32)) shapeCasts_S16x1536_S16x1536 := rfl
  rw [e, last_iff t]
  by_cases h : t.val % 1 = 0
  · rw [if_pos h, if_pos h, Scalar.select, if_pos (show (1#1 : BitVec 1) = 1 from rfl)]
    pointwise
  · rw [if_neg h, if_neg h, Scalar.select, if_neg (by decide)]
    pointwise

theorem pay3_apply (x : Vec Ideal S256x1536 .bf16) (p : Fin 256) (q : Fin 1536) :
    k0_pay3 (F := Ideal) x (Idealize.ShloMosaic.ix2 p q) = x (Idealize.ShloMosaic.ix2 p q) := by
  pointwise [k0_pay3]

variable (m : (ℓ : Loc nD τ sig) → Buf (Elt Ideal) ℓ)

theorem idx0 : ∀ t : Fin cfg0.N, (cfg0.win 0).index t = ![16 * t.val - 1, 0] := by decide +kernel
theorem idx1 : ∀ t : Fin cfg0.N, (cfg0.win 1).index t = ![t.val, 0] := by decide +kernel
theorem idx2 : ∀ t : Fin cfg0.N, (cfg0.win 2).index t = ![min (16 * t.val + 16) 31, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val, 0] := by decide +kernel

theorem iblk0_apply (c : Dev nD) (t : Fin 2) (p : Fin 16) (q : Fin 1536) :
    iblk m c 0 t (Idealize.ShloMosaic.ix2 p q) = V m c main_arg0 (Idealize.ShloMosaic.ix2 (⟨(16 * t.val - 1) * 16 + p.val, by omega⟩ : Fin 512) q) := by
  blk_ext [iblk, idx0 t]
theorem iblk1_apply (c : Dev nD) (t : Fin 2) (p : Fin 256) (q : Fin 1536) :
    iblk m c 1 t (Idealize.ShloMosaic.ix2 p q) = V m c main_arg0 (Idealize.ShloMosaic.ix2 (⟨t.val * 256 + p.val, by omega⟩ : Fin 512) q) := by
  blk_ext [iblk, idx1 t]
theorem iblk2_apply (c : Dev nD) (t : Fin 2) (p : Fin 16) (q : Fin 1536) :
    iblk m c 2 t (Idealize.ShloMosaic.ix2 p q) = V m c main_arg0 (Idealize.ShloMosaic.ix2 (⟨min (16 * t.val + 16) 31 * 16 + p.val, by omega⟩ : Fin 512) q) := by
  blk_ext [iblk, idx2 t]
theorem iblk3_apply (c : Dev nD) (t : Fin 2) (k : Fin 5) (q : Fin 1536) : iblk m c 3 t (Idealize.ShloMosaic.ix2 k q) = V m c main_v0 (Idealize.ShloMosaic.ix2 k q) := by
  blk_ext [iblk, idx3 t]
theorem iblk4_apply (c : Dev nD) (t : Fin 2) (q : Fin 1536) : iblk m c 4 t (Idealize.ShloMosaic.ix2 (0 : Fin 1) q) = V m c main_v2 (Idealize.ShloMosaic.ix2 (0 : Fin 1) q) := by
  blk_ext [iblk, idx4 t]
theorem emb5 (t : Fin 2) (p : Fin 256) (q : Fin 1536) :
    (((spec0 5).arr.view.slice ((cfg0.win 5).rect t)).emb (Idealize.ShloMosaic.ix2 p q)) = (Idealize.ShloMosaic.ix2 (⟨t.val * 256 + p.val, by omega⟩ : Fin 512) q : S512x1536.Idx) := by
  blk_ext [idx5 t]

/-- The weights and the biases side by side. -/
theorem V_w_left (c : Dev nD) (k : Fin 5) (q : Fin 1280) : V m c main_v0 (Idealize.ShloMosaic.ix2 k (⟨q.val, by omega⟩ : Fin 1536)) = m ((c : Thread nD τ).loc main_arg1) (Idealize.ShloMosaic.ix2 k q) := by
  entry_read
  pointwise
theorem V_w_right (c : Dev nD) (k : Fin 5) (q : Fin 256) : V m c main_v0 (Idealize.ShloMosaic.ix2 k (⟨1280 + q.val, by omega⟩ : Fin 1536)) = m ((c : Thread nD τ).loc main_arg3) (Idealize.ShloMosaic.ix2 k q) := by
  entry_read
  pointwise
theorem V_b_left (c : Dev nD) (q : Fin 1280) : V m c main_v2 (Idealize.ShloMosaic.ix2 (0 : Fin 1) (⟨q.val, by omega⟩ : Fin 1536)) = m ((c : Thread nD τ).loc main_arg2) (Idealize.ShloMosaic.ix1 q) := by
  entry_read
  pointwise
theorem V_b_right (c : Dev nD) (q : Fin 256) : V m c main_v2 (Idealize.ShloMosaic.ix2 (0 : Fin 1) (⟨1280 + q.val, by omega⟩ : Fin 1536)) = m ((c : Thread nD τ).loc main_arg4) (Idealize.ShloMosaic.ix1 q) := by
  entry_read
  pointwise

/-- Row `R` of what the kernel gathers for tile `t`: row `R - 16` from the tile's first, zero outside the sequence. -/
def extAt (u : Vec Ideal S512x1536 .bf16) (t : Fin 2) (R : Fin 288) (q : Fin 1536) : EReal :=
  if h : 16 ≤ t.val % 1 * 256 + R.val ∧ t.val % 1 * 256 + R.val < 272 then u (Idealize.ShloMosaic.ix2 (⟨t.val * 256 + R.val - 16, by omega⟩ : Fin 512) q) else 0

/-- The row of the whole that row `p` of tile `t` is. -/
def rowOf (t : Fin 2) (p : Fin 256) : Fin 512 := ⟨t.val * 256 + p.val, by omega⟩

/-- The gathered rows by entries. -/
def ext (u : Vec Ideal S512x1536 .bf16) (t : Fin 2) : Vec Ideal S288x1536 .f32 := fun y => extAt u t (y 0) (y 1)

theorem ext_prev (c : Dev nD) (t : Fin 2) (p : Fin 16) (q : Fin 1536) :
    k0_pay2 (F := Ideal) (grid0.coords t) (iblk m c 0 t) (Idealize.ShloMosaic.ix2 p q) = extAt (m ((c : Thread nD τ).loc main_arg0)) t (⟨p.val, by omega⟩ : Fin 288) q := by
  refine (pay2_apply t _ p q).trans ?_
  unfold extAt
  by_cases h : t.val % 1 = 0
  · rw [if_pos h, dif_neg (by show ¬ (16 ≤ t.val % 1 * 256 + p.val ∧ t.val % 1 * 256 + p.val < 272); omega)]
  · rw [if_neg h, dif_pos (by show 16 ≤ t.val % 1 * 256 + p.val ∧ t.val % 1 * 256 + p.val < 272; omega)]
    refine (iblk0_apply m c t p q).trans ((congrFun (V_main_arg0 m c) _).trans ?_)
    refine congrArg (fun z : Fin 512 => m ((c : Thread nD τ).loc main_arg0) (Idealize.ShloMosaic.ix2 z q)) (Fin.ext ?_)
    show (16 * t.val - 1) * 16 + p.val = t.val * 256 + p.val - 16
    omega

theorem ext_cur (c : Dev nD) (t : Fin 2) (p : Fin 256) (q : Fin 1536) :
    k0_pay3 (F := Ideal) (iblk m c 1 t) (Idealize.ShloMosaic.ix2 p q) = extAt (m ((c : Thread nD τ).loc main_arg0)) t (⟨16 + p.val, by omega⟩ : Fin 288) q := by
  refine (pay3_apply _ p q).trans ?_
  unfold extAt
  rw [dif_pos (by show 16 ≤ t.val % 1 * 256 + (16 + p.val) ∧ t.val % 1 * 256 + (16 + p.val) < 272; omega)]
  refine (iblk1_apply m c t p q).trans ((congrFun (V_main_arg0 m c) _).trans ?_)
  refine congrArg (fun z : Fin 512 => m ((c : Thread nD τ).loc main_arg0) (Idealize.ShloMosaic.ix2 z q)) (Fin.ext ?_)
  show t.val * 256 + p.val = t.val * 256 + (16 + p.val) - 16
  omega

theorem ext_next (c : Dev nD) (t : Fin 2) (p : Fin 16) (q : Fin 1536) :
    k0_pay4 (F := Ideal) (grid0.coords t) (iblk m c 2 t) (Idealize.ShloMosaic.ix2 p q) = extAt (m ((c : Thread nD τ).loc main_arg0)) t (⟨272 + p.val, by omega⟩ : Fin 288) q := by
  refine (pay4_apply t _ p q).trans ?_
  unfold extAt
  by_cases h : t.val % 1 = 0
  · rw [if_pos h, dif_neg (by show ¬ (16 ≤ t.val % 1 * 256 + (272 + p.val) ∧ t.val % 1 * 256 + (272 + p.val) < 272); omega)]
  · rw [if_neg h, dif_pos (by show 16 ≤ t.val % 1 * 256 + (272 + p.val) ∧ t.val % 1 * 256 + (272 + p.val) < 272; omega)]
    refine (iblk2_apply m c t p q).trans ((congrFun (V_main_arg0 m c) _).trans ?_)
    refine congrArg (fun z : Fin 512 => m ((c : Thread nD τ).loc main_arg0) (Idealize.ShloMosaic.ix2 z q)) (Fin.ext ?_)
    show min (16 * t.val + 16) 31 * 16 + p.val = t.val * 256 + (272 + p.val) - 16
    omega

/-- What the kernel gathers, as its three stores leave it. -/
theorem gathered (c : Dev nD) (t : Fin 2) :
    View.canon (Val := Elt Ideal) (s := S288x1536) (e := .f32) [⟨Rect.unit (s := S288x1536) ![272, 0] S16x1536.size inb_S288x1536_S16x1536_272_0, k0_pay4 (F := Ideal) (grid0.coords t) (iblk m c 2 t)⟩,
      ⟨Rect.unit (s := S288x1536) ![16, 0] S256x1536.size inb_S288x1536_S256x1536_16_0, k0_pay3 (F := Ideal) (iblk m c 1 t)⟩,
      ⟨Rect.unit (s := S288x1536) ![0, 0] S16x1536.size inb_S288x1536_S16x1536_0_0, k0_pay2 (F := Ideal) (grid0.coords t) (iblk m c 0 t)⟩]
      = ext (m ((c : Thread nD τ).loc main_arg0)) t := by
  funext y
  refine View.canon_apply_of_pieces _ _ ?_ y ?_
  · simp only [List.forall_mem_cons]
    refine ⟨fun x => ?_, fun x => ?_, fun x => ?_, fun p hp => absurd hp (List.not_mem_nil)⟩
    · refine (congrArg _ (Idealize.ShloMosaic.eq_ix2 (n0 := 16) (n1 := 1536) x)).trans ((ext_next m c t (x 0) (x 1)).trans ?_)
      exact congrArg₂ (extAt _ t) (Fin.ext (Rect.idx_unit_val (s := S288x1536) ![272, 0] S16x1536.size inb_S288x1536_S16x1536_272_0 x 0).symm)
        (Fin.ext ((Nat.zero_add _).symm.trans (Rect.idx_unit_val (s := S288x1536) ![272, 0] S16x1536.size inb_S288x1536_S16x1536_272_0 x 1).symm))
    · refine (congrArg _ (Idealize.ShloMosaic.eq_ix2 (n0 := 256) (n1 := 1536) x)).trans ((ext_cur m c t (x 0) (x 1)).trans ?_)
      exact congrArg₂ (extAt _ t) (Fin.ext (Rect.idx_unit_val (s := S288x1536) ![16, 0] S256x1536.size inb_S288x1536_S256x1536_16_0 x 0).symm)
        (Fin.ext ((Nat.zero_add _).symm.trans (Rect.idx_unit_val (s := S288x1536) ![16, 0] S256x1536.size inb_S288x1536_S256x1536_16_0 x 1).symm))
    · refine (congrArg _ (Idealize.ShloMosaic.eq_ix2 (n0 := 16) (n1 := 1536) x)).trans ((ext_prev m c t (x 0) (x 1)).trans ?_)
      exact congrArg₂ (extAt _ t) (Fin.ext ((Nat.zero_add _).symm.trans (Rect.idx_unit_val (s := S288x1536) ![0, 0] S16x1536.size inb_S288x1536_S16x1536_0_0 x 0).symm))
        (Fin.ext ((Nat.zero_add _).symm.trans (Rect.idx_unit_val (s := S288x1536) ![0, 0] S16x1536.size inb_S288x1536_S16x1536_0_0 x 1).symm))
  · have h0 : (y 0).val < 288 := (y 0).isLt
    have h1 : (y 1).val < 1536 := (y 1).isLt
    by_cases ha : (y 0).val < 16
    · refine ⟨_, List.mem_cons_of_mem _ (List.mem_cons_of_mem _ List.mem_cons_self), (Rect.mem_set_unit (s := S288x1536) (inb := inb_S288x1536_S16x1536_0_0)).mpr fun a => ?_⟩
      fin_cases a
      · show 0 ≤ (y 0).val ∧ (y 0).val < 0 + 16
        omega
      · show 0 ≤ (y 1).val ∧ (y 1).val < 0 + 1536
        omega
    by_cases hb : (y 0).val < 272
    · refine ⟨_, List.mem_cons_of_mem _ List.mem_cons_self, (Rect.mem_set_unit (s := S288x1536) (inb := inb_S288x1536_S256x1536_16_0)).mpr fun a => ?_⟩
      fin_cases a
      · show 16 ≤ (y 0).val ∧ (y 0).val < 16 + 256
        omega
      · show 0 ≤ (y 1).val ∧ (y 1).val < 0 + 1536
        omega
    · refine ⟨_, List.mem_cons_self, (Rect.mem_set_unit (s := S288x1536) (inb := inb_S288x1536_S16x1536_272_0)).mpr fun a => ?_⟩
      fin_cases a
      · show 272 ≤ (y 0).val ∧ (y 0).val < 272 + 16
        omega
      · show 0 ≤ (y 1).val ∧ (y 1).val < 0 + 1536
        omega

/-- A row around the tile, seen from a result row. -/
theorem ext_tap (u : Vec Ideal S512x1536 .bf16) (t : Fin 2) (p : Fin 256) (k : Fin 5) (q : Fin 1536) :
    extAt u t (⟨14 + k.val + p.val, by omega⟩ : Fin 288) q = tap u q (⟨t.val * 256 + p.val, by omega⟩ : Fin 512) k := by
  unfold extAt tap
  by_cases h : 16 ≤ t.val % 1 * 256 + (14 + k.val + p.val) ∧ t.val % 1 * 256 + (14 + k.val + p.val) < 272
  · rw [dif_pos h, dif_pos (by show 2 ≤ (t.val * 256 + p.val) % 256 + k.val ∧ (t.val * 256 + p.val) % 256 + k.val < 258; omega)]
    refine congrArg (fun z : Fin 512 => u (Idealize.ShloMosaic.ix2 z q)) (Fin.ext ?_)
    show t.val * 256 + (14 + k.val + p.val) - 16 = t.val * 256 + p.val + k.val - 2
    omega
  · rw [dif_neg h, dif_neg (by show ¬ (2 ≤ (t.val * 256 + p.val) % 256 + k.val ∧ (t.val * 256 + p.val) % 256 + k.val < 258); omega)]

/-- The result from the weights and biases side by side. -/
theorem conv_cols (c : Dev nD) (r : Fin 512) (q : Fin 1536) :
    silu (conv5 (V m c main_v2 (Idealize.ShloMosaic.ix2 (0 : Fin 1) q)) (fun k => V m c main_v0 (Idealize.ShloMosaic.ix2 k q)) (tap (m ((c : Thread nD τ).loc main_arg0)) q r))
      = convAt (m ((c : Thread nD τ).loc main_arg0)) (m ((c : Thread nD τ).loc main_arg1)) (m ((c : Thread nD τ).loc main_arg2)) (m ((c : Thread nD τ).loc main_arg3)) (m ((c : Thread nD τ).loc main_arg4)) r q := by
  unfold convAt
  by_cases h : q.val < 1280
  · rw [dif_pos h]
    refine congrArg silu (congrArg₂ (fun (b : EReal) (w : Fin 5 → EReal) => conv5 b w _) ?_ (funext fun k => ?_))
    · exact V_b_left m c ⟨q.val, h⟩
    · exact V_w_left m c k ⟨q.val, h⟩
  · rw [dif_neg h]
    have e : q = (⟨1280 + (q.val - 1280), by omega⟩ : Fin 1536) := Fin.ext (by show q.val = 1280 + (q.val - 1280); omega)
    refine congrArg silu (congrArg₂ (fun (b : EReal) (w : Fin 5 → EReal) => conv5 b w _) ?_ (funext fun k => ?_))
    · exact (congrArg (fun z : Fin 1536 => V m c main_v2 (Idealize.ShloMosaic.ix2 (0 : Fin 1) z)) e).trans (V_b_right m c ⟨q.val - 1280, by omega⟩)
    · exact (congrArg (fun z : Fin 1536 => V m c main_v0 (Idealize.ShloMosaic.ix2 k z)) e).trans (V_w_right m c k ⟨q.val - 1280, by omega⟩)

/-- A read of the gathered rows. -/
theorem read_ext (c : Dev nD) (t : Fin cfg0.N) (E : Vec Ideal S288x1536 .f32) (hE : E = ext (m ((c : Thread nD τ).loc main_arg0)) t) (r : Rect S288x1536) :
    (View.whole cc0_scratch0).readCov (Val := Elt Ideal) [⟨Rect.unit (s := S288x1536) ![272, 0] ![16, 1536] inb_S288x1536_S16x1536_272_0, k0_pay4 (F := Ideal) (grid0.coords t) (View.ld (iblk m c 2 t) (Rect.unit (s := S16x1536) ![0, 0] ![16, 1536] inb_S16x1536_S16x1536_0_0))⟩, ⟨Rect.unit (s := S288x1536) ![16, 0] ![256, 1536] inb_S288x1536_S256x1536_16_0, k0_pay3 (F := Ideal) (View.ld (iblk m c 1 t) (Rect.unit (s := S256x1536) ![0, 0] ![256, 1536] inb_S256x1536_S256x1536_0_0))⟩, ⟨Rect.unit (s := S288x1536) ![0, 0] ![16, 1536] inb_S288x1536_S16x1536_0_0, k0_pay2 (F := Ideal) (grid0.coords t) (View.ld (iblk m c 0 t) (Rect.unit (s := S16x1536) ![0, 0] ![16, 1536] inb_S16x1536_S16x1536_0_0))⟩] r.toLoadRect = View.ld E r := by
  subst hE
  have e0 : View.ld (iblk m c 0 t) (Rect.unit (s := S16x1536) ![0, 0] ![16, 1536] inb_S16x1536_S16x1536_0_0) = iblk m c 0 t := by
    exact View.ld_unit_lit (S := S16x1536) _ _ (by decide)
  have e1 : View.ld (iblk m c 1 t) (Rect.unit (s := S256x1536) ![0, 0] ![256, 1536] inb_S256x1536_S256x1536_0_0) = iblk m c 1 t := by
    exact View.ld_unit_lit (S := S256x1536) _ _ (by decide)
  have e2 : View.ld (iblk m c 2 t) (Rect.unit (s := S16x1536) ![0, 0] ![16, 1536] inb_S16x1536_S16x1536_0_0) = iblk m c 2 t := by
    exact View.ld_unit_lit (S := S16x1536) _ _ (by decide)
  rw [e0, e1, e2]
  rw [View.readCov_eq_canon', gathered m c t]
  rfl

theorem bias_ld (c : Dev nD) (t : Fin 2) (off : ℕ) (hoff : off + 256 ≤ 1536) (ib : ∀ a, (![0, off] : Fin 2 → ℕ) a + S1x256.size a ≤ S1x1536.size a) (q : Fin 256) :
    View.ld (iblk m c 4 t) (Rect.unit (s := S1x1536) ![0, off] S1x256.size ib) (Idealize.ShloMosaic.ix2 (0 : Fin 1) q) = V m c main_v2 (Idealize.ShloMosaic.ix2 (0 : Fin 1) (⟨off + q.val, by omega⟩ : Fin 1536)) := by
  refine (View.ld_unit_apply_of _ _ _ _ _ (Idealize.ShloMosaic.ix2 (0 : Fin 1) (⟨off + q.val, by omega⟩ : Fin 1536) : S1x1536.Idx) fun a => ?_).trans (iblk4_apply m c t _)
  fin_cases a <;> rfl

theorem weight_ld (c : Dev nD) (t : Fin 2) (off : ℕ) (hoff : off + 256 ≤ 1536) (k : Fin 5) (iw : ∀ a, (![k.val, off] : Fin 2 → ℕ) a + S1x256.size a ≤ S5x1536.size a) (q : Fin 256) :
    View.ld (iblk m c 3 t) (Rect.unit (s := S5x1536) ![k.val, off] S1x256.size iw) (Idealize.ShloMosaic.ix2 (0 : Fin 1) q) = V m c main_v0 (Idealize.ShloMosaic.ix2 k (⟨off + q.val, by omega⟩ : Fin 1536)) := by
  refine (View.ld_unit_apply_of _ _ _ _ _ (Idealize.ShloMosaic.ix2 k (⟨off + q.val, by omega⟩ : Fin 1536) : S5x1536.Idx) fun a => ?_).trans (iblk3_apply m c t k _)
  fin_cases a <;> rfl

theorem ext_ld (c : Dev nD) (t : Fin 2) (off : ℕ) (hoff : off + 256 ≤ 1536) (k : Fin 5) (is : ∀ a, (![14 + k.val, off] : Fin 2 → ℕ) a + S256x256.size a ≤ S288x1536.size a) (p : Fin 256) (q : Fin 256) :
    View.ld (ext (m ((c : Thread nD τ).loc main_arg0)) t) (Rect.unit (s := S288x1536) ![14 + k.val, off] S256x256.size is) (Idealize.ShloMosaic.ix2 p q)
      = tap (m ((c : Thread nD τ).loc main_arg0)) (⟨off + q.val, by omega⟩ : Fin 1536) (⟨t.val * 256 + p.val, by omega⟩ : Fin 512) k := by
  refine (View.ld_unit_apply_of _ _ _ _ _ (Idealize.ShloMosaic.ix2 (⟨14 + k.val + p.val, by omega⟩ : Fin 288) (⟨off + q.val, by omega⟩ : Fin 1536) : S288x1536.Idx) fun a => ?_).trans (ext_tap _ t p k _)
  fin_cases a <;> rfl

/-- One stored piece at one of its entries. -/
theorem piece (c : Dev nD) (t : Fin 2) (off : ℕ) (hoff : off + 256 ≤ 1536) (ib : ∀ a, (![0, off] : Fin 2 → ℕ) a + S1x256.size a ≤ S1x1536.size a)
    (iw0 : ∀ a, (![0, off] : Fin 2 → ℕ) a + S1x256.size a ≤ S5x1536.size a) (is0 : ∀ a, (![14, off] : Fin 2 → ℕ) a + S256x256.size a ≤ S288x1536.size a) (iw1 : ∀ a, (![1, off] : Fin 2 → ℕ) a + S1x256.size a ≤ S5x1536.size a) (is1 : ∀ a, (![15, off] : Fin 2 → ℕ) a + S256x256.size a ≤ S288x1536.size a) (iw2 : ∀ a, (![2, off] : Fin 2 → ℕ) a + S1x256.size a ≤ S5x1536.size a) (is2 : ∀ a, (![16, off] : Fin 2 → ℕ) a + S256x256.size a ≤ S288x1536.size a) (iw3 : ∀ a, (![3, off] : Fin 2 → ℕ) a + S1x256.size a ≤ S5x1536.size a) (is3 : ∀ a, (![17, off] : Fin 2 → ℕ) a + S256x256.size a ≤ S288x1536.size a) (iw4 : ∀ a, (![4, off] : Fin 2 → ℕ) a + S1x256.size a ≤ S5x1536.size a) (is4 : ∀ a, (![18, off] : Fin 2 → ℕ) a + S256x256.size a ≤ S288x1536.size a) (s0 s1 s2 s3 s4 : Vec Ideal S256x256 .f32) (hs0 : s0 = View.ld (ext (m ((c : Thread nD τ).loc main_arg0)) t) (Rect.unit (s := S288x1536) ![14, off] S256x256.size is0)) (hs1 : s1 = View.ld (ext (m ((c : Thread nD τ).loc main_arg0)) t) (Rect.unit (s := S288x1536) ![15, off] S256x256.size is1)) (hs2 : s2 = View.ld (ext (m ((c : Thread nD τ).loc main_arg0)) t) (Rect.unit (s := S288x1536) ![16, off] S256x256.size is2)) (hs3 : s3 = View.ld (ext (m ((c : Thread nD τ).loc main_arg0)) t) (Rect.unit (s := S288x1536) ![17, off] S256x256.size is3)) (hs4 : s4 = View.ld (ext (m ((c : Thread nD τ).loc main_arg0)) t) (Rect.unit (s := S288x1536) ![18, off] S256x256.size is4)) (p : Fin 256) (q : Fin 256) :
    silu (lin (View.ld (iblk m c 4 t) (Rect.unit (s := S1x1536) ![0, off] S1x256.size ib)) (View.ld (iblk m c 3 t) (Rect.unit (s := S5x1536) ![0, off] S1x256.size iw0)) (View.ld (iblk m c 3 t) (Rect.unit (s := S5x1536) ![1, off] S1x256.size iw1)) (View.ld (iblk m c 3 t) (Rect.unit (s := S5x1536) ![2, off] S1x256.size iw2)) (View.ld (iblk m c 3 t) (Rect.unit (s := S5x1536) ![3, off] S1x256.size iw3)) (View.ld (iblk m c 3 t) (Rect.unit (s := S5x1536) ![4, off] S1x256.size iw4)) s0 s1 s2 s3 s4 p q)
      = convAt (m ((c : Thread nD τ).loc main_arg0)) (m ((c : Thread nD τ).loc main_arg1)) (m ((c : Thread nD τ).loc main_arg2)) (m ((c : Thread nD τ).loc main_arg3)) (m ((c : Thread nD τ).loc main_arg4)) (⟨t.val * 256 + p.val, by omega⟩ : Fin 512) (⟨off + q.val, by omega⟩ : Fin 1536) := by
  subst hs0 hs1 hs2 hs3 hs4
  refine Eq.trans (congrArg silu ?_) (conv_cols m c _ _)
  unfold lin conv5
  exact congrArg₂ (fun a b : EReal => a + b) (congrArg₂ (fun a b : EReal => a + b) (congrArg₂ (fun a b : EReal => a + b) (congrArg₂ (fun a b : EReal => a + b) (congrArg₂ (fun a b : EReal => a + b)
    (bias_ld m c t off hoff ib q)
    (congrArg₂ (fun a b : EReal => a * b) (weight_ld m c t off hoff 0 iw0 q) (ext_ld m c t off hoff 0 is0 p q)))
    (congrArg₂ (fun a b : EReal => a * b) (weight_ld m c t off hoff 1 iw1 q) (ext_ld m c t off hoff 1 is1 p q)))
    (congrArg₂ (fun a b : EReal => a * b) (weight_ld m c t off hoff 2 iw2 q) (ext_ld m c t off hoff 2 is2 p q)))
    (congrArg₂ (fun a b : EReal => a * b) (weight_ld m c t off hoff 3 iw3 q) (ext_ld m c t off hoff 3 is3 p q)))
    (congrArg₂ (fun a b : EReal => a * b) (weight_ld m c t off hoff 4 iw4 q) (ext_ld m c t off hoff 4 is4 p q))

/-- What grid point `t` leaves. -/
theorem outs_apply (c : Dev nD) (t : Fin cfg0.N) (G : Vec Ideal S256x1536 .bf16) (hG : ∀ y, G y = convAt (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) (y 1)) (y : S256x1536.Idx) :
    outsAt0 m c t y = G y := by
  unfold outsAt0 out0_A_5
  rw [View.read_writes_eq_canon _ _ _ (fun y => cover0_A_5 c _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread]
  refine View.canon_apply_of_pieces (Val := Elt Ideal) (e := .bf16) G _ ?_ y ?_
  · simp only [List.forall_mem_cons]
    refine ⟨fun x => ?_, fun x => ?_, fun x => ?_, fun x => ?_, fun x => ?_, fun x => ?_, fun p hp => absurd hp (List.not_mem_nil)⟩
    · refine (congrArg _ (Idealize.ShloMosaic.eq_ix2 (n0 := 256) (n1 := 256) x)).trans ((piece5 _ _ _ _ _ _ _ _ _ _ _ (x 0) (x 1)).trans ((piece m c t 1280 (by norm_num) _ inb_S5x1536_S1x256_0_1280 inb_S288x1536_S256x256_14_1280 inb_S5x1536_S1x256_1_1280 inb_S288x1536_S256x256_15_1280 inb_S5x1536_S1x256_2_1280 inb_S288x1536_S256x256_16_1280 inb_S5x1536_S1x256_3_1280 inb_S288x1536_S256x256_17_1280 inb_S5x1536_S1x256_4_1280 inb_S288x1536_S256x256_18_1280 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 1280] S256x256.size inb_S256x1536_S256x256_0_1280 x 0).symm)))
        (Fin.ext (Rect.idx_unit_val (s := S256x1536) ![0, 1280] S256x256.size inb_S256x1536_S256x256_0_1280 x 1).symm)).trans (hG _).symm
    · refine (congrArg _ (Idealize.ShloMosaic.eq_ix2 (n0 := 256) (n1 := 256) x)).trans ((piece4 _ _ _ _ _ _ _ _ _ _ _ (x 0) (x 1)).trans ((piece m c t 1024 (by norm_num) _ inb_S5x1536_S1x256_0_1024 inb_S288x1536_S256x256_14_1024 inb_S5x1536_S1x256_1_1024 inb_S288x1536_S256x256_15_1024 inb_S5x1536_S1x256_2_1024 inb_S288x1536_S256x256_16_1024 inb_S5x1536_S1x256_3_1024 inb_S288x1536_S256x256_17_1024 inb_S5x1536_S1x256_4_1024 inb_S288x1536_S256x256_18_1024 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 1024] S256x256.size inb_S256x1536_S256x256_0_1024 x 0).symm)))
        (Fin.ext (Rect.idx_unit_val (s := S256x1536) ![0, 1024] S256x256.size inb_S256x1536_S256x256_0_1024 x 1).symm)).trans (hG _).symm
    · refine (congrArg _ (Idealize.ShloMosaic.eq_ix2 (n0 := 256) (n1 := 256) x)).trans ((piece3 _ _ _ _ _ _ _ _ _ _ _ (x 0) (x 1)).trans ((piece m c t 768 (by norm_num) _ inb_S5x1536_S1x256_0_768 inb_S288x1536_S256x256_14_768 inb_S5x1536_S1x256_1_768 inb_S288x1536_S256x256_15_768 inb_S5x1536_S1x256_2_768 inb_S288x1536_S256x256_16_768 inb_S5x1536_S1x256_3_768 inb_S288x1536_S256x256_17_768 inb_S5x1536_S1x256_4_768 inb_S288x1536_S256x256_18_768 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 768] S256x256.size inb_S256x1536_S256x256_0_768 x 0).symm)))
        (Fin.ext (Rect.idx_unit_val (s := S256x1536) ![0, 768] S256x256.size inb_S256x1536_S256x256_0_768 x 1).symm)).trans (hG _).symm
    · refine (congrArg _ (Idealize.ShloMosaic.eq_ix2 (n0 := 256) (n1 := 256) x)).trans ((piece2 _ _ _ _ _ _ _ _ _ _ _ (x 0) (x 1)).trans ((piece m c t 512 (by norm_num) _ inb_S5x1536_S1x256_0_512 inb_S288x1536_S256x256_14_512 inb_S5x1536_S1x256_1_512 inb_S288x1536_S256x256_15_512 inb_S5x1536_S1x256_2_512 inb_S288x1536_S256x256_16_512 inb_S5x1536_S1x256_3_512 inb_S288x1536_S256x256_17_512 inb_S5x1536_S1x256_4_512 inb_S288x1536_S256x256_18_512 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 512] S256x256.size inb_S256x1536_S256x256_0_512 x 0).symm)))
        (Fin.ext (Rect.idx_unit_val (s := S256x1536) ![0, 512] S256x256.size inb_S256x1536_S256x256_0_512 x 1).symm)).trans (hG _).symm
    · refine (congrArg _ (Idealize.ShloMosaic.eq_ix2 (n0 := 256) (n1 := 256) x)).trans ((piece1 _ _ _ _ _ _ _ _ _ _ _ (x 0) (x 1)).trans ((piece m c t 256 (by norm_num) _ inb_S5x1536_S1x256_0_256 inb_S288x1536_S256x256_14_256 inb_S5x1536_S1x256_1_256 inb_S288x1536_S256x256_15_256 inb_S5x1536_S1x256_2_256 inb_S288x1536_S256x256_16_256 inb_S5x1536_S1x256_3_256 inb_S288x1536_S256x256_17_256 inb_S5x1536_S1x256_4_256 inb_S288x1536_S256x256_18_256 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 256] S256x256.size inb_S256x1536_S256x256_0_256 x 0).symm)))
        (Fin.ext (Rect.idx_unit_val (s := S256x1536) ![0, 256] S256x256.size inb_S256x1536_S256x256_0_256 x 1).symm)).trans (hG _).symm
    · refine (congrArg _ (Idealize.ShloMosaic.eq_ix2 (n0 := 256) (n1 := 256) x)).trans ((piece0 _ _ _ _ _ _ _ _ _ _ _ (x 0) (x 1)).trans ((piece m c t 0 (by norm_num) _ inb_S5x1536_S1x256_0_0 inb_S288x1536_S256x256_14_0 inb_S5x1536_S1x256_1_0 inb_S288x1536_S256x256_15_0 inb_S5x1536_S1x256_2_0 inb_S288x1536_S256x256_16_0 inb_S5x1536_S1x256_3_0 inb_S288x1536_S256x256_17_0 inb_S5x1536_S1x256_4_0 inb_S288x1536_S256x256_18_0 _ _ _ _ _ ?_ ?_ ?_ ?_ ?_ (x 0) (x 1)).trans ?_))
      iterate 5 exact read_ext m c t _ rfl _
      exact (congrArg₂ (convAt (m ((c : Thread nD τ).loc main_arg0)) (m ((c : Thread nD τ).loc main_arg1)) (m ((c : Thread nD τ).loc main_arg2)) (m ((c : Thread nD τ).loc main_arg3)) (m ((c : Thread nD τ).loc main_arg4))) (congrArg (rowOf t) (Fin.ext ((Nat.zero_add _).symm.trans (Rect.idx_unit_val (s := S256x1536) ![0, 0] S256x256.size inb_S256x1536_S256x256_0_0 x 0).symm)))
        (Fin.ext (Rect.idx_unit_val (s := S256x1536) ![0, 0] S256x256.size inb_S256x1536_S256x256_0_0 x 1).symm)).trans (hG _).symm
  · exact View.cover_of_tiledL (s := S256x1536) _ (![256, 256] : Fin 2 → ℕ) (by sl_kernel_rfl) y

theorem split_idx (i : S512x1536.Idx) : ∃ (t : Fin 2) (p : Fin 256) (q : Fin 1536), i = Idealize.ShloMosaic.ix2 (⟨t.val * 256 + p.val, by omega⟩ : Fin 512) q := by
  have h0 : (i 0).val < 512 := (i 0).isLt
  refine ⟨⟨(i 0).val / 256, by omega⟩, ⟨(i 0).val % 256, Nat.mod_lt _ (by decide)⟩, i 1, (Idealize.ShloMosaic.eq_ix2 (n0 := 512) (n1 := 1536) i).trans ?_⟩
  refine congrArg (fun z : Fin 512 => (Idealize.ShloMosaic.ix2 z (i 1) : S512x1536.Idx)) (Fin.ext ?_)
  show (i 0).val = (i 0).val / 256 * 256 + (i 0).val % 256
  omega

theorem final5 (c : Dev nD) : (dats m 0 c).arrAt 5 cfg0.N = convOf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_emb 5 _ (fun t hf y => ?_) fun i => ?_
  · blk_simp
    rw [after0_5]
    refine (outs_apply m c t (fun y => convAt (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) (y 1)) (fun _ => rfl) y).trans ?_
    obtain ⟨p, q, rfl⟩ : ∃ (p : Fin 256) (q : Fin 1536), y = Idealize.ShloMosaic.ix2 p q := ⟨y 0, y 1, Idealize.ShloMosaic.eq_ix2 (n0 := 256) (n1 := 1536) y⟩
    rw [emb5 t p q]
    rfl
  · obtain ⟨t, p, q, h⟩ := split_idx i
    refine ⟨t, flush0_5 _, ?_⟩
    rw [h.trans (emb5 t p q).symm]
    exact View.emb_mem_set _ _

end Cert.Proof.ContextConvolution

end
-- ==== Proof.ContextConvolutionReference.lean ====
/- The context's convolution: what the reference computes. -/
module

public import proofs.«01_k».proof.Proof.ContextConvolutionSpec
public import proofs.«01_k».proof.Proof.Gen.ContextConvolutionReferenceIdeal.Run
public import Idealize.ShloMosaic.Lib.Pipeline.ValueKit
public import Idealize.ShloMosaic.Lib.Pipeline.ValueKit.Point
public import Idealize.ShloMosaic.Lib.Pointwise

@[expose] public section

noncomputable section

namespace Cert.Proof.ContextConvolution

open Idealize.ShloMosaic Idealize.ShloMosaic.TcCoe Idealize.SL.Sem
open Cert.ContextConvolutionReferenceIdeal Cert.ContextConvolutionReferenceIdeal.Value Cert.ContextConvolutionReferenceIdeal.Gen

/-- The first 1280 columns, with two rows of zeros before and after each sequence. -/
def padA (u : Vec Ideal S512x1536 .bf16) : Vec Ideal S2x260x1280 .f32 :=
  pad S2x260x1280 ![0, 2, 0] ![0, 2, 0] ![0, 0, 0] (extractStridedSlice S2x256x1280 ![0, 0, 0] (shapeCast _ (extf (F := Ideal) .f32 u bitsLt_bf16_f32) shapeCasts_S512x1536_S2x256x1536) slices_S2x256x1536_S2x256x1280_0_0_0) (sitofp (F := Ideal) .f32 (constantI S_ 32 0#32)) pads_S2x256x1280_S2x260x1280_000_220_000 h_S_

/-- The five shifted products and the bias. -/
def sumA (P : Vec Ideal S2x260x1280 .f32) (w : Vec Ideal S5x1280 .f32) (b : Vec Ideal S1280 .f32) : Vec Ideal S2x256x1280 .f32 :=
  addf (F := Ideal) (addf (F := Ideal) (addf (F := Ideal) (addf (F := Ideal) (addf (F := Ideal) (addf (F := Ideal) (broadcastInDim S2x256x1280 ![] bcast_S_S2x256x1280 (constant (F := Ideal) S_ .f32 0x00000000#32)) (mulf (F := Ideal) (broadcastInDim S2x256x1280 ![0, 1, 2] bcast_S1x1x1280_S2x256x1280_0_1_2 (broadcastInDim S1x1x1280 ![2] bcast_S1280_S1x1x1280_2 (shapeCast _ (extractStridedSlice S1x1280 ![0, 0] w slices_S5x1280_S1x1280_0_0) shapeCasts_S1x1280_S1280))) (extractStridedSlice S2x256x1280 ![0, 0, 0] P slices_S2x260x1280_S2x256x1280_0_0_0))) (mulf (F := Ideal) (broadcastInDim S2x256x1280 ![0, 1, 2] bcast_S1x1x1280_S2x256x1280_0_1_2 (broadcastInDim S1x1x1280 ![2] bcast_S1280_S1x1x1280_2 (shapeCast _ (extractStridedSlice S1x1280 ![1, 0] w slices_S5x1280_S1x1280_1_0) shapeCasts_S1x1280_S1280))) (extractStridedSlice S2x256x1280 ![0, 1, 0] P slices_S2x260x1280_S2x256x1280_0_1_0))) (mulf (F := Ideal) (broadcastInDim S2x256x1280 ![0, 1, 2] bcast_S1x1x1280_S2x256x1280_0_1_2 (broadcastInDim S1x1x1280 ![2] bcast_S1280_S1x1x1280_2 (shapeCast _ (extractStridedSlice S1x1280 ![2, 0] w slices_S5x1280_S1x1280_2_0) shapeCasts_S1x1280_S1280))) (extractStridedSlice S2x256x1280 ![0, 2, 0] P slices_S2x260x1280_S2x256x1280_0_2_0))) (mulf (F := Ideal) (broadcastInDim S2x256x1280 ![0, 1, 2] bcast_S1x1x1280_S2x256x1280_0_1_2 (broadcastInDim S1x1x1280 ![2] bcast_S1280_S1x1x1280_2 (shapeCast _ (extractStridedSlice S1x1280 ![3, 0] w slices_S5x1280_S1x1280_3_0) shapeCasts_S1x1280_S1280))) (extractStridedSlice S2x256x1280 ![0, 3, 0] P slices_S2x260x1280_S2x256x1280_0_3_0))) (mulf (F := Ideal) (broadcastInDim S2x256x1280 ![0, 1, 2] bcast_S1x1x1280_S2x256x1280_0_1_2 (broadcastInDim S1x1x1280 ![2] bcast_S1280_S1x1x1280_2 (shapeCast _ (extractStridedSlice S1x1280 ![4, 0] w slices_S5x1280_S1x1280_4_0) shapeCasts_S1x1280_S1280))) (extractStridedSlice S2x256x1280 ![0, 4, 0] P slices_S2x260x1280_S2x256x1280_0_4_0))) (broadcastInDim S2x256x1280 ![0, 1, 2] bcast_S1x1x1280_S2x256x1280_0_1_2 (broadcastInDim S1x1x1280 ![2] bcast_S1280_S1x1x1280_2 b))

/-- A value times its logistic. -/
def actA (Y : Vec Ideal S2x256x1280 .f32) : Vec Ideal S2x256x1280 .f32 :=
  mulf (F := Ideal) Y (Host.divf (F := Ideal) (broadcastInDim S2x256x1280 ![] bcast_S_S2x256x1280 (constant (F := Ideal) S_ .f32 0x3F800000#32)) (addf (F := Ideal) (broadcastInDim S2x256x1280 ![] bcast_S_S2x256x1280 (constant (F := Ideal) S_ .f32 0x3F800000#32)) (Host.exp (F := Ideal) (Host.negf (F := Ideal) Y))))

theorem actA_apply (Y : Vec Ideal S2x256x1280 .f32) (s : Fin 2) (i : Fin 256) (q : Fin 1280) :
    actA Y (Idealize.ShloMosaic.ix3 s i q) = silu (Y (Idealize.ShloMosaic.ix3 s i q)) := by
  unfold silu Ideal.logistic
  pointwise [actA]

theorem sumA_apply (P : Vec Ideal S2x260x1280 .f32) (w : Vec Ideal S5x1280 .f32) (b : Vec Ideal S1280 .f32) (s : Fin 2) (i : Fin 256) (q : Fin 1280) :
    sumA P w b (Idealize.ShloMosaic.ix3 s i q) = conv5 (b (Idealize.ShloMosaic.ix1 q)) (fun k => w (Idealize.ShloMosaic.ix2 k q))
      (fun k => P (Idealize.ShloMosaic.ix3 s (⟨k.val + i.val, by omega⟩ : Fin 260) q)) := by
  have h : sumA P w b (Idealize.ShloMosaic.ix3 s i q) = (0 + w (Idealize.ShloMosaic.ix2 (0 : Fin 5) q) * P (Idealize.ShloMosaic.ix3 s (⟨0 + i.val, by omega⟩ : Fin 260) q)
      + w (Idealize.ShloMosaic.ix2 (1 : Fin 5) q) * P (Idealize.ShloMosaic.ix3 s (⟨1 + i.val, by omega⟩ : Fin 260) q)
      + w (Idealize.ShloMosaic.ix2 (2 : Fin 5) q) * P (Idealize.ShloMosaic.ix3 s (⟨2 + i.val, by omega⟩ : Fin 260) q)
      + w (Idealize.ShloMosaic.ix2 (3 : Fin 5) q) * P (Idealize.ShloMosaic.ix3 s (⟨3 + i.val, by omega⟩ : Fin 260) q)
      + w (Idealize.ShloMosaic.ix2 (4 : Fin 5) q) * P (Idealize.ShloMosaic.ix3 s (⟨4 + i.val, by omega⟩ : Fin 260) q)
      + b (Idealize.ShloMosaic.ix1 q) : EReal) := by
    pointwise [sumA]
  refine h.trans ?_
  rw [zero_add, add_comm _ (b (Idealize.ShloMosaic.ix1 q) : EReal)]
  unfold conv5
  simp only [← add_assoc]
  rfl

theorem padA_mid (u : Vec Ideal S512x1536 .bf16) (s : Fin 2) (i : Fin 256) (q : Fin 1280) :
    padA u (Idealize.ShloMosaic.ix3 s (⟨2 + i.val, by omega⟩ : Fin 260) q) = u (Idealize.ShloMosaic.ix2 (⟨s.val * 256 + i.val, by omega⟩ : Fin 512) (⟨q.val, by omega⟩ : Fin 1536)) := by
  pointwise [padA]

theorem padA_lo (u : Vec Ideal S512x1536 .bf16) (s : Fin 2) (i : Fin 2) (q : Fin 1280) :
    padA u (Idealize.ShloMosaic.ix3 s (⟨i.val, by omega⟩ : Fin 260) q) = (0 : EReal) := by
  pointwise [padA]
  show (((0#32).toInt : ℝ) : EReal) = 0
  simp

theorem padA_hi (u : Vec Ideal S512x1536 .bf16) (s : Fin 2) (i : Fin 2) (q : Fin 1280) :
    padA u (Idealize.ShloMosaic.ix3 s (⟨258 + i.val, by omega⟩ : Fin 260) q) = (0 : EReal) := by
  pointwise [padA]
  rw [dif_neg (by omega)]
  show (((0#32).toInt : ℝ) : EReal) = 0
  simp

/-- The padded rows a result row reads. -/
theorem padA_tap (u : Vec Ideal S512x1536 .bf16) (r : Fin 512) (q : Fin 1280) (k : Fin 5) :
    padA u (Idealize.ShloMosaic.ix3 (⟨r.val / 256, by omega⟩ : Fin 2) (⟨k.val + r.val % 256, by omega⟩ : Fin 260) q) = tap u (⟨q.val, by omega⟩ : Fin 1536) r k := by
  unfold tap
  by_cases h : 2 ≤ r.val % 256 + k.val ∧ r.val % 256 + k.val < 258
  · rw [dif_pos h]
    have e : (⟨k.val + r.val % 256, by omega⟩ : Fin 260) = ⟨2 + (k.val + r.val % 256 - 2), by omega⟩ := Fin.ext (by show k.val + r.val % 256 = 2 + (k.val + r.val % 256 - 2); omega)
    rw [e]
    refine (padA_mid u _ ⟨k.val + r.val % 256 - 2, by omega⟩ q).trans ?_
    refine congrArg (fun z : Fin 512 => u (Idealize.ShloMosaic.ix2 z (⟨q.val, by omega⟩ : Fin 1536))) (Fin.ext ?_)
    show (r.val / 256) * 256 + (k.val + r.val % 256 - 2) = r.val + k.val - 2
    omega
  · rw [dif_neg h]
    by_cases h2 : r.val % 256 + k.val < 2
    · exact padA_lo u _ ⟨k.val + r.val % 256, by omega⟩ q
    · have e : (⟨k.val + r.val % 256, by omega⟩ : Fin 260) = ⟨258 + (k.val + r.val % 256 - 258), by omega⟩ := Fin.ext (by show k.val + r.val % 256 = 258 + (k.val + r.val % 256 - 258); omega)
      rw [e]
      exact padA_hi u _ ⟨k.val + r.val % 256 - 258, by omega⟩ q

/-- The last 256 columns, with two rows of zeros before and after each sequence. -/
def padB (u : Vec Ideal S512x1536 .bf16) : Vec Ideal S2x260x256 .f32 :=
  pad S2x260x256 ![0, 2, 0] ![0, 2, 0] ![0, 0, 0] (extractStridedSlice S2x256x256 ![0, 0, 1280] (shapeCast _ (extf (F := Ideal) .f32 u bitsLt_bf16_f32) shapeCasts_S512x1536_S2x256x1536) slices_S2x256x1536_S2x256x256_0_0_1280) (sitofp (F := Ideal) .f32 (constantI S_ 32 0#32)) pads_S2x256x256_S2x260x256_000_220_000 h_S_

/-- The five shifted products and the bias. -/
def sumB (P : Vec Ideal S2x260x256 .f32) (w : Vec Ideal S5x256 .f32) (b : Vec Ideal S256 .f32) : Vec Ideal S2x256x256 .f32 :=
  addf (F := Ideal) (addf (F := Ideal) (addf (F := Ideal) (addf (F := Ideal) (addf (F := Ideal) (addf (F := Ideal) (broadcastInDim S2x256x256 ![] bcast_S_S2x256x256 (constant (F := Ideal) S_ .f32 0x00000000#32)) (mulf (F := Ideal) (broadcastInDim S2x256x256 ![0, 1, 2] bcast_S1x1x256_S2x256x256_0_1_2 (broadcastInDim S1x1x256 ![2] bcast_S256_S1x1x256_2 (shapeCast _ (extractStridedSlice S1x256 ![0, 0] w slices_S5x256_S1x256_0_0) shapeCasts_S1x256_S256))) (extractStridedSlice S2x256x256 ![0, 0, 0] P slices_S2x260x256_S2x256x256_0_0_0))) (mulf (F := Ideal) (broadcastInDim S2x256x256 ![0, 1, 2] bcast_S1x1x256_S2x256x256_0_1_2 (broadcastInDim S1x1x256 ![2] bcast_S256_S1x1x256_2 (shapeCast _ (extractStridedSlice S1x256 ![1, 0] w slices_S5x256_S1x256_1_0) shapeCasts_S1x256_S256))) (extractStridedSlice S2x256x256 ![0, 1, 0] P slices_S2x260x256_S2x256x256_0_1_0))) (mulf (F := Ideal) (broadcastInDim S2x256x256 ![0, 1, 2] bcast_S1x1x256_S2x256x256_0_1_2 (broadcastInDim S1x1x256 ![2] bcast_S256_S1x1x256_2 (shapeCast _ (extractStridedSlice S1x256 ![2, 0] w slices_S5x256_S1x256_2_0) shapeCasts_S1x256_S256))) (extractStridedSlice S2x256x256 ![0, 2, 0] P slices_S2x260x256_S2x256x256_0_2_0))) (mulf (F := Ideal) (broadcastInDim S2x256x256 ![0, 1, 2] bcast_S1x1x256_S2x256x256_0_1_2 (broadcastInDim S1x1x256 ![2] bcast_S256_S1x1x256_2 (shapeCast _ (extractStridedSlice S1x256 ![3, 0] w slices_S5x256_S1x256_3_0) shapeCasts_S1x256_S256))) (extractStridedSlice S2x256x256 ![0, 3, 0] P slices_S2x260x256_S2x256x256_0_3_0))) (mulf (F := Ideal) (broadcastInDim S2x256x256 ![0, 1, 2] bcast_S1x1x256_S2x256x256_0_1_2 (broadcastInDim S1x1x256 ![2] bcast_S256_S1x1x256_2 (shapeCast _ (extractStridedSlice S1x256 ![4, 0] w slices_S5x256_S1x256_4_0) shapeCasts_S1x256_S256))) (extractStridedSlice S2x256x256 ![0, 4, 0] P slices_S2x260x256_S2x256x256_0_4_0))) (broadcastInDim S2x256x256 ![0, 1, 2] bcast_S1x1x256_S2x256x256_0_1_2 (broadcastInDim S1x1x256 ![2] bcast_S256_S1x1x256_2 b))

/-- A value times its logistic. -/
def actB (Y : Vec Ideal S2x256x256 .f32) : Vec Ideal S2x256x256 .f32 :=
  mulf (F := Ideal) Y (Host.divf (F := Ideal) (broadcastInDim S2x256x256 ![] bcast_S_S2x256x256 (constant (F := Ideal) S_ .f32 0x3F800000#32)) (addf (F := Ideal) (broadcastInDim S2x256x256 ![] bcast_S_S2x256x256 (constant (F := Ideal) S_ .f32 0x3F800000#32)) (Host.exp (F := Ideal) (Host.negf (F := Ideal) Y))))

theorem actB_apply (Y : Vec Ideal S2x256x256 .f32) (s : Fin 2) (i : Fin 256) (q : Fin 256) :
    actB Y (Idealize.ShloMosaic.ix3 s i q) = silu (Y (Idealize.ShloMosaic.ix3 s i q)) := by
  unfold silu Ideal.logistic
  pointwise [actB]

theorem sumB_apply (P : Vec Ideal S2x260x256 .f32) (w : Vec Ideal S5x256 .f32) (b : Vec Ideal S256 .f32) (s : Fin 2) (i : Fin 256) (q : Fin 256) :
    sumB P w b (Idealize.ShloMosaic.ix3 s i q) = conv5 (b (Idealize.ShloMosaic.ix1 q)) (fun k => w (Idealize.ShloMosaic.ix2 k q))
      (fun k => P (Idealize.ShloMosaic.ix3 s (⟨k.val + i.val, by omega⟩ : Fin 260) q)) := by
  have h : sumB P w b (Idealize.ShloMosaic.ix3 s i q) = (0 + w (Idealize.ShloMosaic.ix2 (0 : Fin 5) q) * P (Idealize.ShloMosaic.ix3 s (⟨0 + i.val, by omega⟩ : Fin 260) q)
      + w (Idealize.ShloMosaic.ix2 (1 : Fin 5) q) * P (Idealize.ShloMosaic.ix3 s (⟨1 + i.val, by omega⟩ : Fin 260) q)
      + w (Idealize.ShloMosaic.ix2 (2 : Fin 5) q) * P (Idealize.ShloMosaic.ix3 s (⟨2 + i.val, by omega⟩ : Fin 260) q)
      + w (Idealize.ShloMosaic.ix2 (3 : Fin 5) q) * P (Idealize.ShloMosaic.ix3 s (⟨3 + i.val, by omega⟩ : Fin 260) q)
      + w (Idealize.ShloMosaic.ix2 (4 : Fin 5) q) * P (Idealize.ShloMosaic.ix3 s (⟨4 + i.val, by omega⟩ : Fin 260) q)
      + b (Idealize.ShloMosaic.ix1 q) : EReal) := by
    pointwise [sumB]
  refine h.trans ?_
  rw [zero_add, add_comm _ (b (Idealize.ShloMosaic.ix1 q) : EReal)]
  unfold conv5
  simp only [← add_assoc]
  rfl

theorem padB_mid (u : Vec Ideal S512x1536 .bf16) (s : Fin 2) (i : Fin 256) (q : Fin 256) :
    padB u (Idealize.ShloMosaic.ix3 s (⟨2 + i.val, by omega⟩ : Fin 260) q) = u (Idealize.ShloMosaic.ix2 (⟨s.val * 256 + i.val, by omega⟩ : Fin 512) (⟨1280 + q.val, by omega⟩ : Fin 1536)) := by
  pointwise [padB]

theorem padB_lo (u : Vec Ideal S512x1536 .bf16) (s : Fin 2) (i : Fin 2) (q : Fin 256) :
    padB u (Idealize.ShloMosaic.ix3 s (⟨i.val, by omega⟩ : Fin 260) q) = (0 : EReal) := by
  pointwise [padB]
  show (((0#32).toInt : ℝ) : EReal) = 0
  simp

theorem padB_hi (u : Vec Ideal S512x1536 .bf16) (s : Fin 2) (i : Fin 2) (q : Fin 256) :
    padB u (Idealize.ShloMosaic.ix3 s (⟨258 + i.val, by omega⟩ : Fin 260) q) = (0 : EReal) := by
  pointwise [padB]
  rw [dif_neg (by omega)]
  show (((0#32).toInt : ℝ) : EReal) = 0
  simp

/-- The padded rows a result row reads. -/
theorem padB_tap (u : Vec Ideal S512x1536 .bf16) (r : Fin 512) (q : Fin 256) (k : Fin 5) :
    padB u (Idealize.ShloMosaic.ix3 (⟨r.val / 256, by omega⟩ : Fin 2) (⟨k.val + r.val % 256, by omega⟩ : Fin 260) q) = tap u (⟨1280 + q.val, by omega⟩ : Fin 1536) r k := by
  unfold tap
  by_cases h : 2 ≤ r.val % 256 + k.val ∧ r.val % 256 + k.val < 258
  · rw [dif_pos h]
    have e : (⟨k.val + r.val % 256, by omega⟩ : Fin 260) = ⟨2 + (k.val + r.val % 256 - 2), by omega⟩ := Fin.ext (by show k.val + r.val % 256 = 2 + (k.val + r.val % 256 - 2); omega)
    rw [e]
    refine (padB_mid u _ ⟨k.val + r.val % 256 - 2, by omega⟩ q).trans ?_
    refine congrArg (fun z : Fin 512 => u (Idealize.ShloMosaic.ix2 z (⟨1280 + q.val, by omega⟩ : Fin 1536))) (Fin.ext ?_)
    show (r.val / 256) * 256 + (k.val + r.val % 256 - 2) = r.val + k.val - 2
    omega
  · rw [dif_neg h]
    by_cases h2 : r.val % 256 + k.val < 2
    · exact padB_lo u _ ⟨k.val + r.val % 256, by omega⟩ q
    · have e : (⟨k.val + r.val % 256, by omega⟩ : Fin 260) = ⟨258 + (k.val + r.val % 256 - 258), by omega⟩ := Fin.ext (by show k.val + r.val % 256 = 258 + (k.val + r.val % 256 - 258); omega)
      rw [e]
      exact padB_hi u _ ⟨k.val + r.val % 256 - 258, by omega⟩ q

/-- The two parts side by side. -/
def both (RA : Vec Ideal S2x256x1280 .f32) (RB : Vec Ideal S2x256x256 .f32) : Vec Ideal S512x1536 .bf16 :=
  truncf (F := Ideal) .bf16 (shapeCast _ (concatenate S2x256x1536 2 [⟨S2x256x1280, RA⟩, ⟨S2x256x256, RB⟩] concatenates_S2x256x1280_S2x256x256_S2x256x1536_d2) shapeCasts_S2x256x1536_S512x1536) bitsLt_bf16_f32

theorem both_left (RA : Vec Ideal S2x256x1280 .f32) (RB : Vec Ideal S2x256x256 .f32) (r : Fin 512) (q : Fin 1280) :
    both RA RB (Idealize.ShloMosaic.ix2 r (⟨q.val, by omega⟩ : Fin 1536)) = RA (Idealize.ShloMosaic.ix3 (⟨r.val / 256, by omega⟩ : Fin 2) (⟨r.val % 256, by omega⟩ : Fin 256) q) := by
  pointwise [both]

theorem both_right (RA : Vec Ideal S2x256x1280 .f32) (RB : Vec Ideal S2x256x256 .f32) (r : Fin 512) (q : Fin 256) :
    both RA RB (Idealize.ShloMosaic.ix2 r (⟨1280 + q.val, by omega⟩ : Fin 1536)) = RB (Idealize.ShloMosaic.ix3 (⟨r.val / 256, by omega⟩ : Fin 2) (⟨r.val % 256, by omega⟩ : Fin 256) q) := by
  pointwise [both]

section Values

variable (u : Vec Ideal S512x1536 .bf16) (w1 : Vec Ideal S5x1280 .f32) (b1 : Vec Ideal S1280 .f32)
    (w2 : Vec Ideal S5x256 .f32) (b2 : Vec Ideal S256 .f32)

/-- The reference's result. -/
def refOut : Vec Ideal S512x1536 .bf16 := both (actA (sumA (padA u) w1 b1)) (actB (sumB (padB u) w2 b2))

theorem refOut_eq : refOut u w1 b1 w2 b2 = convOf u w1 b1 w2 b2 := by
  funext i
  have h1 : (i 1).val < 1536 := (i 1).isLt
  refine (congrArg _ (Idealize.ShloMosaic.eq_ix2 (n0 := 512) (n1 := 1536) i)).trans ?_
  unfold convOf convAt
  by_cases h : (i 1).val < 1280
  · rw [dif_pos h]
    refine (both_left _ _ (i 0) ⟨(i 1).val, h⟩).trans ?_
    refine (actA_apply _ _ _ _).trans (congrArg silu ?_)
    refine (sumA_apply _ _ _ _ _ _).trans ?_
    exact congrArg (conv5 _ _) (funext fun k => padA_tap u (i 0) ⟨(i 1).val, h⟩ k)
  · rw [dif_neg h]
    have e : (i 1 : Fin 1536) = ⟨1280 + ((i 1).val - 1280), by omega⟩ := Fin.ext (by show (i 1).val = 1280 + ((i 1).val - 1280); omega)
    refine (congrArg (fun z : Fin 1536 => refOut u w1 b1 w2 b2 (Idealize.ShloMosaic.ix2 (i 0) z)) e).trans ?_
    refine (both_right _ _ (i 0) ⟨(i 1).val - 1280, by omega⟩).trans ?_
    refine (actB_apply _ _ _ _).trans (congrArg silu ?_)
    refine (sumB_apply _ _ _ _ _ _).trans ?_
    exact congrArg (conv5 _ _) (funext fun k => (padB_tap u (i 0) ⟨(i 1).val - 1280, by omega⟩ k).trans (congrArg (fun z : Fin 1536 => tap u z (i 0) k) e.symm))

end Values

/-- What every run of the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = convOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ContextConvolutionReferenceIdeal.Value.run (F := Ideal) m ρ)
  obtain ⟨e0, rest⟩ := h c
  exact ⟨e0.trans (refOut_eq _ _ _ _ _), rest⟩

end Cert.Proof.ContextConvolution

end
-- ==== Proof.ContextConvolutionClaims.lean ====
/- The context's convolution: the claims. -/
module

public import proofs.«01_k».proof.Defs
public import proofs.«01_k».proof.Proof.Gen.ContextConvolution.Frame
public import proofs.«01_k».proof.Proof.Gen.ContextConvolutionIdeal.Value
public import proofs.«01_k».proof.Proof.ContextConvolutionValue
public import proofs.«01_k».proof.Proof.ContextConvolutionReference

@[expose] public section

noncomputable section

namespace Cert.Proof.ContextConvolution

open Idealize.ShloMosaic Idealize.ShloMosaic.TcCoe Idealize.SL.Sem

theorem frame_kernel : Cert.quiescent_ContextConvolution := fun m ρ _ => Cert.ContextConvolution.Gen.frame (F := Bits) m ρ

theorem frame_ideal : Cert.quiescent_ContextConvolutionIdeal := fun m ρ _ => Cert.ContextConvolutionIdeal.Gen.frame (F := Ideal) m ρ

theorem frame_reference_ideal : Cert.quiescent_ContextConvolutionReferenceIdeal := fun m ρ _ =>
  (θ_run Cert.ContextConvolutionReferenceIdeal.defs _ _).mono (fun r h => ⟨fun c => (h c).2, sem_eq_zero_of_no_sems rfl r.2⟩)
    (Cert.ContextConvolutionReferenceIdeal.Value.run (F := Ideal) m ρ)

open Cert.ContextConvolutionIdeal in
/-- Equal arguments, equal results. -/
theorem congr_args {x0 y0 : Vec Ideal S512x1536 .bf16} {x1 y1 : Vec Ideal S5x1280 .f32} {x2 y2 : Vec Ideal S1280 .f32}
    {x3 y3 : Vec Ideal S5x256 .f32} {x4 y4 : Vec Ideal S256 .f32}
    (h0 : x0 = y0) (h1 : x1 = y1) (h2 : x2 = y2) (h3 : x3 = y3) (h4 : x4 = y4) : convOf x0 x1 x2 x3 x4 = convOf y0 y1 y2 y3 y4 := by
  subst h0 h1 h2 h3 h4; rfl

theorem algebraic : Cert.algebraic_ContextConvolutionIdeal_ContextConvolutionReferenceIdeal := by
  intro m ρ m' ρ' _ hm
  refine ⟨fun c => convOf (m ((c.tc : Thread Cert.ContextConvolutionIdeal.nD Cert.ContextConvolutionIdeal.τ).loc Cert.ContextConvolutionIdeal.main_arg0)) (m ((c.tc : Thread Cert.ContextConvolutionIdeal.nD Cert.ContextConvolutionIdeal.τ).loc Cert.ContextConvolutionIdeal.main_arg1)) (m ((c.tc : Thread Cert.ContextConvolutionIdeal.nD Cert.ContextConvolutionIdeal.τ).loc Cert.ContextConvolutionIdeal.main_arg2)) (m ((c.tc : Thread Cert.ContextConvolutionIdeal.nD Cert.ContextConvolutionIdeal.τ).loc Cert.ContextConvolutionIdeal.main_arg3)) (m ((c.tc : Thread Cert.ContextConvolutionIdeal.nD Cert.ContextConvolutionIdeal.τ).loc Cert.ContextConvolutionIdeal.main_arg4)), ?_, ?_⟩
  · refine (θ_run Cert.ContextConvolutionIdeal.defs _ _).mono (fun _ h c => ?_) (Cert.ContextConvolutionIdeal.Value.run_blocks m ρ)
    obtain ⟨e0, rest⟩ := h c
    exact ⟨e0.trans (final5 m c), rest⟩
  · refine (θ_run Cert.ContextConvolutionReferenceIdeal.defs _ _).mono (fun _ h c => ?_) (reference_run m' ρ')
    obtain ⟨a0, a1, a2, a3, a4⟩ := hm c
    obtain ⟨e0, rest⟩ := h c
    exact ⟨e0.trans (congr_args a0 a1 a2 a3 a4), rest⟩

end Cert.Proof.ContextConvolution

end
-- ==== Proof.lean ====
/- The certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_row_tok_in_range
public import proofs.«01_k».proof.Proof.Gen.Experts
public import proofs.«01_k».proof.Proof.Gen.Experts.Frame
public import proofs.«01_k».proof.Proof.Gen.Experts.Skeleton
public import proofs.«01_k».proof.Proof.Gen.ExpertsIdeal
public import proofs.«01_k».proof.Proof.Gen.ExpertsIdeal.Frame
public import proofs.«01_k».proof.Proof.Gen.ExpertsIdeal.Skeleton
public import proofs.«01_k».proof.Proof.Gen.ExpertsReferenceIdeal
public import proofs.«01_k».proof.Proof.Gen.ExpertsReferenceIdeal.Run
public import proofs.«01_k».proof.Proof.Gen.Pre_blk_e_in_range
public import proofs.«01_k».proof.Proof.Gen.Attention
public import proofs.«01_k».proof.Proof.Gen.Attention.Frame
public import proofs.«01_k».proof.Proof.Gen.Attention.Skeleton
public import proofs.«01_k».proof.Proof.Gen.AttentionIdeal
public import proofs.«01_k».proof.Proof.Gen.AttentionIdeal.Frame
public import proofs.«01_k».proof.Proof.Gen.AttentionIdeal.Skeleton
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.Pre_values_finite
public import proofs.«01_k».proof.Proof.Gen.Projections
public import proofs.«01_k».proof.Proof.Gen.Projections.Frame
public import proofs.«01_k».proof.Proof.Gen.Projections.Skeleton
public import proofs.«01_k».proof.Proof.Gen.ProjectionsIdeal
public import proofs.«01_k».proof.Proof.Gen.ProjectionsIdeal.Frame
public import proofs.«01_k».proof.Proof.Gen.ProjectionsIdeal.Skeleton
public import proofs.«01_k».proof.Proof.Gen.ProjectionsIdeal.Value
public import proofs.«01_k».proof.Proof.Gen.ProjectionsReferenceIdeal
public import proofs.«01_k».proof.Proof.Gen.ProjectionsReferenceIdeal.Run
public import proofs.«01_k».proof.Proof.Gen.Output
public import proofs.«01_k».proof.Proof.Gen.Output.Frame
public import proofs.«01_k».proof.Proof.Gen.Output.Skeleton
public import proofs.«01_k».proof.Proof.Gen.OutputIdeal
public import proofs.«01_k».proof.Proof.Gen.OutputIdeal.Frame
public import proofs.«01_k».proof.Proof.Gen.OutputIdeal.Skeleton
public import proofs.«01_k».proof.Proof.Gen.OutputIdeal.Value
public import proofs.«01_k».proof.Proof.Gen.OutputReferenceIdeal
public import proofs.«01_k».proof.Proof.Gen.OutputReferenceIdeal.Run
public import proofs.«01_k».proof.Proof.Gen.Mixed
public import proofs.«01_k».proof.Proof.Gen.Mixed.Frame
public import proofs.«01_k».proof.Proof.Gen.Mixed.Skeleton
public import proofs.«01_k».proof.Proof.Gen.MixedIdeal
public import proofs.«01_k».proof.Proof.Gen.MixedIdeal.Frame
public import proofs.«01_k».proof.Proof.Gen.MixedIdeal.Skeleton
public import proofs.«01_k».proof.Proof.Gen.MixedIdeal.Value
public import proofs.«01_k».proof.Proof.Gen.MixedReferenceIdeal
public import proofs.«01_k».proof.Proof.Gen.MixedReferenceIdeal.Run
public import proofs.«01_k».proof.Proof.Gen.Context
public import proofs.«01_k».proof.Proof.Gen.Context.Frame
public import proofs.«01_k».proof.Proof.Gen.Context.Skeleton
public import proofs.«01_k».proof.Proof.Gen.ContextIdeal
public import proofs.«01_k».proof.Proof.Gen.ContextIdeal.Frame
public import proofs.«01_k».proof.Proof.Gen.ContextIdeal.Skeleton
public import proofs.«01_k».proof.Proof.Gen.ContextIdeal.Value
public import proofs.«01_k».proof.Proof.Gen.ContextReferenceIdeal
public import proofs.«01_k».proof.Proof.Gen.ContextReferenceIdeal.Run
public import proofs.«01_k».proof.Proof.Gen.Conditioning
public import proofs.«01_k».proof.Proof.Gen.Conditioning.Frame
public import proofs.«01_k».proof.Proof.Gen.Conditioning.Skeleton
public import proofs.«01_k».proof.Proof.Gen.ConditioningIdeal
public import proofs.«01_k».proof.Proof.Gen.ConditioningIdeal.Frame
public import proofs.«01_k».proof.Proof.Gen.ConditioningIdeal.Skeleton
public import proofs.«01_k».proof.Proof.Gen.ConditioningIdeal.Value
public import proofs.«01_k».proof.Proof.Gen.ConditioningReferenceIdeal
public import proofs.«01_k».proof.Proof.Gen.ConditioningReferenceIdeal.Run
public import proofs.«01_k».proof.Proof.Gen.Convolution
public import proofs.«01_k».proof.Proof.Gen.Convolution.Frame
public import proofs.«01_k».proof.Proof.Gen.Convolution.Skeleton
public import proofs.«01_k».proof.Proof.Gen.ConvolutionIdeal
public import proofs.«01_k».proof.Proof.Gen.ConvolutionIdeal.Frame
public import proofs.«01_k».proof.Proof.Gen.ConvolutionIdeal.Skeleton
public import proofs.«01_k».proof.Proof.Gen.ConvolutionIdeal.Value
public import proofs.«01_k».proof.Proof.Gen.ConvolutionReferenceIdeal
public import proofs.«01_k».proof.Proof.Gen.ConvolutionReferenceIdeal.Run
public import proofs.«01_k».proof.Proof.Gen.ContextConvolution
public import proofs.«01_k».proof.Proof.Gen.ContextConvolution.Frame
public import proofs.«01_k».proof.Proof.Gen.ContextConvolution.Skeleton
public import proofs.«01_k».proof.Proof.Gen.ContextConvolutionIdeal
public import proofs.«01_k».proof.Proof.Gen.ContextConvolutionIdeal.Frame
public import proofs.«01_k».proof.Proof.Gen.ContextConvolutionIdeal.Skeleton
public import proofs.«01_k».proof.Proof.Gen.ContextConvolutionIdeal.Value
public import proofs.«01_k».proof.Proof.Gen.ContextConvolutionReferenceIdeal
public import proofs.«01_k».proof.Proof.Gen.ContextConvolutionReferenceIdeal.Run
public import proofs.«01_k».proof.Proof.GatherClaims
public import proofs.«01_k».proof.Proof.ExpertsClaims
public import proofs.«01_k».proof.Proof.AttentionClaims
public import proofs.«01_k».proof.Proof.ProjectionsClaims
public import proofs.«01_k».proof.Proof.OutputClaims
public import proofs.«01_k».proof.Proof.MixedClaims
public import proofs.«01_k».proof.Proof.ContextClaims
public import proofs.«01_k».proof.Proof.ConditioningClaims
public import proofs.«01_k».proof.Proof.ConvolutionClaims
public import proofs.«01_k».proof.Proof.ContextConvolutionClaims

@[expose] public section

noncomputable section

namespace Cert.Proof

theorem claim : Cert.Claim := ⟨Cert.Kernel.Gen.facts, Cert.KernelIdeal.Gen.facts, Cert.ReferenceIdeal.Gen.facts, Cert.Reference.Gen.facts, Cert.Experts.Gen.facts, Cert.ExpertsIdeal.Gen.facts, Cert.ExpertsReferenceIdeal.Gen.facts, Cert.Attention.Gen.facts, Cert.AttentionIdeal.Gen.facts, Cert.AttentionReferenceIdeal.Gen.facts, Cert.Projections.Gen.facts, Cert.ProjectionsIdeal.Gen.facts, Cert.ProjectionsReferenceIdeal.Gen.facts, Cert.Output.Gen.facts, Cert.OutputIdeal.Gen.facts, Cert.OutputReferenceIdeal.Gen.facts, Cert.Mixed.Gen.facts, Cert.MixedIdeal.Gen.facts, Cert.MixedReferenceIdeal.Gen.facts, Cert.Context.Gen.facts, Cert.ContextIdeal.Gen.facts, Cert.ContextReferenceIdeal.Gen.facts, Cert.Conditioning.Gen.facts, Cert.ConditioningIdeal.Gen.facts, Cert.ConditioningReferenceIdeal.Gen.facts, Cert.Convolution.Gen.facts, Cert.ConvolutionIdeal.Gen.facts, Cert.ConvolutionReferenceIdeal.Gen.facts, Cert.ContextConvolution.Gen.facts, Cert.ContextConvolutionIdeal.Gen.facts, Cert.ContextConvolutionReferenceIdeal.Gen.facts, Cert.Pre_row_tok_in_range.Gen.facts, Cert.Pre_blk_e_in_range.Gen.facts, Cert.Pre_values_finite.Gen.facts,
  Gather.frame_kernel, Gather.frame_ideal, Gather.frame_reference_ideal, Gather.frame_reference_ideal_pre, Gather.frame_reference,
  Experts.frame_kernel, Experts.frame_ideal, Experts.frame_reference_ideal, Experts.frame_reference_ideal_pre,
  Attention.frame_kernel, Attention.frame_ideal, Attention.frame_ideal_pre, Attention.frame_reference_ideal, Attention.frame_reference_ideal_pre,
  Projections.frame_kernel, Projections.frame_ideal, Projections.frame_reference_ideal,
  Output.frame_kernel, Output.frame_ideal, Output.frame_reference_ideal,
  Mixed.frame_kernel, Mixed.frame_ideal, Mixed.frame_reference_ideal,
  Context.frame_kernel, Context.frame_ideal, Context.frame_reference_ideal,
  Conditioning.frame_kernel, Conditioning.frame_ideal, Conditioning.frame_reference_ideal,
  Convolution.frame_kernel, Convolution.frame_ideal, Convolution.frame_reference_ideal,
  ContextConvolution.frame_kernel, ContextConvolution.frame_ideal, ContextConvolution.frame_reference_ideal,
  trivial, Gather.algebraic, Gather.bitexact, trivial, Experts.algebraic, trivial, Attention.algebraic, trivial, Projections.algebraic, trivial, Output.algebraic, trivial, Mixed.algebraic, trivial, Context.algebraic, trivial, Conditioning.algebraic, trivial, Convolution.algebraic, trivial, ContextConvolution.algebraic⟩

end Cert.Proof

end
